-- ==== Defs.lean ====
def Pre_PostMix1 (m : (ℓ : Loc Cert.PostMix1.nD Cert.PostMix1.τ Cert.PostMix1.sig) → Buf (Elt Bits) ℓ) : Prop :=
  True

def Pre_PostMix1Ideal (m : (ℓ : Loc Cert.PostMix1Ideal.nD Cert.PostMix1Ideal.τ Cert.PostMix1Ideal.sig) → Buf (Elt Ideal) ℓ) : Prop :=
  True

def Pre_PostMix1RefIdeal (m : (ℓ : Loc Cert.PostMix1RefIdeal.nD Cert.PostMix1RefIdeal.τ Cert.PostMix1RefIdeal.sig) → Buf (Elt Ideal) ℓ) : Prop :=
  True

def Pre_PostMix0 (m : (ℓ : Loc Cert.PostMix0.nD Cert.PostMix0.τ Cert.PostMix0.sig) → Buf (Elt Bits) ℓ) : Prop :=
  True

def Pre_PostMix0Ideal (m : (ℓ : Loc Cert.PostMix0Ideal.nD Cert.PostMix0Ideal.τ Cert.PostMix0Ideal.sig) → Buf (Elt Ideal) ℓ) : Prop :=
  True

def Pre_PostMix0RefIdeal (m : (ℓ : Loc Cert.PostMix0RefIdeal.nD Cert.PostMix0RefIdeal.τ Cert.PostMix0RefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MlaAttn (m : (ℓ : Loc Cert.MlaAttn.nD Cert.MlaAttn.τ Cert.MlaAttn.sig) → Buf (Elt Bits) ℓ) : Prop :=
  True

def Pre_MlaAttnIdeal (m : (ℓ : Loc Cert.MlaAttnIdeal.nD Cert.MlaAttnIdeal.τ Cert.MlaAttnIdeal.sig) → Buf (Elt Ideal) ℓ) : Prop :=
  True

def Pre_MlaAttnIdeal_finite_inputs [hPre_finite_inputs : Cert.Pre_finite_inputs.Facts] (m : (ℓ : Loc Cert.MlaAttnIdeal.nD Cert.MlaAttnIdeal.τ Cert.MlaAttnIdeal.sig) → Buf (Elt Ideal) ℓ) : Prop :=
  ∀ c : Dev Cert.MlaAttnIdeal.nD,
    (Cert.Pre_finite_inputs.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).1 = (fun _ => 1#1)
    ∧ (Cert.Pre_finite_inputs.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).2.1 = (fun _ => 1#1)
    ∧ (Cert.Pre_finite_inputs.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))).2.2 = (fun _ => 1#1)

def Pre_MlaAttnRefIdeal (m : (ℓ : Loc Cert.MlaAttnRefIdeal.nD Cert.MlaAttnRefIdeal.τ Cert.MlaAttnRefIdeal.sig) → Buf (Elt Ideal) ℓ) : Prop :=
  True

def Pre_MlaAttnRefIdeal_finite_inputs [hPre_finite_inputs : Cert.Pre_finite_inputs.Facts] (m : (ℓ : Loc Cert.MlaAttnRefIdeal.nD Cert.MlaAttnRefIdeal.τ Cert.MlaAttnRefIdeal.sig) → Buf (Elt Ideal) ℓ) : Prop :=
  ∀ c : Dev Cert.MlaAttnRefIdeal.nD,
    (Cert.Pre_finite_inputs.fn (F := Ideal) (m ((c.tc : Thread Cert.MlaAttnRefIdeal.nD Cert.MlaAttnRefIdeal.τ).loc Cert.MlaAttnRefIdeal.main_arg0)) (m ((c.tc : Thread Cert.MlaAttnRefIdeal.nD Cert.MlaAttnRefIdeal.τ).loc Cert.MlaAttnRefIdeal.main_arg1)) (m ((c.tc : Thread Cert.MlaAttnRefIdeal.nD Cert.MlaAttnRefIdeal.τ).loc Cert.MlaAttnRefIdeal.main_arg2)) (m ((c.tc : Thread Cert.MlaAttnRefIdeal.nD Cert.MlaAttnRefIdeal.τ).loc Cert.MlaAttnRefIdeal.main_arg3))).1 = (fun _ => 1#1)
    ∧ (Cert.Pre_finite_inputs.fn (F := Ideal) (m ((c.tc : Thread Cert.MlaAttnRefIdeal.nD Cert.MlaAttnRefIdeal.τ).loc Cert.MlaAttnRefIdeal.main_arg0)) (m ((c.tc : Thread Cert.MlaAttnRefIdeal.nD Cert.MlaAttnRefIdeal.τ).loc Cert.MlaAttnRefIdeal.main_arg1)) (m ((c.tc : Thread Cert.MlaAttnRefIdeal.nD Cert.MlaAttnRefIdeal.τ).loc Cert.MlaAttnRefIdeal.main_arg2)) (m ((c.tc : Thread Cert.MlaAttnRefIdeal.nD Cert.MlaAttnRefIdeal.τ).loc Cert.MlaAttnRefIdeal.main_arg3))).2.1 = (fun _ => 1#1)
    ∧ (Cert.Pre_finite_inputs.fn (F := Ideal) (m ((c.tc : Thread Cert.MlaAttnRefIdeal.nD Cert.MlaAttnRefIdeal.τ).loc Cert.MlaAttnRefIdeal.main_arg0)) (m ((c.tc : Thread Cert.MlaAttnRefIdeal.nD Cert.MlaAttnRefIdeal.τ).loc Cert.MlaAttnRefIdeal.main_arg1)) (m ((c.tc : Thread Cert.MlaAttnRefIdeal.nD Cert.MlaAttnRefIdeal.τ).loc Cert.MlaAttnRefIdeal.main_arg2)) (m ((c.tc : Thread Cert.MlaAttnRefIdeal.nD Cert.MlaAttnRefIdeal.τ).loc Cert.MlaAttnRefIdeal.main_arg3))).2.2 = (fun _ => 1#1)

def Pre_KvFfn (m : (ℓ : Loc Cert.KvFfn.nD Cert.KvFfn.τ Cert.KvFfn.sig) → Buf (Elt Bits) ℓ) : Prop :=
  True

def Pre_KvFfnIdeal (m : (ℓ : Loc Cert.KvFfnIdeal.nD Cert.KvFfnIdeal.τ Cert.KvFfnIdeal.sig) → Buf (Elt Ideal) ℓ) : Prop :=
  True

def Pre_KvFfnIdeal_finite_stream [hPre_finite_stream : Cert.Pre_finite_stream.Facts] (m : (ℓ : Loc Cert.KvFfnIdeal.nD Cert.KvFfnIdeal.τ Cert.KvFfnIdeal.sig) → Buf (Elt Ideal) ℓ) : Prop :=
  ∀ c : Dev Cert.KvFfnIdeal.nD,
    (Cert.Pre_finite_stream.fn (F := Ideal) (m ((c.tc : Thread Cert.KvFfnIdeal.nD Cert.KvFfnIdeal.τ).loc Cert.KvFfnIdeal.main_arg0)) (m ((c.tc : Thread Cert.KvFfnIdeal.nD Cert.KvFfnIdeal.τ).loc Cert.KvFfnIdeal.main_arg1)) (m ((c.tc : Thread Cert.KvFfnIdeal.nD Cert.KvFfnIdeal.τ).loc Cert.KvFfnIdeal.main_arg2)) (m ((c.tc : Thread Cert.KvFfnIdeal.nD Cert.KvFfnIdeal.τ).loc Cert.KvFfnIdeal.main_arg3)) (m ((c.tc : Thread Cert.KvFfnIdeal.nD Cert.KvFfnIdeal.τ).loc Cert.KvFfnIdeal.main_arg4)) (m ((c.tc : Thread Cert.KvFfnIdeal.nD Cert.KvFfnIdeal.τ).loc Cert.KvFfnIdeal.main_arg5)) (m ((c.tc : Thread Cert.KvFfnIdeal.nD Cert.KvFfnIdeal.τ).loc Cert.KvFfnIdeal.main_arg6)) (m ((c.tc : Thread Cert.KvFfnIdeal.nD Cert.KvFfnIdeal.τ).loc Cert.KvFfnIdeal.main_arg7))).1 = (fun _ => 1#1)
    ∧ (Cert.Pre_finite_stream.fn (F := Ideal) (m ((c.tc : Thread Cert.KvFfnIdeal.nD Cert.KvFfnIdeal.τ).loc Cert.KvFfnIdeal.main_arg0)) (m ((c.tc : Thread Cert.KvFfnIdeal.nD Cert.KvFfnIdeal.τ).loc Cert.KvFfnIdeal.main_arg1)) (m ((c.tc : Thread Cert.KvFfnIdeal.nD Cert.KvFfnIdeal.τ).loc Cert.KvFfnIdeal.main_arg2)) (m ((c.tc : Thread Cert.KvFfnIdeal.nD Cert.KvFfnIdeal.τ).loc Cert.KvFfnIdeal.main_arg3)) (m ((c.tc : Thread Cert.KvFfnIdeal.nD Cert.KvFfnIdeal.τ).loc Cert.KvFfnIdeal.main_arg4)) (m ((c.tc : Thread Cert.KvFfnIdeal.nD Cert.KvFfnIdeal.τ).loc Cert.KvFfnIdeal.main_arg5)) (m ((c.tc : Thread Cert.KvFfnIdeal.nD Cert.KvFfnIdeal.τ).loc Cert.KvFfnIdeal.main_arg6)) (m ((c.tc : Thread Cert.KvFfnIdeal.nD Cert.KvFfnIdeal.τ).loc Cert.KvFfnIdeal.main_arg7))).2 = (fun _ => 1#1)

def Pre_KvFfnRefIdeal (m : (ℓ : Loc Cert.KvFfnRefIdeal.nD Cert.KvFfnRefIdeal.τ Cert.KvFfnRefIdeal.sig) → Buf (Elt Ideal) ℓ) : Prop :=
  True

def Pre_KvFfnRefIdeal_finite_stream [hPre_finite_stream : Cert.Pre_finite_stream.Facts] (m : (ℓ : Loc Cert.KvFfnRefIdeal.nD Cert.KvFfnRefIdeal.τ Cert.KvFfnRefIdeal.sig) → Buf (Elt Ideal) ℓ) : Prop :=
  ∀ c : Dev Cert.KvFfnRefIdeal.nD,
    (Cert.Pre_finite_stream.fn (F := Ideal) (m ((c.tc : Thread Cert.KvFfnRefIdeal.nD Cert.KvFfnRefIdeal.τ).loc Cert.KvFfnRefIdeal.main_arg0)) (m ((c.tc : Thread Cert.KvFfnRefIdeal.nD Cert.KvFfnRefIdeal.τ).loc Cert.KvFfnRefIdeal.main_arg1)) (m ((c.tc : Thread Cert.KvFfnRefIdeal.nD Cert.KvFfnRefIdeal.τ).loc Cert.KvFfnRefIdeal.main_arg2)) (m ((c.tc : Thread Cert.KvFfnRefIdeal.nD Cert.KvFfnRefIdeal.τ).loc Cert.KvFfnRefIdeal.main_arg3)) (m ((c.tc : Thread Cert.KvFfnRefIdeal.nD Cert.KvFfnRefIdeal.τ).loc Cert.KvFfnRefIdeal.main_arg4)) (m ((c.tc : Thread Cert.KvFfnRefIdeal.nD Cert.KvFfnRefIdeal.τ).loc Cert.KvFfnRefIdeal.main_arg5)) (m ((c.tc : Thread Cert.KvFfnRefIdeal.nD Cert.KvFfnRefIdeal.τ).loc Cert.KvFfnRefIdeal.main_arg6)) (m ((c.tc : Thread Cert.KvFfnRefIdeal.nD Cert.KvFfnRefIdeal.τ).loc Cert.KvFfnRefIdeal.main_arg7))).1 = (fun _ => 1#1)
    ∧ (Cert.Pre_finite_stream.fn (F := Ideal) (m ((c.tc : Thread Cert.KvFfnRefIdeal.nD Cert.KvFfnRefIdeal.τ).loc Cert.KvFfnRefIdeal.main_arg0)) (m ((c.tc : Thread Cert.KvFfnRefIdeal.nD Cert.KvFfnRefIdeal.τ).loc Cert.KvFfnRefIdeal.main_arg1)) (m ((c.tc : Thread Cert.KvFfnRefIdeal.nD Cert.KvFfnRefIdeal.τ).loc Cert.KvFfnRefIdeal.main_arg2)) (m ((c.tc : Thread Cert.KvFfnRefIdeal.nD Cert.KvFfnRefIdeal.τ).loc Cert.KvFfnRefIdeal.main_arg3)) (m ((c.tc : Thread Cert.KvFfnRefIdeal.nD Cert.KvFfnRefIdeal.τ).loc Cert.KvFfnRefIdeal.main_arg4)) (m ((c.tc : Thread Cert.KvFfnRefIdeal.nD Cert.KvFfnRefIdeal.τ).loc Cert.KvFfnRefIdeal.main_arg5)) (m ((c.tc : Thread Cert.KvFfnRefIdeal.nD Cert.KvFfnRefIdeal.τ).loc Cert.KvFfnRefIdeal.main_arg6)) (m ((c.tc : Thread Cert.KvFfnRefIdeal.nD Cert.KvFfnRefIdeal.τ).loc Cert.KvFfnRefIdeal.main_arg7))).2 = (fun _ => 1#1)

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjRefIdeal (m : (ℓ : Loc Cert.FoxProjRefIdeal.nD Cert.FoxProjRefIdeal.τ Cert.FoxProjRefIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQIdeal_finite_queries [hPre_finite_queries : Cert.Pre_finite_queries.Facts] (m : (ℓ : Loc Cert.MlaQIdeal.nD Cert.MlaQIdeal.τ Cert.MlaQIdeal.sig) → Buf (Elt Ideal) ℓ) : Prop :=
  ∀ c : Dev Cert.MlaQIdeal.nD,
    (Cert.Pre_finite_queries.fn (F := Ideal) (m ((c.tc : Thread Cert.MlaQIdeal.nD Cert.MlaQIdeal.τ).loc Cert.MlaQIdeal.main_arg0)) (m ((c.tc : Thread Cert.MlaQIdeal.nD Cert.MlaQIdeal.τ).loc Cert.MlaQIdeal.main_arg1)) (m ((c.tc : Thread Cert.MlaQIdeal.nD Cert.MlaQIdeal.τ).loc Cert.MlaQIdeal.main_arg2)) (m ((c.tc : Thread Cert.MlaQIdeal.nD Cert.MlaQIdeal.τ).loc Cert.MlaQIdeal.main_arg3))).1 = (fun _ => 1#1)
    ∧ (Cert.Pre_finite_queries.fn (F := Ideal) (m ((c.tc : Thread Cert.MlaQIdeal.nD Cert.MlaQIdeal.τ).loc Cert.MlaQIdeal.main_arg0)) (m ((c.tc : Thread Cert.MlaQIdeal.nD Cert.MlaQIdeal.τ).loc Cert.MlaQIdeal.main_arg1)) (m ((c.tc : Thread Cert.MlaQIdeal.nD Cert.MlaQIdeal.τ).loc Cert.MlaQIdeal.main_arg2)) (m ((c.tc : Thread Cert.MlaQIdeal.nD Cert.MlaQIdeal.τ).loc Cert.MlaQIdeal.main_arg3))).2 = (fun _ => 1#1)

def Pre_MlaQRefIdeal (m : (ℓ : Loc Cert.MlaQRefIdeal.nD Cert.MlaQRefIdeal.τ Cert.MlaQRefIdeal.sig) → Buf (Elt Ideal) ℓ) : Prop :=
  True

def Pre_MlaQRefIdeal_finite_queries [hPre_finite_queries : Cert.Pre_finite_queries.Facts] (m : (ℓ : Loc Cert.MlaQRefIdeal.nD Cert.MlaQRefIdeal.τ Cert.MlaQRefIdeal.sig) → Buf (Elt Ideal) ℓ) : Prop :=
  ∀ c : Dev Cert.MlaQRefIdeal.nD,
    (Cert.Pre_finite_queries.fn (F := Ideal) (m ((c.tc : Thread Cert.MlaQRefIdeal.nD Cert.MlaQRefIdeal.τ).loc Cert.MlaQRefIdeal.main_arg0)) (m ((c.tc : Thread Cert.MlaQRefIdeal.nD Cert.MlaQRefIdeal.τ).loc Cert.MlaQRefIdeal.main_arg1)) (m ((c.tc : Thread Cert.MlaQRefIdeal.nD Cert.MlaQRefIdeal.τ).loc Cert.MlaQRefIdeal.main_arg2)) (m ((c.tc : Thread Cert.MlaQRefIdeal.nD Cert.MlaQRefIdeal.τ).loc Cert.MlaQRefIdeal.main_arg3))).1 = (fun _ => 1#1)
    ∧ (Cert.Pre_finite_queries.fn (F := Ideal) (m ((c.tc : Thread Cert.MlaQRefIdeal.nD Cert.MlaQRefIdeal.τ).loc Cert.MlaQRefIdeal.main_arg0)) (m ((c.tc : Thread Cert.MlaQRefIdeal.nD Cert.MlaQRefIdeal.τ).loc Cert.MlaQRefIdeal.main_arg1)) (m ((c.tc : Thread Cert.MlaQRefIdeal.nD Cert.MlaQRefIdeal.τ).loc Cert.MlaQRefIdeal.main_arg2)) (m ((c.tc : Thread Cert.MlaQRefIdeal.nD Cert.MlaQRefIdeal.τ).loc Cert.MlaQRefIdeal.main_arg3))).2 = (fun _ => 1#1)

def quiescent_PostMix1 [hPostMix1 : Cert.PostMix1.Facts] : Prop :=
  ∀ (m : (ℓ : Loc Cert.PostMix1.nD Cert.PostMix1.τ Cert.PostMix1.sig) → Buf (Elt Bits) ℓ) (g : Dev Cert.PostMix1.nD → PrngReg), Pre_PostMix1 m →
    θ_run (Cert.PostMix1.defs (F := Bits)) (onTc (τ := Cert.PostMix1.τ) (Cert.PostMix1.main (F := Bits))) ⟨m, fun _ => 0, g⟩ (fun r => (∀ c : Dev Cert.PostMix1.nD,
      r.2.mem ((c.tc : Thread Cert.PostMix1.nD Cert.PostMix1.τ).loc Cert.PostMix1.main_arg0) = m ((c.tc : Thread Cert.PostMix1.nD Cert.PostMix1.τ).loc Cert.PostMix1.main_arg0)
      ∧ r.2.mem ((c.tc : Thread Cert.PostMix1.nD Cert.PostMix1.τ).loc Cert.PostMix1.main_arg1) = m ((c.tc : Thread Cert.PostMix1.nD Cert.PostMix1.τ).loc Cert.PostMix1.main_arg1)
      ∧ r.2.mem ((c.tc : Thread Cert.PostMix1.nD Cert.PostMix1.τ).loc Cert.PostMix1.main_arg2) = m ((c.tc : Thread Cert.PostMix1.nD Cert.PostMix1.τ).loc Cert.PostMix1.main_arg2)
      ∧ r.2.mem ((c.tc : Thread Cert.PostMix1.nD Cert.PostMix1.τ).loc Cert.PostMix1.main_arg3) = m ((c.tc : Thread Cert.PostMix1.nD Cert.PostMix1.τ).loc Cert.PostMix1.main_arg3)
      ∧ r.2.mem ((c.tc : Thread Cert.PostMix1.nD Cert.PostMix1.τ).loc Cert.PostMix1.main_arg4) = m ((c.tc : Thread Cert.PostMix1.nD Cert.PostMix1.τ).loc Cert.PostMix1.main_arg4)
      ∧ r.2.mem ((c.tc : Thread Cert.PostMix1.nD Cert.PostMix1.τ).loc Cert.PostMix1.main_arg5) = m ((c.tc : Thread Cert.PostMix1.nD Cert.PostMix1.τ).loc Cert.PostMix1.main_arg5)
      ∧ r.2.mem ((c.tc : Thread Cert.PostMix1.nD Cert.PostMix1.τ).loc Cert.PostMix1.main_arg6) = m ((c.tc : Thread Cert.PostMix1.nD Cert.PostMix1.τ).loc Cert.PostMix1.main_arg6)
      ∧ r.2.mem ((c.tc : Thread Cert.PostMix1.nD Cert.PostMix1.τ).loc Cert.PostMix1.main_arg7) = m ((c.tc : Thread Cert.PostMix1.nD Cert.PostMix1.τ).loc Cert.PostMix1.main_arg7)
      ∧ r.2.mem ((c.tc : Thread Cert.PostMix1.nD Cert.PostMix1.τ).loc Cert.PostMix1.main_arg8) = m ((c.tc : Thread Cert.PostMix1.nD Cert.PostMix1.τ).loc Cert.PostMix1.main_arg8)
      ∧ r.2.mem ((c.tc : Thread Cert.PostMix1.nD Cert.PostMix1.τ).loc Cert.PostMix1.main_arg9) = m ((c.tc : Thread Cert.PostMix1.nD Cert.PostMix1.τ).loc Cert.PostMix1.main_arg9)
      ∧ r.2.mem ((c.tc : Thread Cert.PostMix1.nD Cert.PostMix1.τ).loc Cert.PostMix1.main_arg10) = m ((c.tc : Thread Cert.PostMix1.nD Cert.PostMix1.τ).loc Cert.PostMix1.main_arg10))
      ∧ r.2.sem = fun _ => 0)

def quiescent_PostMix1Ideal [hPostMix1Ideal : Cert.PostMix1Ideal.Facts] : Prop :=
  ∀ (m : (ℓ : Loc Cert.PostMix1Ideal.nD Cert.PostMix1Ideal.τ Cert.PostMix1Ideal.sig) → Buf (Elt Ideal) ℓ) (g : Dev Cert.PostMix1Ideal.nD → PrngReg), Pre_PostMix1Ideal m →
    θ_run (Cert.PostMix1Ideal.defs (F := Ideal)) (onTc (τ := Cert.PostMix1Ideal.τ) (Cert.PostMix1Ideal.main (F := Ideal))) ⟨m, fun _ => 0, g⟩ (fun r => (∀ c : Dev Cert.PostMix1Ideal.nD,
      r.2.mem ((c.tc : Thread Cert.PostMix1Ideal.nD Cert.PostMix1Ideal.τ).loc Cert.PostMix1Ideal.main_arg0) = m ((c.tc : Thread Cert.PostMix1Ideal.nD Cert.PostMix1Ideal.τ).loc Cert.PostMix1Ideal.main_arg0)
      ∧ r.2.mem ((c.tc : Thread Cert.PostMix1Ideal.nD Cert.PostMix1Ideal.τ).loc Cert.PostMix1Ideal.main_arg1) = m ((c.tc : Thread Cert.PostMix1Ideal.nD Cert.PostMix1Ideal.τ).loc Cert.PostMix1Ideal.main_arg1)
      ∧ r.2.mem ((c.tc : Thread Cert.PostMix1Ideal.nD Cert.PostMix1Ideal.τ).loc Cert.PostMix1Ideal.main_arg2) = m ((c.tc : Thread Cert.PostMix1Ideal.nD Cert.PostMix1Ideal.τ).loc Cert.PostMix1Ideal.main_arg2)
      ∧ r.2.mem ((c.tc : Thread Cert.PostMix1Ideal.nD Cert.PostMix1Ideal.τ).loc Cert.PostMix1Ideal.main_arg3) = m ((c.tc : Thread Cert.PostMix1Ideal.nD Cert.PostMix1Ideal.τ).loc Cert.PostMix1Ideal.main_arg3)
      ∧ r.2.mem ((c.tc : Thread Cert.PostMix1Ideal.nD Cert.PostMix1Ideal.τ).loc Cert.PostMix1Ideal.main_arg4) = m ((c.tc : Thread Cert.PostMix1Ideal.nD Cert.PostMix1Ideal.τ).loc Cert.PostMix1Ideal.main_arg4)
      ∧ r.2.mem ((c.tc : Thread Cert.PostMix1Ideal.nD Cert.PostMix1Ideal.τ).loc Cert.PostMix1Ideal.main_arg5) = m ((c.tc : Thread Cert.PostMix1Ideal.nD Cert.PostMix1Ideal.τ).loc Cert.PostMix1Ideal.main_arg5)
      ∧ r.2.mem ((c.tc : Thread Cert.PostMix1Ideal.nD Cert.PostMix1Ideal.τ).loc Cert.PostMix1Ideal.main_arg6) = m ((c.tc : Thread Cert.PostMix1Ideal.nD Cert.PostMix1Ideal.τ).loc Cert.PostMix1Ideal.main_arg6)
      ∧ r.2.mem ((c.tc : Thread Cert.PostMix1Ideal.nD Cert.PostMix1Ideal.τ).loc Cert.PostMix1Ideal.main_arg7) = m ((c.tc : Thread Cert.PostMix1Ideal.nD Cert.PostMix1Ideal.τ).loc Cert.PostMix1Ideal.main_arg7)
      ∧ r.2.mem ((c.tc : Thread Cert.PostMix1Ideal.nD Cert.PostMix1Ideal.τ).loc Cert.PostMix1Ideal.main_arg8) = m ((c.tc : Thread Cert.PostMix1Ideal.nD Cert.PostMix1Ideal.τ).loc Cert.PostMix1Ideal.main_arg8)
      ∧ r.2.mem ((c.tc : Thread Cert.PostMix1Ideal.nD Cert.PostMix1Ideal.τ).loc Cert.PostMix1Ideal.main_arg9) = m ((c.tc : Thread Cert.PostMix1Ideal.nD Cert.PostMix1Ideal.τ).loc Cert.PostMix1Ideal.main_arg9)
      ∧ r.2.mem ((c.tc : Thread Cert.PostMix1Ideal.nD Cert.PostMix1Ideal.τ).loc Cert.PostMix1Ideal.main_arg10) = m ((c.tc : Thread Cert.PostMix1Ideal.nD Cert.PostMix1Ideal.τ).loc Cert.PostMix1Ideal.main_arg10))
      ∧ r.2.sem = fun _ => 0)

def quiescent_PostMix1RefIdeal [hPostMix1RefIdeal : Cert.PostMix1RefIdeal.Facts] : Prop :=
  ∀ (m : (ℓ : Loc Cert.PostMix1RefIdeal.nD Cert.PostMix1RefIdeal.τ Cert.PostMix1RefIdeal.sig) → Buf (Elt Ideal) ℓ) (g : Dev Cert.PostMix1RefIdeal.nD → PrngReg), Pre_PostMix1RefIdeal m →
    θ_run (Cert.PostMix1RefIdeal.defs (F := Ideal)) (onTc (τ := Cert.PostMix1RefIdeal.τ) (Cert.PostMix1RefIdeal.main (F := Ideal))) ⟨m, fun _ => 0, g⟩ (fun r => (∀ c : Dev Cert.PostMix1RefIdeal.nD,
      r.2.mem ((c.tc : Thread Cert.PostMix1RefIdeal.nD Cert.PostMix1RefIdeal.τ).loc Cert.PostMix1RefIdeal.main_arg0) = m ((c.tc : Thread Cert.PostMix1RefIdeal.nD Cert.PostMix1RefIdeal.τ).loc Cert.PostMix1RefIdeal.main_arg0)
      ∧ r.2.mem ((c.tc : Thread Cert.PostMix1RefIdeal.nD Cert.PostMix1RefIdeal.τ).loc Cert.PostMix1RefIdeal.main_arg1) = m ((c.tc : Thread Cert.PostMix1RefIdeal.nD Cert.PostMix1RefIdeal.τ).loc Cert.PostMix1RefIdeal.main_arg1)
      ∧ r.2.mem ((c.tc : Thread Cert.PostMix1RefIdeal.nD Cert.PostMix1RefIdeal.τ).loc Cert.PostMix1RefIdeal.main_arg2) = m ((c.tc : Thread Cert.PostMix1RefIdeal.nD Cert.PostMix1RefIdeal.τ).loc Cert.PostMix1RefIdeal.main_arg2)
      ∧ r.2.mem ((c.tc : Thread Cert.PostMix1RefIdeal.nD Cert.PostMix1RefIdeal.τ).loc Cert.PostMix1RefIdeal.main_arg3) = m ((c.tc : Thread Cert.PostMix1RefIdeal.nD Cert.PostMix1RefIdeal.τ).loc Cert.PostMix1RefIdeal.main_arg3)
      ∧ r.2.mem ((c.tc : Thread Cert.PostMix1RefIdeal.nD Cert.PostMix1RefIdeal.τ).loc Cert.PostMix1RefIdeal.main_arg4) = m ((c.tc : Thread Cert.PostMix1RefIdeal.nD Cert.PostMix1RefIdeal.τ).loc Cert.PostMix1RefIdeal.main_arg4)
      ∧ r.2.mem ((c.tc : Thread Cert.PostMix1RefIdeal.nD Cert.PostMix1RefIdeal.τ).loc Cert.PostMix1RefIdeal.main_arg5) = m ((c.tc : Thread Cert.PostMix1RefIdeal.nD Cert.PostMix1RefIdeal.τ).loc Cert.PostMix1RefIdeal.main_arg5)
      ∧ r.2.mem ((c.tc : Thread Cert.PostMix1RefIdeal.nD Cert.PostMix1RefIdeal.τ).loc Cert.PostMix1RefIdeal.main_arg6) = m ((c.tc : Thread Cert.PostMix1RefIdeal.nD Cert.PostMix1RefIdeal.τ).loc Cert.PostMix1RefIdeal.main_arg6)
      ∧ r.2.mem ((c.tc : Thread Cert.PostMix1RefIdeal.nD Cert.PostMix1RefIdeal.τ).loc Cert.PostMix1RefIdeal.main_arg7) = m ((c.tc : Thread Cert.PostMix1RefIdeal.nD Cert.PostMix1RefIdeal.τ).loc Cert.PostMix1RefIdeal.main_arg7)
      ∧ r.2.mem ((c.tc : Thread Cert.PostMix1RefIdeal.nD Cert.PostMix1RefIdeal.τ).loc Cert.PostMix1RefIdeal.main_arg8) = m ((c.tc : Thread Cert.PostMix1RefIdeal.nD Cert.PostMix1RefIdeal.τ).loc Cert.PostMix1RefIdeal.main_arg8)
      ∧ r.2.mem ((c.tc : Thread Cert.PostMix1RefIdeal.nD Cert.PostMix1RefIdeal.τ).loc Cert.PostMix1RefIdeal.main_arg9) = m ((c.tc : Thread Cert.PostMix1RefIdeal.nD Cert.PostMix1RefIdeal.τ).loc Cert.PostMix1RefIdeal.main_arg9)
      ∧ r.2.mem ((c.tc : Thread Cert.PostMix1RefIdeal.nD Cert.PostMix1RefIdeal.τ).loc Cert.PostMix1RefIdeal.main_arg10) = m ((c.tc : Thread Cert.PostMix1RefIdeal.nD Cert.PostMix1RefIdeal.τ).loc Cert.PostMix1RefIdeal.main_arg10))
      ∧ r.2.sem = fun _ => 0)

def quiescent_PostMix0 [hPostMix0 : Cert.PostMix0.Facts] : Prop :=
  ∀ (m : (ℓ : Loc Cert.PostMix0.nD Cert.PostMix0.τ Cert.PostMix0.sig) → Buf (Elt Bits) ℓ) (g : Dev Cert.PostMix0.nD → PrngReg), Pre_PostMix0 m →
    θ_run (Cert.PostMix0.defs (F := Bits)) (onTc (τ := Cert.PostMix0.τ) (Cert.PostMix0.main (F := Bits))) ⟨m, fun _ => 0, g⟩ (fun r => (∀ c : Dev Cert.PostMix0.nD,
      r.2.mem ((c.tc : Thread Cert.PostMix0.nD Cert.PostMix0.τ).loc Cert.PostMix0.main_arg0) = m ((c.tc : Thread Cert.PostMix0.nD Cert.PostMix0.τ).loc Cert.PostMix0.main_arg0)
      ∧ r.2.mem ((c.tc : Thread Cert.PostMix0.nD Cert.PostMix0.τ).loc Cert.PostMix0.main_arg1) = m ((c.tc : Thread Cert.PostMix0.nD Cert.PostMix0.τ).loc Cert.PostMix0.main_arg1)
      ∧ r.2.mem ((c.tc : Thread Cert.PostMix0.nD Cert.PostMix0.τ).loc Cert.PostMix0.main_arg2) = m ((c.tc : Thread Cert.PostMix0.nD Cert.PostMix0.τ).loc Cert.PostMix0.main_arg2)
      ∧ r.2.mem ((c.tc : Thread Cert.PostMix0.nD Cert.PostMix0.τ).loc Cert.PostMix0.main_arg3) = m ((c.tc : Thread Cert.PostMix0.nD Cert.PostMix0.τ).loc Cert.PostMix0.main_arg3)
      ∧ r.2.mem ((c.tc : Thread Cert.PostMix0.nD Cert.PostMix0.τ).loc Cert.PostMix0.main_arg4) = m ((c.tc : Thread Cert.PostMix0.nD Cert.PostMix0.τ).loc Cert.PostMix0.main_arg4)
      ∧ r.2.mem ((c.tc : Thread Cert.PostMix0.nD Cert.PostMix0.τ).loc Cert.PostMix0.main_arg5) = m ((c.tc : Thread Cert.PostMix0.nD Cert.PostMix0.τ).loc Cert.PostMix0.main_arg5)
      ∧ r.2.mem ((c.tc : Thread Cert.PostMix0.nD Cert.PostMix0.τ).loc Cert.PostMix0.main_arg6) = m ((c.tc : Thread Cert.PostMix0.nD Cert.PostMix0.τ).loc Cert.PostMix0.main_arg6)
      ∧ r.2.mem ((c.tc : Thread Cert.PostMix0.nD Cert.PostMix0.τ).loc Cert.PostMix0.main_arg7) = m ((c.tc : Thread Cert.PostMix0.nD Cert.PostMix0.τ).loc Cert.PostMix0.main_arg7)
      ∧ r.2.mem ((c.tc : Thread Cert.PostMix0.nD Cert.PostMix0.τ).loc Cert.PostMix0.main_arg8) = m ((c.tc : Thread Cert.PostMix0.nD Cert.PostMix0.τ).loc Cert.PostMix0.main_arg8)
      ∧ r.2.mem ((c.tc : Thread Cert.PostMix0.nD Cert.PostMix0.τ).loc Cert.PostMix0.main_arg9) = m ((c.tc : Thread Cert.PostMix0.nD Cert.PostMix0.τ).loc Cert.PostMix0.main_arg9)
      ∧ r.2.mem ((c.tc : Thread Cert.PostMix0.nD Cert.PostMix0.τ).loc Cert.PostMix0.main_arg10) = m ((c.tc : Thread Cert.PostMix0.nD Cert.PostMix0.τ).loc Cert.PostMix0.main_arg10))
      ∧ r.2.sem = fun _ => 0)

def quiescent_PostMix0Ideal [hPostMix0Ideal : Cert.PostMix0Ideal.Facts] : Prop :=
  ∀ (m : (ℓ : Loc Cert.PostMix0Ideal.nD Cert.PostMix0Ideal.τ Cert.PostMix0Ideal.sig) → Buf (Elt Ideal) ℓ) (g : Dev Cert.PostMix0Ideal.nD → PrngReg), Pre_PostMix0Ideal m →
    θ_run (Cert.PostMix0Ideal.defs (F := Ideal)) (onTc (τ := Cert.PostMix0Ideal.τ) (Cert.PostMix0Ideal.main (F := Ideal))) ⟨m, fun _ => 0, g⟩ (fun r => (∀ c : Dev Cert.PostMix0Ideal.nD,
      r.2.mem ((c.tc : Thread Cert.PostMix0Ideal.nD Cert.PostMix0Ideal.τ).loc Cert.PostMix0Ideal.main_arg0) = m ((c.tc : Thread Cert.PostMix0Ideal.nD Cert.PostMix0Ideal.τ).loc Cert.PostMix0Ideal.main_arg0)
      ∧ r.2.mem ((c.tc : Thread Cert.PostMix0Ideal.nD Cert.PostMix0Ideal.τ).loc Cert.PostMix0Ideal.main_arg1) = m ((c.tc : Thread Cert.PostMix0Ideal.nD Cert.PostMix0Ideal.τ).loc Cert.PostMix0Ideal.main_arg1)
      ∧ r.2.mem ((c.tc : Thread Cert.PostMix0Ideal.nD Cert.PostMix0Ideal.τ).loc Cert.PostMix0Ideal.main_arg2) = m ((c.tc : Thread Cert.PostMix0Ideal.nD Cert.PostMix0Ideal.τ).loc Cert.PostMix0Ideal.main_arg2)
      ∧ r.2.mem ((c.tc : Thread Cert.PostMix0Ideal.nD Cert.PostMix0Ideal.τ).loc Cert.PostMix0Ideal.main_arg3) = m ((c.tc : Thread Cert.PostMix0Ideal.nD Cert.PostMix0Ideal.τ).loc Cert.PostMix0Ideal.main_arg3)
      ∧ r.2.mem ((c.tc : Thread Cert.PostMix0Ideal.nD Cert.PostMix0Ideal.τ).loc Cert.PostMix0Ideal.main_arg4) = m ((c.tc : Thread Cert.PostMix0Ideal.nD Cert.PostMix0Ideal.τ).loc Cert.PostMix0Ideal.main_arg4)
      ∧ r.2.mem ((c.tc : Thread Cert.PostMix0Ideal.nD Cert.PostMix0Ideal.τ).loc Cert.PostMix0Ideal.main_arg5) = m ((c.tc : Thread Cert.PostMix0Ideal.nD Cert.PostMix0Ideal.τ).loc Cert.PostMix0Ideal.main_arg5)
      ∧ r.2.mem ((c.tc : Thread Cert.PostMix0Ideal.nD Cert.PostMix0Ideal.τ).loc Cert.PostMix0Ideal.main_arg6) = m ((c.tc : Thread Cert.PostMix0Ideal.nD Cert.PostMix0Ideal.τ).loc Cert.PostMix0Ideal.main_arg6)
      ∧ r.2.mem ((c.tc : Thread Cert.PostMix0Ideal.nD Cert.PostMix0Ideal.τ).loc Cert.PostMix0Ideal.main_arg7) = m ((c.tc : Thread Cert.PostMix0Ideal.nD Cert.PostMix0Ideal.τ).loc Cert.PostMix0Ideal.main_arg7)
      ∧ r.2.mem ((c.tc : Thread Cert.PostMix0Ideal.nD Cert.PostMix0Ideal.τ).loc Cert.PostMix0Ideal.main_arg8) = m ((c.tc : Thread Cert.PostMix0Ideal.nD Cert.PostMix0Ideal.τ).loc Cert.PostMix0Ideal.main_arg8)
      ∧ r.2.mem ((c.tc : Thread Cert.PostMix0Ideal.nD Cert.PostMix0Ideal.τ).loc Cert.PostMix0Ideal.main_arg9) = m ((c.tc : Thread Cert.PostMix0Ideal.nD Cert.PostMix0Ideal.τ).loc Cert.PostMix0Ideal.main_arg9)
      ∧ r.2.mem ((c.tc : Thread Cert.PostMix0Ideal.nD Cert.PostMix0Ideal.τ).loc Cert.PostMix0Ideal.main_arg10) = m ((c.tc : Thread Cert.PostMix0Ideal.nD Cert.PostMix0Ideal.τ).loc Cert.PostMix0Ideal.main_arg10))
      ∧ r.2.sem = fun _ => 0)

def quiescent_PostMix0RefIdeal [hPostMix0RefIdeal : Cert.PostMix0RefIdeal.Facts] : Prop :=
  ∀ (m : (ℓ : Loc Cert.PostMix0RefIdeal.nD Cert.PostMix0RefIdeal.τ Cert.PostMix0RefIdeal.sig) → Buf (Elt Ideal) ℓ) (g : Dev Cert.PostMix0RefIdeal.nD → PrngReg), Pre_PostMix0RefIdeal m →
    θ_run (Cert.PostMix0RefIdeal.defs (F := Ideal)) (onTc (τ := Cert.PostMix0RefIdeal.τ) (Cert.PostMix0RefIdeal.main (F := Ideal))) ⟨m, fun _ => 0, g⟩ (fun r => (∀ c : Dev Cert.PostMix0RefIdeal.nD,
      r.2.mem ((c.tc : Thread Cert.PostMix0RefIdeal.nD Cert.PostMix0RefIdeal.τ).loc Cert.PostMix0RefIdeal.main_arg0) = m ((c.tc : Thread Cert.PostMix0RefIdeal.nD Cert.PostMix0RefIdeal.τ).loc Cert.PostMix0RefIdeal.main_arg0)
      ∧ r.2.mem ((c.tc : Thread Cert.PostMix0RefIdeal.nD Cert.PostMix0RefIdeal.τ).loc Cert.PostMix0RefIdeal.main_arg1) = m ((c.tc : Thread Cert.PostMix0RefIdeal.nD Cert.PostMix0RefIdeal.τ).loc Cert.PostMix0RefIdeal.main_arg1)
      ∧ r.2.mem ((c.tc : Thread Cert.PostMix0RefIdeal.nD Cert.PostMix0RefIdeal.τ).loc Cert.PostMix0RefIdeal.main_arg2) = m ((c.tc : Thread Cert.PostMix0RefIdeal.nD Cert.PostMix0RefIdeal.τ).loc Cert.PostMix0RefIdeal.main_arg2)
      ∧ r.2.mem ((c.tc : Thread Cert.PostMix0RefIdeal.nD Cert.PostMix0RefIdeal.τ).loc Cert.PostMix0RefIdeal.main_arg3) = m ((c.tc : Thread Cert.PostMix0RefIdeal.nD Cert.PostMix0RefIdeal.τ).loc Cert.PostMix0RefIdeal.main_arg3)
      ∧ r.2.mem ((c.tc : Thread Cert.PostMix0RefIdeal.nD Cert.PostMix0RefIdeal.τ).loc Cert.PostMix0RefIdeal.main_arg4) = m ((c.tc : Thread Cert.PostMix0RefIdeal.nD Cert.PostMix0RefIdeal.τ).loc Cert.PostMix0RefIdeal.main_arg4)
      ∧ r.2.mem ((c.tc : Thread Cert.PostMix0RefIdeal.nD Cert.PostMix0RefIdeal.τ).loc Cert.PostMix0RefIdeal.main_arg5) = m ((c.tc : Thread Cert.PostMix0RefIdeal.nD Cert.PostMix0RefIdeal.τ).loc Cert.PostMix0RefIdeal.main_arg5)
      ∧ r.2.mem ((c.tc : Thread Cert.PostMix0RefIdeal.nD Cert.PostMix0RefIdeal.τ).loc Cert.PostMix0RefIdeal.main_arg6) = m ((c.tc : Thread Cert.PostMix0RefIdeal.nD Cert.PostMix0RefIdeal.τ).loc Cert.PostMix0RefIdeal.main_arg6)
      ∧ r.2.mem ((c.tc : Thread Cert.PostMix0RefIdeal.nD Cert.PostMix0RefIdeal.τ).loc Cert.PostMix0RefIdeal.main_arg7) = m ((c.tc : Thread Cert.PostMix0RefIdeal.nD Cert.PostMix0RefIdeal.τ).loc Cert.PostMix0RefIdeal.main_arg7)
      ∧ r.2.mem ((c.tc : Thread Cert.PostMix0RefIdeal.nD Cert.PostMix0RefIdeal.τ).loc Cert.PostMix0RefIdeal.main_arg8) = m ((c.tc : Thread Cert.PostMix0RefIdeal.nD Cert.PostMix0RefIdeal.τ).loc Cert.PostMix0RefIdeal.main_arg8)
      ∧ r.2.mem ((c.tc : Thread Cert.PostMix0RefIdeal.nD Cert.PostMix0RefIdeal.τ).loc Cert.PostMix0RefIdeal.main_arg9) = m ((c.tc : Thread Cert.PostMix0RefIdeal.nD Cert.PostMix0RefIdeal.τ).loc Cert.PostMix0RefIdeal.main_arg9)
      ∧ r.2.mem ((c.tc : Thread Cert.PostMix0RefIdeal.nD Cert.PostMix0RefIdeal.τ).loc Cert.PostMix0RefIdeal.main_arg10) = m ((c.tc : Thread Cert.PostMix0RefIdeal.nD Cert.PostMix0RefIdeal.τ).loc Cert.PostMix0RefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_MlaAttn [hMlaAttn : Cert.MlaAttn.Facts] : Prop :=
  ∀ (m : (ℓ : Loc Cert.MlaAttn.nD Cert.MlaAttn.τ Cert.MlaAttn.sig) → Buf (Elt Bits) ℓ) (g : Dev Cert.MlaAttn.nD → PrngReg), Pre_MlaAttn m →
    θ_run (Cert.MlaAttn.defs (F := Bits)) (onTc (τ := Cert.MlaAttn.τ) (Cert.MlaAttn.main (F := Bits))) ⟨m, fun _ => 0, g⟩ (fun r => (∀ c : Dev Cert.MlaAttn.nD,
      r.2.mem ((c.tc : Thread Cert.MlaAttn.nD Cert.MlaAttn.τ).loc Cert.MlaAttn.main_arg0) = m ((c.tc : Thread Cert.MlaAttn.nD Cert.MlaAttn.τ).loc Cert.MlaAttn.main_arg0)
      ∧ r.2.mem ((c.tc : Thread Cert.MlaAttn.nD Cert.MlaAttn.τ).loc Cert.MlaAttn.main_arg1) = m ((c.tc : Thread Cert.MlaAttn.nD Cert.MlaAttn.τ).loc Cert.MlaAttn.main_arg1)
      ∧ r.2.mem ((c.tc : Thread Cert.MlaAttn.nD Cert.MlaAttn.τ).loc Cert.MlaAttn.main_arg2) = m ((c.tc : Thread Cert.MlaAttn.nD Cert.MlaAttn.τ).loc Cert.MlaAttn.main_arg2)
      ∧ r.2.mem ((c.tc : Thread Cert.MlaAttn.nD Cert.MlaAttn.τ).loc Cert.MlaAttn.main_arg3) = m ((c.tc : Thread Cert.MlaAttn.nD Cert.MlaAttn.τ).loc Cert.MlaAttn.main_arg3))
      ∧ r.2.sem = fun _ => 0)

def quiescent_MlaAttnIdeal [hMlaAttnIdeal : Cert.MlaAttnIdeal.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg), Pre_MlaAttnIdeal m →
    θ_run (Cert.MlaAttnIdeal.defs (F := Ideal)) (onTc (τ := Cert.MlaAttnIdeal.τ) (Cert.MlaAttnIdeal.main (F := Ideal))) ⟨m, fun _ => 0, g⟩ (fun r => (∀ c : Dev Cert.MlaAttnIdeal.nD,
      r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
      ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
      ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2)
      ∧ r.2.mem ((c.tc : Thread Cert.MlaAttnIdeal.nD Cert.MlaAttnIdeal.τ).loc Cert.MlaAttnIdeal.main_arg3) = m ((c.tc : Thread Cert.MlaAttnIdeal.nD Cert.MlaAttnIdeal.τ).loc Cert.MlaAttnIdeal.main_arg3))
      ∧ r.2.sem = fun _ => 0)

def quiescent_MlaAttnIdeal_pre_finite_inputs [hMlaAttnIdeal : Cert.MlaAttnIdeal.Facts] [hPre_finite_inputs : Cert.Pre_finite_inputs.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg), Pre_MlaAttnIdeal_finite_inputs m →
    θ_run (Cert.MlaAttnIdeal.defs (F := Ideal)) (onTc (τ := Cert.MlaAttnIdeal.τ) (Cert.MlaAttnIdeal.main (F := Ideal))) ⟨m, fun _ => 0, g⟩ (fun r => (∀ c : Dev Cert.MlaAttnIdeal.nD,
      r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
      ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
      ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2)
      ∧ r.2.mem ((c.tc : Thread Cert.MlaAttnIdeal.nD Cert.MlaAttnIdeal.τ).loc Cert.MlaAttnIdeal.main_arg3) = m ((c.tc : Thread Cert.MlaAttnIdeal.nD Cert.MlaAttnIdeal.τ).loc Cert.MlaAttnIdeal.main_arg3))
      ∧ r.2.sem = fun _ => 0)

def quiescent_MlaAttnRefIdeal [hMlaAttnRefIdeal : Cert.MlaAttnRefIdeal.Facts] : Prop :=
  ∀ (m : (ℓ : Loc Cert.MlaAttnRefIdeal.nD Cert.MlaAttnRefIdeal.τ Cert.MlaAttnRefIdeal.sig) → Buf (Elt Ideal) ℓ) (g : Dev Cert.MlaAttnRefIdeal.nD → PrngReg), Pre_MlaAttnRefIdeal m →
    θ_run (Cert.MlaAttnRefIdeal.defs (F := Ideal)) (onTc (τ := Cert.MlaAttnRefIdeal.τ) (Cert.MlaAttnRefIdeal.main (F := Ideal))) ⟨m, fun _ => 0, g⟩ (fun r => (∀ c : Dev Cert.MlaAttnRefIdeal.nD,
      r.2.mem ((c.tc : Thread Cert.MlaAttnRefIdeal.nD Cert.MlaAttnRefIdeal.τ).loc Cert.MlaAttnRefIdeal.main_arg0) = m ((c.tc : Thread Cert.MlaAttnRefIdeal.nD Cert.MlaAttnRefIdeal.τ).loc Cert.MlaAttnRefIdeal.main_arg0)
      ∧ r.2.mem ((c.tc : Thread Cert.MlaAttnRefIdeal.nD Cert.MlaAttnRefIdeal.τ).loc Cert.MlaAttnRefIdeal.main_arg1) = m ((c.tc : Thread Cert.MlaAttnRefIdeal.nD Cert.MlaAttnRefIdeal.τ).loc Cert.MlaAttnRefIdeal.main_arg1)
      ∧ r.2.mem ((c.tc : Thread Cert.MlaAttnRefIdeal.nD Cert.MlaAttnRefIdeal.τ).loc Cert.MlaAttnRefIdeal.main_arg2) = m ((c.tc : Thread Cert.MlaAttnRefIdeal.nD Cert.MlaAttnRefIdeal.τ).loc Cert.MlaAttnRefIdeal.main_arg2)
      ∧ r.2.mem ((c.tc : Thread Cert.MlaAttnRefIdeal.nD Cert.MlaAttnRefIdeal.τ).loc Cert.MlaAttnRefIdeal.main_arg3) = m ((c.tc : Thread Cert.MlaAttnRefIdeal.nD Cert.MlaAttnRefIdeal.τ).loc Cert.MlaAttnRefIdeal.main_arg3))
      ∧ r.2.sem = fun _ => 0)

def quiescent_MlaAttnRefIdeal_pre_finite_inputs [hMlaAttnRefIdeal : Cert.MlaAttnRefIdeal.Facts] [hPre_finite_inputs : Cert.Pre_finite_inputs.Facts] : Prop :=
  ∀ (m : (ℓ : Loc Cert.MlaAttnRefIdeal.nD Cert.MlaAttnRefIdeal.τ Cert.MlaAttnRefIdeal.sig) → Buf (Elt Ideal) ℓ) (g : Dev Cert.MlaAttnRefIdeal.nD → PrngReg), Pre_MlaAttnRefIdeal_finite_inputs m →
    θ_run (Cert.MlaAttnRefIdeal.defs (F := Ideal)) (onTc (τ := Cert.MlaAttnRefIdeal.τ) (Cert.MlaAttnRefIdeal.main (F := Ideal))) ⟨m, fun _ => 0, g⟩ (fun r => (∀ c : Dev Cert.MlaAttnRefIdeal.nD,
      r.2.mem ((c.tc : Thread Cert.MlaAttnRefIdeal.nD Cert.MlaAttnRefIdeal.τ).loc Cert.MlaAttnRefIdeal.main_arg0) = m ((c.tc : Thread Cert.MlaAttnRefIdeal.nD Cert.MlaAttnRefIdeal.τ).loc Cert.MlaAttnRefIdeal.main_arg0)
      ∧ r.2.mem ((c.tc : Thread Cert.MlaAttnRefIdeal.nD Cert.MlaAttnRefIdeal.τ).loc Cert.MlaAttnRefIdeal.main_arg1) = m ((c.tc : Thread Cert.MlaAttnRefIdeal.nD Cert.MlaAttnRefIdeal.τ).loc Cert.MlaAttnRefIdeal.main_arg1)
      ∧ r.2.mem ((c.tc : Thread Cert.MlaAttnRefIdeal.nD Cert.MlaAttnRefIdeal.τ).loc Cert.MlaAttnRefIdeal.main_arg2) = m ((c.tc : Thread Cert.MlaAttnRefIdeal.nD Cert.MlaAttnRefIdeal.τ).loc Cert.MlaAttnRefIdeal.main_arg2)
      ∧ r.2.mem ((c.tc : Thread Cert.MlaAttnRefIdeal.nD Cert.MlaAttnRefIdeal.τ).loc Cert.MlaAttnRefIdeal.main_arg3) = m ((c.tc : Thread Cert.MlaAttnRefIdeal.nD Cert.MlaAttnRefIdeal.τ).loc Cert.MlaAttnRefIdeal.main_arg3))
      ∧ r.2.sem = fun _ => 0)

def quiescent_KvFfn [hKvFfn : Cert.KvFfn.Facts] : Prop :=
  ∀ (m : (ℓ : Loc Cert.KvFfn.nD Cert.KvFfn.τ Cert.KvFfn.sig) → Buf (Elt Bits) ℓ) (g : Dev Cert.KvFfn.nD → PrngReg), Pre_KvFfn m →
    θ_run (Cert.KvFfn.defs (F := Bits)) (onTc (τ := Cert.KvFfn.τ) (Cert.KvFfn.main (F := Bits))) ⟨m, fun _ => 0, g⟩ (fun r => (∀ c : Dev Cert.KvFfn.nD,
      r.2.mem ((c.tc : Thread Cert.KvFfn.nD Cert.KvFfn.τ).loc Cert.KvFfn.main_arg0) = m ((c.tc : Thread Cert.KvFfn.nD Cert.KvFfn.τ).loc Cert.KvFfn.main_arg0)
      ∧ r.2.mem ((c.tc : Thread Cert.KvFfn.nD Cert.KvFfn.τ).loc Cert.KvFfn.main_arg1) = m ((c.tc : Thread Cert.KvFfn.nD Cert.KvFfn.τ).loc Cert.KvFfn.main_arg1)
      ∧ r.2.mem ((c.tc : Thread Cert.KvFfn.nD Cert.KvFfn.τ).loc Cert.KvFfn.main_arg2) = m ((c.tc : Thread Cert.KvFfn.nD Cert.KvFfn.τ).loc Cert.KvFfn.main_arg2)
      ∧ r.2.mem ((c.tc : Thread Cert.KvFfn.nD Cert.KvFfn.τ).loc Cert.KvFfn.main_arg3) = m ((c.tc : Thread Cert.KvFfn.nD Cert.KvFfn.τ).loc Cert.KvFfn.main_arg3)
      ∧ r.2.mem ((c.tc : Thread Cert.KvFfn.nD Cert.KvFfn.τ).loc Cert.KvFfn.main_arg4) = m ((c.tc : Thread Cert.KvFfn.nD Cert.KvFfn.τ).loc Cert.KvFfn.main_arg4)
      ∧ r.2.mem ((c.tc : Thread Cert.KvFfn.nD Cert.KvFfn.τ).loc Cert.KvFfn.main_arg5) = m ((c.tc : Thread Cert.KvFfn.nD Cert.KvFfn.τ).loc Cert.KvFfn.main_arg5)
      ∧ r.2.mem ((c.tc : Thread Cert.KvFfn.nD Cert.KvFfn.τ).loc Cert.KvFfn.main_arg6) = m ((c.tc : Thread Cert.KvFfn.nD Cert.KvFfn.τ).loc Cert.KvFfn.main_arg6)
      ∧ r.2.mem ((c.tc : Thread Cert.KvFfn.nD Cert.KvFfn.τ).loc Cert.KvFfn.main_arg7) = m ((c.tc : Thread Cert.KvFfn.nD Cert.KvFfn.τ).loc Cert.KvFfn.main_arg7))
      ∧ r.2.sem = fun _ => 0)

def quiescent_KvFfnIdeal [hKvFfnIdeal : Cert.KvFfnIdeal.Facts] : Prop :=
  ∀ (m : (ℓ : Loc Cert.KvFfnIdeal.nD Cert.KvFfnIdeal.τ Cert.KvFfnIdeal.sig) → Buf (Elt Ideal) ℓ) (g : Dev Cert.KvFfnIdeal.nD → PrngReg), Pre_KvFfnIdeal m →
    θ_run (Cert.KvFfnIdeal.defs (F := Ideal)) (onTc (τ := Cert.KvFfnIdeal.τ) (Cert.KvFfnIdeal.main (F := Ideal))) ⟨m, fun _ => 0, g⟩ (fun r => (∀ c : Dev Cert.KvFfnIdeal.nD,
      r.2.mem ((c.tc : Thread Cert.KvFfnIdeal.nD Cert.KvFfnIdeal.τ).loc Cert.KvFfnIdeal.main_arg0) = m ((c.tc : Thread Cert.KvFfnIdeal.nD Cert.KvFfnIdeal.τ).loc Cert.KvFfnIdeal.main_arg0)
      ∧ r.2.mem ((c.tc : Thread Cert.KvFfnIdeal.nD Cert.KvFfnIdeal.τ).loc Cert.KvFfnIdeal.main_arg1) = m ((c.tc : Thread Cert.KvFfnIdeal.nD Cert.KvFfnIdeal.τ).loc Cert.KvFfnIdeal.main_arg1)
      ∧ r.2.mem ((c.tc : Thread Cert.KvFfnIdeal.nD Cert.KvFfnIdeal.τ).loc Cert.KvFfnIdeal.main_arg2) = m ((c.tc : Thread Cert.KvFfnIdeal.nD Cert.KvFfnIdeal.τ).loc Cert.KvFfnIdeal.main_arg2)
      ∧ r.2.mem ((c.tc : Thread Cert.KvFfnIdeal.nD Cert.KvFfnIdeal.τ).loc Cert.KvFfnIdeal.main_arg3) = m ((c.tc : Thread Cert.KvFfnIdeal.nD Cert.KvFfnIdeal.τ).loc Cert.KvFfnIdeal.main_arg3)
      ∧ r.2.mem ((c.tc : Thread Cert.KvFfnIdeal.nD Cert.KvFfnIdeal.τ).loc Cert.KvFfnIdeal.main_arg4) = m ((c.tc : Thread Cert.KvFfnIdeal.nD Cert.KvFfnIdeal.τ).loc Cert.KvFfnIdeal.main_arg4)
      ∧ r.2.mem ((c.tc : Thread Cert.KvFfnIdeal.nD Cert.KvFfnIdeal.τ).loc Cert.KvFfnIdeal.main_arg5) = m ((c.tc : Thread Cert.KvFfnIdeal.nD Cert.KvFfnIdeal.τ).loc Cert.KvFfnIdeal.main_arg5)
      ∧ r.2.mem ((c.tc : Thread Cert.KvFfnIdeal.nD Cert.KvFfnIdeal.τ).loc Cert.KvFfnIdeal.main_arg6) = m ((c.tc : Thread Cert.KvFfnIdeal.nD Cert.KvFfnIdeal.τ).loc Cert.KvFfnIdeal.main_arg6)
      ∧ r.2.mem ((c.tc : Thread Cert.KvFfnIdeal.nD Cert.KvFfnIdeal.τ).loc Cert.KvFfnIdeal.main_arg7) = m ((c.tc : Thread Cert.KvFfnIdeal.nD Cert.KvFfnIdeal.τ).loc Cert.KvFfnIdeal.main_arg7))
      ∧ r.2.sem = fun _ => 0)

def quiescent_KvFfnIdeal_pre_finite_stream [hKvFfnIdeal : Cert.KvFfnIdeal.Facts] [hPre_finite_stream : Cert.Pre_finite_stream.Facts] : Prop :=
  ∀ (m : (ℓ : Loc Cert.KvFfnIdeal.nD Cert.KvFfnIdeal.τ Cert.KvFfnIdeal.sig) → Buf (Elt Ideal) ℓ) (g : Dev Cert.KvFfnIdeal.nD → PrngReg), Pre_KvFfnIdeal_finite_stream m →
    θ_run (Cert.KvFfnIdeal.defs (F := Ideal)) (onTc (τ := Cert.KvFfnIdeal.τ) (Cert.KvFfnIdeal.main (F := Ideal))) ⟨m, fun _ => 0, g⟩ (fun r => (∀ c : Dev Cert.KvFfnIdeal.nD,
      r.2.mem ((c.tc : Thread Cert.KvFfnIdeal.nD Cert.KvFfnIdeal.τ).loc Cert.KvFfnIdeal.main_arg0) = m ((c.tc : Thread Cert.KvFfnIdeal.nD Cert.KvFfnIdeal.τ).loc Cert.KvFfnIdeal.main_arg0)
      ∧ r.2.mem ((c.tc : Thread Cert.KvFfnIdeal.nD Cert.KvFfnIdeal.τ).loc Cert.KvFfnIdeal.main_arg1) = m ((c.tc : Thread Cert.KvFfnIdeal.nD Cert.KvFfnIdeal.τ).loc Cert.KvFfnIdeal.main_arg1)
      ∧ r.2.mem ((c.tc : Thread Cert.KvFfnIdeal.nD Cert.KvFfnIdeal.τ).loc Cert.KvFfnIdeal.main_arg2) = m ((c.tc : Thread Cert.KvFfnIdeal.nD Cert.KvFfnIdeal.τ).loc Cert.KvFfnIdeal.main_arg2)
      ∧ r.2.mem ((c.tc : Thread Cert.KvFfnIdeal.nD Cert.KvFfnIdeal.τ).loc Cert.KvFfnIdeal.main_arg3) = m ((c.tc : Thread Cert.KvFfnIdeal.nD Cert.KvFfnIdeal.τ).loc Cert.KvFfnIdeal.main_arg3)
      ∧ r.2.mem ((c.tc : Thread Cert.KvFfnIdeal.nD Cert.KvFfnIdeal.τ).loc Cert.KvFfnIdeal.main_arg4) = m ((c.tc : Thread Cert.KvFfnIdeal.nD Cert.KvFfnIdeal.τ).loc Cert.KvFfnIdeal.main_arg4)
      ∧ r.2.mem ((c.tc : Thread Cert.KvFfnIdeal.nD Cert.KvFfnIdeal.τ).loc Cert.KvFfnIdeal.main_arg5) = m ((c.tc : Thread Cert.KvFfnIdeal.nD Cert.KvFfnIdeal.τ).loc Cert.KvFfnIdeal.main_arg5)
      ∧ r.2.mem ((c.tc : Thread Cert.KvFfnIdeal.nD Cert.KvFfnIdeal.τ).loc Cert.KvFfnIdeal.main_arg6) = m ((c.tc : Thread Cert.KvFfnIdeal.nD Cert.KvFfnIdeal.τ).loc Cert.KvFfnIdeal.main_arg6)
      ∧ r.2.mem ((c.tc : Thread Cert.KvFfnIdeal.nD Cert.KvFfnIdeal.τ).loc Cert.KvFfnIdeal.main_arg7) = m ((c.tc : Thread Cert.KvFfnIdeal.nD Cert.KvFfnIdeal.τ).loc Cert.KvFfnIdeal.main_arg7))
      ∧ r.2.sem = fun _ => 0)

def quiescent_KvFfnRefIdeal [hKvFfnRefIdeal : Cert.KvFfnRefIdeal.Facts] : Prop :=
  ∀ (m : (ℓ : Loc Cert.KvFfnRefIdeal.nD Cert.KvFfnRefIdeal.τ Cert.KvFfnRefIdeal.sig) → Buf (Elt Ideal) ℓ) (g : Dev Cert.KvFfnRefIdeal.nD → PrngReg), Pre_KvFfnRefIdeal m →
    θ_run (Cert.KvFfnRefIdeal.defs (F := Ideal)) (onTc (τ := Cert.KvFfnRefIdeal.τ) (Cert.KvFfnRefIdeal.main (F := Ideal))) ⟨m, fun _ => 0, g⟩ (fun r => (∀ c : Dev Cert.KvFfnRefIdeal.nD,
      r.2.mem ((c.tc : Thread Cert.KvFfnRefIdeal.nD Cert.KvFfnRefIdeal.τ).loc Cert.KvFfnRefIdeal.main_arg0) = m ((c.tc : Thread Cert.KvFfnRefIdeal.nD Cert.KvFfnRefIdeal.τ).loc Cert.KvFfnRefIdeal.main_arg0)
      ∧ r.2.mem ((c.tc : Thread Cert.KvFfnRefIdeal.nD Cert.KvFfnRefIdeal.τ).loc Cert.KvFfnRefIdeal.main_arg1) = m ((c.tc : Thread Cert.KvFfnRefIdeal.nD Cert.KvFfnRefIdeal.τ).loc Cert.KvFfnRefIdeal.main_arg1)
      ∧ r.2.mem ((c.tc : Thread Cert.KvFfnRefIdeal.nD Cert.KvFfnRefIdeal.τ).loc Cert.KvFfnRefIdeal.main_arg2) = m ((c.tc : Thread Cert.KvFfnRefIdeal.nD Cert.KvFfnRefIdeal.τ).loc Cert.KvFfnRefIdeal.main_arg2)
      ∧ r.2.mem ((c.tc : Thread Cert.KvFfnRefIdeal.nD Cert.KvFfnRefIdeal.τ).loc Cert.KvFfnRefIdeal.main_arg3) = m ((c.tc : Thread Cert.KvFfnRefIdeal.nD Cert.KvFfnRefIdeal.τ).loc Cert.KvFfnRefIdeal.main_arg3)
      ∧ r.2.mem ((c.tc : Thread Cert.KvFfnRefIdeal.nD Cert.KvFfnRefIdeal.τ).loc Cert.KvFfnRefIdeal.main_arg4) = m ((c.tc : Thread Cert.KvFfnRefIdeal.nD Cert.KvFfnRefIdeal.τ).loc Cert.KvFfnRefIdeal.main_arg4)
      ∧ r.2.mem ((c.tc : Thread Cert.KvFfnRefIdeal.nD Cert.KvFfnRefIdeal.τ).loc Cert.KvFfnRefIdeal.main_arg5) = m ((c.tc : Thread Cert.KvFfnRefIdeal.nD Cert.KvFfnRefIdeal.τ).loc Cert.KvFfnRefIdeal.main_arg5)
      ∧ r.2.mem ((c.tc : Thread Cert.KvFfnRefIdeal.nD Cert.KvFfnRefIdeal.τ).loc Cert.KvFfnRefIdeal.main_arg6) = m ((c.tc : Thread Cert.KvFfnRefIdeal.nD Cert.KvFfnRefIdeal.τ).loc Cert.KvFfnRefIdeal.main_arg6)
      ∧ r.2.mem ((c.tc : Thread Cert.KvFfnRefIdeal.nD Cert.KvFfnRefIdeal.τ).loc Cert.KvFfnRefIdeal.main_arg7) = m ((c.tc : Thread Cert.KvFfnRefIdeal.nD Cert.KvFfnRefIdeal.τ).loc Cert.KvFfnRefIdeal.main_arg7))
      ∧ r.2.sem = fun _ => 0)

def quiescent_KvFfnRefIdeal_pre_finite_stream [hKvFfnRefIdeal : Cert.KvFfnRefIdeal.Facts] [hPre_finite_stream : Cert.Pre_finite_stream.Facts] : Prop :=
  ∀ (m : (ℓ : Loc Cert.KvFfnRefIdeal.nD Cert.KvFfnRefIdeal.τ Cert.KvFfnRefIdeal.sig) → Buf (Elt Ideal) ℓ) (g : Dev Cert.KvFfnRefIdeal.nD → PrngReg), Pre_KvFfnRefIdeal_finite_stream m →
    θ_run (Cert.KvFfnRefIdeal.defs (F := Ideal)) (onTc (τ := Cert.KvFfnRefIdeal.τ) (Cert.KvFfnRefIdeal.main (F := Ideal))) ⟨m, fun _ => 0, g⟩ (fun r => (∀ c : Dev Cert.KvFfnRefIdeal.nD,
      r.2.mem ((c.tc : Thread Cert.KvFfnRefIdeal.nD Cert.KvFfnRefIdeal.τ).loc Cert.KvFfnRefIdeal.main_arg0) = m ((c.tc : Thread Cert.KvFfnRefIdeal.nD Cert.KvFfnRefIdeal.τ).loc Cert.KvFfnRefIdeal.main_arg0)
      ∧ r.2.mem ((c.tc : Thread Cert.KvFfnRefIdeal.nD Cert.KvFfnRefIdeal.τ).loc Cert.KvFfnRefIdeal.main_arg1) = m ((c.tc : Thread Cert.KvFfnRefIdeal.nD Cert.KvFfnRefIdeal.τ).loc Cert.KvFfnRefIdeal.main_arg1)
      ∧ r.2.mem ((c.tc : Thread Cert.KvFfnRefIdeal.nD Cert.KvFfnRefIdeal.τ).loc Cert.KvFfnRefIdeal.main_arg2) = m ((c.tc : Thread Cert.KvFfnRefIdeal.nD Cert.KvFfnRefIdeal.τ).loc Cert.KvFfnRefIdeal.main_arg2)
      ∧ r.2.mem ((c.tc : Thread Cert.KvFfnRefIdeal.nD Cert.KvFfnRefIdeal.τ).loc Cert.KvFfnRefIdeal.main_arg3) = m ((c.tc : Thread Cert.KvFfnRefIdeal.nD Cert.KvFfnRefIdeal.τ).loc Cert.KvFfnRefIdeal.main_arg3)
      ∧ r.2.mem ((c.tc : Thread Cert.KvFfnRefIdeal.nD Cert.KvFfnRefIdeal.τ).loc Cert.KvFfnRefIdeal.main_arg4) = m ((c.tc : Thread Cert.KvFfnRefIdeal.nD Cert.KvFfnRefIdeal.τ).loc Cert.KvFfnRefIdeal.main_arg4)
      ∧ r.2.mem ((c.tc : Thread Cert.KvFfnRefIdeal.nD Cert.KvFfnRefIdeal.τ).loc Cert.KvFfnRefIdeal.main_arg5) = m ((c.tc : Thread Cert.KvFfnRefIdeal.nD Cert.KvFfnRefIdeal.τ).loc Cert.KvFfnRefIdeal.main_arg5)
      ∧ r.2.mem ((c.tc : Thread Cert.KvFfnRefIdeal.nD Cert.KvFfnRefIdeal.τ).loc Cert.KvFfnRefIdeal.main_arg6) = m ((c.tc : Thread Cert.KvFfnRefIdeal.nD Cert.KvFfnRefIdeal.τ).loc Cert.KvFfnRefIdeal.main_arg6)
      ∧ r.2.mem ((c.tc : Thread Cert.KvFfnRefIdeal.nD Cert.KvFfnRefIdeal.τ).loc Cert.KvFfnRefIdeal.main_arg7) = m ((c.tc : Thread Cert.KvFfnRefIdeal.nD Cert.KvFfnRefIdeal.τ).loc Cert.KvFfnRefIdeal.main_arg7))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ r.2.sem = fun _ => 0)

def quiescent_FoxProjRefIdeal [hFoxProjRefIdeal : Cert.FoxProjRefIdeal.Facts] : Prop :=
  ∀ (m : (ℓ : Loc Cert.FoxProjRefIdeal.nD Cert.FoxProjRefIdeal.τ Cert.FoxProjRefIdeal.sig) → Buf (Elt Ideal) ℓ) (g : Dev Cert.FoxProjRefIdeal.nD → PrngReg), Pre_FoxProjRefIdeal m →
    θ_run (Cert.FoxProjRefIdeal.defs (F := Ideal)) (onTc (τ := Cert.FoxProjRefIdeal.τ) (Cert.FoxProjRefIdeal.main (F := Ideal))) ⟨m, fun _ => 0, g⟩ (fun r => (∀ c : Dev Cert.FoxProjRefIdeal.nD,
      r.2.mem ((c.tc : Thread Cert.FoxProjRefIdeal.nD Cert.FoxProjRefIdeal.τ).loc Cert.FoxProjRefIdeal.main_arg0) = m ((c.tc : Thread Cert.FoxProjRefIdeal.nD Cert.FoxProjRefIdeal.τ).loc Cert.FoxProjRefIdeal.main_arg0)
      ∧ r.2.mem ((c.tc : Thread Cert.FoxProjRefIdeal.nD Cert.FoxProjRefIdeal.τ).loc Cert.FoxProjRefIdeal.main_arg1) = m ((c.tc : Thread Cert.FoxProjRefIdeal.nD Cert.FoxProjRefIdeal.τ).loc Cert.FoxProjRefIdeal.main_arg1))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2)
      ∧ r.2.mem ((c.tc : Thread Cert.MlaQ.nD Cert.MlaQ.τ).loc Cert.MlaQ.main_arg3) = m ((c.tc : Thread Cert.MlaQ.nD Cert.MlaQ.τ).loc Cert.MlaQ.main_arg3))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3))
      ∧ r.2.sem = fun _ => 0)

def quiescent_MlaQIdeal_pre_finite_queries [hMlaQIdeal : Cert.MlaQIdeal.Facts] [hPre_finite_queries : Cert.Pre_finite_queries.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal_finite_queries m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3))
      ∧ r.2.sem = fun _ => 0)

def quiescent_MlaQRefIdeal [hMlaQRefIdeal : Cert.MlaQRefIdeal.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
      ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2)
      ∧ r.2.mem ((c.tc : Thread Cert.MlaQRefIdeal.nD Cert.MlaQRefIdeal.τ).loc Cert.MlaQRefIdeal.main_arg3) = m ((c.tc : Thread Cert.MlaQRefIdeal.nD Cert.MlaQRefIdeal.τ).loc Cert.MlaQRefIdeal.main_arg3))
      ∧ r.2.sem = fun _ => 0)

def quiescent_MlaQRefIdeal_pre_finite_queries [hMlaQRefIdeal : Cert.MlaQRefIdeal.Facts] [hPre_finite_queries : Cert.Pre_finite_queries.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal_finite_queries m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
      ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2)
      ∧ r.2.mem ((c.tc : Thread Cert.MlaQRefIdeal.nD Cert.MlaQRefIdeal.τ).loc Cert.MlaQRefIdeal.main_arg3) = m ((c.tc : Thread Cert.MlaQRefIdeal.nD Cert.MlaQRefIdeal.τ).loc Cert.MlaQRefIdeal.main_arg3))
      ∧ r.2.sem = fun _ => 0)

def preserves_PostMix1_PostMix1Ideal : Prop :=
  True

def algebraic_PostMix1Ideal_PostMix1RefIdeal [hPostMix1Ideal : Cert.PostMix1Ideal.Facts] [hPostMix1RefIdeal : Cert.PostMix1RefIdeal.Facts] : Prop :=
  ∀ (m : (ℓ : Loc Cert.PostMix1Ideal.nD Cert.PostMix1Ideal.τ Cert.PostMix1Ideal.sig) → Buf (Elt Ideal) ℓ) (g : Dev Cert.PostMix1Ideal.nD → PrngReg)
    (m' : (ℓ : Loc Cert.PostMix1RefIdeal.nD Cert.PostMix1RefIdeal.τ Cert.PostMix1RefIdeal.sig) → Buf (Elt Ideal) ℓ) (g' : Dev Cert.PostMix1RefIdeal.nD → PrngReg), Pre_PostMix1Ideal m →
    (∀ c : Dev Cert.PostMix1Ideal.nD,
      m' ((c.tc : Thread Cert.PostMix1RefIdeal.nD Cert.PostMix1RefIdeal.τ).loc Cert.PostMix1RefIdeal.main_arg0) = m ((c.tc : Thread Cert.PostMix1Ideal.nD Cert.PostMix1Ideal.τ).loc Cert.PostMix1Ideal.main_arg0)
      ∧ m' ((c.tc : Thread Cert.PostMix1RefIdeal.nD Cert.PostMix1RefIdeal.τ).loc Cert.PostMix1RefIdeal.main_arg1) = m ((c.tc : Thread Cert.PostMix1Ideal.nD Cert.PostMix1Ideal.τ).loc Cert.PostMix1Ideal.main_arg1)
      ∧ m' ((c.tc : Thread Cert.PostMix1RefIdeal.nD Cert.PostMix1RefIdeal.τ).loc Cert.PostMix1RefIdeal.main_arg2) = m ((c.tc : Thread Cert.PostMix1Ideal.nD Cert.PostMix1Ideal.τ).loc Cert.PostMix1Ideal.main_arg2)
      ∧ m' ((c.tc : Thread Cert.PostMix1RefIdeal.nD Cert.PostMix1RefIdeal.τ).loc Cert.PostMix1RefIdeal.main_arg3) = m ((c.tc : Thread Cert.PostMix1Ideal.nD Cert.PostMix1Ideal.τ).loc Cert.PostMix1Ideal.main_arg3)
      ∧ m' ((c.tc : Thread Cert.PostMix1RefIdeal.nD Cert.PostMix1RefIdeal.τ).loc Cert.PostMix1RefIdeal.main_arg4) = m ((c.tc : Thread Cert.PostMix1Ideal.nD Cert.PostMix1Ideal.τ).loc Cert.PostMix1Ideal.main_arg4)
      ∧ m' ((c.tc : Thread Cert.PostMix1RefIdeal.nD Cert.PostMix1RefIdeal.τ).loc Cert.PostMix1RefIdeal.main_arg5) = m ((c.tc : Thread Cert.PostMix1Ideal.nD Cert.PostMix1Ideal.τ).loc Cert.PostMix1Ideal.main_arg5)
      ∧ m' ((c.tc : Thread Cert.PostMix1RefIdeal.nD Cert.PostMix1RefIdeal.τ).loc Cert.PostMix1RefIdeal.main_arg6) = m ((c.tc : Thread Cert.PostMix1Ideal.nD Cert.PostMix1Ideal.τ).loc Cert.PostMix1Ideal.main_arg6)
      ∧ m' ((c.tc : Thread Cert.PostMix1RefIdeal.nD Cert.PostMix1RefIdeal.τ).loc Cert.PostMix1RefIdeal.main_arg7) = m ((c.tc : Thread Cert.PostMix1Ideal.nD Cert.PostMix1Ideal.τ).loc Cert.PostMix1Ideal.main_arg7)
      ∧ m' ((c.tc : Thread Cert.PostMix1RefIdeal.nD Cert.PostMix1RefIdeal.τ).loc Cert.PostMix1RefIdeal.main_arg8) = m ((c.tc : Thread Cert.PostMix1Ideal.nD Cert.PostMix1Ideal.τ).loc Cert.PostMix1Ideal.main_arg8)
      ∧ m' ((c.tc : Thread Cert.PostMix1RefIdeal.nD Cert.PostMix1RefIdeal.τ).loc Cert.PostMix1RefIdeal.main_arg9) = m ((c.tc : Thread Cert.PostMix1Ideal.nD Cert.PostMix1Ideal.τ).loc Cert.PostMix1Ideal.main_arg9)
      ∧ m' ((c.tc : Thread Cert.PostMix1RefIdeal.nD Cert.PostMix1RefIdeal.τ).loc Cert.PostMix1RefIdeal.main_arg10) = m ((c.tc : Thread Cert.PostMix1Ideal.nD Cert.PostMix1Ideal.τ).loc Cert.PostMix1Ideal.main_arg10)) →
    ∃ (v0 : (c : Dev Cert.PostMix1Ideal.nD) → Buf (Elt Ideal) ((c.tc : Thread Cert.PostMix1Ideal.nD Cert.PostMix1Ideal.τ).loc Cert.PostMix1Ideal.main_v24)),
      θ_run (Cert.PostMix1Ideal.defs (F := Ideal)) (onTc (τ := Cert.PostMix1Ideal.τ) (Cert.PostMix1Ideal.main (F := Ideal))) ⟨m, fun _ => 0, g⟩ (fun r => ∀ c : Dev Cert.PostMix1Ideal.nD,
          r.2.mem ((c.tc : Thread Cert.PostMix1Ideal.nD Cert.PostMix1Ideal.τ).loc Cert.PostMix1Ideal.main_v24) = v0 c
          ∧ r.2.mem ((c.tc : Thread Cert.PostMix1Ideal.nD Cert.PostMix1Ideal.τ).loc Cert.PostMix1Ideal.main_arg0) = m ((c.tc : Thread Cert.PostMix1Ideal.nD Cert.PostMix1Ideal.τ).loc Cert.PostMix1Ideal.main_arg0)
          ∧ r.2.mem ((c.tc : Thread Cert.PostMix1Ideal.nD Cert.PostMix1Ideal.τ).loc Cert.PostMix1Ideal.main_arg1) = m ((c.tc : Thread Cert.PostMix1Ideal.nD Cert.PostMix1Ideal.τ).loc Cert.PostMix1Ideal.main_arg1)
          ∧ r.2.mem ((c.tc : Thread Cert.PostMix1Ideal.nD Cert.PostMix1Ideal.τ).loc Cert.PostMix1Ideal.main_arg2) = m ((c.tc : Thread Cert.PostMix1Ideal.nD Cert.PostMix1Ideal.τ).loc Cert.PostMix1Ideal.main_arg2)
          ∧ r.2.mem ((c.tc : Thread Cert.PostMix1Ideal.nD Cert.PostMix1Ideal.τ).loc Cert.PostMix1Ideal.main_arg3) = m ((c.tc : Thread Cert.PostMix1Ideal.nD Cert.PostMix1Ideal.τ).loc Cert.PostMix1Ideal.main_arg3)
          ∧ r.2.mem ((c.tc : Thread Cert.PostMix1Ideal.nD Cert.PostMix1Ideal.τ).loc Cert.PostMix1Ideal.main_arg4) = m ((c.tc : Thread Cert.PostMix1Ideal.nD Cert.PostMix1Ideal.τ).loc Cert.PostMix1Ideal.main_arg4)
          ∧ r.2.mem ((c.tc : Thread Cert.PostMix1Ideal.nD Cert.PostMix1Ideal.τ).loc Cert.PostMix1Ideal.main_arg5) = m ((c.tc : Thread Cert.PostMix1Ideal.nD Cert.PostMix1Ideal.τ).loc Cert.PostMix1Ideal.main_arg5)
          ∧ r.2.mem ((c.tc : Thread Cert.PostMix1Ideal.nD Cert.PostMix1Ideal.τ).loc Cert.PostMix1Ideal.main_arg6) = m ((c.tc : Thread Cert.PostMix1Ideal.nD Cert.PostMix1Ideal.τ).loc Cert.PostMix1Ideal.main_arg6)
          ∧ r.2.mem ((c.tc : Thread Cert.PostMix1Ideal.nD Cert.PostMix1Ideal.τ).loc Cert.PostMix1Ideal.main_arg7) = m ((c.tc : Thread Cert.PostMix1Ideal.nD Cert.PostMix1Ideal.τ).loc Cert.PostMix1Ideal.main_arg7)
          ∧ r.2.mem ((c.tc : Thread Cert.PostMix1Ideal.nD Cert.PostMix1Ideal.τ).loc Cert.PostMix1Ideal.main_arg8) = m ((c.tc : Thread Cert.PostMix1Ideal.nD Cert.PostMix1Ideal.τ).loc Cert.PostMix1Ideal.main_arg8)
          ∧ r.2.mem ((c.tc : Thread Cert.PostMix1Ideal.nD Cert.PostMix1Ideal.τ).loc Cert.PostMix1Ideal.main_arg9) = m ((c.tc : Thread Cert.PostMix1Ideal.nD Cert.PostMix1Ideal.τ).loc Cert.PostMix1Ideal.main_arg9)
          ∧ r.2.mem ((c.tc : Thread Cert.PostMix1Ideal.nD Cert.PostMix1Ideal.τ).loc Cert.PostMix1Ideal.main_arg10) = m ((c.tc : Thread Cert.PostMix1Ideal.nD Cert.PostMix1Ideal.τ).loc Cert.PostMix1Ideal.main_arg10))
      ∧ θ_run (Cert.PostMix1RefIdeal.defs (F := Ideal)) (onTc (τ := Cert.PostMix1RefIdeal.τ) (Cert.PostMix1RefIdeal.main (F := Ideal))) ⟨m', fun _ => 0, g'⟩ (fun r => ∀ c : Dev Cert.PostMix1RefIdeal.nD,
          r.2.mem ((c.tc : Thread Cert.PostMix1RefIdeal.nD Cert.PostMix1RefIdeal.τ).loc Cert.PostMix1RefIdeal.main_v122) = v0 c
          ∧ r.2.mem ((c.tc : Thread Cert.PostMix1RefIdeal.nD Cert.PostMix1RefIdeal.τ).loc Cert.PostMix1RefIdeal.main_arg0) = m' ((c.tc : Thread Cert.PostMix1RefIdeal.nD Cert.PostMix1RefIdeal.τ).loc Cert.PostMix1RefIdeal.main_arg0)
          ∧ r.2.mem ((c.tc : Thread Cert.PostMix1RefIdeal.nD Cert.PostMix1RefIdeal.τ).loc Cert.PostMix1RefIdeal.main_arg1) = m' ((c.tc : Thread Cert.PostMix1RefIdeal.nD Cert.PostMix1RefIdeal.τ).loc Cert.PostMix1RefIdeal.main_arg1)
          ∧ r.2.mem ((c.tc : Thread Cert.PostMix1RefIdeal.nD Cert.PostMix1RefIdeal.τ).loc Cert.PostMix1RefIdeal.main_arg2) = m' ((c.tc : Thread Cert.PostMix1RefIdeal.nD Cert.PostMix1RefIdeal.τ).loc Cert.PostMix1RefIdeal.main_arg2)
          ∧ r.2.mem ((c.tc : Thread Cert.PostMix1RefIdeal.nD Cert.PostMix1RefIdeal.τ).loc Cert.PostMix1RefIdeal.main_arg3) = m' ((c.tc : Thread Cert.PostMix1RefIdeal.nD Cert.PostMix1RefIdeal.τ).loc Cert.PostMix1RefIdeal.main_arg3)
          ∧ r.2.mem ((c.tc : Thread Cert.PostMix1RefIdeal.nD Cert.PostMix1RefIdeal.τ).loc Cert.PostMix1RefIdeal.main_arg4) = m' ((c.tc : Thread Cert.PostMix1RefIdeal.nD Cert.PostMix1RefIdeal.τ).loc Cert.PostMix1RefIdeal.main_arg4)
          ∧ r.2.mem ((c.tc : Thread Cert.PostMix1RefIdeal.nD Cert.PostMix1RefIdeal.τ).loc Cert.PostMix1RefIdeal.main_arg5) = m' ((c.tc : Thread Cert.PostMix1RefIdeal.nD Cert.PostMix1RefIdeal.τ).loc Cert.PostMix1RefIdeal.main_arg5)
          ∧ r.2.mem ((c.tc : Thread Cert.PostMix1RefIdeal.nD Cert.PostMix1RefIdeal.τ).loc Cert.PostMix1RefIdeal.main_arg6) = m' ((c.tc : Thread Cert.PostMix1RefIdeal.nD Cert.PostMix1RefIdeal.τ).loc Cert.PostMix1RefIdeal.main_arg6)
          ∧ r.2.mem ((c.tc : Thread Cert.PostMix1RefIdeal.nD Cert.PostMix1RefIdeal.τ).loc Cert.PostMix1RefIdeal.main_arg7) = m' ((c.tc : Thread Cert.PostMix1RefIdeal.nD Cert.PostMix1RefIdeal.τ).loc Cert.PostMix1RefIdeal.main_arg7)
          ∧ r.2.mem ((c.tc : Thread Cert.PostMix1RefIdeal.nD Cert.PostMix1RefIdeal.τ).loc Cert.PostMix1RefIdeal.main_arg8) = m' ((c.tc : Thread Cert.PostMix1RefIdeal.nD Cert.PostMix1RefIdeal.τ).loc Cert.PostMix1RefIdeal.main_arg8)
          ∧ r.2.mem ((c.tc : Thread Cert.PostMix1RefIdeal.nD Cert.PostMix1RefIdeal.τ).loc Cert.PostMix1RefIdeal.main_arg9) = m' ((c.tc : Thread Cert.PostMix1RefIdeal.nD Cert.PostMix1RefIdeal.τ).loc Cert.PostMix1RefIdeal.main_arg9)
          ∧ r.2.mem ((c.tc : Thread Cert.PostMix1RefIdeal.nD Cert.PostMix1RefIdeal.τ).loc Cert.PostMix1RefIdeal.main_arg10) = m' ((c.tc : Thread Cert.PostMix1RefIdeal.nD Cert.PostMix1RefIdeal.τ).loc Cert.PostMix1RefIdeal.main_arg10))

def preserves_PostMix0_PostMix0Ideal : Prop :=
  True

def algebraic_PostMix0Ideal_PostMix0RefIdeal [hPostMix0Ideal : Cert.PostMix0Ideal.Facts] [hPostMix0RefIdeal : Cert.PostMix0RefIdeal.Facts] : Prop :=
  ∀ (m : (ℓ : Loc Cert.PostMix0Ideal.nD Cert.PostMix0Ideal.τ Cert.PostMix0Ideal.sig) → Buf (Elt Ideal) ℓ) (g : Dev Cert.PostMix0Ideal.nD → PrngReg)
    (m' : (ℓ : Loc Cert.PostMix0RefIdeal.nD Cert.PostMix0RefIdeal.τ Cert.PostMix0RefIdeal.sig) → Buf (Elt Ideal) ℓ) (g' : Dev Cert.PostMix0RefIdeal.nD → PrngReg), Pre_PostMix0Ideal m →
    (∀ c : Dev Cert.PostMix0Ideal.nD,
      m' ((c.tc : Thread Cert.PostMix0RefIdeal.nD Cert.PostMix0RefIdeal.τ).loc Cert.PostMix0RefIdeal.main_arg0) = m ((c.tc : Thread Cert.PostMix0Ideal.nD Cert.PostMix0Ideal.τ).loc Cert.PostMix0Ideal.main_arg0)
      ∧ m' ((c.tc : Thread Cert.PostMix0RefIdeal.nD Cert.PostMix0RefIdeal.τ).loc Cert.PostMix0RefIdeal.main_arg1) = m ((c.tc : Thread Cert.PostMix0Ideal.nD Cert.PostMix0Ideal.τ).loc Cert.PostMix0Ideal.main_arg1)
      ∧ m' ((c.tc : Thread Cert.PostMix0RefIdeal.nD Cert.PostMix0RefIdeal.τ).loc Cert.PostMix0RefIdeal.main_arg2) = m ((c.tc : Thread Cert.PostMix0Ideal.nD Cert.PostMix0Ideal.τ).loc Cert.PostMix0Ideal.main_arg2)
      ∧ m' ((c.tc : Thread Cert.PostMix0RefIdeal.nD Cert.PostMix0RefIdeal.τ).loc Cert.PostMix0RefIdeal.main_arg3) = m ((c.tc : Thread Cert.PostMix0Ideal.nD Cert.PostMix0Ideal.τ).loc Cert.PostMix0Ideal.main_arg3)
      ∧ m' ((c.tc : Thread Cert.PostMix0RefIdeal.nD Cert.PostMix0RefIdeal.τ).loc Cert.PostMix0RefIdeal.main_arg4) = m ((c.tc : Thread Cert.PostMix0Ideal.nD Cert.PostMix0Ideal.τ).loc Cert.PostMix0Ideal.main_arg4)
      ∧ m' ((c.tc : Thread Cert.PostMix0RefIdeal.nD Cert.PostMix0RefIdeal.τ).loc Cert.PostMix0RefIdeal.main_arg5) = m ((c.tc : Thread Cert.PostMix0Ideal.nD Cert.PostMix0Ideal.τ).loc Cert.PostMix0Ideal.main_arg5)
      ∧ m' ((c.tc : Thread Cert.PostMix0RefIdeal.nD Cert.PostMix0RefIdeal.τ).loc Cert.PostMix0RefIdeal.main_arg6) = m ((c.tc : Thread Cert.PostMix0Ideal.nD Cert.PostMix0Ideal.τ).loc Cert.PostMix0Ideal.main_arg6)
      ∧ m' ((c.tc : Thread Cert.PostMix0RefIdeal.nD Cert.PostMix0RefIdeal.τ).loc Cert.PostMix0RefIdeal.main_arg7) = m ((c.tc : Thread Cert.PostMix0Ideal.nD Cert.PostMix0Ideal.τ).loc Cert.PostMix0Ideal.main_arg7)
      ∧ m' ((c.tc : Thread Cert.PostMix0RefIdeal.nD Cert.PostMix0RefIdeal.τ).loc Cert.PostMix0RefIdeal.main_arg8) = m ((c.tc : Thread Cert.PostMix0Ideal.nD Cert.PostMix0Ideal.τ).loc Cert.PostMix0Ideal.main_arg8)
      ∧ m' ((c.tc : Thread Cert.PostMix0RefIdeal.nD Cert.PostMix0RefIdeal.τ).loc Cert.PostMix0RefIdeal.main_arg9) = m ((c.tc : Thread Cert.PostMix0Ideal.nD Cert.PostMix0Ideal.τ).loc Cert.PostMix0Ideal.main_arg9)
      ∧ m' ((c.tc : Thread Cert.PostMix0RefIdeal.nD Cert.PostMix0RefIdeal.τ).loc Cert.PostMix0RefIdeal.main_arg10) = m ((c.tc : Thread Cert.PostMix0Ideal.nD Cert.PostMix0Ideal.τ).loc Cert.PostMix0Ideal.main_arg10)) →
    ∃ (v0 : (c : Dev Cert.PostMix0Ideal.nD) → Buf (Elt Ideal) ((c.tc : Thread Cert.PostMix0Ideal.nD Cert.PostMix0Ideal.τ).loc Cert.PostMix0Ideal.main_v24)),
      θ_run (Cert.PostMix0Ideal.defs (F := Ideal)) (onTc (τ := Cert.PostMix0Ideal.τ) (Cert.PostMix0Ideal.main (F := Ideal))) ⟨m, fun _ => 0, g⟩ (fun r => ∀ c : Dev Cert.PostMix0Ideal.nD,
          r.2.mem ((c.tc : Thread Cert.PostMix0Ideal.nD Cert.PostMix0Ideal.τ).loc Cert.PostMix0Ideal.main_v24) = v0 c
          ∧ r.2.mem ((c.tc : Thread Cert.PostMix0Ideal.nD Cert.PostMix0Ideal.τ).loc Cert.PostMix0Ideal.main_arg0) = m ((c.tc : Thread Cert.PostMix0Ideal.nD Cert.PostMix0Ideal.τ).loc Cert.PostMix0Ideal.main_arg0)
          ∧ r.2.mem ((c.tc : Thread Cert.PostMix0Ideal.nD Cert.PostMix0Ideal.τ).loc Cert.PostMix0Ideal.main_arg1) = m ((c.tc : Thread Cert.PostMix0Ideal.nD Cert.PostMix0Ideal.τ).loc Cert.PostMix0Ideal.main_arg1)
          ∧ r.2.mem ((c.tc : Thread Cert.PostMix0Ideal.nD Cert.PostMix0Ideal.τ).loc Cert.PostMix0Ideal.main_arg2) = m ((c.tc : Thread Cert.PostMix0Ideal.nD Cert.PostMix0Ideal.τ).loc Cert.PostMix0Ideal.main_arg2)
          ∧ r.2.mem ((c.tc : Thread Cert.PostMix0Ideal.nD Cert.PostMix0Ideal.τ).loc Cert.PostMix0Ideal.main_arg3) = m ((c.tc : Thread Cert.PostMix0Ideal.nD Cert.PostMix0Ideal.τ).loc Cert.PostMix0Ideal.main_arg3)
          ∧ r.2.mem ((c.tc : Thread Cert.PostMix0Ideal.nD Cert.PostMix0Ideal.τ).loc Cert.PostMix0Ideal.main_arg4) = m ((c.tc : Thread Cert.PostMix0Ideal.nD Cert.PostMix0Ideal.τ).loc Cert.PostMix0Ideal.main_arg4)
          ∧ r.2.mem ((c.tc : Thread Cert.PostMix0Ideal.nD Cert.PostMix0Ideal.τ).loc Cert.PostMix0Ideal.main_arg5) = m ((c.tc : Thread Cert.PostMix0Ideal.nD Cert.PostMix0Ideal.τ).loc Cert.PostMix0Ideal.main_arg5)
          ∧ r.2.mem ((c.tc : Thread Cert.PostMix0Ideal.nD Cert.PostMix0Ideal.τ).loc Cert.PostMix0Ideal.main_arg6) = m ((c.tc : Thread Cert.PostMix0Ideal.nD Cert.PostMix0Ideal.τ).loc Cert.PostMix0Ideal.main_arg6)
          ∧ r.2.mem ((c.tc : Thread Cert.PostMix0Ideal.nD Cert.PostMix0Ideal.τ).loc Cert.PostMix0Ideal.main_arg7) = m ((c.tc : Thread Cert.PostMix0Ideal.nD Cert.PostMix0Ideal.τ).loc Cert.PostMix0Ideal.main_arg7)
          ∧ r.2.mem ((c.tc : Thread Cert.PostMix0Ideal.nD Cert.PostMix0Ideal.τ).loc Cert.PostMix0Ideal.main_arg8) = m ((c.tc : Thread Cert.PostMix0Ideal.nD Cert.PostMix0Ideal.τ).loc Cert.PostMix0Ideal.main_arg8)
          ∧ r.2.mem ((c.tc : Thread Cert.PostMix0Ideal.nD Cert.PostMix0Ideal.τ).loc Cert.PostMix0Ideal.main_arg9) = m ((c.tc : Thread Cert.PostMix0Ideal.nD Cert.PostMix0Ideal.τ).loc Cert.PostMix0Ideal.main_arg9)
          ∧ r.2.mem ((c.tc : Thread Cert.PostMix0Ideal.nD Cert.PostMix0Ideal.τ).loc Cert.PostMix0Ideal.main_arg10) = m ((c.tc : Thread Cert.PostMix0Ideal.nD Cert.PostMix0Ideal.τ).loc Cert.PostMix0Ideal.main_arg10))
      ∧ θ_run (Cert.PostMix0RefIdeal.defs (F := Ideal)) (onTc (τ := Cert.PostMix0RefIdeal.τ) (Cert.PostMix0RefIdeal.main (F := Ideal))) ⟨m', fun _ => 0, g'⟩ (fun r => ∀ c : Dev Cert.PostMix0RefIdeal.nD,
          r.2.mem ((c.tc : Thread Cert.PostMix0RefIdeal.nD Cert.PostMix0RefIdeal.τ).loc Cert.PostMix0RefIdeal.main_v122) = v0 c
          ∧ r.2.mem ((c.tc : Thread Cert.PostMix0RefIdeal.nD Cert.PostMix0RefIdeal.τ).loc Cert.PostMix0RefIdeal.main_arg0) = m' ((c.tc : Thread Cert.PostMix0RefIdeal.nD Cert.PostMix0RefIdeal.τ).loc Cert.PostMix0RefIdeal.main_arg0)
          ∧ r.2.mem ((c.tc : Thread Cert.PostMix0RefIdeal.nD Cert.PostMix0RefIdeal.τ).loc Cert.PostMix0RefIdeal.main_arg1) = m' ((c.tc : Thread Cert.PostMix0RefIdeal.nD Cert.PostMix0RefIdeal.τ).loc Cert.PostMix0RefIdeal.main_arg1)
          ∧ r.2.mem ((c.tc : Thread Cert.PostMix0RefIdeal.nD Cert.PostMix0RefIdeal.τ).loc Cert.PostMix0RefIdeal.main_arg2) = m' ((c.tc : Thread Cert.PostMix0RefIdeal.nD Cert.PostMix0RefIdeal.τ).loc Cert.PostMix0RefIdeal.main_arg2)
          ∧ r.2.mem ((c.tc : Thread Cert.PostMix0RefIdeal.nD Cert.PostMix0RefIdeal.τ).loc Cert.PostMix0RefIdeal.main_arg3) = m' ((c.tc : Thread Cert.PostMix0RefIdeal.nD Cert.PostMix0RefIdeal.τ).loc Cert.PostMix0RefIdeal.main_arg3)
          ∧ r.2.mem ((c.tc : Thread Cert.PostMix0RefIdeal.nD Cert.PostMix0RefIdeal.τ).loc Cert.PostMix0RefIdeal.main_arg4) = m' ((c.tc : Thread Cert.PostMix0RefIdeal.nD Cert.PostMix0RefIdeal.τ).loc Cert.PostMix0RefIdeal.main_arg4)
          ∧ r.2.mem ((c.tc : Thread Cert.PostMix0RefIdeal.nD Cert.PostMix0RefIdeal.τ).loc Cert.PostMix0RefIdeal.main_arg5) = m' ((c.tc : Thread Cert.PostMix0RefIdeal.nD Cert.PostMix0RefIdeal.τ).loc Cert.PostMix0RefIdeal.main_arg5)
          ∧ r.2.mem ((c.tc : Thread Cert.PostMix0RefIdeal.nD Cert.PostMix0RefIdeal.τ).loc Cert.PostMix0RefIdeal.main_arg6) = m' ((c.tc : Thread Cert.PostMix0RefIdeal.nD Cert.PostMix0RefIdeal.τ).loc Cert.PostMix0RefIdeal.main_arg6)
          ∧ r.2.mem ((c.tc : Thread Cert.PostMix0RefIdeal.nD Cert.PostMix0RefIdeal.τ).loc Cert.PostMix0RefIdeal.main_arg7) = m' ((c.tc : Thread Cert.PostMix0RefIdeal.nD Cert.PostMix0RefIdeal.τ).loc Cert.PostMix0RefIdeal.main_arg7)
          ∧ r.2.mem ((c.tc : Thread Cert.PostMix0RefIdeal.nD Cert.PostMix0RefIdeal.τ).loc Cert.PostMix0RefIdeal.main_arg8) = m' ((c.tc : Thread Cert.PostMix0RefIdeal.nD Cert.PostMix0RefIdeal.τ).loc Cert.PostMix0RefIdeal.main_arg8)
          ∧ r.2.mem ((c.tc : Thread Cert.PostMix0RefIdeal.nD Cert.PostMix0RefIdeal.τ).loc Cert.PostMix0RefIdeal.main_arg9) = m' ((c.tc : Thread Cert.PostMix0RefIdeal.nD Cert.PostMix0RefIdeal.τ).loc Cert.PostMix0RefIdeal.main_arg9)
          ∧ r.2.mem ((c.tc : Thread Cert.PostMix0RefIdeal.nD Cert.PostMix0RefIdeal.τ).loc Cert.PostMix0RefIdeal.main_arg10) = m' ((c.tc : Thread Cert.PostMix0RefIdeal.nD Cert.PostMix0RefIdeal.τ).loc Cert.PostMix0RefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v13)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_MlaAttn_MlaAttnIdeal : Prop :=
  True

def algebraic_MlaAttnIdeal_MlaAttnRefIdeal_on_first_rows_pre_finite_inputs [hMlaAttnIdeal : Cert.MlaAttnIdeal.Facts] [hMlaAttnRefIdeal : Cert.MlaAttnRefIdeal.Facts] [hPre_finite_inputs : Cert.Pre_finite_inputs.Facts] [hOn_first_rows : Cert.On_first_rows.Facts] : Prop :=
  ∀ (m : (ℓ : Loc Cert.MlaAttnIdeal.nD Cert.MlaAttnIdeal.τ Cert.MlaAttnIdeal.sig) → Buf (Elt Ideal) ℓ) (g : Dev Cert.MlaAttnIdeal.nD → PrngReg)
    (m' : (ℓ : Loc Cert.MlaAttnRefIdeal.nD Cert.MlaAttnRefIdeal.τ Cert.MlaAttnRefIdeal.sig) → Buf (Elt Ideal) ℓ) (g' : Dev Cert.MlaAttnRefIdeal.nD → PrngReg), Pre_MlaAttnIdeal_finite_inputs m →
    (∀ c : Dev Cert.MlaAttnIdeal.nD,
      m' ((c.tc : Thread Cert.MlaAttnRefIdeal.nD Cert.MlaAttnRefIdeal.τ).loc Cert.MlaAttnRefIdeal.main_arg0) = m ((c.tc : Thread Cert.MlaAttnIdeal.nD Cert.MlaAttnIdeal.τ).loc Cert.MlaAttnIdeal.main_arg0)
      ∧ m' ((c.tc : Thread Cert.MlaAttnRefIdeal.nD Cert.MlaAttnRefIdeal.τ).loc Cert.MlaAttnRefIdeal.main_arg1) = m ((c.tc : Thread Cert.MlaAttnIdeal.nD Cert.MlaAttnIdeal.τ).loc Cert.MlaAttnIdeal.main_arg1)
      ∧ m' ((c.tc : Thread Cert.MlaAttnRefIdeal.nD Cert.MlaAttnRefIdeal.τ).loc Cert.MlaAttnRefIdeal.main_arg2) = m ((c.tc : Thread Cert.MlaAttnIdeal.nD Cert.MlaAttnIdeal.τ).loc Cert.MlaAttnIdeal.main_arg2)
      ∧ m' ((c.tc : Thread Cert.MlaAttnRefIdeal.nD Cert.MlaAttnRefIdeal.τ).loc Cert.MlaAttnRefIdeal.main_arg3) = m ((c.tc : Thread Cert.MlaAttnIdeal.nD Cert.MlaAttnIdeal.τ).loc Cert.MlaAttnIdeal.main_arg3)) →
    ∃ (v0 : (c : Dev Cert.MlaAttnIdeal.nD) → Buf (Elt Ideal) ((c.tc : Thread Cert.MlaAttnIdeal.nD Cert.MlaAttnIdeal.τ).loc Cert.MlaAttnIdeal.main_v0)),
      θ_run (Cert.MlaAttnIdeal.defs (F := Ideal)) (onTc (τ := Cert.MlaAttnIdeal.τ) (Cert.MlaAttnIdeal.main (F := Ideal))) ⟨m, fun _ => 0, g⟩ (fun r => ∀ c : Dev Cert.MlaAttnIdeal.nD,
          (∀ i : (⟨3, ![8, 4096, 2048]⟩ : Shape).Idx, (Cert.On_first_rows.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))) i = 1#1 → r.2.mem ((c.tc : Thread Cert.MlaAttnIdeal.nD Cert.MlaAttnIdeal.τ).loc Cert.MlaAttnIdeal.main_v0) i = v0 c i)
          ∧ r.2.mem ((c.tc : Thread Cert.MlaAttnIdeal.nD Cert.MlaAttnIdeal.τ).loc Cert.MlaAttnIdeal.main_arg0) = m ((c.tc : Thread Cert.MlaAttnIdeal.nD Cert.MlaAttnIdeal.τ).loc Cert.MlaAttnIdeal.main_arg0)
          ∧ r.2.mem ((c.tc : Thread Cert.MlaAttnIdeal.nD Cert.MlaAttnIdeal.τ).loc Cert.MlaAttnIdeal.main_arg1) = m ((c.tc : Thread Cert.MlaAttnIdeal.nD Cert.MlaAttnIdeal.τ).loc Cert.MlaAttnIdeal.main_arg1)
          ∧ r.2.mem ((c.tc : Thread Cert.MlaAttnIdeal.nD Cert.MlaAttnIdeal.τ).loc Cert.MlaAttnIdeal.main_arg2) = m ((c.tc : Thread Cert.MlaAttnIdeal.nD Cert.MlaAttnIdeal.τ).loc Cert.MlaAttnIdeal.main_arg2)
          ∧ r.2.mem ((c.tc : Thread Cert.MlaAttnIdeal.nD Cert.MlaAttnIdeal.τ).loc Cert.MlaAttnIdeal.main_arg3) = m ((c.tc : Thread Cert.MlaAttnIdeal.nD Cert.MlaAttnIdeal.τ).loc Cert.MlaAttnIdeal.main_arg3))
      ∧ θ_run (Cert.MlaAttnRefIdeal.defs (F := Ideal)) (onTc (τ := Cert.MlaAttnRefIdeal.τ) (Cert.MlaAttnRefIdeal.main (F := Ideal))) ⟨m', fun _ => 0, g'⟩ (fun r => ∀ c : Dev Cert.MlaAttnRefIdeal.nD,
          (∀ i : (⟨3, ![8, 4096, 2048]⟩ : Shape).Idx, (Cert.On_first_rows.fn (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3))) i = 1#1 → r.2.mem ((c.tc : Thread Cert.MlaAttnRefIdeal.nD Cert.MlaAttnRefIdeal.τ).loc Cert.MlaAttnRefIdeal.main_v33) i = v0 c i)
          ∧ r.2.mem ((c.tc : Thread Cert.MlaAttnRefIdeal.nD Cert.MlaAttnRefIdeal.τ).loc Cert.MlaAttnRefIdeal.main_arg0) = m' ((c.tc : Thread Cert.MlaAttnRefIdeal.nD Cert.MlaAttnRefIdeal.τ).loc Cert.MlaAttnRefIdeal.main_arg0)
          ∧ r.2.mem ((c.tc : Thread Cert.MlaAttnRefIdeal.nD Cert.MlaAttnRefIdeal.τ).loc Cert.MlaAttnRefIdeal.main_arg1) = m' ((c.tc : Thread Cert.MlaAttnRefIdeal.nD Cert.MlaAttnRefIdeal.τ).loc Cert.MlaAttnRefIdeal.main_arg1)
          ∧ r.2.mem ((c.tc : Thread Cert.MlaAttnRefIdeal.nD Cert.MlaAttnRefIdeal.τ).loc Cert.MlaAttnRefIdeal.main_arg2) = m' ((c.tc : Thread Cert.MlaAttnRefIdeal.nD Cert.MlaAttnRefIdeal.τ).loc Cert.MlaAttnRefIdeal.main_arg2)
          ∧ r.2.mem ((c.tc : Thread Cert.MlaAttnRefIdeal.nD Cert.MlaAttnRefIdeal.τ).loc Cert.MlaAttnRefIdeal.main_arg3) = m' ((c.tc : Thread Cert.MlaAttnRefIdeal.nD Cert.MlaAttnRefIdeal.τ).loc Cert.MlaAttnRefIdeal.main_arg3))

def preserves_KvFfn_KvFfnIdeal : Prop :=
  True

def algebraic_KvFfnIdeal_KvFfnRefIdeal_pre_finite_stream [hKvFfnIdeal : Cert.KvFfnIdeal.Facts] [hKvFfnRefIdeal : Cert.KvFfnRefIdeal.Facts] [hPre_finite_stream : Cert.Pre_finite_stream.Facts] : Prop :=
  ∀ (m : (ℓ : Loc Cert.KvFfnIdeal.nD Cert.KvFfnIdeal.τ Cert.KvFfnIdeal.sig) → Buf (Elt Ideal) ℓ) (g : Dev Cert.KvFfnIdeal.nD → PrngReg)
    (m' : (ℓ : Loc Cert.KvFfnRefIdeal.nD Cert.KvFfnRefIdeal.τ Cert.KvFfnRefIdeal.sig) → Buf (Elt Ideal) ℓ) (g' : Dev Cert.KvFfnRefIdeal.nD → PrngReg), Pre_KvFfnIdeal_finite_stream m →
    (∀ c : Dev Cert.KvFfnIdeal.nD,
      m' ((c.tc : Thread Cert.KvFfnRefIdeal.nD Cert.KvFfnRefIdeal.τ).loc Cert.KvFfnRefIdeal.main_arg0) = m ((c.tc : Thread Cert.KvFfnIdeal.nD Cert.KvFfnIdeal.τ).loc Cert.KvFfnIdeal.main_arg0)
      ∧ m' ((c.tc : Thread Cert.KvFfnRefIdeal.nD Cert.KvFfnRefIdeal.τ).loc Cert.KvFfnRefIdeal.main_arg1) = m ((c.tc : Thread Cert.KvFfnIdeal.nD Cert.KvFfnIdeal.τ).loc Cert.KvFfnIdeal.main_arg1)
      ∧ m' ((c.tc : Thread Cert.KvFfnRefIdeal.nD Cert.KvFfnRefIdeal.τ).loc Cert.KvFfnRefIdeal.main_arg2) = m ((c.tc : Thread Cert.KvFfnIdeal.nD Cert.KvFfnIdeal.τ).loc Cert.KvFfnIdeal.main_arg2)
      ∧ m' ((c.tc : Thread Cert.KvFfnRefIdeal.nD Cert.KvFfnRefIdeal.τ).loc Cert.KvFfnRefIdeal.main_arg3) = m ((c.tc : Thread Cert.KvFfnIdeal.nD Cert.KvFfnIdeal.τ).loc Cert.KvFfnIdeal.main_arg3)
      ∧ m' ((c.tc : Thread Cert.KvFfnRefIdeal.nD Cert.KvFfnRefIdeal.τ).loc Cert.KvFfnRefIdeal.main_arg4) = m ((c.tc : Thread Cert.KvFfnIdeal.nD Cert.KvFfnIdeal.τ).loc Cert.KvFfnIdeal.main_arg4)
      ∧ m' ((c.tc : Thread Cert.KvFfnRefIdeal.nD Cert.KvFfnRefIdeal.τ).loc Cert.KvFfnRefIdeal.main_arg5) = m ((c.tc : Thread Cert.KvFfnIdeal.nD Cert.KvFfnIdeal.τ).loc Cert.KvFfnIdeal.main_arg5)
      ∧ m' ((c.tc : Thread Cert.KvFfnRefIdeal.nD Cert.KvFfnRefIdeal.τ).loc Cert.KvFfnRefIdeal.main_arg6) = m ((c.tc : Thread Cert.KvFfnIdeal.nD Cert.KvFfnIdeal.τ).loc Cert.KvFfnIdeal.main_arg6)
      ∧ m' ((c.tc : Thread Cert.KvFfnRefIdeal.nD Cert.KvFfnRefIdeal.τ).loc Cert.KvFfnRefIdeal.main_arg7) = m ((c.tc : Thread Cert.KvFfnIdeal.nD Cert.KvFfnIdeal.τ).loc Cert.KvFfnIdeal.main_arg7)) →
    ∃ (v0 : (c : Dev Cert.KvFfnIdeal.nD) → Buf (Elt Ideal) ((c.tc : Thread Cert.KvFfnIdeal.nD Cert.KvFfnIdeal.τ).loc Cert.KvFfnIdeal.main_v47_0)) (v1 : (c : Dev Cert.KvFfnIdeal.nD) → Buf (Elt Ideal) ((c.tc : Thread Cert.KvFfnIdeal.nD Cert.KvFfnIdeal.τ).loc Cert.KvFfnIdeal.main_v47_1)) (v2 : (c : Dev Cert.KvFfnIdeal.nD) → Buf (Elt Ideal) ((c.tc : Thread Cert.KvFfnIdeal.nD Cert.KvFfnIdeal.τ).loc Cert.KvFfnIdeal.main_v47_2)) (v3 : (c : Dev Cert.KvFfnIdeal.nD) → Buf (Elt Ideal) ((c.tc : Thread Cert.KvFfnIdeal.nD Cert.KvFfnIdeal.τ).loc Cert.KvFfnIdeal.main_v47_3)),
      θ_run (Cert.KvFfnIdeal.defs (F := Ideal)) (onTc (τ := Cert.KvFfnIdeal.τ) (Cert.KvFfnIdeal.main (F := Ideal))) ⟨m, fun _ => 0, g⟩ (fun r => ∀ c : Dev Cert.KvFfnIdeal.nD,
          r.2.mem ((c.tc : Thread Cert.KvFfnIdeal.nD Cert.KvFfnIdeal.τ).loc Cert.KvFfnIdeal.main_v47_0) = v0 c
          ∧ r.2.mem ((c.tc : Thread Cert.KvFfnIdeal.nD Cert.KvFfnIdeal.τ).loc Cert.KvFfnIdeal.main_v47_1) = v1 c
          ∧ r.2.mem ((c.tc : Thread Cert.KvFfnIdeal.nD Cert.KvFfnIdeal.τ).loc Cert.KvFfnIdeal.main_v47_2) = v2 c
          ∧ r.2.mem ((c.tc : Thread Cert.KvFfnIdeal.nD Cert.KvFfnIdeal.τ).loc Cert.KvFfnIdeal.main_v47_3) = v3 c
          ∧ r.2.mem ((c.tc : Thread Cert.KvFfnIdeal.nD Cert.KvFfnIdeal.τ).loc Cert.KvFfnIdeal.main_arg0) = m ((c.tc : Thread Cert.KvFfnIdeal.nD Cert.KvFfnIdeal.τ).loc Cert.KvFfnIdeal.main_arg0)
          ∧ r.2.mem ((c.tc : Thread Cert.KvFfnIdeal.nD Cert.KvFfnIdeal.τ).loc Cert.KvFfnIdeal.main_arg1) = m ((c.tc : Thread Cert.KvFfnIdeal.nD Cert.KvFfnIdeal.τ).loc Cert.KvFfnIdeal.main_arg1)
          ∧ r.2.mem ((c.tc : Thread Cert.KvFfnIdeal.nD Cert.KvFfnIdeal.τ).loc Cert.KvFfnIdeal.main_arg2) = m ((c.tc : Thread Cert.KvFfnIdeal.nD Cert.KvFfnIdeal.τ).loc Cert.KvFfnIdeal.main_arg2)
          ∧ r.2.mem ((c.tc : Thread Cert.KvFfnIdeal.nD Cert.KvFfnIdeal.τ).loc Cert.KvFfnIdeal.main_arg3) = m ((c.tc : Thread Cert.KvFfnIdeal.nD Cert.KvFfnIdeal.τ).loc Cert.KvFfnIdeal.main_arg3)
          ∧ r.2.mem ((c.tc : Thread Cert.KvFfnIdeal.nD Cert.KvFfnIdeal.τ).loc Cert.KvFfnIdeal.main_arg4) = m ((c.tc : Thread Cert.KvFfnIdeal.nD Cert.KvFfnIdeal.τ).loc Cert.KvFfnIdeal.main_arg4)
          ∧ r.2.mem ((c.tc : Thread Cert.KvFfnIdeal.nD Cert.KvFfnIdeal.τ).loc Cert.KvFfnIdeal.main_arg5) = m ((c.tc : Thread Cert.KvFfnIdeal.nD Cert.KvFfnIdeal.τ).loc Cert.KvFfnIdeal.main_arg5)
          ∧ r.2.mem ((c.tc : Thread Cert.KvFfnIdeal.nD Cert.KvFfnIdeal.τ).loc Cert.KvFfnIdeal.main_arg6) = m ((c.tc : Thread Cert.KvFfnIdeal.nD Cert.KvFfnIdeal.τ).loc Cert.KvFfnIdeal.main_arg6)
          ∧ r.2.mem ((c.tc : Thread Cert.KvFfnIdeal.nD Cert.KvFfnIdeal.τ).loc Cert.KvFfnIdeal.main_arg7) = m ((c.tc : Thread Cert.KvFfnIdeal.nD Cert.KvFfnIdeal.τ).loc Cert.KvFfnIdeal.main_arg7))
      ∧ θ_run (Cert.KvFfnRefIdeal.defs (F := Ideal)) (onTc (τ := Cert.KvFfnRefIdeal.τ) (Cert.KvFfnRefIdeal.main (F := Ideal))) ⟨m', fun _ => 0, g'⟩ (fun r => ∀ c : Dev Cert.KvFfnRefIdeal.nD,
          r.2.mem ((c.tc : Thread Cert.KvFfnRefIdeal.nD Cert.KvFfnRefIdeal.τ).loc Cert.KvFfnRefIdeal.main_v94) = v0 c
          ∧ r.2.mem ((c.tc : Thread Cert.KvFfnRefIdeal.nD Cert.KvFfnRefIdeal.τ).loc Cert.KvFfnRefIdeal.main_v96) = v1 c
          ∧ r.2.mem ((c.tc : Thread Cert.KvFfnRefIdeal.nD Cert.KvFfnRefIdeal.τ).loc Cert.KvFfnRefIdeal.main_v98) = v2 c
          ∧ r.2.mem ((c.tc : Thread Cert.KvFfnRefIdeal.nD Cert.KvFfnRefIdeal.τ).loc Cert.KvFfnRefIdeal.main_v99) = v3 c
          ∧ r.2.mem ((c.tc : Thread Cert.KvFfnRefIdeal.nD Cert.KvFfnRefIdeal.τ).loc Cert.KvFfnRefIdeal.main_arg0) = m' ((c.tc : Thread Cert.KvFfnRefIdeal.nD Cert.KvFfnRefIdeal.τ).loc Cert.KvFfnRefIdeal.main_arg0)
          ∧ r.2.mem ((c.tc : Thread Cert.KvFfnRefIdeal.nD Cert.KvFfnRefIdeal.τ).loc Cert.KvFfnRefIdeal.main_arg1) = m' ((c.tc : Thread Cert.KvFfnRefIdeal.nD Cert.KvFfnRefIdeal.τ).loc Cert.KvFfnRefIdeal.main_arg1)
          ∧ r.2.mem ((c.tc : Thread Cert.KvFfnRefIdeal.nD Cert.KvFfnRefIdeal.τ).loc Cert.KvFfnRefIdeal.main_arg2) = m' ((c.tc : Thread Cert.KvFfnRefIdeal.nD Cert.KvFfnRefIdeal.τ).loc Cert.KvFfnRefIdeal.main_arg2)
          ∧ r.2.mem ((c.tc : Thread Cert.KvFfnRefIdeal.nD Cert.KvFfnRefIdeal.τ).loc Cert.KvFfnRefIdeal.main_arg3) = m' ((c.tc : Thread Cert.KvFfnRefIdeal.nD Cert.KvFfnRefIdeal.τ).loc Cert.KvFfnRefIdeal.main_arg3)
          ∧ r.2.mem ((c.tc : Thread Cert.KvFfnRefIdeal.nD Cert.KvFfnRefIdeal.τ).loc Cert.KvFfnRefIdeal.main_arg4) = m' ((c.tc : Thread Cert.KvFfnRefIdeal.nD Cert.KvFfnRefIdeal.τ).loc Cert.KvFfnRefIdeal.main_arg4)
          ∧ r.2.mem ((c.tc : Thread Cert.KvFfnRefIdeal.nD Cert.KvFfnRefIdeal.τ).loc Cert.KvFfnRefIdeal.main_arg5) = m' ((c.tc : Thread Cert.KvFfnRefIdeal.nD Cert.KvFfnRefIdeal.τ).loc Cert.KvFfnRefIdeal.main_arg5)
          ∧ r.2.mem ((c.tc : Thread Cert.KvFfnRefIdeal.nD Cert.KvFfnRefIdeal.τ).loc Cert.KvFfnRefIdeal.main_arg6) = m' ((c.tc : Thread Cert.KvFfnRefIdeal.nD Cert.KvFfnRefIdeal.τ).loc Cert.KvFfnRefIdeal.main_arg6)
          ∧ r.2.mem ((c.tc : Thread Cert.KvFfnRefIdeal.nD Cert.KvFfnRefIdeal.τ).loc Cert.KvFfnRefIdeal.main_arg7) = m' ((c.tc : Thread Cert.KvFfnRefIdeal.nD Cert.KvFfnRefIdeal.τ).loc Cert.KvFfnRefIdeal.main_arg7))

def preserves_FoxProj_FoxProjIdeal : Prop :=
  True

def algebraic_FoxProjIdeal_FoxProjRefIdeal [hFoxProjIdeal : Cert.FoxProjIdeal.Facts] [hFoxProjRefIdeal : Cert.FoxProjRefIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjRefIdeal.nD Cert.FoxProjRefIdeal.τ Cert.FoxProjRefIdeal.sig) → Buf (Elt Ideal) ℓ) (g' : Dev Cert.FoxProjRefIdeal.nD → PrngReg), Pre_FoxProjIdeal m →
    (∀ c : Dev Cert.FoxProjIdeal.nD,
      m' ((c.tc : Thread Cert.FoxProjRefIdeal.nD Cert.FoxProjRefIdeal.τ).loc Cert.FoxProjRefIdeal.main_arg0) = m ((c.tc : Thread Cert.FoxProjIdeal.nD Cert.FoxProjIdeal.τ).loc Cert.FoxProjIdeal.main_arg0)
      ∧ m' ((c.tc : Thread Cert.FoxProjRefIdeal.nD Cert.FoxProjRefIdeal.τ).loc Cert.FoxProjRefIdeal.main_arg1) = m ((c.tc : Thread Cert.FoxProjIdeal.nD Cert.FoxProjIdeal.τ).loc Cert.FoxProjIdeal.main_arg1)) →
    ∃ (v0 : (c : Dev Cert.FoxProjIdeal.nD) → Buf (Elt Ideal) ((c.tc : Thread Cert.FoxProjIdeal.nD Cert.FoxProjIdeal.τ).loc Cert.FoxProjIdeal.main_v10_0)) (v1 : (c : Dev Cert.FoxProjIdeal.nD) → Buf (Elt Ideal) ((c.tc : Thread Cert.FoxProjIdeal.nD Cert.FoxProjIdeal.τ).loc Cert.FoxProjIdeal.main_v10_1)) (v2 : (c : Dev Cert.FoxProjIdeal.nD) → Buf (Elt Ideal) ((c.tc : Thread Cert.FoxProjIdeal.nD Cert.FoxProjIdeal.τ).loc Cert.FoxProjIdeal.main_v10_2)) (v3 : (c : Dev Cert.FoxProjIdeal.nD) → Buf (Elt Ideal) ((c.tc : Thread Cert.FoxProjIdeal.nD Cert.FoxProjIdeal.τ).loc Cert.FoxProjIdeal.main_v10_3)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v10_0) = v0 c
          ∧ r.2.mem ((c.tc : Thread Cert.FoxProjIdeal.nD Cert.FoxProjIdeal.τ).loc Cert.FoxProjIdeal.main_v10_1) = v1 c
          ∧ r.2.mem ((c.tc : Thread Cert.FoxProjIdeal.nD Cert.FoxProjIdeal.τ).loc Cert.FoxProjIdeal.main_v10_2) = v2 c
          ∧ r.2.mem ((c.tc : Thread Cert.FoxProjIdeal.nD Cert.FoxProjIdeal.τ).loc Cert.FoxProjIdeal.main_v10_3) = v3 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ θ_run (Cert.FoxProjRefIdeal.defs (F := Ideal)) (onTc (τ := Cert.FoxProjRefIdeal.τ) (Cert.FoxProjRefIdeal.main (F := Ideal))) ⟨m', fun _ => 0, g'⟩ (fun r => ∀ c : Dev Cert.FoxProjRefIdeal.nD,
          r.2.mem ((c.tc : Thread Cert.FoxProjRefIdeal.nD Cert.FoxProjRefIdeal.τ).loc Cert.FoxProjRefIdeal.main_v8) = v0 c
          ∧ r.2.mem ((c.tc : Thread Cert.FoxProjRefIdeal.nD Cert.FoxProjRefIdeal.τ).loc Cert.FoxProjRefIdeal.main_v9) = v1 c
          ∧ r.2.mem ((c.tc : Thread Cert.FoxProjRefIdeal.nD Cert.FoxProjRefIdeal.τ).loc Cert.FoxProjRefIdeal.main_v10) = v2 c
          ∧ r.2.mem ((c.tc : Thread Cert.FoxProjRefIdeal.nD Cert.FoxProjRefIdeal.τ).loc Cert.FoxProjRefIdeal.main_v11) = v3 c
          ∧ r.2.mem ((c.tc : Thread Cert.FoxProjRefIdeal.nD Cert.FoxProjRefIdeal.τ).loc Cert.FoxProjRefIdeal.main_arg0) = m' ((c.tc : Thread Cert.FoxProjRefIdeal.nD Cert.FoxProjRefIdeal.τ).loc Cert.FoxProjRefIdeal.main_arg0)
          ∧ r.2.mem ((c.tc : Thread Cert.FoxProjRefIdeal.nD Cert.FoxProjRefIdeal.τ).loc Cert.FoxProjRefIdeal.main_arg1) = m' ((c.tc : Thread Cert.FoxProjRefIdeal.nD Cert.FoxProjRefIdeal.τ).loc Cert.FoxProjRefIdeal.main_arg1))

def preserves_MlaQ_MlaQIdeal : Prop :=
  True

def algebraic_MlaQIdeal_MlaQRefIdeal_pre_finite_queries [hMlaQIdeal : Cert.MlaQIdeal.Facts] [hMlaQRefIdeal : Cert.MlaQRefIdeal.Facts] [hPre_finite_queries : Cert.Pre_finite_queries.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQRefIdeal.nD Cert.MlaQRefIdeal.τ Cert.MlaQRefIdeal.sig) → Buf (Elt Ideal) ℓ) (g' : Dev Cert.MlaQRefIdeal.nD → PrngReg), Pre_MlaQIdeal_finite_queries m →
    (∀ c : Dev Cert.MlaQIdeal.nD,
      m' ((c.tc : Thread Cert.MlaQRefIdeal.nD Cert.MlaQRefIdeal.τ).loc Cert.MlaQRefIdeal.main_arg0) = m ((c.tc : Thread Cert.MlaQIdeal.nD Cert.MlaQIdeal.τ).loc Cert.MlaQIdeal.main_arg0)
      ∧ m' ((c.tc : Thread Cert.MlaQRefIdeal.nD Cert.MlaQRefIdeal.τ).loc Cert.MlaQRefIdeal.main_arg1) = m ((c.tc : Thread Cert.MlaQIdeal.nD Cert.MlaQIdeal.τ).loc Cert.MlaQIdeal.main_arg1)
      ∧ m' ((c.tc : Thread Cert.MlaQRefIdeal.nD Cert.MlaQRefIdeal.τ).loc Cert.MlaQRefIdeal.main_arg2) = m ((c.tc : Thread Cert.MlaQIdeal.nD Cert.MlaQIdeal.τ).loc Cert.MlaQIdeal.main_arg2)
      ∧ m' ((c.tc : Thread Cert.MlaQRefIdeal.nD Cert.MlaQRefIdeal.τ).loc Cert.MlaQRefIdeal.main_arg3) = m ((c.tc : Thread Cert.MlaQIdeal.nD Cert.MlaQIdeal.τ).loc Cert.MlaQIdeal.main_arg3)) →
    ∃ (v0 : (c : Dev Cert.MlaQIdeal.nD) → Buf (Elt Ideal) ((c.tc : Thread Cert.MlaQIdeal.nD Cert.MlaQIdeal.τ).loc Cert.MlaQIdeal.main_v36)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v36) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
          ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3))
      ∧ θ_run (Cert.MlaQRefIdeal.defs (F := Ideal)) (onTc (τ := Cert.MlaQRefIdeal.τ) (Cert.MlaQRefIdeal.main (F := Ideal))) ⟨m', fun _ => 0, g'⟩ (fun r => ∀ c : Dev Cert.MlaQRefIdeal.nD,
          r.2.mem ((c.tc : Thread Cert.MlaQRefIdeal.nD Cert.MlaQRefIdeal.τ).loc Cert.MlaQRefIdeal.main_v58) = v0 c
          ∧ r.2.mem ((c.tc : Thread Cert.MlaQRefIdeal.nD Cert.MlaQRefIdeal.τ).loc Cert.MlaQRefIdeal.main_arg0) = m' ((c.tc : Thread Cert.MlaQRefIdeal.nD Cert.MlaQRefIdeal.τ).loc Cert.MlaQRefIdeal.main_arg0)
          ∧ r.2.mem ((c.tc : Thread Cert.MlaQRefIdeal.nD Cert.MlaQRefIdeal.τ).loc Cert.MlaQRefIdeal.main_arg1) = m' ((c.tc : Thread Cert.MlaQRefIdeal.nD Cert.MlaQRefIdeal.τ).loc Cert.MlaQRefIdeal.main_arg1)
          ∧ r.2.mem ((c.tc : Thread Cert.MlaQRefIdeal.nD Cert.MlaQRefIdeal.τ).loc Cert.MlaQRefIdeal.main_arg2) = m' ((c.tc : Thread Cert.MlaQRefIdeal.nD Cert.MlaQRefIdeal.τ).loc Cert.MlaQRefIdeal.main_arg2)
          ∧ r.2.mem ((c.tc : Thread Cert.MlaQRefIdeal.nD Cert.MlaQRefIdeal.τ).loc Cert.MlaQRefIdeal.main_arg3) = m' ((c.tc : Thread Cert.MlaQRefIdeal.nD Cert.MlaQRefIdeal.τ).loc Cert.MlaQRefIdeal.main_arg3))

def Claim : Prop :=
  ∃ (hPostMix1 : Cert.PostMix1.Facts) (hPostMix1Ideal : Cert.PostMix1Ideal.Facts) (hPostMix1RefIdeal : Cert.PostMix1RefIdeal.Facts) (hPostMix0 : Cert.PostMix0.Facts) (hPostMix0Ideal : Cert.PostMix0Ideal.Facts) (hPostMix0RefIdeal : Cert.PostMix0RefIdeal.Facts) (hFfn : Cert.Ffn.Facts) (hFfnIdeal : Cert.FfnIdeal.Facts) (hFfnRefIdeal : Cert.FfnRefIdeal.Facts) (hMlaAttn : Cert.MlaAttn.Facts) (hMlaAttnIdeal : Cert.MlaAttnIdeal.Facts) (hMlaAttnRefIdeal : Cert.MlaAttnRefIdeal.Facts) (hKvFfn : Cert.KvFfn.Facts) (hKvFfnIdeal : Cert.KvFfnIdeal.Facts) (hKvFfnRefIdeal : Cert.KvFfnRefIdeal.Facts) (hFoxProj : Cert.FoxProj.Facts) (hFoxProjIdeal : Cert.FoxProjIdeal.Facts) (hFoxProjRefIdeal : Cert.FoxProjRefIdeal.Facts) (hMlaQ : Cert.MlaQ.Facts) (hMlaQIdeal : Cert.MlaQIdeal.Facts) (hMlaQRefIdeal : Cert.MlaQRefIdeal.Facts) (hPre_finite_inputs : Cert.Pre_finite_inputs.Facts) (hPre_finite_stream : Cert.Pre_finite_stream.Facts) (hPre_finite_queries : Cert.Pre_finite_queries.Facts) (hOn_first_rows : Cert.On_first_rows.Facts),
    quiescent_PostMix1 (hPostMix1 := hPostMix1)
    ∧ quiescent_PostMix1Ideal (hPostMix1Ideal := hPostMix1Ideal)
    ∧ quiescent_PostMix1RefIdeal (hPostMix1RefIdeal := hPostMix1RefIdeal)
    ∧ quiescent_PostMix0 (hPostMix0 := hPostMix0)
    ∧ quiescent_PostMix0Ideal (hPostMix0Ideal := hPostMix0Ideal)
    ∧ quiescent_PostMix0RefIdeal (hPostMix0RefIdeal := hPostMix0RefIdeal)
    ∧ quiescent_Ffn (hFfn := hFfn)
    ∧ quiescent_FfnIdeal (hFfnIdeal := hFfnIdeal)
    ∧ quiescent_FfnRefIdeal (hFfnRefIdeal := hFfnRefIdeal)
    ∧ quiescent_MlaAttn (hMlaAttn := hMlaAttn)
    ∧ quiescent_MlaAttnIdeal (hMlaAttnIdeal := hMlaAttnIdeal)
    ∧ quiescent_MlaAttnIdeal_pre_finite_inputs (hMlaAttnIdeal := hMlaAttnIdeal) (hPre_finite_inputs := hPre_finite_inputs)
    ∧ quiescent_MlaAttnRefIdeal (hMlaAttnRefIdeal := hMlaAttnRefIdeal)
    ∧ quiescent_MlaAttnRefIdeal_pre_finite_inputs (hMlaAttnRefIdeal := hMlaAttnRefIdeal) (hPre_finite_inputs := hPre_finite_inputs)
    ∧ quiescent_KvFfn (hKvFfn := hKvFfn)
    ∧ quiescent_KvFfnIdeal (hKvFfnIdeal := hKvFfnIdeal)
    ∧ quiescent_KvFfnIdeal_pre_finite_stream (hKvFfnIdeal := hKvFfnIdeal) (hPre_finite_stream := hPre_finite_stream)
    ∧ quiescent_KvFfnRefIdeal (hKvFfnRefIdeal := hKvFfnRefIdeal)
    ∧ quiescent_KvFfnRefIdeal_pre_finite_stream (hKvFfnRefIdeal := hKvFfnRefIdeal) (hPre_finite_stream := hPre_finite_stream)
    ∧ quiescent_FoxProj (hFoxProj := hFoxProj)
    ∧ quiescent_FoxProjIdeal (hFoxProjIdeal := hFoxProjIdeal)
    ∧ quiescent_FoxProjRefIdeal (hFoxProjRefIdeal := hFoxProjRefIdeal)
    ∧ quiescent_MlaQ (hMlaQ := hMlaQ)
    ∧ quiescent_MlaQIdeal (hMlaQIdeal := hMlaQIdeal)
    ∧ quiescent_MlaQIdeal_pre_finite_queries (hMlaQIdeal := hMlaQIdeal) (hPre_finite_queries := hPre_finite_queries)
    ∧ quiescent_MlaQRefIdeal (hMlaQRefIdeal := hMlaQRefIdeal)
    ∧ quiescent_MlaQRefIdeal_pre_finite_queries (hMlaQRefIdeal := hMlaQRefIdeal) (hPre_finite_queries := hPre_finite_queries)
    ∧ preserves_PostMix1_PostMix1Ideal
    ∧ algebraic_PostMix1Ideal_PostMix1RefIdeal (hPostMix1Ideal := hPostMix1Ideal) (hPostMix1RefIdeal := hPostMix1RefIdeal)
    ∧ preserves_PostMix0_PostMix0Ideal
    ∧ algebraic_PostMix0Ideal_PostMix0RefIdeal (hPostMix0Ideal := hPostMix0Ideal) (hPostMix0RefIdeal := hPostMix0RefIdeal)
    ∧ preserves_Ffn_FfnIdeal
    ∧ algebraic_FfnIdeal_FfnRefIdeal (hFfnIdeal := hFfnIdeal) (hFfnRefIdeal := hFfnRefIdeal)
    ∧ preserves_MlaAttn_MlaAttnIdeal
    ∧ algebraic_MlaAttnIdeal_MlaAttnRefIdeal_on_first_rows_pre_finite_inputs (hMlaAttnIdeal := hMlaAttnIdeal) (hMlaAttnRefIdeal := hMlaAttnRefIdeal) (hPre_finite_inputs := hPre_finite_inputs) (hOn_first_rows := hOn_first_rows)
    ∧ preserves_KvFfn_KvFfnIdeal
    ∧ algebraic_KvFfnIdeal_KvFfnRefIdeal_pre_finite_stream (hKvFfnIdeal := hKvFfnIdeal) (hKvFfnRefIdeal := hKvFfnRefIdeal) (hPre_finite_stream := hPre_finite_stream)
    ∧ preserves_FoxProj_FoxProjIdeal
    ∧ algebraic_FoxProjIdeal_FoxProjRefIdeal (hFoxProjIdeal := hFoxProjIdeal) (hFoxProjRefIdeal := hFoxProjRefIdeal)
    ∧ preserves_MlaQ_MlaQIdeal
    ∧ algebraic_MlaQIdeal_MlaQRefIdeal_pre_finite_queries (hMlaQIdeal := hMlaQIdeal) (hMlaQRefIdeal := hMlaQRefIdeal) (hPre_finite_queries := hPre_finite_queries)
-- ==== On_first_rows.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S_ : Shape := ⟨0, ![]⟩

class Facts : Prop where
  bcast_S_S8x4096x2048 : S_.BroadcastsInDim S8x4096x2048 (![] : Fin 0 → Fin S8x4096x2048.rank)

variable [Facts]

def fn {F : FTy → Type} [FloatOps F] (main_arg0 : FVec F S8x4096x4096 .bf16) (main_arg1 : FVec F S8x4096x2048 .bf16) (main_arg2 : FVec F S8x4096x128 .bf16) (main_arg3 : FVec F S8x4096x2048 .bf16) : IVec S8x4096x2048 1 :=
  let main_v0 : IVec S8x4096x2048 32 := iotaInDim S8x4096x2048 32 1
  let main_c : IVec S_ 32 := constantI S_ 32 512#32
  let main_v1 : IVec S8x4096x2048 32 := broadcastInDim S8x4096x2048 ![] bcast_S_S8x4096x2048 main_c
  let main_v2 : IVec S8x4096x2048 1 := cmpi .slt main_v0 main_v1
  main_v2
-- ==== Pre_finite_inputs.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S_ : Shape := ⟨0, ![]⟩

class Facts : Prop where
  bitsLt_bf16_f32 : FTy.bits .bf16 < FTy.bits .f32
  bcast_S_S8x4096x4096 : S_.BroadcastsInDim S8x4096x4096 (![] : Fin 0 → Fin S8x4096x4096.rank)
  bcast_S_S8x4096x2048 : S_.BroadcastsInDim S8x4096x2048 (![] : Fin 0 → Fin S8x4096x2048.rank)
  bcast_S_S8x4096x128 : S_.BroadcastsInDim S8x4096x128 (![] : Fin 0 → Fin S8x4096x128.rank)

variable [Facts]

def fn {F : FTy → Type} [FloatOps F] (main_arg0 : FVec F S8x4096x4096 .bf16) (main_arg1 : FVec F S8x4096x2048 .bf16) (main_arg2 : FVec F S8x4096x128 .bf16) (main_arg3 : FVec F S8x4096x2048 .bf16) : IVec S8x4096x4096 1 × IVec S8x4096x2048 1 × IVec S8x4096x128 1 :=
  let main_v0 : FVec F S8x4096x4096 .f32 := (extf .f32 · bitsLt_bf16_f32) main_arg0
  let main_v1 : FVec F S8x4096x4096 .f32 := Host.absf main_v0
  let main_cst : FVec F S_ .f32 := constant S_ .f32 0x7F800000#32
  let main_v2 : FVec F S8x4096x4096 .f32 := broadcastInDim S8x4096x4096 ![] bcast_S_S8x4096x4096 main_cst
  let main_v3 : IVec S8x4096x4096 1 := cmpf .olt main_v1 main_v2
  let main_v4 : FVec F S8x4096x2048 .f32 := (extf .f32 · bitsLt_bf16_f32) main_arg1
  let main_v5 : FVec F S8x4096x2048 .f32 := Host.absf main_v4
  let main_cst_0 : FVec F S_ .f32 := constant S_ .f32 0x7F800000#32
  let main_v6 : FVec F S8x4096x2048 .f32 := broadcastInDim S8x4096x2048 ![] bcast_S_S8x4096x2048 main_cst_0
  let main_v7 : IVec S8x4096x2048 1 := cmpf .olt main_v5 main_v6
  let main_v8 : FVec F S8x4096x128 .f32 := (extf .f32 · bitsLt_bf16_f32) main_arg2
  let main_v9 : FVec F S8x4096x128 .f32 := Host.absf main_v8
  let main_cst_1 : FVec F S_ .f32 := constant S_ .f32 0x7F800000#32
  let main_v10 : FVec F S8x4096x128 .f32 := broadcastInDim S8x4096x128 ![] bcast_S_S8x4096x128 main_cst_1
  let main_v11 : IVec S8x4096x128 1 := cmpf .olt main_v9 main_v10
  (main_v3, main_v7, main_v11)
-- ==== Pre_finite_queries.lean ====
abbrev S8x4096x1024 : Shape := ⟨3, ![8, 4096, 1024]⟩
abbrev S1x1024x384 : Shape := ⟨3, ![1, 1024, 384]⟩
abbrev S1x384 : Shape := ⟨2, ![1, 384]⟩
abbrev S1x384x16x192 : Shape := ⟨4, ![1, 384, 16, 192]⟩
abbrev S_ : Shape := ⟨0, ![]⟩

class Facts : Prop where
  bcast_S_S1x384 : S_.BroadcastsInDim S1x384 (![] : Fin 0 → Fin S1x384.rank)
  bcast_S_S1x384x16x192 : S_.BroadcastsInDim S1x384x16x192 (![] : Fin 0 → Fin S1x384x16x192.rank)

variable [Facts]

def fn {F : FTy → Type} [FloatOps F] (main_arg0 : FVec F S8x4096x1024 .f32) (main_arg1 : FVec F S1x1024x384 .f32) (main_arg2 : FVec F S1x384 .f32) (main_arg3 : FVec F S1x384x16x192 .f32) : IVec S1x384 1 × IVec S1x384x16x192 1 :=
  let main_v0 : FVec F S1x384 .f32 := Host.absf main_arg2
  let main_cst : FVec F S_ .f32 := constant S_ .f32 0x7F800000#32
  let main_v1 : FVec F S1x384 .f32 := broadcastInDim S1x384 ![] bcast_S_S1x384 main_cst
  let main_v2 : IVec S1x384 1 := cmpf .olt main_v0 main_v1
  let main_v3 : FVec F S1x384x16x192 .f32 := Host.absf main_arg3
  let main_cst_0 : FVec F S_ .f32 := constant S_ .f32 0x7F800000#32
  let main_v4 : FVec F S1x384x16x192 .f32 := broadcastInDim S1x384x16x192 ![] bcast_S_S1x384x16x192 main_cst_0
  let main_v5 : IVec S1x384x16x192 1 := cmpf .olt main_v3 main_v4
  (main_v2, main_v5)
-- ==== Pre_finite_stream.lean ====
abbrev S8x4096x1024 : Shape := ⟨3, ![8, 4096, 1024]⟩
abbrev S1024x320 : Shape := ⟨2, ![1024, 320]⟩
abbrev S256 : Shape := ⟨1, ![256]⟩
abbrev S256x16x256 : Shape := ⟨3, ![256, 16, 256]⟩
abbrev S2x1024x5632 : Shape := ⟨3, ![2, 1024, 5632]⟩
abbrev S2x2816x1024 : Shape := ⟨3, ![2, 2816, 1024]⟩
abbrev S2x4x1024 : Shape := ⟨3, ![2, 4, 1024]⟩
abbrev S_ : Shape := ⟨0, ![]⟩

class Facts : Prop where
  bcast_S_S8x4096x1024 : S_.BroadcastsInDim S8x4096x1024 (![] : Fin 0 → Fin S8x4096x1024.rank)
  bcast_S_S1024x320 : S_.BroadcastsInDim S1024x320 (![] : Fin 0 → Fin S1024x320.rank)

variable [Facts]

def fn {F : FTy → Type} [FloatOps F] (main_arg0 : FVec F S8x4096x1024 .f32) (main_arg1 : FVec F S1024x320 .f32) (main_arg2 : FVec F S256 .f32) (main_arg3 : FVec F S256x16x256 .f32) (main_arg4 : FVec F S2x1024x5632 .f32) (main_arg5 : FVec F S2x2816x1024 .f32) (main_arg6 : FVec F S2x4x1024 .f32) (main_arg7 : FVec F S2x4x1024 .f32) : IVec S8x4096x1024 1 × IVec S1024x320 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x320 .f32 := Host.absf main_arg1
  let main_cst_0 : FVec F S_ .f32 := constant S_ .f32 0x7F800000#32
  let main_v4 : FVec F S1024x320 .f32 := broadcastInDim S1024x320 ![] bcast_S_S1024x320 main_cst_0
  let main_v5 : IVec S1024x320 1 := cmpf .olt main_v3 main_v4
  (main_v2, main_v5)
-- ==== PostMix1.lean ====
abbrev S8x4096x2048 : Shape := ⟨3, ![8, 4096, 2048]⟩
abbrev S8x4096x1024 : Shape := ⟨3, ![8, 4096, 1024]⟩
abbrev S2x8x4096x256 : Shape := ⟨4, ![2, 8, 4096, 256]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S2x4x1024 : Shape := ⟨3, ![2, 4, 1024]⟩
abbrev S32768x1024 : Shape := ⟨2, ![32768, 1024]⟩
abbrev S2x32768x256 : Shape := ⟨3, ![2, 32768, 256]⟩
abbrev S2048x1024 : Shape := ⟨2, ![2048, 1024]⟩
abbrev S32768x2048 : Shape := ⟨2, ![32768, 2048]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1x4x1024 : Shape := ⟨3, ![1, 4, 1024]⟩
abbrev S4x1024 : Shape := ⟨2, ![4, 1024]⟩
abbrev S512x2048 : Shape := ⟨2, ![512, 2048]⟩
abbrev S512x1024 : Shape := ⟨2, ![512, 1024]⟩
abbrev S1x512x256 : Shape := ⟨3, ![1, 512, 256]⟩
abbrev S512x2816 : Shape := ⟨2, ![512, 2816]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 36
  | .vmem => 18
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x1024, .f32⟩
  | .hbm, ⟨2, _⟩ => ⟨S2x8x4096x256, .f32⟩
  | .hbm, ⟨3, _⟩ => ⟨S1x2048x1024, .f32⟩
  | .hbm, ⟨4, _⟩ => ⟨S2x1024x5632, .f32⟩
  | .hbm, ⟨5, _⟩ => ⟨S2x2816x1024, .f32⟩
  | .hbm, ⟨6, _⟩ => ⟨S2x1024x1024, .f32⟩
  | .hbm, ⟨7, _⟩ => ⟨S2x1024, .f32⟩
  | .hbm, ⟨8, _⟩ => ⟨S2x256x1024, .f32⟩
  | .hbm, ⟨9, _⟩ => ⟨S2x4x1024, .f32⟩
  | .hbm, ⟨10, _⟩ => ⟨S2x4x1024, .f32⟩
  | .hbm, ⟨11, _⟩ => ⟨S32768x1024, .f32⟩
  | .hbm, ⟨12, _⟩ => ⟨S2x32768x256, .f32⟩
  | .hbm, ⟨13, _⟩ => ⟨S2048x1024, .f32⟩
  | .hbm, ⟨14, _⟩ => ⟨S32768x2048, .bf16⟩
  | .hbm, ⟨15, _⟩ => ⟨S2048x1024, .bf16⟩
  | .hbm, ⟨16, _⟩ => ⟨S1x1024x5632, .f32⟩
  | .hbm, ⟨17, _⟩ => ⟨S1024x5632, .f32⟩
  | .hbm, ⟨18, _⟩ => ⟨S1024x5632, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S1x1024x1024, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x256x1024, .f32⟩
  | .hbm, ⟨29, _⟩ => ⟨S256x1024, .f32⟩
  | .hbm, ⟨30, _⟩ => ⟨S256x1024, .bf16⟩
  | .hbm, ⟨31, _⟩ => ⟨S1x4x1024, .f32⟩
  | .hbm, ⟨32, _⟩ => ⟨S4x1024, .f32⟩
  | .hbm, ⟨33, _⟩ => ⟨S1x4x1024, .f32⟩
  | .hbm, ⟨34, _⟩ => ⟨S4x1024, .f32⟩
  | .hbm, ⟨35, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S2048x1024, .bf16⟩
  | .local _ .vmem, ⟨7, _⟩ => ⟨S1024x5632, .bf16⟩
  | .local _ .vmem, ⟨8, _⟩ => ⟨S2816x1024, .bf16⟩
  | .local _ .vmem, ⟨9, _⟩ => ⟨S1024x1024, .bf16⟩
  | .local _ .vmem, ⟨10, _⟩ => ⟨S1x1024, .f32⟩
  | .local _ .vmem, ⟨11, _⟩ => ⟨S256x1024, .bf16⟩
  | .local _ .vmem, ⟨12, _⟩ => ⟨S4x1024, .f32⟩
  | .local _ .vmem, ⟨13, _⟩ => ⟨S4x1024, .f32⟩
  | .local _ .vmem, ⟨14, _⟩ => ⟨S512x1024, .f32⟩
  | .local _ .vmem, ⟨15, _⟩ => ⟨S512x1024, .f32⟩
  | .local _ .vmem, ⟨16, _⟩ => ⟨S512x2816, .bf16⟩
  | .local _ .vmem, ⟨17, _⟩ => ⟨S512x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostMix1RefIdeal.lean ====
abbrev S8x4096x2048 : Shape := ⟨3, ![8, 4096, 2048]⟩
abbrev S8x4096x1024 : Shape := ⟨3, ![8, 4096, 1024]⟩
abbrev S2x8x4096x256 : Shape := ⟨4, ![2, 8, 4096, 256]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S2x4x1024 : Shape := ⟨3, ![2, 4, 1024]⟩
abbrev S2048x1024 : Shape := ⟨2, ![2048, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S1x1024x1024 : Shape := ⟨3, ![1, 1024, 1024]⟩
abbrev S1024x1024 : Shape := ⟨2, ![1024, 1024]⟩
abbrev S1x1024 : Shape := ⟨2, ![1, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 163
  | .vmem => 0
  | .smem => 0
  | _ => 0

abbrev hbmTy0_0 (i : Nat) : BufTy := match i % 128 with
  | 0 => ⟨S8x4096x2048, .bf16⟩
  | 1 => ⟨S8x4096x1024, .f32⟩
  | 2 => ⟨S2x8x4096x256, .f32⟩
  | 3 => ⟨S1x2048x1024, .f32⟩
  | 4 => ⟨S2x1024x5632, .f32⟩
  | 5 => ⟨S2x2816x1024, .f32⟩
  | 6 => ⟨S2x1024x1024, .f32⟩
  | 7 => ⟨S2x1024, .f32⟩
  | 8 => ⟨S2x256x1024, .f32⟩
  | 9 => ⟨S2x4x1024, .f32⟩
  | 10 => ⟨S2x4x1024, .f32⟩
  | 11 => ⟨S8x4096x2048, .f32⟩
  | 12 => ⟨S2048x1024, .f32⟩
  | 13 => ⟨S8x4096x1024, .f32⟩
  | 14 => ⟨S1x1x1024, .f32⟩
  | 15 => ⟨S1024, .f32⟩
  | 16 => ⟨S1x1x1024, .f32⟩
  | 17 => ⟨S1024, .f32⟩
  | 18 => ⟨S_, .f32⟩
  | 19 => ⟨S8x4096x1024, .f32⟩
  | 20 => ⟨S8x4096x1024, .f32⟩
  | 21 => ⟨S8x4096x1024, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S8x4096x1024, .f32⟩
  | 29 => ⟨S8x4096x1024, .f32⟩
  | 30 => ⟨S8x4096x1024, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S_, .f32⟩
  | 38 => ⟨S8x4096x1, .f32⟩
  | 39 => ⟨S8x4096x1, .f32⟩
  | 40 => ⟨S8x4096x1, .f32⟩
  | 41 => ⟨S8x4096x1024, .f32⟩
  | 42 => ⟨S8x4096x1024, .f32⟩
  | 43 => ⟨S1x1x1024, .f32⟩
  | 44 => ⟨S8x4096x1024, .f32⟩
  | 45 => ⟨S8x4096x1024, .f32⟩
  | 46 => ⟨S1x1x1024, .f32⟩
  | 47 => ⟨S8x4096x1024, .f32⟩
  | 48 => ⟨S8x4096x1024, .f32⟩
  | 49 => ⟨S1x1024x5632, .f32⟩
  | 50 => ⟨S1024x5632, .f32⟩
  | 51 => ⟨S1x2816x1024, .f32⟩
  | 52 => ⟨S2816x1024, .f32⟩
  | 53 => ⟨S8x4096x5632, .f32⟩
  | 54 => ⟨S8x4096x2816, .f32⟩
  | 55 => ⟨S8x4096x2816, .f32⟩
  | 56 => ⟨S8x4096x2816, .f32⟩
  | 57 => ⟨S8x4096x2816, .f32⟩
  | 58 => ⟨S_, .f32⟩
  | 59 => ⟨S8x4096x2816, .f32⟩
  | 60 => ⟨S8x4096x2816, .f32⟩
  | 61 => ⟨S_, .f32⟩
  | 62 => ⟨S8x4096x2816, .f32⟩
  | 63 => ⟨S8x4096x2816, .f32⟩
  | 64 => ⟨S8x4096x2816, .f32⟩
  | 65 => ⟨S8x4096x2816, .f32⟩
  | 66 => ⟨S8x4096x1024, .f32⟩
  | 67 => ⟨S_, .f32⟩
  | 68 => ⟨S8x4096x1024, .f32⟩
  | 69 => ⟨S8x4096x1024, .f32⟩
  | 70 => ⟨S1x1x1024, .f32⟩
  | 71 => ⟨S1024, .f32⟩
  | 72 => ⟨S1x1x1024, .f32⟩
  | 73 => ⟨S1024, .f32⟩
  | 74 => ⟨S_, .f32⟩
  | 75 => ⟨S8x4096x1024, .f32⟩
  | 76 => ⟨S8x4096x1024, .f32⟩
  | 77 => ⟨S8x4096x1024, .f32⟩
  | 78 => ⟨S_, .f32⟩
  | 79 => ⟨S8x4096, .f32⟩
  | 80 => ⟨S8x4096x1, .f32⟩
  | 81 => ⟨S_, .f32⟩
  | 82 => ⟨S8x4096x1, .f32⟩
  | 83 => ⟨S8x4096x1, .f32⟩
  | 84 => ⟨S8x4096x1024, .f32⟩
  | 85 => ⟨S8x4096x1024, .f32⟩
  | 86 => ⟨S8x4096x1024, .f32⟩
  | 87 => ⟨S_, .f32⟩
  | 88 => ⟨S8x4096, .f32⟩
  | 89 => ⟨S8x4096x1, .f32⟩
  | 90 => ⟨S_, .f32⟩
  | 91 => ⟨S8x4096x1, .f32⟩
  | 92 => ⟨S8x4096x1, .f32⟩
  | 93 => ⟨S_, .f32⟩
  | 94 => ⟨S8x4096x1, .f32⟩
  | 95 => ⟨S8x4096x1, .f32⟩
  | 96 => ⟨S8x4096x1, .f32⟩
  | 97 => ⟨S8x4096x1024, .f32⟩
  | 98 => ⟨S8x4096x1024, .f32⟩
  | 99 => ⟨S1x1x1024, .f32⟩
  | 100 => ⟨S8x4096x1024, .f32⟩
  | 101 => ⟨S8x4096x1024, .f32⟩
  | 102 => ⟨S1x1x1024, .f32⟩
  | 103 => ⟨S8x4096x1024, .f32⟩
  | 104 => ⟨S8x4096x1024, .f32⟩
  | 105 => ⟨S1x1024x1024, .f32⟩
  | 106 => ⟨S1024x1024, .f32⟩
  | 107 => ⟨S8x4096x1024, .f32⟩
  | 108 => ⟨S1x1024, .f32⟩
  | 109 => ⟨S1024, .f32⟩
  | 110 => ⟨S1x1x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S_, .f32⟩
  | 116 => ⟨S8x4096x1024, .f32⟩
  | 117 => ⟨S8x4096x1024, .f32⟩
  | 118 => ⟨S_, .f32⟩
  | 119 => ⟨S8x4096x1024, .f32⟩
  | 120 => ⟨S8x4096x1024, .f32⟩
  | 121 => ⟨S1x8x4096x256, .f32⟩
  | 122 => ⟨S8x4096x256, .f32⟩
  | 123 => ⟨S1x256x1024, .f32⟩
  | 124 => ⟨S256x1024, .f32⟩
  | 125 => ⟨S8x4096x1024, .f32⟩
  | 126 => ⟨S8x4096x1024, .f32⟩
  | 127 => ⟨S1x1x1024, .f32⟩
  | _ => ⟨S8x4096x2048, .bf16⟩

abbrev hbmTy0_1 (i : Nat) : BufTy := match i % 128 with
  | 0 => ⟨S1024, .f32⟩
  | 1 => ⟨S1x1x1024, .f32⟩
  | 2 => ⟨S1024, .f32⟩
  | 3 => ⟨S_, .f32⟩
  | 4 => ⟨S8x4096x1024, .f32⟩
  | 5 => ⟨S8x4096x1024, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S8x4096x1024, .f32⟩
  | 14 => ⟨S8x4096x1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S32768x1024, .f32⟩
  | _ => ⟨S8x4096x2048, .bf16⟩

abbrev hbmTy (i : Nat) : BufTy := match i / 128 with
  | 0 => hbmTy0_0 i
  | 1 => hbmTy0_1 i
  | _ => ⟨S8x4096x2048, .bf16⟩

abbrev bufTy : (tb : Table) → Fin (tcTables nBuf tb) → BufTy
  | .hbm, ⟨i, _⟩ => hbmTy i
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_14 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_15 : Ref sig .tc := ⟨.hbm, 135, rfl⟩
abbrev main_v100 : Ref sig .tc := ⟨.hbm, 136, rfl⟩
abbrev main_v101 : Ref sig .tc := ⟨.hbm, 137, rfl⟩
abbrev main_cst_16 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_cst_18 : Ref sig .tc := ⟨.hbm, 147, rfl⟩
abbrev main_v109 : Ref sig .tc := ⟨.hbm, 148, rfl⟩
abbrev main_v110 : Ref sig .tc := ⟨.hbm, 149, rfl⟩
abbrev main_cst_19 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩

abbrev nD : Nat := 1
abbrev τ : Topo := Topo.v7x

variable {F : FTy → Type} [FloatOps F]
-- ==== PostMix0.lean ====
abbrev S8x4096x1024 : Shape := ⟨3, ![8, 4096, 1024]⟩
abbrev S2x8x4096x256 : Shape := ⟨4, ![2, 8, 4096, 256]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S2x4x1024 : Shape := ⟨3, ![2, 4, 1024]⟩
abbrev S32768x1024 : Shape := ⟨2, ![32768, 1024]⟩
abbrev S2x32768x256 : Shape := ⟨3, ![2, 32768, 256]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S1x4x1024 : Shape := ⟨3, ![1, 4, 1024]⟩
abbrev S4x1024 : Shape := ⟨2, ![4, 1024]⟩
abbrev S512x1024 : Shape := ⟨2, ![512, 1024]⟩
abbrev S1x512x256 : Shape := ⟨3, ![1, 512, 256]⟩
abbrev S512x2816 : Shape := ⟨2, ![512, 2816]⟩
abbrev S256 : Shape := ⟨1, ![256]⟩
abbrev S256x1 : Shape := ⟨2, ![256, 1]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 36
  | .vmem => 18
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S2x8x4096x256, .f32⟩
  | .hbm, ⟨3, _⟩ => ⟨S1x1024x1024, .f32⟩
  | .hbm, ⟨4, _⟩ => ⟨S2x1024x5632, .f32⟩
  | .hbm, ⟨5, _⟩ => ⟨S2x2816x1024, .f32⟩
  | .hbm, ⟨6, _⟩ => ⟨S2x1024x1024, .f32⟩
  | .hbm, ⟨7, _⟩ => ⟨S2x1024, .f32⟩
  | .hbm, ⟨8, _⟩ => ⟨S2x256x1024, .f32⟩
  | .hbm, ⟨9, _⟩ => ⟨S2x4x1024, .f32⟩
  | .hbm, ⟨10, _⟩ => ⟨S2x4x1024, .f32⟩
  | .hbm, ⟨11, _⟩ => ⟨S32768x1024, .f32⟩
  | .hbm, ⟨12, _⟩ => ⟨S2x32768x256, .f32⟩
  | .hbm, ⟨13, _⟩ => ⟨S1024x1024, .f32⟩
  | .hbm, ⟨14, _⟩ => ⟨S32768x1024, .bf16⟩
  | .hbm, ⟨15, _⟩ => ⟨S1024x1024, .bf16⟩
  | .hbm, ⟨16, _⟩ => ⟨S1x1024x5632, .f32⟩
  | .hbm, ⟨17, _⟩ => ⟨S1024x5632, .f32⟩
  | .hbm, ⟨18, _⟩ => ⟨S1024x5632, .bf16⟩
  | .hbm, ⟨19, _⟩ => ⟨S1x2816x1024, .f32⟩
  | .hbm, ⟨20, _⟩ => ⟨S2816x1024, .f32⟩
  | .hbm, ⟨21, _⟩ => ⟨S2816x1024, .bf16⟩
  | .hbm, ⟨22, _⟩ => ⟨S1x1024x1024, .f32⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x256x1024, .f32⟩
  | .hbm, ⟨29, _⟩ => ⟨S256x1024, .f32⟩
  | .hbm, ⟨30, _⟩ => ⟨S256x1024, .bf16⟩
  | .hbm, ⟨31, _⟩ => ⟨S1x4x1024, .f32⟩
  | .hbm, ⟨32, _⟩ => ⟨S4x1024, .f32⟩
  | .hbm, ⟨33, _⟩ => ⟨S1x4x1024, .f32⟩
  | .hbm, ⟨34, _⟩ => ⟨S4x1024, .f32⟩
  | .hbm, ⟨35, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x256, .f32⟩
  | .local _ .vmem, ⟨5, _⟩ => ⟨S1x512x256, .f32⟩
  | .local _ .vmem, ⟨6, _⟩ => ⟨S1024x1024, .bf16⟩
  | .local _ .vmem, ⟨7, _⟩ => ⟨S1024x5632, .bf16⟩
  | .local _ .vmem, ⟨8, _⟩ => ⟨S2816x1024, .bf16⟩
  | .local _ .vmem, ⟨9, _⟩ => ⟨S1024x1024, .bf16⟩
  | .local _ .vmem, ⟨10, _⟩ => ⟨S1x1024, .f32⟩
  | .local _ .vmem, ⟨11, _⟩ => ⟨S256x1024, .bf16⟩
  | .local _ .vmem, ⟨12, _⟩ => ⟨S4x1024, .f32⟩
  | .local _ .vmem, ⟨13, _⟩ => ⟨S4x1024, .f32⟩
  | .local _ .vmem, ⟨14, _⟩ => ⟨S512x1024, .f32⟩
  | .local _ .vmem, ⟨15, _⟩ => ⟨S512x1024, .f32⟩
  | .local _ .vmem, ⟨16, _⟩ => ⟨S512x2816, .bf16⟩
  | .local _ .vmem, ⟨17, _⟩ => ⟨S512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostMix0RefIdeal.lean ====
abbrev S8x4096x1024 : Shape := ⟨3, ![8, 4096, 1024]⟩
abbrev S2x8x4096x256 : Shape := ⟨4, ![2, 8, 4096, 256]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x1024 : Shape := ⟨2, ![2, 1024]⟩
abbrev S2x256x1024 : Shape := ⟨3, ![2, 256, 1024]⟩
abbrev S2x4x1024 : Shape := ⟨3, ![2, 4, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S1x1024 : Shape := ⟨2, ![1, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩
abbrev S32768x1024 : Shape := ⟨2, ![32768, 1024]⟩

abbrev nBuf : Space → Nat
  | .hbm => 163
  | .vmem => 0
  | .smem => 0
  | _ => 0

abbrev hbmTy0_0 (i : Nat) : BufTy := match i % 128 with
  | 0 => ⟨S8x4096x1024, .bf16⟩
  | 1 => ⟨S8x4096x1024, .f32⟩
  | 2 => ⟨S2x8x4096x256, .f32⟩
  | 3 => ⟨S1x1024x1024, .f32⟩
  | 4 => ⟨S2x1024x5632, .f32⟩
  | 5 => ⟨S2x2816x1024, .f32⟩
  | 6 => ⟨S2x1024x1024, .f32⟩
  | 7 => ⟨S2x1024, .f32⟩
  | 8 => ⟨S2x256x1024, .f32⟩
  | 9 => ⟨S2x4x1024, .f32⟩
  | 10 => ⟨S2x4x1024, .f32⟩
  | 11 => ⟨S8x4096x1024, .f32⟩
  | 12 => ⟨S1024x1024, .f32⟩
  | 13 => ⟨S8x4096x1024, .f32⟩
  | 14 => ⟨S1x1x1024, .f32⟩
  | 15 => ⟨S1024, .f32⟩
  | 16 => ⟨S1x1x1024, .f32⟩
  | 17 => ⟨S1024, .f32⟩
  | 18 => ⟨S_, .f32⟩
  | 19 => ⟨S8x4096x1024, .f32⟩
  | 20 => ⟨S8x4096x1024, .f32⟩
  | 21 => ⟨S8x4096x1024, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S8x4096x1024, .f32⟩
  | 29 => ⟨S8x4096x1024, .f32⟩
  | 30 => ⟨S8x4096x1024, .f32⟩
  | 31 => ⟨S_, .f32⟩
  | 32 => ⟨S8x4096, .f32⟩
  | 33 => ⟨S8x4096x1, .f32⟩
  | 34 => ⟨S_, .f32⟩
  | 35 => ⟨S8x4096x1, .f32⟩
  | 36 => ⟨S8x4096x1, .f32⟩
  | 37 => ⟨S_, .f32⟩
  | 38 => ⟨S8x4096x1, .f32⟩
  | 39 => ⟨S8x4096x1, .f32⟩
  | 40 => ⟨S8x4096x1, .f32⟩
  | 41 => ⟨S8x4096x1024, .f32⟩
  | 42 => ⟨S8x4096x1024, .f32⟩
  | 43 => ⟨S1x1x1024, .f32⟩
  | 44 => ⟨S8x4096x1024, .f32⟩
  | 45 => ⟨S8x4096x1024, .f32⟩
  | 46 => ⟨S1x1x1024, .f32⟩
  | 47 => ⟨S8x4096x1024, .f32⟩
  | 48 => ⟨S8x4096x1024, .f32⟩
  | 49 => ⟨S1x1024x5632, .f32⟩
  | 50 => ⟨S1024x5632, .f32⟩
  | 51 => ⟨S1x2816x1024, .f32⟩
  | 52 => ⟨S2816x1024, .f32⟩
  | 53 => ⟨S8x4096x5632, .f32⟩
  | 54 => ⟨S8x4096x2816, .f32⟩
  | 55 => ⟨S8x4096x2816, .f32⟩
  | 56 => ⟨S8x4096x2816, .f32⟩
  | 57 => ⟨S8x4096x2816, .f32⟩
  | 58 => ⟨S_, .f32⟩
  | 59 => ⟨S8x4096x2816, .f32⟩
  | 60 => ⟨S8x4096x2816, .f32⟩
  | 61 => ⟨S_, .f32⟩
  | 62 => ⟨S8x4096x2816, .f32⟩
  | 63 => ⟨S8x4096x2816, .f32⟩
  | 64 => ⟨S8x4096x2816, .f32⟩
  | 65 => ⟨S8x4096x2816, .f32⟩
  | 66 => ⟨S8x4096x1024, .f32⟩
  | 67 => ⟨S_, .f32⟩
  | 68 => ⟨S8x4096x1024, .f32⟩
  | 69 => ⟨S8x4096x1024, .f32⟩
  | 70 => ⟨S1x1x1024, .f32⟩
  | 71 => ⟨S1024, .f32⟩
  | 72 => ⟨S1x1x1024, .f32⟩
  | 73 => ⟨S1024, .f32⟩
  | 74 => ⟨S_, .f32⟩
  | 75 => ⟨S8x4096x1024, .f32⟩
  | 76 => ⟨S8x4096x1024, .f32⟩
  | 77 => ⟨S8x4096x1024, .f32⟩
  | 78 => ⟨S_, .f32⟩
  | 79 => ⟨S8x4096, .f32⟩
  | 80 => ⟨S8x4096x1, .f32⟩
  | 81 => ⟨S_, .f32⟩
  | 82 => ⟨S8x4096x1, .f32⟩
  | 83 => ⟨S8x4096x1, .f32⟩
  | 84 => ⟨S8x4096x1024, .f32⟩
  | 85 => ⟨S8x4096x1024, .f32⟩
  | 86 => ⟨S8x4096x1024, .f32⟩
  | 87 => ⟨S_, .f32⟩
  | 88 => ⟨S8x4096, .f32⟩
  | 89 => ⟨S8x4096x1, .f32⟩
  | 90 => ⟨S_, .f32⟩
  | 91 => ⟨S8x4096x1, .f32⟩
  | 92 => ⟨S8x4096x1, .f32⟩
  | 93 => ⟨S_, .f32⟩
  | 94 => ⟨S8x4096x1, .f32⟩
  | 95 => ⟨S8x4096x1, .f32⟩
  | 96 => ⟨S8x4096x1, .f32⟩
  | 97 => ⟨S8x4096x1024, .f32⟩
  | 98 => ⟨S8x4096x1024, .f32⟩
  | 99 => ⟨S1x1x1024, .f32⟩
  | 100 => ⟨S8x4096x1024, .f32⟩
  | 101 => ⟨S8x4096x1024, .f32⟩
  | 102 => ⟨S1x1x1024, .f32⟩
  | 103 => ⟨S8x4096x1024, .f32⟩
  | 104 => ⟨S8x4096x1024, .f32⟩
  | 105 => ⟨S1x1024x1024, .f32⟩
  | 106 => ⟨S1024x1024, .f32⟩
  | 107 => ⟨S8x4096x1024, .f32⟩
  | 108 => ⟨S1x1024, .f32⟩
  | 109 => ⟨S1024, .f32⟩
  | 110 => ⟨S1x1x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S_, .f32⟩
  | 116 => ⟨S8x4096x1024, .f32⟩
  | 117 => ⟨S8x4096x1024, .f32⟩
  | 118 => ⟨S_, .f32⟩
  | 119 => ⟨S8x4096x1024, .f32⟩
  | 120 => ⟨S8x4096x1024, .f32⟩
  | 121 => ⟨S1x8x4096x256, .f32⟩
  | 122 => ⟨S8x4096x256, .f32⟩
  | 123 => ⟨S1x256x1024, .f32⟩
  | 124 => ⟨S256x1024, .f32⟩
  | 125 => ⟨S8x4096x1024, .f32⟩
  | 126 => ⟨S8x4096x1024, .f32⟩
  | 127 => ⟨S1x1x1024, .f32⟩
  | _ => ⟨S8x4096x1024, .bf16⟩

abbrev hbmTy0_1 (i : Nat) : BufTy := match i % 128 with
  | 0 => ⟨S1024, .f32⟩
  | 1 => ⟨S1x1x1024, .f32⟩
  | 2 => ⟨S1024, .f32⟩
  | 3 => ⟨S_, .f32⟩
  | 4 => ⟨S8x4096x1024, .f32⟩
  | 5 => ⟨S8x4096x1024, .f32⟩
  | 6 => ⟨S8x4096x1024, .f32⟩
  | 7 => ⟨S_, .f32⟩
  | 8 => ⟨S8x4096, .f32⟩
  | 9 => ⟨S8x4096x1, .f32⟩
  | 10 => ⟨S_, .f32⟩
  | 11 => ⟨S8x4096x1, .f32⟩
  | 12 => ⟨S8x4096x1, .f32⟩
  | 13 => ⟨S8x4096x1024, .f32⟩
  | 14 => ⟨S8x4096x1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S32768x1024, .f32⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_cst_13 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_14 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_15 : Ref sig .tc := ⟨.hbm, 135, rfl⟩
abbrev main_v100 : Ref sig .tc := ⟨.hbm, 136, rfl⟩
abbrev main_v101 : Ref sig .tc := ⟨.hbm, 137, rfl⟩
abbrev main_cst_16 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_cst_18 : Ref sig .tc := ⟨.hbm, 147, rfl⟩
abbrev main_v109 : Ref sig .tc := ⟨.hbm, 148, rfl⟩
abbrev main_v110 : Ref sig .tc := ⟨.hbm, 149, rfl⟩
abbrev main_cst_19 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩

abbrev nD : Nat := 1
abbrev τ : Topo := Topo.v7x

variable {F : FTy → Type} [FloatOps F]
-- ==== Ffn.lean ====
abbrev S8x4096x1024 : Shape := ⟨3, ![8, 4096, 1024]⟩
abbrev S2x1024x5632 : Shape := ⟨3, ![2, 1024, 5632]⟩
abbrev S2x2816x1024 : Shape := ⟨3, ![2, 2816, 1024]⟩
abbrev S2x4x1024 : Shape := ⟨3, ![2, 4, 1024]⟩
abbrev S32768x1024 : Shape := ⟨2, ![32768, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S512x2816 : Shape := ⟨2, ![512, 2816]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S2x1024x5632, .f32⟩
  | .hbm, ⟨2, _⟩ => ⟨S2x2816x1024, .f32⟩
  | .hbm, ⟨3, _⟩ => ⟨S2x4x1024, .f32⟩
  | .hbm, ⟨4, _⟩ => ⟨S2x4x1024, .f32⟩
  | .hbm, ⟨5, _⟩ => ⟨S32768x1024, .f32⟩
  | .hbm, ⟨6, _⟩ => ⟨S1x1024x5632, .f32⟩
  | .hbm, ⟨7, _⟩ => ⟨S1024x5632, .f32⟩
  | .hbm, ⟨8, _⟩ => ⟨S1024x5632, .bf16⟩
  | .hbm, ⟨9, _⟩ => ⟨S1x2816x1024, .f32⟩
  | .hbm, ⟨10, _⟩ => ⟨S2816x1024, .f32⟩
  | .hbm, ⟨11, _⟩ => ⟨S2816x1024, .bf16⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S1x1x1024, .f32⟩
  | .hbm, ⟨16, _⟩ => ⟨S1024, .f32⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x4096x1024 : Shape := ⟨3, ![8, 4096, 1024]⟩
abbrev S2x1024x5632 : Shape := ⟨3, ![2, 1024, 5632]⟩
abbrev S2x2816x1024 : Shape := ⟨3, ![2, 2816, 1024]⟩
abbrev S2x4x1024 : Shape := ⟨3, ![2, 4, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S_ : Shape := ⟨0, ![]⟩
abbrev S1x1x1024 : Shape := ⟨3, ![1, 1, 1024]⟩
abbrev S1024 : Shape := ⟨1, ![1024]⟩
abbrev S8x4096 : Shape := ⟨2, ![8, 4096]⟩
abbrev S8x4096x1 : Shape := ⟨3, ![8, 4096, 1]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2x1024x5632, .f32⟩
  | .hbm, ⟨2, _⟩ => ⟨S2x2816x1024, .f32⟩
  | .hbm, ⟨3, _⟩ => ⟨S2x4x1024, .f32⟩
  | .hbm, ⟨4, _⟩ => ⟨S2x4x1024, .f32⟩
  | .hbm, ⟨5, _⟩ => ⟨S1x1024x5632, .f32⟩
  | .hbm, ⟨6, _⟩ => ⟨S1024x5632, .f32⟩
  | .hbm, ⟨7, _⟩ => ⟨S1x2816x1024, .f32⟩
  | .hbm, ⟨8, _⟩ => ⟨S2816x1024, .f32⟩
  | .hbm, ⟨9, _⟩ => ⟨S8x4096x5632, .f32⟩
  | .hbm, ⟨10, _⟩ => ⟨S8x4096x2816, .f32⟩
  | .hbm, ⟨11, _⟩ => ⟨S8x4096x2816, .f32⟩
  | .hbm, ⟨12, _⟩ => ⟨S8x4096x2816, .f32⟩
  | .hbm, ⟨13, _⟩ => ⟨S8x4096x2816, .f32⟩
  | .hbm, ⟨14, _⟩ => ⟨S_, .f32⟩
  | .hbm, ⟨15, _⟩ => ⟨S8x4096x2816, .f32⟩
  | .hbm, ⟨16, _⟩ => ⟨S8x4096x2816, .f32⟩
  | .hbm, ⟨17, _⟩ => ⟨S_, .f32⟩
  | .hbm, ⟨18, _⟩ => ⟨S8x4096x2816, .f32⟩
  | .hbm, ⟨19, _⟩ => ⟨S8x4096x2816, .f32⟩
  | .hbm, ⟨20, _⟩ => ⟨S8x4096x2816, .f32⟩
  | .hbm, ⟨21, _⟩ => ⟨S8x4096x2816, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S_, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== MlaAttn.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S1x512x256 : Shape := ⟨3, ![1, 512, 256]⟩
abbrev S1x4096x128 : Shape := ⟨3, ![1, 4096, 128]⟩
abbrev S1x512x128 : Shape := ⟨3, ![1, 512, 128]⟩
abbrev S4096x256 : Shape := ⟨2, ![4096, 256]⟩
abbrev S2x512x512 : Shape := ⟨3, ![2, 512, 512]⟩
abbrev S2x512x128 : Shape := ⟨3, ![2, 512, 128]⟩
abbrev S4096x128 : Shape := ⟨2, ![4096, 128]⟩
abbrev S512x256 : Shape := ⟨2, ![512, 256]⟩
abbrev S256x256 : Shape := ⟨2, ![256, 256]⟩
abbrev S1x512x512 : Shape := ⟨3, ![1, 512, 512]⟩
abbrev S512x512 : Shape := ⟨2, ![512, 512]⟩
abbrev S16x128 : Shape := ⟨2, ![16, 128]⟩
abbrev S16 : Shape := ⟨1, ![16]⟩
abbrev S16x1 : Shape := ⟨2, ![16, 1]⟩
abbrev S1x16x128 : Shape := ⟨3, ![1, 16, 128]⟩
abbrev S16x256 : Shape := ⟨2, ![16, 256]⟩
abbrev S1x16x256 : Shape := ⟨3, ![1, 16, 256]⟩
abbrev S16x384 : Shape := ⟨2, ![16, 384]⟩
abbrev S1x16x384 : Shape := ⟨3, ![1, 16, 384]⟩
abbrev S16x512 : Shape := ⟨2, ![16, 512]⟩
abbrev S1x16x512 : Shape := ⟨3, ![1, 16, 512]⟩
abbrev S512x128 : Shape := ⟨2, ![512, 128]⟩
abbrev S256x128 : Shape := ⟨2, ![256, 128]⟩

abbrev nBuf : Space → Nat
  | .hbm => 5
  | .vmem => 17
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x2048, .bf16⟩
  | .hbm, ⟨2, _⟩ => ⟨S8x4096x128, .bf16⟩
  | .hbm, ⟨3, _⟩ => ⟨S8x4096x2048, .bf16⟩
  | .hbm, ⟨4, _⟩ => ⟨S8x4096x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x512x128, .bf16⟩
  | .local _ .vmem, ⟨9, _⟩ => ⟨S1x512x128, .bf16⟩
  | .local _ .vmem, ⟨10, _⟩ => ⟨S4096x256, .bf16⟩
  | .local _ .vmem, ⟨11, _⟩ => ⟨S2x512x512, .f32⟩
  | .local _ .vmem, ⟨12, _⟩ => ⟨S2x512x512, .bf16⟩
  | .local _ .vmem, ⟨13, _⟩ => ⟨S2x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 8], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg2 : BitVec 32 := BitVec.ofNat 32 (i 2).val
  let c4_i32 : BitVec 32 := 4#32
  let v15 : BitVec 1 := Scalar.cmpi .eq arg2 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg2 : BitVec 32 := BitVec.ofNat 32 (i 2).val
  let c6_i32 : BitVec 32 := 6#32
  let v21 : BitVec 1 := Scalar.cmpi .eq arg2 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_9 : BitVec 32 := 0#32
  let v26 : BitVec 1 := Scalar.cmpi .ne v25 c0_i32_9
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlaAttnRefIdeal.lean ====
abbrev S8x4096x4096 : Shape := ⟨3, ![8, 4096, 4096]⟩
abbrev S8x4096x2048 : Shape := ⟨3, ![8, 4096, 2048]⟩
abbrev S8x4096x128 : Shape := ⟨3, ![8, 4096, 128]⟩
abbrev S8x4096x16x256 : Shape := ⟨4, ![8, 4096, 16, 256]⟩
abbrev S8x4096x16x128 : Shape := ⟨4, ![8, 4096, 16, 128]⟩
abbrev S8x16x4096x4096 : Shape := ⟨4, ![8, 16, 4096, 4096]⟩
abbrev S8x4096x4096x16 : Shape := ⟨4, ![8, 4096, 4096, 16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x16x4096 : Shape := ⟨3, ![8, 16, 4096]⟩
abbrev S8x16x4096x1 : Shape := ⟨4, ![8, 16, 4096, 1]⟩
abbrev S8x16x128x4096 : Shape := ⟨4, ![8, 16, 128, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x2048, .bf16⟩
  | .hbm, ⟨2, _⟩ => ⟨S8x4096x128, .bf16⟩
  | .hbm, ⟨3, _⟩ => ⟨S8x4096x2048, .bf16⟩
  | .hbm, ⟨4, _⟩ => ⟨S8x4096x4096, .f32⟩
  | .hbm, ⟨5, _⟩ => ⟨S8x4096x16x256, .f32⟩
  | .hbm, ⟨6, _⟩ => ⟨S8x4096x2048, .f32⟩
  | .hbm, ⟨7, _⟩ => ⟨S8x4096x16x128, .f32⟩
  | .hbm, ⟨8, _⟩ => ⟨S8x4096x128, .f32⟩
  | .hbm, ⟨9, _⟩ => ⟨S8x4096x2048, .f32⟩
  | .hbm, ⟨10, _⟩ => ⟨S8x4096x16x128, .f32⟩
  | .hbm, ⟨11, _⟩ => ⟨S8x4096x16x128, .f32⟩
  | .hbm, ⟨12, _⟩ => ⟨S8x16x4096x4096, .f32⟩
  | .hbm, ⟨13, _⟩ => ⟨S8x4096x16x128, .f32⟩
  | .hbm, ⟨14, _⟩ => ⟨S8x4096x4096x16, .f32⟩
  | .hbm, ⟨15, _⟩ => ⟨S8x16x4096x4096, .f32⟩
  | .hbm, ⟨16, _⟩ => ⟨S8x16x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x16x4096x4096, .i1⟩
  | .hbm, ⟨26, _⟩ => ⟨S8x16x4096x4096, .f32⟩
  | .hbm, ⟨27, _⟩ => ⟨S8x16x4096x4096, .f32⟩
  | .hbm, ⟨28, _⟩ => ⟨S_, .f32⟩
  | .hbm, ⟨29, _⟩ => ⟨S8x16x4096, .f32⟩
  | .hbm, ⟨30, _⟩ => ⟨S8x16x4096x1, .f32⟩
  | .hbm, ⟨31, _⟩ => ⟨S8x16x4096x4096, .f32⟩
  | .hbm, ⟨32, _⟩ => ⟨S8x16x4096x4096, .f32⟩
  | .hbm, ⟨33, _⟩ => ⟨S_, .f32⟩
  | .hbm, ⟨34, _⟩ => ⟨S8x16x4096x4096, .f32⟩
  | .hbm, ⟨35, _⟩ => ⟨S8x16x4096x4096, .f32⟩
  | .hbm, ⟨36, _⟩ => ⟨S_, .f32⟩
  | .hbm, ⟨37, _⟩ => ⟨S8x16x4096, .f32⟩
  | .hbm, ⟨38, _⟩ => ⟨S8x16x4096x1, .f32⟩
  | .hbm, ⟨39, _⟩ => ⟨S8x16x4096x4096, .f32⟩
  | .hbm, ⟨40, _⟩ => ⟨S8x16x4096x4096, .f32⟩
  | .hbm, ⟨41, _⟩ => ⟨S8x16x128x4096, .f32⟩
  | .hbm, ⟨42, _⟩ => ⟨S8x4096x16x128, .f32⟩
  | .hbm, ⟨43, _⟩ => ⟨S8x4096x2048, .f32⟩
  | .hbm, ⟨44, _⟩ => ⟨S8x4096x2048, .bf16⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== KvFfn.lean ====
abbrev S8x4096x1024 : Shape := ⟨3, ![8, 4096, 1024]⟩
abbrev S1024x320 : Shape := ⟨2, ![1024, 320]⟩
abbrev S256 : Shape := ⟨1, ![256]⟩
abbrev S256x16x256 : Shape := ⟨3, ![256, 16, 256]⟩
abbrev S2x1024x5632 : Shape := ⟨3, ![2, 1024, 5632]⟩
abbrev S2x2816x1024 : Shape := ⟨3, ![2, 2816, 1024]⟩
abbrev S2x4x1024 : Shape := ⟨3, ![2, 4, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S32768x1024 : Shape := ⟨2, ![32768, 1024]⟩
abbrev S1024x64 : Shape := ⟨2, ![1024, 64]⟩
abbrev S1024x256 : Shape := ⟨2, ![1024, 256]⟩
abbrev S1024x32 : Shape := ⟨2, ![1024, 32]⟩
abbrev S1024x384 : Shape := ⟨2, ![1024, 384]⟩
abbrev S256x16x128 : Shape := ⟨3, ![256, 16, 128]⟩
abbrev S256x2048 : Shape := ⟨2, ![256, 2048]⟩
abbrev S1x256 : Shape := ⟨2, ![1, 256]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S32768x2048 : Shape := ⟨2, ![32768, 2048]⟩
abbrev S32768x128 : Shape := ⟨2, ![32768, 128]⟩
abbrev S512x1024 : Shape := ⟨2, ![512, 1024]⟩
abbrev S512x128 : Shape := ⟨2, ![512, 128]⟩
abbrev S512x2048 : Shape := ⟨2, ![512, 2048]⟩
abbrev S512x2816 : Shape := ⟨2, ![512, 2816]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 62
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024x320, .f32⟩
  | .hbm, ⟨2, _⟩ => ⟨S256, .f32⟩
  | .hbm, ⟨3, _⟩ => ⟨S256x16x256, .f32⟩
  | .hbm, ⟨4, _⟩ => ⟨S2x1024x5632, .f32⟩
  | .hbm, ⟨5, _⟩ => ⟨S2x2816x1024, .f32⟩
  | .hbm, ⟨6, _⟩ => ⟨S2x4x1024, .f32⟩
  | .hbm, ⟨7, _⟩ => ⟨S2x4x1024, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S_, .f32⟩
  | .hbm, ⟨23, _⟩ => ⟨S4096x64, .f32⟩
  | .hbm, ⟨24, _⟩ => ⟨S4096x32, .f32⟩
  | .hbm, ⟨25, _⟩ => ⟨S4096x32, .f32⟩
  | .hbm, ⟨26, _⟩ => ⟨S4096x128, .f32⟩
  | .hbm, ⟨27, _⟩ => ⟨S4096x32, .f32⟩
  | .hbm, ⟨28, _⟩ => ⟨S4096x32, .f32⟩
  | .hbm, ⟨29, _⟩ => ⟨S4096x128, .f32⟩
  | .hbm, ⟨30, _⟩ => ⟨S32768x1024, .f32⟩
  | .hbm, ⟨31, _⟩ => ⟨S1024x64, .f32⟩
  | .hbm, ⟨32, _⟩ => ⟨S1024x256, .f32⟩
  | .hbm, ⟨33, _⟩ => ⟨S1024x32, .f32⟩
  | .hbm, ⟨34, _⟩ => ⟨S1024x32, .f32⟩
  | .hbm, ⟨35, _⟩ => ⟨S1024x32, .f32⟩
  | .hbm, ⟨36, _⟩ => ⟨S1024x64, .f32⟩
  | .hbm, ⟨37, _⟩ => ⟨S1024x384, .f32⟩
  | .hbm, ⟨38, _⟩ => ⟨S1024x384, .bf16⟩
  | .hbm, ⟨39, _⟩ => ⟨S256x16x128, .f32⟩
  | .hbm, ⟨40, _⟩ => ⟨S256x2048, .f32⟩
  | .hbm, ⟨41, _⟩ => ⟨S256x2048, .bf16⟩
  | .hbm, ⟨42, _⟩ => ⟨S256x16x128, .f32⟩
  | .hbm, ⟨43, _⟩ => ⟨S256x2048, .f32⟩
  | .hbm, ⟨44, _⟩ => ⟨S256x2048, .bf16⟩
  | .hbm, ⟨45, _⟩ => ⟨S1x256, .f32⟩
  | .hbm, ⟨46, _⟩ => ⟨S1x1024x5632, .f32⟩
  | .hbm, ⟨47, _⟩ => ⟨S1024x5632, .f32⟩
  | .hbm, ⟨48, _⟩ => ⟨S1024x5632, .bf16⟩
  | .hbm, ⟨49, _⟩ => ⟨S1x2816x1024, .f32⟩
  | .hbm, ⟨50, _⟩ => ⟨S2816x1024, .f32⟩
  | .hbm, ⟨51, _⟩ => ⟨S2816x1024, .bf16⟩
  | .hbm, ⟨52, _⟩ => ⟨S1x1x1024, .f32⟩
  | .hbm, ⟨53, _⟩ => ⟨S1024, .f32⟩
  | .hbm, ⟨54, _⟩ => ⟨S1x1024, .f32⟩
  | .hbm, ⟨55, _⟩ => ⟨S1x1x1024, .f32⟩
  | .hbm, ⟨56, _⟩ => ⟨S1024, .f32⟩
  | .hbm, ⟨57, _⟩ => ⟨S1x1024, .f32⟩
  | .hbm, ⟨58, _⟩ => ⟨S32768x2048, .bf16⟩
  | .hbm, ⟨59, _⟩ => ⟨S32768x2048, .bf16⟩
  | .hbm, ⟨60, _⟩ => ⟨S32768x128, .bf16⟩
  | .hbm, ⟨61, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x384, .bf16⟩
  | .local _ .vmem, ⟨3, _⟩ => ⟨S1x256, .f32⟩
  | .local _ .vmem, ⟨4, _⟩ => ⟨S256x2048, .bf16⟩
  | .local _ .vmem, ⟨5, _⟩ => ⟨S256x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x128, .bf16⟩
  | .local _ .vmem, ⟨19, _⟩ => ⟨S512x128, .bf16⟩
  | .local _ .vmem, ⟨20, _⟩ => ⟨S512x1024, .f32⟩
  | .local _ .vmem, ⟨21, _⟩ => ⟨S512x1024, .f32⟩
  | .local _ .vmem, ⟨22, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== KvFfnRefIdeal.lean ====
abbrev S8x4096x1024 : Shape := ⟨3, ![8, 4096, 1024]⟩
abbrev S1024x320 : Shape := ⟨2, ![1024, 320]⟩
abbrev S256 : Shape := ⟨1, ![256]⟩
abbrev S256x16x256 : Shape := ⟨3, ![256, 16, 256]⟩
abbrev S2x1024x5632 : Shape := ⟨3, ![2, 1024, 5632]⟩
abbrev S2x2816x1024 : Shape := ⟨3, ![2, 2816, 1024]⟩
abbrev S2x4x1024 : Shape := ⟨3, ![2, 4, 1024]⟩
abbrev S8x4096x320 : Shape := ⟨3, ![8, 4096, 320]⟩
abbrev S8x4096x256 : Shape := ⟨3, ![8, 4096, 256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S8x4096x64 : Shape := ⟨3, ![8, 4096, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x4096x32 : Shape := ⟨3, ![8, 4096, 32]⟩
abbrev S1x4096x32 : Shape := ⟨3, ![1, 4096, 32]⟩
abbrev S8x4096x16x256 : Shape := ⟨4, ![8, 4096, 16, 256]⟩
abbrev S8x4096x16x128 : Shape := ⟨4, ![8, 4096, 16, 128]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S1x1x1024 : Shape := ⟨3, ![1, 1, 1024]⟩
abbrev S1024 : Shape := ⟨1, ![1024]⟩
abbrev S8x4096x128 : Shape := ⟨3, ![8, 4096, 128]⟩
abbrev S32768x2048 : Shape := ⟨2, ![32768, 2048]⟩
abbrev S32768x128 : Shape := ⟨2, ![32768, 128]⟩
abbrev S32768x1024 : Shape := ⟨2, ![32768, 1024]⟩

abbrev nBuf : Space → Nat
  | .hbm => 129
  | .vmem => 0
  | .smem => 0
  | _ => 0

abbrev hbmTy0_0 (i : Nat) : BufTy := match i % 128 with
  | 0 => ⟨S8x4096x1024, .f32⟩
  | 1 => ⟨S1024x320, .f32⟩
  | 2 => ⟨S256, .f32⟩
  | 3 => ⟨S256x16x256, .f32⟩
  | 4 => ⟨S2x1024x5632, .f32⟩
  | 5 => ⟨S2x2816x1024, .f32⟩
  | 6 => ⟨S2x4x1024, .f32⟩
  | 7 => ⟨S2x4x1024, .f32⟩
  | 8 => ⟨S8x4096x320, .f32⟩
  | 9 => ⟨S8x4096x256, .f32⟩
  | 10 => ⟨S8x4096x256, .f32⟩
  | 11 => ⟨S_, .f32⟩
  | 12 => ⟨S8x4096, .f32⟩
  | 13 => ⟨S8x4096x1, .f32⟩
  | 14 => ⟨S_, .f32⟩
  | 15 => ⟨S8x4096x1, .f32⟩
  | 16 => ⟨S8x4096x1, .f32⟩
  | 17 => ⟨S_, .f32⟩
  | 18 => ⟨S8x4096x1, .f32⟩
  | 19 => ⟨S8x4096x1, .f32⟩
  | 20 => ⟨S8x4096x1, .f32⟩
  | 21 => ⟨S8x4096x256, .f32⟩
  | 22 => ⟨S8x4096x256, .f32⟩
  | 23 => ⟨S1x1x256, .f32⟩
  | 24 => ⟨S8x4096x256, .f32⟩
  | 25 => ⟨S8x4096x256, .f32⟩
  | 26 => ⟨S8x4096x64, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S4096, .f32⟩
  | 36 => ⟨S4096x1, .f32⟩
  | 37 => ⟨S1x32, .f32⟩
  | 38 => ⟨S4096x32, .f32⟩
  | 39 => ⟨S4096x32, .f32⟩
  | 40 => ⟨S4096x32, .f32⟩
  | 41 => ⟨S4096x32, .f32⟩
  | 42 => ⟨S4096x32, .f32⟩
  | 43 => ⟨S8x4096x32, .f32⟩
  | 44 => ⟨S8x4096x32, .f32⟩
  | 45 => ⟨S1x4096x32, .f32⟩
  | 46 => ⟨S8x4096x32, .f32⟩
  | 47 => ⟨S8x4096x32, .f32⟩
  | 48 => ⟨S1x4096x32, .f32⟩
  | 49 => ⟨S8x4096x32, .f32⟩
  | 50 => ⟨S8x4096x32, .f32⟩
  | 51 => ⟨S8x4096x32, .f32⟩
  | 52 => ⟨S1x4096x32, .f32⟩
  | 53 => ⟨S8x4096x32, .f32⟩
  | 54 => ⟨S8x4096x32, .f32⟩
  | 55 => ⟨S1x4096x32, .f32⟩
  | 56 => ⟨S8x4096x32, .f32⟩
  | 57 => ⟨S8x4096x32, .f32⟩
  | 58 => ⟨S8x4096x32, .f32⟩
  | 59 => ⟨S8x4096x64, .f32⟩
  | 60 => ⟨S8x4096x16x256, .f32⟩
  | 61 => ⟨S8x4096x16x128, .f32⟩
  | 62 => ⟨S8x4096x16x128, .f32⟩
  | 63 => ⟨S1x1024x5632, .f32⟩
  | 64 => ⟨S1024x5632, .f32⟩
  | 65 => ⟨S1x2816x1024, .f32⟩
  | 66 => ⟨S2816x1024, .f32⟩
  | 67 => ⟨S8x4096x5632, .f32⟩
  | 68 => ⟨S8x4096x2816, .f32⟩
  | 69 => ⟨S8x4096x2816, .f32⟩
  | 70 => ⟨S8x4096x2816, .f32⟩
  | 71 => ⟨S8x4096x2816, .f32⟩
  | 72 => ⟨S_, .f32⟩
  | 73 => ⟨S8x4096x2816, .f32⟩
  | 74 => ⟨S8x4096x2816, .f32⟩
  | 75 => ⟨S_, .f32⟩
  | 76 => ⟨S8x4096x2816, .f32⟩
  | 77 => ⟨S8x4096x2816, .f32⟩
  | 78 => ⟨S8x4096x2816, .f32⟩
  | 79 => ⟨S8x4096x2816, .f32⟩
  | 80 => ⟨S8x4096x1024, .f32⟩
  | 81 => ⟨S_, .f32⟩
  | 82 => ⟨S8x4096x1024, .f32⟩
  | 83 => ⟨S8x4096x1024, .f32⟩
  | 84 => ⟨S1x1x1024, .f32⟩
  | 85 => ⟨S1024, .f32⟩
  | 86 => ⟨S1x1x1024, .f32⟩
  | 87 => ⟨S1024, .f32⟩
  | 88 => ⟨S_, .f32⟩
  | 89 => ⟨S8x4096x1024, .f32⟩
  | 90 => ⟨S8x4096x1024, .f32⟩
  | 91 => ⟨S8x4096x1024, .f32⟩
  | 92 => ⟨S_, .f32⟩
  | 93 => ⟨S8x4096, .f32⟩
  | 94 => ⟨S8x4096x1, .f32⟩
  | 95 => ⟨S_, .f32⟩
  | 96 => ⟨S8x4096x1, .f32⟩
  | 97 => ⟨S8x4096x1, .f32⟩
  | 98 => ⟨S8x4096x1024, .f32⟩
  | 99 => ⟨S8x4096x1024, .f32⟩
  | 100 => ⟨S8x4096x1024, .f32⟩
  | 101 => ⟨S_, .f32⟩
  | 102 => ⟨S8x4096, .f32⟩
  | 103 => ⟨S8x4096x1, .f32⟩
  | 104 => ⟨S_, .f32⟩
  | 105 => ⟨S8x4096x1, .f32⟩
  | 106 => ⟨S8x4096x1, .f32⟩
  | 107 => ⟨S_, .f32⟩
  | 108 => ⟨S8x4096x1, .f32⟩
  | 109 => ⟨S8x4096x1, .f32⟩
  | 110 => ⟨S8x4096x1, .f32⟩
  | 111 => ⟨S8x4096x1024, .f32⟩
  | 112 => ⟨S8x4096x1024, .f32⟩
  | 113 => ⟨S1x1x1024, .f32⟩
  | 114 => ⟨S8x4096x1024, .f32⟩
  | 115 => ⟨S8x4096x1024, .f32⟩
  | 116 => ⟨S1x1x1024, .f32⟩
  | 117 => ⟨S8x4096x1024, .f32⟩
  | 118 => ⟨S8x4096x1024, .f32⟩
  | 119 => ⟨S_, .f32⟩
  | 120 => ⟨S8x4096x64, .f32⟩
  | 121 => ⟨S8x4096x128, .f32⟩
  | 122 => ⟨S32768x2048, .f32⟩
  | 123 => ⟨S32768x2048, .bf16⟩
  | 124 => ⟨S32768x2048, .f32⟩
  | 125 => ⟨S32768x2048, .bf16⟩
  | 126 => ⟨S32768x128, .f32⟩
  | 127 => ⟨S32768x128, .bf16⟩
  | _ => ⟨S8x4096x1024, .f32⟩

abbrev hbmTy0_1 (i : Nat) : BufTy := match i % 128 with
  | 0 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_5 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_6 : Ref sig .tc := ⟨.hbm, 92, rfl⟩
abbrev main_v69 : Ref sig .tc := ⟨.hbm, 93, rfl⟩
abbrev main_v70 : Ref sig .tc := ⟨.hbm, 94, rfl⟩
abbrev main_cst_7 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_11 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]
-- ==== FoxProj.lean ====
abbrev S8x4096x1024 : Shape := ⟨3, ![8, 4096, 1024]⟩
abbrev S1x1024x3088 : Shape := ⟨3, ![1, 1024, 3088]⟩
abbrev S1024x3088 : Shape := ⟨2, ![1024, 3088]⟩
abbrev S1024x1024 : Shape := ⟨2, ![1024, 1024]⟩
abbrev S1024x16 : Shape := ⟨2, ![1024, 16]⟩
abbrev S16x1024 : Shape := ⟨2, ![16, 1024]⟩
abbrev S8x16x4096 : Shape := ⟨3, ![8, 16, 4096]⟩
abbrev S1x512x1024 : Shape := ⟨3, ![1, 512, 1024]⟩
abbrev S1x16x512 : Shape := ⟨3, ![1, 16, 512]⟩
abbrev S1x256x1024 : Shape := ⟨3, ![1, 256, 1024]⟩
abbrev S256x1024 : Shape := ⟨2, ![256, 1024]⟩
abbrev S16x256 : Shape := ⟨2, ![16, 256]⟩
abbrev S1x16x256 : Shape := ⟨3, ![1, 16, 256]⟩

abbrev nBuf : Space → Nat
  | .hbm => 16
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1x1024x3088, .f32⟩
  | .hbm, ⟨2, _⟩ => ⟨S1024x3088, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x16, .f32⟩
  | .hbm, ⟨10, _⟩ => ⟨S16x1024, .f32⟩
  | .hbm, ⟨11, _⟩ => ⟨S16x1024, .bf16⟩
  | .hbm, ⟨12, _⟩ => ⟨S8x4096x1024, .bf16⟩
  | .hbm, ⟨13, _⟩ => ⟨S8x4096x1024, .bf16⟩
  | .hbm, ⟨14, _⟩ => ⟨S8x4096x1024, .bf16⟩
  | .hbm, ⟨15, _⟩ => ⟨S8x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S16x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x16x512, .f32⟩
  | .local _ .vmem, ⟨13, _⟩ => ⟨S1x16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v10_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FoxProjRefIdeal.lean ====
abbrev S8x4096x1024 : Shape := ⟨3, ![8, 4096, 1024]⟩
abbrev S1x1024x3088 : Shape := ⟨3, ![1, 1024, 3088]⟩
abbrev S1024x3088 : Shape := ⟨2, ![1024, 3088]⟩
abbrev S8x4096x3088 : Shape := ⟨3, ![8, 4096, 3088]⟩
abbrev S8x4096x16 : Shape := ⟨3, ![8, 4096, 16]⟩
abbrev S_ : Shape := ⟨0, ![]⟩
abbrev S8x16x4096 : Shape := ⟨3, ![8, 16, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x3088, .f32⟩
  | .hbm, ⟨2, _⟩ => ⟨S1024x3088, .f32⟩
  | .hbm, ⟨3, _⟩ => ⟨S8x4096x3088, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x16, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S8x4096x1024, .bf16⟩
  | .hbm, ⟨12, _⟩ => ⟨S8x4096x1024, .bf16⟩
  | .hbm, ⟨13, _⟩ => ⟨S8x4096x1024, .bf16⟩
  | .hbm, ⟨14, _⟩ => ⟨S8x16x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== MlaQ.lean ====
abbrev S8x4096x1024 : Shape := ⟨3, ![8, 4096, 1024]⟩
abbrev S1x1024x384 : Shape := ⟨3, ![1, 1024, 384]⟩
abbrev S1x384 : Shape := ⟨2, ![1, 384]⟩
abbrev S1x384x16x192 : Shape := ⟨4, ![1, 384, 16, 192]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S384x16x192 : Shape := ⟨3, ![384, 16, 192]⟩
abbrev S384x16x128 : Shape := ⟨3, ![384, 16, 128]⟩
abbrev S384x2048 : Shape := ⟨2, ![384, 2048]⟩
abbrev S384x16x64 : Shape := ⟨3, ![384, 16, 64]⟩
abbrev S384x16x32 : Shape := ⟨3, ![384, 16, 32]⟩
abbrev S32768x1024 : Shape := ⟨2, ![32768, 1024]⟩
abbrev S1024x384 : Shape := ⟨2, ![1024, 384]⟩
abbrev S384 : Shape := ⟨1, ![384]⟩
abbrev S32768x4096 : Shape := ⟨2, ![32768, 4096]⟩
abbrev S512x1024 : Shape := ⟨2, ![512, 1024]⟩
abbrev S512x128 : Shape := ⟨2, ![512, 128]⟩
abbrev S512x4096 : Shape := ⟨2, ![512, 4096]⟩
abbrev S256x1024 : Shape := ⟨2, ![256, 1024]⟩
abbrev S256x384 : Shape := ⟨2, ![256, 384]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩

abbrev nBuf : Space → Nat
  | .hbm => 44
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1x1024x384, .f32⟩
  | .hbm, ⟨2, _⟩ => ⟨S1x384, .f32⟩
  | .hbm, ⟨3, _⟩ => ⟨S1x384x16x192, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S4096, .f32⟩
  | .hbm, ⟨13, _⟩ => ⟨S4096x1, .f32⟩
  | .hbm, ⟨14, _⟩ => ⟨S1x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S_, .f32⟩
  | .hbm, ⟨19, _⟩ => ⟨S4096x64, .f32⟩
  | .hbm, ⟨20, _⟩ => ⟨S4096x32, .f32⟩
  | .hbm, ⟨21, _⟩ => ⟨S4096x32, .f32⟩
  | .hbm, ⟨22, _⟩ => ⟨S4096x128, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S384x16x192, .f32⟩
  | .hbm, ⟨27, _⟩ => ⟨S384x16x128, .f32⟩
  | .hbm, ⟨28, _⟩ => ⟨S384x2048, .f32⟩
  | .hbm, ⟨29, _⟩ => ⟨S384x2048, .bf16⟩
  | .hbm, ⟨30, _⟩ => ⟨S384x16x64, .f32⟩
  | .hbm, ⟨31, _⟩ => ⟨S384x16x32, .f32⟩
  | .hbm, ⟨32, _⟩ => ⟨S384x16x32, .f32⟩
  | .hbm, ⟨33, _⟩ => ⟨S384x16x32, .f32⟩
  | .hbm, ⟨34, _⟩ => ⟨S384x16x64, .f32⟩
  | .hbm, ⟨35, _⟩ => ⟨S384x16x128, .f32⟩
  | .hbm, ⟨36, _⟩ => ⟨S384x2048, .f32⟩
  | .hbm, ⟨37, _⟩ => ⟨S384x2048, .bf16⟩
  | .hbm, ⟨38, _⟩ => ⟨S32768x1024, .f32⟩
  | .hbm, ⟨39, _⟩ => ⟨S1024x384, .f32⟩
  | .hbm, ⟨40, _⟩ => ⟨S1024x384, .bf16⟩
  | .hbm, ⟨41, _⟩ => ⟨S384, .f32⟩
  | .hbm, ⟨42, _⟩ => ⟨S1x384, .f32⟩
  | .hbm, ⟨43, _⟩ => ⟨S32768x4096, .bf16⟩
  | .local _ .vmem, ⟨0, _⟩ => ⟨S512x1024, .f32⟩
  | .local _ .vmem, ⟨1, _⟩ => ⟨S512x1024, .f32⟩
  | .local _ .vmem, ⟨2, _⟩ => ⟨S1024x384, .bf16⟩
  | .local _ .vmem, ⟨3, _⟩ => ⟨S1x384, .f32⟩
  | .local _ .vmem, ⟨4, _⟩ => ⟨S384x2048, .bf16⟩
  | .local _ .vmem, ⟨5, _⟩ => ⟨S384x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x4096, .bf16⟩
  | .local _ .vmem, ⟨11, _⟩ => ⟨S512x4096, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlaQRefIdeal.lean ====
abbrev S8x4096x1024 : Shape := ⟨3, ![8, 4096, 1024]⟩
abbrev S1x1024x384 : Shape := ⟨3, ![1, 1024, 384]⟩
abbrev S1x384 : Shape := ⟨2, ![1, 384]⟩
abbrev S1x384x16x192 : Shape := ⟨4, ![1, 384, 16, 192]⟩
abbrev S1024x384 : Shape := ⟨2, ![1024, 384]⟩
abbrev S8x4096x384 : Shape := ⟨3, ![8, 4096, 384]⟩
abbrev S384 : Shape := ⟨1, ![384]⟩
abbrev S_ : Shape := ⟨0, ![]⟩
abbrev S8x4096 : Shape := ⟨2, ![8, 4096]⟩
abbrev S8x4096x1 : Shape := ⟨3, ![8, 4096, 1]⟩
abbrev S1x1x384 : Shape := ⟨3, ![1, 1, 384]⟩
abbrev S384x16x192 : Shape := ⟨3, ![384, 16, 192]⟩
abbrev S8x4096x16x192 : Shape := ⟨4, ![8, 4096, 16, 192]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x4096x16x64 : Shape := ⟨4, ![8, 4096, 16, 64]⟩
abbrev S4096x1x32 : Shape := ⟨3, ![4096, 1, 32]⟩
abbrev S8x4096x16x32 : Shape := ⟨4, ![8, 4096, 16, 32]⟩
abbrev S1x4096x1x32 : Shape := ⟨4, ![1, 4096, 1, 32]⟩
abbrev S8x4096x16x128 : Shape := ⟨4, ![8, 4096, 16, 128]⟩
abbrev S8x4096x16x256 : Shape := ⟨4, ![8, 4096, 16, 256]⟩
abbrev S32768x4096 : Shape := ⟨2, ![32768, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x384, .f32⟩
  | .hbm, ⟨2, _⟩ => ⟨S1x384, .f32⟩
  | .hbm, ⟨3, _⟩ => ⟨S1x384x16x192, .f32⟩
  | .hbm, ⟨4, _⟩ => ⟨S1024x384, .f32⟩
  | .hbm, ⟨5, _⟩ => ⟨S8x4096x384, .f32⟩
  | .hbm, ⟨6, _⟩ => ⟨S384, .f32⟩
  | .hbm, ⟨7, _⟩ => ⟨S8x4096x384, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x384, .f32⟩
  | .hbm, ⟨19, _⟩ => ⟨S8x4096x384, .f32⟩
  | .hbm, ⟨20, _⟩ => ⟨S1x1x384, .f32⟩
  | .hbm, ⟨21, _⟩ => ⟨S8x4096x384, .f32⟩
  | .hbm, ⟨22, _⟩ => ⟨S8x4096x384, .f32⟩
  | .hbm, ⟨23, _⟩ => ⟨S384x16x192, .f32⟩
  | .hbm, ⟨24, _⟩ => ⟨S8x4096x16x192, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S8x4096x16x64, .f32⟩
  | .hbm, ⟨42, _⟩ => ⟨S4096x1x32, .f32⟩
  | .hbm, ⟨43, _⟩ => ⟨S4096x1x32, .f32⟩
  | .hbm, ⟨44, _⟩ => ⟨S8x4096x16x32, .f32⟩
  | .hbm, ⟨45, _⟩ => ⟨S8x4096x16x32, .f32⟩
  | .hbm, ⟨46, _⟩ => ⟨S1x4096x1x32, .f32⟩
  | .hbm, ⟨47, _⟩ => ⟨S8x4096x16x32, .f32⟩
  | .hbm, ⟨48, _⟩ => ⟨S8x4096x16x32, .f32⟩
  | .hbm, ⟨49, _⟩ => ⟨S1x4096x1x32, .f32⟩
  | .hbm, ⟨50, _⟩ => ⟨S8x4096x16x32, .f32⟩
  | .hbm, ⟨51, _⟩ => ⟨S8x4096x16x32, .f32⟩
  | .hbm, ⟨52, _⟩ => ⟨S8x4096x16x32, .f32⟩
  | .hbm, ⟨53, _⟩ => ⟨S1x4096x1x32, .f32⟩
  | .hbm, ⟨54, _⟩ => ⟨S8x4096x16x32, .f32⟩
  | .hbm, ⟨55, _⟩ => ⟨S8x4096x16x32, .f32⟩
  | .hbm, ⟨56, _⟩ => ⟨S1x4096x1x32, .f32⟩
  | .hbm, ⟨57, _⟩ => ⟨S8x4096x16x32, .f32⟩
  | .hbm, ⟨58, _⟩ => ⟨S8x4096x16x32, .f32⟩
  | .hbm, ⟨59, _⟩ => ⟨S8x4096x16x32, .f32⟩
  | .hbm, ⟨60, _⟩ => ⟨S8x4096x16x64, .f32⟩
  | .hbm, ⟨61, _⟩ => ⟨S8x4096x16x128, .f32⟩
  | .hbm, ⟨62, _⟩ => ⟨S_, .f32⟩
  | .hbm, ⟨63, _⟩ => ⟨S8x4096x16x64, .f32⟩
  | .hbm, ⟨64, _⟩ => ⟨S8x4096x16x256, .f32⟩
  | .hbm, ⟨65, _⟩ => ⟨S_, .f32⟩
  | .hbm, ⟨66, _⟩ => ⟨S8x4096x16x256, .f32⟩
  | .hbm, ⟨67, _⟩ => ⟨S8x4096x16x256, .f32⟩
  | .hbm, ⟨68, _⟩ => ⟨S32768x4096, .f32⟩
  | .hbm, ⟨69, _⟩ => ⟨S32768x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== Proof.Hand.Rows.lean ====
/- The layers' arithmetic on one token's row, over the extended reals: layer norm, the DeepNorm residual, the
   gated feed-forward product, the gated per-layer embedding. Every call's value is stated through these. -/
module

public import Idealize.ShloMosaic.Lib.Pointwise
public import Idealize.ShloMosaic.Lib.VecWindow
public import Idealize.ShloMosaic.Lib.Pipeline.ValueKit

@[expose] public section

noncomputable section

namespace Cert.Rows

open Idealize.ShloMosaic

/-- The mean of a row of 1024 numbers. -/
def meanAt (z : Fin 1024 → EReal) : EReal := Ideal.div (∑ k, z k) (Ideal.ofBits FTy.f32 0x44800000#32)

/-- Layer norm of a row with gain `g` and offset `b`. -/
def lnAt (z g b : Fin 1024 → EReal) (j : Fin 1024) : EReal :=
  (z j - meanAt z) * Ideal.rsqrt (meanAt (fun k => (z k - meanAt z) * (z k - meanAt z)) + Ideal.ofBits FTy.f32 0x3727C5AC#32) * g j + b j

/-- The residual stream scaled by the fourth root of four, plus a sublayer's contribution. -/
def resAt (x d : Fin 1024 → EReal) (j : Fin 1024) : EReal := Ideal.ofBits FTy.f32 0x3FB504F3#32 * x j + d j

/-- A row times a matrix. -/
def mulAt {K N : ℕ} (x : Fin K → EReal) (w : Fin K → Fin N → EReal) (j : Fin N) : EReal := ∑ k, x k * w k j

/-- The gated activation: the gate's column times its logistic, times the column of the other half. -/
def actAt (x : Fin 1024 → EReal) (w : Fin 1024 → Fin 5632 → EReal) (n : Fin 2816) : EReal :=
  mulAt x w ⟨n.val, by omega⟩ * Ideal.logistic (mulAt x w ⟨n.val, by omega⟩) * mulAt x w ⟨2816 + n.val, by omega⟩

/-- Half the feed-forward network's output. -/
def ffnAt (x : Fin 1024 → EReal) (win : Fin 1024 → Fin 5632 → EReal) (wout : Fin 2816 → Fin 1024 → EReal) (j : Fin 1024) : EReal :=
  Ideal.ofBits FTy.f32 0x3F000000#32 * mulAt (actAt x win) wout j

/-- The per-layer embedding's projection, gated by the residual stream. -/
def pleAt (x : Fin 1024 → EReal) (wg : Fin 1024 → Fin 1024 → EReal) (bg : Fin 1024 → EReal) (p : Fin 256 → EReal)
    (wp : Fin 256 → Fin 1024 → EReal) (j : Fin 1024) : EReal :=
  Ideal.logistic (mulAt x wg j + bg j) * mulAt p wp j

/-- The residual norm of the feed-forward step. -/
def ffnRow (x : Fin 1024 → EReal) (win : Fin 1024 → Fin 5632 → EReal) (wout : Fin 2816 → Fin 1024 → EReal) (g b : Fin 1024 → EReal) : Fin 1024 → EReal :=
  lnAt (resAt x (ffnAt x win wout)) g b

/-- The residual norm of a projection `o · wo`. -/
def projRow {K : ℕ} (o : Fin K → EReal) (x : Fin 1024 → EReal) (wo : Fin K → Fin 1024 → EReal) (g b : Fin 1024 → EReal) : Fin 1024 → EReal :=
  lnAt (resAt x (mulAt o wo)) g b

/-- The residual norm of the gated per-layer embedding. -/
def pleRow (x : Fin 1024 → EReal) (wg : Fin 1024 → Fin 1024 → EReal) (bg : Fin 1024 → EReal) (p : Fin 256 → EReal)
    (wp : Fin 256 → Fin 1024 → EReal) (g b : Fin 1024 → EReal) : Fin 1024 → EReal :=
  lnAt (resAt x (pleAt x wg bg p wp)) g b

/-- A load of a whole buffer, after stores that are known piece by piece, reads the pieces. -/
theorem readCov_full {Val : EltTy → Type} [∀ e, Nonempty (Val e)] {sig : RefSig} {κ : Kind} {sp : Space} {S : Shape} {e : EltTy}
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  subst h
  rw [View.readCov_eq_canon']
  exact funext fun j => congrArg (View.canon L) (Rect.emb_unit_full inb j)

/-- A load after a store of the whole buffer reads that store's payload, whatever was stored before it. -/
theorem readCov_cons {Val : EltTy → Type} [∀ e, Nonempty (Val e)] {sig : RefSig} {κ : Kind} {sp : Space} {S : Shape} {e : EltTy}
    (v : View sig κ sp S e) {off : Fin S.rank → Nat} (inb : ∀ a, off a + S.size a ≤ S.size a) (w : S.Idx → Val e)
    (L : List (View.Piece Val S e)) (h : ∀ a, off a = 0) (r : Rect S) :
    v.readCov (⟨Rect.unit off S.size inb, w⟩ :: L) r.toLoadRect = View.ld w r := by
  obtain rfl : off = fun _ => 0 := funext h
  have hw : View.canon ((⟨Rect.unit (fun _ => 0) S.size inb, w⟩ : View.Piece Val S e) :: L) = w :=
    View.canon_cons_unit_lit' inb w L fun _ => rfl
  rw [View.readCov_eq_canon_ld _ _ _ (fun y => ⟨_, List.mem_cons_self, by
    show y ∈ (Rect.whole S).set; rw [Rect.set_whole]; exact Finset.mem_univ y⟩), hw]

end Cert.Rows

end
-- ==== Proof.Hand.PostMix1Ker.lean ====
/- What the last block of calls leaves in its result, row by row. -/
module

public import proofs.«01_k».proof.Proof.Hand.Rows
public import proofs.«01_k».proof.Proof.Gen.PostMix1Ideal.Value
public import Idealize.ShloMosaic.Lib.Pipeline.ValueKit
public import Idealize.ShloMosaic.Lib.VecWindow

@[expose] public section

set_option maxRecDepth 16384

noncomputable section

namespace Cert.PostMix1Ideal.Rows

open Idealize.ShloMosaic Idealize.ShloMosaic.TcCoe Idealize.SL.Sem
open Idealize.ShloMosaic.Pipeline (Dat)
open Cert.PostMix1Ideal Cert.PostMix1Ideal.Gen Cert.Rows

variable (m : (ℓ : Loc nD τ sig) → Buf (Elt Ideal) ℓ)

/-- The residual norm of the projection, on a block of rows. -/
def X1 (x0 : FVec Ideal S512x2048 .bf16) (x1 : FVec Ideal S512x1024 .f32) (x3 : FVec Ideal S2048x1024 .bf16)
    (x9 x10 : FVec Ideal S4x1024 .f32) : FVec Ideal S512x1024 .f32 :=
  fun i => projRow (fun k => x0 (ix2 (i 0) k)) (fun k => x1 (ix2 (i 0) k)) (fun k n => x3 (ix2 k n)) (fun j => x9 (ix2 1 j)) (fun j => x10 (ix2 1 j)) (i 1)

/-- The two halves stored by the first step, read back whole. -/
theorem x1_read {κ : Kind} {sp : Space} (v : View sig κ sp S512x1024 .f32) (x0 : FVec Ideal S512x2048 .bf16) (x1 : FVec Ideal S512x1024 .f32) (x3 : FVec Ideal S2048x1024 .bf16)
    (x9 x10 : FVec Ideal S4x1024 .f32) :
    v.readCov (Val := Elt Ideal)
      [⟨Rect.unit ![256, 0] ![256, 1024] inb_S512x1024_S256x1024_256_0,
          k0_pay3 (F := Ideal) (View.ld (Val := Elt Ideal) (e' := .bf16) x0 (Rect.unit ![256, 0] ![256, 2048] inb_S512x2048_S256x2048_256_0)) x3
            (View.ld (Val := Elt Ideal) (e' := .f32) x1 (Rect.unit ![256, 0] ![256, 1024] inb_S512x1024_S256x1024_256_0))
            (View.ld (Val := Elt Ideal) (e' := .f32) x9 (Rect.unit ![1, 0] ![1, 1024] inb_S4x1024_S1x1024_1_0))
            (View.ld (Val := Elt Ideal) (e' := .f32) x10 (Rect.unit ![1, 0] ![1, 1024] inb_S4x1024_S1x1024_1_0))⟩,
        ⟨Rect.unit ![0, 0] ![256, 1024] inb_S512x1024_S256x1024_0_0,
          k0_pay2 (F := Ideal) (View.ld (Val := Elt Ideal) (e' := .bf16) x0 (Rect.unit ![0, 0] ![256, 2048] inb_S512x2048_S256x2048_0_0)) x3
            (View.ld (Val := Elt Ideal) (e' := .f32) x1 (Rect.unit ![0, 0] ![256, 1024] inb_S512x1024_S256x1024_0_0))
            (View.ld (Val := Elt Ideal) (e' := .f32) x9 (Rect.unit ![1, 0] ![1, 1024] inb_S4x1024_S1x1024_1_0))
            (View.ld (Val := Elt Ideal) (e' := .f32) x10 (Rect.unit ![1, 0] ![1, 1024] inb_S4x1024_S1x1024_1_0))⟩]
      (Rect.unit ![0, 0] ![512, 1024] inb_S512x1024_S512x1024_0_0).toLoadRect
      = X1 x0 x1 x3 x9 x10 := by
  rw [Cert.Rows.readCov_full _ _ (funext fun a => by fin_cases a <;> rfl)]
  funext i
  idx_vars i
  canon_tiles x h
  all_goals (change i0.val = _ at h0; change i1.val = _ at h1; pointwise [k0_pay2, k0_pay3, X1, projRow, lnAt, resAt, meanAt, mulAt])
  all_goals blk_point []

/-- The gated activation of a block of rows. -/
def ACT (X : FVec Ideal S512x1024 .f32) (x4 : FVec Ideal S1024x5632 .bf16) : FVec Ideal S512x2816 .bf16 :=
  fun i => actAt (fun k => X (ix2 (i 0) k)) (fun k n => x4 (ix2 k n)) (i 1)

/-- The activation's eleven column chunks, read back whole. -/
theorem act_read {κ : Kind} {sp : Space} (v : View sig κ sp S512x2816 .bf16) (X : FVec Ideal S512x1024 .f32) (x4 : FVec Ideal S1024x5632 .bf16) :
    v.readCov (Val := Elt Ideal)
      [⟨Rect.unit ![0, 2560] ![512, 256] inb_S512x2816_S512x256_0_2560,
          k0_pay19 (F := Ideal) (k0_pay4 (F := Ideal) X)
            (View.ld (Val := Elt Ideal) (e' := .bf16) x4 (Rect.unit ![0, 2560] ![1024, 256] inb_S1024x5632_S1024x256_0_2560))
            (View.ld (Val := Elt Ideal) (e' := .bf16) x4
              (Rect.unit ![0, 5376] ![1024, 256] inb_S1024x5632_S1024x256_0_5376))⟩,
        ⟨Rect.unit ![0, 2304] ![512, 256] inb_S512x2816_S512x256_0_2304,
          k0_pay18 (F := Ideal) (k0_pay4 (F := Ideal) X)
            (View.ld (Val := Elt Ideal) (e' := .bf16) x4 (Rect.unit ![0, 2304] ![1024, 256] inb_S1024x5632_S1024x256_0_2304))
            (View.ld (Val := Elt Ideal) (e' := .bf16) x4
              (Rect.unit ![0, 5120] ![1024, 256] inb_S1024x5632_S1024x256_0_5120))⟩,
        ⟨Rect.unit ![0, 2048] ![512, 256] inb_S512x2816_S512x256_0_2048,
          k0_pay17 (F := Ideal) (k0_pay4 (F := Ideal) X)
            (k0_pay16 (F := Ideal)
              (View.ld (Val := Elt Ideal) (e' := .bf16) x4
                (Rect.unit ![0, 2048] ![1024, 256] inb_S1024x5632_S1024x256_0_2048)))
            (constant (F := Ideal) S512x256 FTy.f32 0#32)
            (View.ld (Val := Elt Ideal) (e' := .bf16) x4
              (Rect.unit ![0, 4864] ![1024, 256] inb_S1024x5632_S1024x256_0_4864))⟩,
        ⟨Rect.unit ![0, 1792] ![512, 256] inb_S512x2816_S512x256_0_1792,
          k0_pay15 (F := Ideal) (k0_pay4 (F := Ideal) X)
            (View.ld (Val := Elt Ideal) (e' := .bf16) x4 (Rect.unit ![0, 1792] ![1024, 256] inb_S1024x5632_S1024x256_0_1792))
            (View.ld (Val := Elt Ideal) (e' := .bf16) x4
              (Rect.unit ![0, 4608] ![1024, 256] inb_S1024x5632_S1024x256_0_4608))⟩,
        ⟨Rect.unit ![0, 1536] ![512, 256] inb_S512x2816_S512x256_0_1536,
          k0_pay14 (F := Ideal) (k0_pay4 (F := Ideal) X)
            (View.ld (Val := Elt Ideal) (e' := .bf16) x4 (Rect.unit ![0, 1536] ![1024, 256] inb_S1024x5632_S1024x256_0_1536))
            (View.ld (Val := Elt Ideal) (e' := .bf16) x4
              (Rect.unit ![0, 4352] ![1024, 256] inb_S1024x5632_S1024x256_0_4352))⟩,
        ⟨Rect.unit ![0, 1280] ![512, 256] inb_S512x2816_S512x256_0_1280,
          k0_pay13 (F := Ideal) (k0_pay4 (F := Ideal) X)
            (k0_pay11 (F := Ideal) (k0_pay4 (F := Ideal) X)
              (View.ld (Val := Elt Ideal) (e' := .bf16) x4
                (Rect.unit ![0, 1280] ![1024, 256] inb_S1024x5632_S1024x256_0_1280)))
            (k0_pay12 (F := Ideal)
              (View.ld (Val := Elt Ideal) (e' := .bf16) x4
                (Rect.unit ![0, 4096] ![1024, 256] inb_S1024x5632_S1024x256_0_4096)))
            (constant (F := Ideal) S512x256 FTy.f32 0#32)⟩,
        ⟨Rect.unit ![0, 1024] ![512, 256] inb_S512x2816_S512x256_0_1024,
          k0_pay10 (F := Ideal) (k0_pay4 (F := Ideal) X)
            (View.ld (Val := Elt Ideal) (e' := .bf16) x4 (Rect.unit ![0, 1024] ![1024, 256] inb_S1024x5632_S1024x256_0_1024))
            (View.ld (Val := Elt Ideal) (e' := .bf16) x4
              (Rect.unit ![0, 3840] ![1024, 256] inb_S1024x5632_S1024x256_0_3840))⟩,
        ⟨Rect.unit ![0, 768] ![512, 256] inb_S512x2816_S512x256_0_768,
          k0_pay9 (F := Ideal) (k0_pay4 (F := Ideal) X)
            (View.ld (Val := Elt Ideal) (e' := .bf16) x4 (Rect.unit ![0, 768] ![1024, 256] inb_S1024x5632_S1024x256_0_768))
            (View.ld (Val := Elt Ideal) (e' := .bf16) x4
              (Rect.unit ![0, 3584] ![1024, 256] inb_S1024x5632_S1024x256_0_3584))⟩,
        ⟨Rect.unit ![0, 512] ![512, 256] inb_S512x2816_S512x256_0_512,
          k0_pay8 (F := Ideal)
            (k0_pay7 (F := Ideal) (k0_pay4 (F := Ideal) X)
              (View.ld (Val := Elt Ideal) (e' := .bf16) x4 (Rect.unit ![0, 512] ![1024, 256] inb_S1024x5632_S1024x256_0_512))
              (View.ld (Val := Elt Ideal) (e' := .bf16) x4
                (Rect.unit ![0, 3328] ![1024, 256] inb_S1024x5632_S1024x256_0_3328)))⟩,
        ⟨Rect.unit ![0, 256] ![512, 256] inb_S512x2816_S512x256_0_256,
          k0_pay6 (F := Ideal) (k0_pay4 (F := Ideal) X)
            (View.ld (Val := Elt Ideal) (e' := .bf16) x4 (Rect.unit ![0, 256] ![1024, 256] inb_S1024x5632_S1024x256_0_256))
            (View.ld (Val := Elt Ideal) (e' := .bf16) x4
              (Rect.unit ![0, 3072] ![1024, 256] inb_S1024x5632_S1024x256_0_3072))⟩,
        ⟨Rect.unit ![0, 0] ![512, 256] inb_S512x2816_S512x256_0_0,
          k0_pay5 (F := Ideal) (k0_pay4 (F := Ideal) X)
            (View.ld (Val := Elt Ideal) (e' := .bf16) x4 (Rect.unit ![0, 0] ![1024, 256] inb_S1024x5632_S1024x256_0_0))
            (View.ld (Val := Elt Ideal) (e' := .bf16) x4
              (Rect.unit ![0, 2816] ![1024, 256] inb_S1024x5632_S1024x256_0_2816))⟩]
      (Rect.unit ![0, 0] ![512, 2816] inb_S512x2816_S512x2816_0_0).toLoadRect
      = ACT X x4 := by
  rw [Cert.Rows.readCov_full _ _ (funext fun a => by fin_cases a <;> rfl)]
  funext i
  idx_vars i
  canon_tiles x h
  all_goals (change i0.val = _ at h0; change i1.val = _ at h1; pointwise [k0_pay4, k0_pay5, k0_pay6, k0_pay7, k0_pay8, k0_pay9, k0_pay10, k0_pay11, k0_pay12, k0_pay13, k0_pay14, k0_pay15, k0_pay16, k0_pay17, k0_pay18, k0_pay19, ACT, actAt, mulAt])
  all_goals blk_point []

/-- The residual norm of the feed-forward step, on a block of rows. -/
def X2 (X : FVec Ideal S512x1024 .f32) (x4 : FVec Ideal S1024x5632 .bf16) (x5 : FVec Ideal S2816x1024 .bf16)
    (x9 x10 : FVec Ideal S4x1024 .f32) : FVec Ideal S512x1024 .f32 :=
  fun i => ffnRow (fun k => X (ix2 (i 0) k)) (fun k n => x4 (ix2 k n)) (fun n j => x5 (ix2 n j)) (fun j => x9 (ix2 2 j)) (fun j => x10 (ix2 2 j)) (i 1)

/-- The feed-forward step's stored rows. -/
theorem x2_pay (X : FVec Ideal S512x1024 .f32) (x4 : FVec Ideal S1024x5632 .bf16) (x5 : FVec Ideal S2816x1024 .bf16)
    (x9 x10 : FVec Ideal S4x1024 .f32) :
    k0_pay20 (F := Ideal) X (ACT X x4) x5 (View.ld (Val := Elt Ideal) (e' := .f32) x9 (Rect.unit ![2, 0] ![1, 1024] inb_S4x1024_S1x1024_2_0))
      (View.ld (Val := Elt Ideal) (e' := .f32) x10 (Rect.unit ![2, 0] ![1, 1024] inb_S4x1024_S1x1024_2_0)) = X2 X x4 x5 x9 x10 := by
  funext i
  idx_vars i
  pointwise [k0_pay20, ACT, X2, ffnRow, lnAt, resAt, ffnAt, meanAt, mulAt]

/-- One block of the result: each row through the three residual steps. -/
theorem out_at (c : Dev nD) (t : Fin cfg0.N) (y : S512x1024.Idx) :
    outsAt0 m c t y = pleRow (fun k => X2 (X1 (iblk m c 0 t) (iblk m c 1 t) (iblk m c 3 t) (iblk m c 9 t) (iblk m c 10 t)) (iblk m c 4 t) (iblk m c 5 t) (iblk m c 9 t) (iblk m c 10 t) (ix2 (y 0) k))
      (fun k n => (show FVec Ideal S1024x1024 .bf16 from iblk m c 6 t) (ix2 k n)) (fun j => (show FVec Ideal S1x1024 .f32 from iblk m c 7 t) (ix2 0 j))
      (fun k => (show FVec Ideal S1x512x256 .f32 from iblk m c 2 t) (ix3 0 (y 0) k)) (fun k n => (show FVec Ideal S256x1024 .bf16 from iblk m c 8 t) (ix2 k n))
      (fun j => (show FVec Ideal S4x1024 .f32 from iblk m c 9 t) (ix2 3 j)) (fun j => (show FVec Ideal S4x1024 .f32 from iblk m c 10 t) (ix2 3 j)) (y 1) := by
  unfold outsAt0
  frame_out
  rw [x1_read _ (iblk m c 0 t) (iblk m c 1 t) (iblk m c 3 t) (iblk m c 9 t) (iblk m c 10 t),
    act_read _ (X1 (iblk m c 0 t) (iblk m c 1 t) (iblk m c 3 t) (iblk m c 9 t) (iblk m c 10 t)) (iblk m c 4 t),
    x2_pay _ (iblk m c 4 t) (iblk m c 5 t) (iblk m c 9 t) (iblk m c 10 t)]
  generalize X2 (X1 (iblk m c 0 t) (iblk m c 1 t) (iblk m c 3 t) (iblk m c 9 t) (iblk m c 10 t)) (iblk m c 4 t) (iblk m c 5 t) (iblk m c 9 t) (iblk m c 10 t) = X
  rw [Cert.Rows.readCov_cons _ _ _ _ (fun a => by fin_cases a <;> rfl), Cert.Rows.readCov_cons _ _ _ _ (fun a => by fin_cases a <;> rfl)]
  idx_vars y
  canon_tiles x h
  all_goals (change y0.val = _ at h0; change y1.val = _ at h1; pointwise [k0_pay1, k0_pay21, k0_pay22, k0_pay23, k0_pay24, k0_pay25, k0_pay26, k0_pay27, k0_pay28, k0_pay29, pleRow, lnAt, resAt, pleAt, meanAt, mulAt])
  all_goals blk_point []

end Cert.PostMix1Ideal.Rows

end
-- ==== Proof.Hand.PostMix1Ref.lean ====
/- What the reference of layer 1's closing call computes, row by row. -/
module

public import proofs.«01_k».proof.Proof.Hand.Rows
public import proofs.«01_k».proof.Proof.Gen.PostMix1RefIdeal.Read

@[expose] public section

set_option maxRecDepth 16384

noncomputable section

namespace Cert.PostMix1RefIdeal.Rows

open Idealize.ShloMosaic Idealize.ShloMosaic.TcCoe Idealize.SL.Sem
open Cert.PostMix1RefIdeal Cert.PostMix1RefIdeal.Gen Cert.PostMix1RefIdeal.Read Cert.Rows

variable (x0 : FVec Ideal S8x4096x2048 .bf16) (x1 : FVec Ideal S8x4096x1024 .f32) (x2 : FVec Ideal S2x8x4096x256 .f32)
  (x3 : FVec Ideal S1x2048x1024 .f32) (x4 : FVec Ideal S2x1024x5632 .f32) (x5 : FVec Ideal S2x2816x1024 .f32)
  (x6 : FVec Ideal S2x1024x1024 .f32) (x7 : FVec Ideal S2x1024 .f32) (x8 : FVec Ideal S2x256x1024 .f32)
  (x9 x10 : FVec Ideal S2x4x1024 .f32)

/-- The row after the output projection's residual norm. -/
def row1 (b : Fin 8) (s : Fin 4096) : Fin 1024 → EReal :=
  projRow (fun k => x0 (ix3 b s k)) (fun k => x1 (ix3 b s k)) (fun k j => x3 (ix3 0 k j)) (fun j => x9 (ix3 1 1 j)) (fun j => x10 (ix3 1 1 j))

/-- The row after the feed-forward step's residual norm. -/
def row2 (b : Fin 8) (s : Fin 4096) : Fin 1024 → EReal :=
  ffnRow (row1 x0 x1 x3 x9 x10 b s) (fun k n => x4 (ix3 1 k n)) (fun n j => x5 (ix3 1 n j)) (fun j => x9 (ix3 1 2 j)) (fun j => x10 (ix3 1 2 j))

/-- The row the call returns. -/
def row3 (b : Fin 8) (s : Fin 4096) : Fin 1024 → EReal :=
  pleRow (row2 x0 x1 x3 x4 x5 x9 x10 b s) (fun k j => x6 (ix3 1 k j)) (fun j => x7 (ix2 1 j)) (fun k => x2 (ix4 1 b s k))
    (fun k j => x8 (ix3 1 k j)) (fun j => x9 (ix3 1 3 j)) (fun j => x10 (ix3 1 3 j))

/-- The reference's stream after the projection's norm. -/
theorem row1_at (b : Fin 8) (s : Fin 4096) (j : Fin 1024) :
    val_main_v31 (F := Ideal) x0 x1 x3 x9 x10 (ix3 b s j) = row1 x0 x1 x3 x9 x10 b s j := by
  pointwise [val_main_v0, val_main_v1, val_main_v2, val_main_v3, val_main_v4, val_main_v5, val_main_v6, val_main_cst, val_main_v7, val_main_v8, val_main_v9, val_main_cst_0, val_main_v10, val_main_v11, val_main_cst_1, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29, val_main_v30, val_main_v31]
  rfl

/-- The reference's activation. -/
theorem act_at (b : Fin 8) (s : Fin 4096) (n : Fin 2816) :
    val_main_v40 (F := Ideal) x0 x1 x3 x4 x9 x10 (ix3 b s n) = actAt (row1 x0 x1 x3 x9 x10 b s) (fun k n => x4 (ix3 1 k n)) n := by
  pointwise [val_main_v32, val_main_v33, val_main_v36, val_main_v37, val_main_v38, val_main_call0_v0, val_main_call0_v1, val_main_call0_cst, val_main_call0_v2, val_main_call0_v3, val_main_call0_cst_0, val_main_call0_v4, val_main_call0_v5, val_main_v39, val_main_v40, row1_at x0 x1 x3 x9 x10]
  rfl

/-- The reference's stream before the feed-forward step's norm. -/
theorem res_at (b : Fin 8) (s : Fin 4096) (j : Fin 1024) :
    val_main_v50 (F := Ideal) x0 x1 x3 x4 x5 x9 x10 (ix3 b s j) = resAt (row1 x0 x1 x3 x9 x10 b s)
      (ffnAt (row1 x0 x1 x3 x9 x10 b s) (fun k n => x4 (ix3 1 k n)) (fun n j => x5 (ix3 1 n j))) j := by
  pointwise [val_main_v34, val_main_v35, val_main_v41, val_main_cst_5, val_main_v42, val_main_v43, val_main_cst_6, val_main_v48, val_main_v49, val_main_v50, act_at x0 x1 x3 x4 x9 x10, row1_at x0 x1 x3 x9 x10]
  rfl

/-- The reference's stream after the feed-forward step's norm. -/
theorem row2_at (b : Fin 8) (s : Fin 4096) (j : Fin 1024) :
    val_main_v72 (F := Ideal) x0 x1 x3 x4 x5 x9 x10 (ix3 b s j) = row2 x0 x1 x3 x4 x5 x9 x10 b s j := by
  pointwise [val_main_v44, val_main_v45, val_main_v46, val_main_v47, val_main_cst_7, val_main_v51, val_main_v52, val_main_cst_8, val_main_v53, val_main_v54, val_main_v55, val_main_v56, val_main_v57, val_main_cst_9, val_main_v58, val_main_v59, val_main_cst_10, val_main_v60, val_main_v61, val_main_cst_11, val_main_v62, val_main_v63, val_main_v64, val_main_v65, val_main_v66, val_main_v67, val_main_v68, val_main_v69, val_main_v70, val_main_v71, val_main_v72, res_at x0 x1 x3 x4 x5 x9 x10]
  rfl

/-- The reference's stream before the last norm. -/
theorem res3_at (b : Fin 8) (s : Fin 4096) (j : Fin 1024) :
    val_main_v99 (F := Ideal) x0 x1 x2 x3 x4 x5 x6 x7 x8 x9 x10 (ix3 b s j) = resAt (row2 x0 x1 x3 x4 x5 x9 x10 b s)
      (pleAt (row2 x0 x1 x3 x4 x5 x9 x10 b s) (fun k j => x6 (ix3 1 k j)) (fun j => x7 (ix2 1 j)) (fun k => x2 (ix4 1 b s k)) (fun k j => x8 (ix3 1 k j))) j := by
  pointwise [val_main_v73, val_main_v74, val_main_v75, val_main_v76, val_main_v77, val_main_v78, val_main_v79, val_main_v80, val_main_v81, val_main_v82, val_main_cst_12, val_main_v83, val_main_v84, val_main_cst_13, val_main_v85, val_main_v86, val_main_v87, val_main_v88, val_main_v89, val_main_v90, val_main_v91, val_main_v92, val_main_cst_14, val_main_v97, val_main_v98, val_main_v99, row2_at x0 x1 x3 x4 x5 x9 x10]
  rfl

/-- The reference's result, at a row of the flattened stream. -/
theorem out_at (r : Fin 32768) (j : Fin 1024) :
    val_main_v122 (F := Ideal) x0 x1 x2 x3 x4 x5 x6 x7 x8 x9 x10 (ix2 r j)
      = row3 x0 x1 x2 x3 x4 x5 x6 x7 x8 x9 x10 ⟨r.val / 4096, by omega⟩ ⟨r.val % 4096, by omega⟩ j := by
  pointwise [val_main_v93, val_main_v94, val_main_v95, val_main_v96, val_main_cst_15, val_main_v100, val_main_v101, val_main_cst_16, val_main_v102, val_main_v103, val_main_v104, val_main_v105, val_main_v106, val_main_cst_17, val_main_v107, val_main_v108, val_main_cst_18, val_main_v109, val_main_v110, val_main_cst_19, val_main_v111, val_main_v112, val_main_v113, val_main_v114, val_main_v115, val_main_v116, val_main_v117, val_main_v118, val_main_v119, val_main_v120, val_main_v121, val_main_v122, res3_at x0 x1 x2 x3 x4 x5 x6 x7 x8 x9 x10]
  rfl

end Cert.PostMix1RefIdeal.Rows

end
-- ==== Proof.Hand.PostMix1Value.lean ====
/- The whole result of the joined steps of layer 1 is the reference's. -/
module

public import proofs.«01_k».proof.Proof.Hand.PostMix1Ker
public import proofs.«01_k».proof.Proof.Hand.PostMix1Ref
public import Idealize.ShloMosaic.Lib.Claim

@[expose] public section

set_option maxRecDepth 16384

noncomputable section

namespace Cert.PostMix1Ideal.Rows

open Idealize.ShloMosaic Idealize.ShloMosaic.TcCoe Idealize.SL.Sem
open Idealize.ShloMosaic.Pipeline (Dat)
open Cert.PostMix1Ideal Cert.PostMix1Ideal.Gen Cert.Rows

variable (m : (ℓ : Loc nD τ sig) → Buf (Elt Ideal) ℓ)

/-- The windows' block indices at each point. -/
theorem idx : ∀ t : Fin cfg0.N, win0_0.index t = ![t.val, 0] ∧ win0_1.index t = ![t.val, 0] ∧ win0_2.index t = ![1, t.val, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- A row of the attention block is a row of the argument. -/
theorem arg0_at (c : Dev nD) (t : Fin cfg0.N) (r : Fin 512) (k : Fin 2048) (h : t.val * 512 + r.val < 32768) :
    (show FVec Ideal S512x2048 .bf16 from iblk m c 0 t) (ix2 r k)
      = (m ((c : Thread nD τ).loc main_arg0) : FVec Ideal S8x4096x2048 .bf16) (ix3 ⟨(t.val * 512 + r.val) / 4096, by omega⟩ ⟨(t.val * 512 + r.val) % 4096, by omega⟩ k) := by
  blk_simp [iblk]
  entry_read
  pointwise []
  blk_point [idx t]

/-- A row of the residual block is a row of the argument. -/
theorem arg1_at (c : Dev nD) (t : Fin cfg0.N) (r : Fin 512) (k : Fin 1024) (h : t.val * 512 + r.val < 32768) :
    (show FVec Ideal S512x1024 .f32 from iblk m c 1 t) (ix2 r k)
      = (m ((c : Thread nD τ).loc main_arg1) : FVec Ideal S8x4096x1024 .f32) (ix3 ⟨(t.val * 512 + r.val) / 4096, by omega⟩ ⟨(t.val * 512 + r.val) % 4096, by omega⟩ k) := by
  blk_simp [iblk]
  entry_read
  pointwise []
  blk_point [idx t]

/-- A row of the per-layer embedding's block is a row of the argument. -/
theorem arg2_at (c : Dev nD) (t : Fin cfg0.N) (r : Fin 512) (k : Fin 256) (h : t.val * 512 + r.val < 32768) :
    (show FVec Ideal S1x512x256 .f32 from iblk m c 2 t) (ix3 0 r k)
      = (m ((c : Thread nD τ).loc main_arg2) : FVec Ideal S2x8x4096x256 .f32) (ix4 1 ⟨(t.val * 512 + r.val) / 4096, by omega⟩ ⟨(t.val * 512 + r.val) % 4096, by omega⟩ k) := by
  blk_simp [iblk]
  entry_read
  pointwise []
  blk_point [idx t]

/-- The projection's block is the argument. -/
theorem arg3_at (c : Dev nD) (t : Fin cfg0.N) (r : Fin 2048) (k : Fin 1024) :
    (show FVec Ideal S2048x1024 .bf16 from iblk m c 3 t) (ix2 r k)
      = (m ((c : Thread nD τ).loc main_arg3) : FVec Ideal S1x2048x1024 .f32) (ix3 0 r k) := by
  blk_simp [iblk]
  entry_read
  pointwise []
  blk_point [idx t]

/-- The feed-forward's first weight block is the layer's slice of the argument. -/
theorem arg4_at (c : Dev nD) (t : Fin cfg0.N) (r : Fin 1024) (k : Fin 5632) :
    (show FVec Ideal S1024x5632 .bf16 from iblk m c 4 t) (ix2 r k)
      = (m ((c : Thread nD τ).loc main_arg4) : FVec Ideal S2x1024x5632 .f32) (ix3 1 r k) := by
  blk_simp [iblk]
  entry_read
  pointwise []
  blk_point [idx t]

/-- The feed-forward's second weight block is the layer's slice of the argument. -/
theorem arg5_at (c : Dev nD) (t : Fin cfg0.N) (r : Fin 2816) (k : Fin 1024) :
    (show FVec Ideal S2816x1024 .bf16 from iblk m c 5 t) (ix2 r k)
      = (m ((c : Thread nD τ).loc main_arg5) : FVec Ideal S2x2816x1024 .f32) (ix3 1 r k) := by
  blk_simp [iblk]
  entry_read
  pointwise []
  blk_point [idx t]

/-- The gate's weight block is the layer's slice of the argument. -/
theorem arg6_at (c : Dev nD) (t : Fin cfg0.N) (r : Fin 1024) (k : Fin 1024) :
    (show FVec Ideal S1024x1024 .bf16 from iblk m c 6 t) (ix2 r k)
      = (m ((c : Thread nD τ).loc main_arg6) : FVec Ideal S2x1024x1024 .f32) (ix3 1 r k) := by
  blk_simp [iblk]
  entry_read
  pointwise []
  blk_point [idx t]

/-- The gate's bias block is the layer's row of the argument. -/
theorem arg7_at (c : Dev nD) (t : Fin cfg0.N) (k : Fin 1024) :
    (show FVec Ideal S1x1024 .f32 from iblk m c 7 t) (ix2 0 k)
      = (m ((c : Thread nD τ).loc main_arg7) : FVec Ideal S2x1024 .f32) (ix2 1 k) := by
  blk_simp [iblk]
  entry_read
  pointwise []
  blk_point [idx t]

/-- The embedding's weight block is the layer's slice of the argument. -/
theorem arg8_at (c : Dev nD) (t : Fin cfg0.N) (r : Fin 256) (k : Fin 1024) :
    (show FVec Ideal S256x1024 .bf16 from iblk m c 8 t) (ix2 r k)
      = (m ((c : Thread nD τ).loc main_arg8) : FVec Ideal S2x256x1024 .f32) (ix3 1 r k) := by
  blk_simp [iblk]
  entry_read
  pointwise []
  blk_point [idx t]

/-- The gains' block is the layer's slice of the argument. -/
theorem arg9_at (c : Dev nD) (t : Fin cfg0.N) (r : Fin 4) (k : Fin 1024) :
    (show FVec Ideal S4x1024 .f32 from iblk m c 9 t) (ix2 r k)
      = (m ((c : Thread nD τ).loc main_arg9) : FVec Ideal S2x4x1024 .f32) (ix3 1 r k) := by
  blk_simp [iblk]
  entry_read
  pointwise []
  blk_point [idx t]

/-- The offsets' block is the layer's slice of the argument. -/
theorem arg10_at (c : Dev nD) (t : Fin cfg0.N) (r : Fin 4) (k : Fin 1024) :
    (show FVec Ideal S4x1024 .f32 from iblk m c 10 t) (ix2 r k)
      = (m ((c : Thread nD τ).loc main_arg10) : FVec Ideal S2x4x1024 .f32) (ix3 1 r k) := by
  blk_simp [iblk]
  entry_read
  pointwise []
  blk_point [idx t]

/-- One row of a block of the result is a row of the reference's. -/
theorem row_at (c : Dev nD) (t : Fin cfg0.N) (r : Fin 512) (j : Fin 1024) (h : t.val * 512 + r.val < 32768) :
    outsAt0 m c t (ix2 r j) = Cert.PostMix1RefIdeal.Rows.row3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨(t.val * 512 + r.val) / 4096, by omega⟩ ⟨(t.val * 512 + r.val) % 4096, by omega⟩ j := by
  refine (out_at m c t (ix2 r j)).trans ?_
  have e1 : ∀ k : Fin 1024, X1 (iblk m c 0 t) (iblk m c 1 t) (iblk m c 3 t) (iblk m c 9 t) (iblk m c 10 t) (ix2 r k)
      = Cert.PostMix1RefIdeal.Rows.row1 (m ((c : Thread nD τ).loc main_arg0)) (m ((c : Thread nD τ).loc main_arg1)) (m ((c : Thread nD τ).loc main_arg3)) (m ((c : Thread nD τ).loc main_arg9)) (m ((c : Thread nD τ).loc main_arg10)) ⟨(t.val * 512 + r.val) / 4096, by omega⟩ ⟨(t.val * 512 + r.val) % 4096, by omega⟩ k := by
    intro k
    refine congrFun (congr (congr (congr (congr (congrArg projRow ?_) ?_) ?_) ?_) ?_) k
    · funext k; exact arg0_at m c t r k h
    · funext k; exact arg1_at m c t r k h
    · funext k n; exact arg3_at m c t k n
    · funext k; exact arg9_at m c t 1 k
    · funext k; exact arg10_at m c t 1 k
  have e2 : ∀ k : Fin 1024, X2 (X1 (iblk m c 0 t) (iblk m c 1 t) (iblk m c 3 t) (iblk m c 9 t) (iblk m c 10 t)) (iblk m c 4 t) (iblk m c 5 t) (iblk m c 9 t) (iblk m c 10 t) (ix2 r k)
      = Cert.PostMix1RefIdeal.Rows.row2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) ⟨(t.val * 512 + r.val) / 4096, by omega⟩ ⟨(t.val * 512 + r.val) % 4096, by omega⟩ k := by
    intro k
    refine congrFun (congr (congr (congr (congr (congrArg ffnRow ?_) ?_) ?_) ?_) ?_) k
    · funext k; exact e1 k
    · funext k n; exact arg4_at m c t k n
    · funext k n; exact arg5_at m c t k n
    · funext k; exact arg9_at m c t 2 k
    · funext k; exact arg10_at m c t 2 k
  refine congrFun (congr (congr (congr (congr (congr (congr (congrArg pleRow ?_) ?_) ?_) ?_) ?_) ?_) ?_) j
  · funext k; exact e2 k
  · funext k n; exact arg6_at m c t k n
  · funext k; exact arg7_at m c t k
  · funext k; exact arg2_at m c t r k h
  · funext k n; exact arg8_at m c t k n
  · funext k; exact arg9_at m c t 3 k
  · funext k; exact arg10_at m c t 3 k

/-- The whole result, over the call's arguments, is the reference's. -/
theorem final (c : Dev nD) :
    (dats m 0 c).arrAt 11 cfg0.N = Cert.PostMix1RefIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  have ht : t.val < 64 := t.isLt
  have hr : t.val * 512 + (y 0).val < 32768 := by have := (y 0).isLt; change (y 0).val < 512 at this; omega
  have e : (((cfg0.win 11).blk t).view.emb y : S32768x1024.Idx) = ix2 ⟨t.val * 512 + (y 0).val, hr⟩ (y 1) := by
    blk_ext [idx t]
  have ey : (y : S512x1024.Idx) = ix2 (y 0) (y 1) := by funext a; fin_cases a <;> rfl
  refine Eq.trans ?_ (congrArg (Cert.PostMix1RefIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) e.symm)
  refine Eq.trans ?_ (Cert.PostMix1RefIdeal.Rows.out_at _ _ _ _ _ _ _ _ _ _ _ _ _).symm
  exact (congrArg (outsAt0 m c t) ey).trans (row_at m c t (y 0) (y 1) hr)

end Cert.PostMix1Ideal.Rows

end
-- ==== Proof.Hand.PostMix0Ker.lean ====
/- What the last block of calls leaves in its result, row by row. -/
module

public import proofs.«01_k».proof.Proof.Hand.Rows
public import proofs.«01_k».proof.Proof.Gen.PostMix0Ideal.Value
public import Idealize.ShloMosaic.Lib.Pipeline.ValueKit
public import Idealize.ShloMosaic.Lib.VecWindow

@[expose] public section

set_option maxRecDepth 16384

noncomputable section

namespace Cert.PostMix0Ideal.Rows

open Idealize.ShloMosaic Idealize.ShloMosaic.TcCoe Idealize.SL.Sem
open Idealize.ShloMosaic.Pipeline (Dat)
open Cert.PostMix0Ideal Cert.PostMix0Ideal.Gen Cert.Rows

variable (m : (ℓ : Loc nD τ sig) → Buf (Elt Ideal) ℓ)

/-- The residual norm of the projection, on a block of rows. -/
def X1 (x0 : FVec Ideal S512x1024 .bf16) (x1 : FVec Ideal S512x1024 .f32) (x3 : FVec Ideal S1024x1024 .bf16)
    (x9 x10 : FVec Ideal S4x1024 .f32) : FVec Ideal S512x1024 .f32 :=
  fun i => projRow (fun k => x0 (ix2 (i 0) k)) (fun k => x1 (ix2 (i 0) k)) (fun k n => x3 (ix2 k n)) (fun j => x9 (ix2 1 j)) (fun j => x10 (ix2 1 j)) (i 1)

/-- The two halves stored by the first step, read back whole. -/
theorem x1_read {κ : Kind} {sp : Space} (v : View sig κ sp S512x1024 .f32) (x0 : FVec Ideal S512x1024 .bf16) (x1 : FVec Ideal S512x1024 .f32) (x3 : FVec Ideal S1024x1024 .bf16)
    (x9 x10 : FVec Ideal S4x1024 .f32) :
    v.readCov (Val := Elt Ideal)
      [⟨Rect.unit ![256, 0] ![256, 1024] inb_S512x1024_S256x1024_256_0,
          k0_pay3 (F := Ideal) (View.ld (Val := Elt Ideal) (e' := .bf16) x0 (Rect.unit ![256, 0] ![256, 1024] inb_S512x1024_S256x1024_256_0)) x3
            (View.ld (Val := Elt Ideal) (e' := .f32) x1 (Rect.unit ![256, 0] ![256, 1024] inb_S512x1024_S256x1024_256_0))
            (View.ld (Val := Elt Ideal) (e' := .f32) x9 (Rect.unit ![1, 0] ![1, 1024] inb_S4x1024_S1x1024_1_0))
            (View.ld (Val := Elt Ideal) (e' := .f32) x10 (Rect.unit ![1, 0] ![1, 1024] inb_S4x1024_S1x1024_1_0))⟩,
        ⟨Rect.unit ![0, 0] ![256, 1024] inb_S512x1024_S256x1024_0_0,
          k0_pay2 (F := Ideal) (View.ld (Val := Elt Ideal) (e' := .bf16) x0 (Rect.unit ![0, 0] ![256, 1024] inb_S512x1024_S256x1024_0_0)) x3
            (View.ld (Val := Elt Ideal) (e' := .f32) x1 (Rect.unit ![0, 0] ![256, 1024] inb_S512x1024_S256x1024_0_0))
            (View.ld (Val := Elt Ideal) (e' := .f32) x9 (Rect.unit ![1, 0] ![1, 1024] inb_S4x1024_S1x1024_1_0))
            (View.ld (Val := Elt Ideal) (e' := .f32) x10 (Rect.unit ![1, 0] ![1, 1024] inb_S4x1024_S1x1024_1_0))⟩]
      (Rect.unit ![0, 0] ![512, 1024] inb_S512x1024_S512x1024_0_0).toLoadRect
      = X1 x0 x1 x3 x9 x10 := by
  rw [Cert.Rows.readCov_full _ _ (funext fun a => by fin_cases a <;> rfl)]
  funext i
  idx_vars i
  canon_tiles x h
  all_goals (change i0.val = _ at h0; change i1.val = _ at h1; pointwise [k0_pay2, k0_pay3, X1, projRow, lnAt, resAt, meanAt, mulAt])
  all_goals blk_point []

/-- The gated activation of a block of rows. -/
def ACT (X : FVec Ideal S512x1024 .f32) (x4 : FVec Ideal S1024x5632 .bf16) : FVec Ideal S512x2816 .bf16 :=
  fun i => actAt (fun k => X (ix2 (i 0) k)) (fun k n => x4 (ix2 k n)) (i 1)

/-- The activation's eleven column chunks, read back whole. -/
theorem act_read {κ : Kind} {sp : Space} (v : View sig κ sp S512x2816 .bf16) (X : FVec Ideal S512x1024 .f32) (x4 : FVec Ideal S1024x5632 .bf16) :
    v.readCov (Val := Elt Ideal)
      [⟨Rect.unit ![0, 2560] ![512, 256] inb_S512x2816_S512x256_0_2560,
          k0_pay19 (F := Ideal) (k0_pay4 (F := Ideal) X)
            (View.ld (Val := Elt Ideal) (e' := .bf16) x4 (Rect.unit ![0, 2560] ![1024, 256] inb_S1024x5632_S1024x256_0_2560))
            (View.ld (Val := Elt Ideal) (e' := .bf16) x4
              (Rect.unit ![0, 5376] ![1024, 256] inb_S1024x5632_S1024x256_0_5376))⟩,
        ⟨Rect.unit ![0, 2304] ![512, 256] inb_S512x2816_S512x256_0_2304,
          k0_pay18 (F := Ideal) (k0_pay4 (F := Ideal) X)
            (View.ld (Val := Elt Ideal) (e' := .bf16) x4 (Rect.unit ![0, 2304] ![1024, 256] inb_S1024x5632_S1024x256_0_2304))
            (View.ld (Val := Elt Ideal) (e' := .bf16) x4
              (Rect.unit ![0, 5120] ![1024, 256] inb_S1024x5632_S1024x256_0_5120))⟩,
        ⟨Rect.unit ![0, 2048] ![512, 256] inb_S512x2816_S512x256_0_2048,
          k0_pay17 (F := Ideal) (k0_pay4 (F := Ideal) X)
            (k0_pay16 (F := Ideal)
              (View.ld (Val := Elt Ideal) (e' := .bf16) x4
                (Rect.unit ![0, 2048] ![1024, 256] inb_S1024x5632_S1024x256_0_2048)))
            (constant (F := Ideal) S512x256 FTy.f32 0#32)
            (View.ld (Val := Elt Ideal) (e' := .bf16) x4
              (Rect.unit ![0, 4864] ![1024, 256] inb_S1024x5632_S1024x256_0_4864))⟩,
        ⟨Rect.unit ![0, 1792] ![512, 256] inb_S512x2816_S512x256_0_1792,
          k0_pay15 (F := Ideal) (k0_pay4 (F := Ideal) X)
            (View.ld (Val := Elt Ideal) (e' := .bf16) x4 (Rect.unit ![0, 1792] ![1024, 256] inb_S1024x5632_S1024x256_0_1792))
            (View.ld (Val := Elt Ideal) (e' := .bf16) x4
              (Rect.unit ![0, 4608] ![1024, 256] inb_S1024x5632_S1024x256_0_4608))⟩,
        ⟨Rect.unit ![0, 1536] ![512, 256] inb_S512x2816_S512x256_0_1536,
          k0_pay14 (F := Ideal) (k0_pay4 (F := Ideal) X)
            (View.ld (Val := Elt Ideal) (e' := .bf16) x4 (Rect.unit ![0, 1536] ![1024, 256] inb_S1024x5632_S1024x256_0_1536))
            (View.ld (Val := Elt Ideal) (e' := .bf16) x4
              (Rect.unit ![0, 4352] ![1024, 256] inb_S1024x5632_S1024x256_0_4352))⟩,
        ⟨Rect.unit ![0, 1280] ![512, 256] inb_S512x2816_S512x256_0_1280,
          k0_pay13 (F := Ideal) (k0_pay4 (F := Ideal) X)
            (k0_pay11 (F := Ideal) (k0_pay4 (F := Ideal) X)
              (View.ld (Val := Elt Ideal) (e' := .bf16) x4
                (Rect.unit ![0, 1280] ![1024, 256] inb_S1024x5632_S1024x256_0_1280)))
            (k0_pay12 (F := Ideal)
              (View.ld (Val := Elt Ideal) (e' := .bf16) x4
                (Rect.unit ![0, 4096] ![1024, 256] inb_S1024x5632_S1024x256_0_4096)))
            (constant (F := Ideal) S512x256 FTy.f32 0#32)⟩,
        ⟨Rect.unit ![0, 1024] ![512, 256] inb_S512x2816_S512x256_0_1024,
          k0_pay10 (F := Ideal) (k0_pay4 (F := Ideal) X)
            (View.ld (Val := Elt Ideal) (e' := .bf16) x4 (Rect.unit ![0, 1024] ![1024, 256] inb_S1024x5632_S1024x256_0_1024))
            (View.ld (Val := Elt Ideal) (e' := .bf16) x4
              (Rect.unit ![0, 3840] ![1024, 256] inb_S1024x5632_S1024x256_0_3840))⟩,
        ⟨Rect.unit ![0, 768] ![512, 256] inb_S512x2816_S512x256_0_768,
          k0_pay9 (F := Ideal) (k0_pay4 (F := Ideal) X)
            (View.ld (Val := Elt Ideal) (e' := .bf16) x4 (Rect.unit ![0, 768] ![1024, 256] inb_S1024x5632_S1024x256_0_768))
            (View.ld (Val := Elt Ideal) (e' := .bf16) x4
              (Rect.unit ![0, 3584] ![1024, 256] inb_S1024x5632_S1024x256_0_3584))⟩,
        ⟨Rect.unit ![0, 512] ![512, 256] inb_S512x2816_S512x256_0_512,
          k0_pay8 (F := Ideal)
            (k0_pay7 (F := Ideal) (k0_pay4 (F := Ideal) X)
              (View.ld (Val := Elt Ideal) (e' := .bf16) x4 (Rect.unit ![0, 512] ![1024, 256] inb_S1024x5632_S1024x256_0_512))
              (View.ld (Val := Elt Ideal) (e' := .bf16) x4
                (Rect.unit ![0, 3328] ![1024, 256] inb_S1024x5632_S1024x256_0_3328)))⟩,
        ⟨Rect.unit ![0, 256] ![512, 256] inb_S512x2816_S512x256_0_256,
          k0_pay6 (F := Ideal) (k0_pay4 (F := Ideal) X)
            (View.ld (Val := Elt Ideal) (e' := .bf16) x4 (Rect.unit ![0, 256] ![1024, 256] inb_S1024x5632_S1024x256_0_256))
            (View.ld (Val := Elt Ideal) (e' := .bf16) x4
              (Rect.unit ![0, 3072] ![1024, 256] inb_S1024x5632_S1024x256_0_3072))⟩,
        ⟨Rect.unit ![0, 0] ![512, 256] inb_S512x2816_S512x256_0_0,
          k0_pay5 (F := Ideal) (k0_pay4 (F := Ideal) X)
            (View.ld (Val := Elt Ideal) (e' := .bf16) x4 (Rect.unit ![0, 0] ![1024, 256] inb_S1024x5632_S1024x256_0_0))
            (View.ld (Val := Elt Ideal) (e' := .bf16) x4
              (Rect.unit ![0, 2816] ![1024, 256] inb_S1024x5632_S1024x256_0_2816))⟩]
      (Rect.unit ![0, 0] ![512, 2816] inb_S512x2816_S512x2816_0_0).toLoadRect
      = ACT X x4 := by
  rw [Cert.Rows.readCov_full _ _ (funext fun a => by fin_cases a <;> rfl)]
  funext i
  idx_vars i
  canon_tiles x h
  all_goals (change i0.val = _ at h0; change i1.val = _ at h1; pointwise [k0_pay4, k0_pay5, k0_pay6, k0_pay7, k0_pay8, k0_pay9, k0_pay10, k0_pay11, k0_pay12, k0_pay13, k0_pay14, k0_pay15, k0_pay16, k0_pay17, k0_pay18, k0_pay19, ACT, actAt, mulAt])
  all_goals blk_point []

/-- The residual norm of the feed-forward step, on a block of rows. -/
def X2 (X : FVec Ideal S512x1024 .f32) (x4 : FVec Ideal S1024x5632 .bf16) (x5 : FVec Ideal S2816x1024 .bf16)
    (x9 x10 : FVec Ideal S4x1024 .f32) : FVec Ideal S512x1024 .f32 :=
  fun i => ffnRow (fun k => X (ix2 (i 0) k)) (fun k n => x4 (ix2 k n)) (fun n j => x5 (ix2 n j)) (fun j => x9 (ix2 2 j)) (fun j => x10 (ix2 2 j)) (i 1)

/-- The feed-forward step's stored rows. -/
theorem x2_pay (X : FVec Ideal S512x1024 .f32) (x4 : FVec Ideal S1024x5632 .bf16) (x5 : FVec Ideal S2816x1024 .bf16)
    (x9 x10 : FVec Ideal S4x1024 .f32) :
    k0_pay20 (F := Ideal) X (ACT X x4) x5 (View.ld (Val := Elt Ideal) (e' := .f32) x9 (Rect.unit ![2, 0] ![1, 1024] inb_S4x1024_S1x1024_2_0))
      (View.ld (Val := Elt Ideal) (e' := .f32) x10 (Rect.unit ![2, 0] ![1, 1024] inb_S4x1024_S1x1024_2_0)) = X2 X x4 x5 x9 x10 := by
  funext i
  idx_vars i
  pointwise [k0_pay20, ACT, X2, ffnRow, lnAt, resAt, ffnAt, meanAt, mulAt]

/-- One block of the result: each row through the three residual steps. -/
theorem out_at (c : Dev nD) (t : Fin cfg0.N) (y : S512x1024.Idx) :
    outsAt0 m c t y = pleRow (fun k => X2 (X1 (iblk m c 0 t) (iblk m c 1 t) (iblk m c 3 t) (iblk m c 9 t) (iblk m c 10 t)) (iblk m c 4 t) (iblk m c 5 t) (iblk m c 9 t) (iblk m c 10 t) (ix2 (y 0) k))
      (fun k n => (show FVec Ideal S1024x1024 .bf16 from iblk m c 6 t) (ix2 k n)) (fun j => (show FVec Ideal S1x1024 .f32 from iblk m c 7 t) (ix2 0 j))
      (fun k => (show FVec Ideal S1x512x256 .f32 from iblk m c 2 t) (ix3 0 (y 0) k)) (fun k n => (show FVec Ideal S256x1024 .bf16 from iblk m c 8 t) (ix2 k n))
      (fun j => (show FVec Ideal S4x1024 .f32 from iblk m c 9 t) (ix2 3 j)) (fun j => (show FVec Ideal S4x1024 .f32 from iblk m c 10 t) (ix2 3 j)) (y 1) := by
  unfold outsAt0
  frame_out
  rw [x1_read _ (iblk m c 0 t) (iblk m c 1 t) (iblk m c 3 t) (iblk m c 9 t) (iblk m c 10 t),
    act_read _ (X1 (iblk m c 0 t) (iblk m c 1 t) (iblk m c 3 t) (iblk m c 9 t) (iblk m c 10 t)) (iblk m c 4 t),
    x2_pay _ (iblk m c 4 t) (iblk m c 5 t) (iblk m c 9 t) (iblk m c 10 t)]
  generalize X2 (X1 (iblk m c 0 t) (iblk m c 1 t) (iblk m c 3 t) (iblk m c 9 t) (iblk m c 10 t)) (iblk m c 4 t) (iblk m c 5 t) (iblk m c 9 t) (iblk m c 10 t) = X
  rw [Cert.Rows.readCov_cons _ _ _ _ (fun a => by fin_cases a <;> rfl), Cert.Rows.readCov_cons _ _ _ _ (fun a => by fin_cases a <;> rfl)]
  idx_vars y
  canon_tiles x h
  all_goals (change y0.val = _ at h0; change y1.val = _ at h1; pointwise [k0_pay1, k0_pay21, k0_pay22, k0_pay23, k0_pay24, k0_pay25, k0_pay26, k0_pay27, k0_pay28, k0_pay29, pleRow, lnAt, resAt, pleAt, meanAt, mulAt])
  all_goals blk_point []

end Cert.PostMix0Ideal.Rows

end
-- ==== Proof.Hand.PostMix0Ref.lean ====
/- What the reference of layer 0's closing call computes, row by row. -/
module

public import proofs.«01_k».proof.Proof.Hand.Rows
public import proofs.«01_k».proof.Proof.Gen.PostMix0RefIdeal.Read

@[expose] public section

set_option maxRecDepth 16384

noncomputable section

namespace Cert.PostMix0RefIdeal.Rows

open Idealize.ShloMosaic Idealize.ShloMosaic.TcCoe Idealize.SL.Sem
open Cert.PostMix0RefIdeal Cert.PostMix0RefIdeal.Gen Cert.PostMix0RefIdeal.Read Cert.Rows

variable (x0 : FVec Ideal S8x4096x1024 .bf16) (x1 : FVec Ideal S8x4096x1024 .f32) (x2 : FVec Ideal S2x8x4096x256 .f32)
  (x3 : FVec Ideal S1x1024x1024 .f32) (x4 : FVec Ideal S2x1024x5632 .f32) (x5 : FVec Ideal S2x2816x1024 .f32)
  (x6 : FVec Ideal S2x1024x1024 .f32) (x7 : FVec Ideal S2x1024 .f32) (x8 : FVec Ideal S2x256x1024 .f32)
  (x9 x10 : FVec Ideal S2x4x1024 .f32)

/-- The row after the output projection's residual norm. -/
def row1 (b : Fin 8) (s : Fin 4096) : Fin 1024 → EReal :=
  projRow (fun k => x0 (ix3 b s k)) (fun k => x1 (ix3 b s k)) (fun k j => x3 (ix3 0 k j)) (fun j => x9 (ix3 0 1 j)) (fun j => x10 (ix3 0 1 j))

/-- The row after the feed-forward step's residual norm. -/
def row2 (b : Fin 8) (s : Fin 4096) : Fin 1024 → EReal :=
  ffnRow (row1 x0 x1 x3 x9 x10 b s) (fun k n => x4 (ix3 0 k n)) (fun n j => x5 (ix3 0 n j)) (fun j => x9 (ix3 0 2 j)) (fun j => x10 (ix3 0 2 j))

/-- The row the call returns. -/
def row3 (b : Fin 8) (s : Fin 4096) : Fin 1024 → EReal :=
  pleRow (row2 x0 x1 x3 x4 x5 x9 x10 b s) (fun k j => x6 (ix3 0 k j)) (fun j => x7 (ix2 0 j)) (fun k => x2 (ix4 0 b s k))
    (fun k j => x8 (ix3 0 k j)) (fun j => x9 (ix3 0 3 j)) (fun j => x10 (ix3 0 3 j))

/-- The reference's stream after the projection's norm. -/
theorem row1_at (b : Fin 8) (s : Fin 4096) (j : Fin 1024) :
    val_main_v31 (F := Ideal) x0 x1 x3 x9 x10 (ix3 b s j) = row1 x0 x1 x3 x9 x10 b s j := by
  pointwise [val_main_v0, val_main_v1, val_main_v2, val_main_v3, val_main_v4, val_main_v5, val_main_v6, val_main_cst, val_main_v7, val_main_v8, val_main_v9, val_main_cst_0, val_main_v10, val_main_v11, val_main_cst_1, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29, val_main_v30, val_main_v31]
  rfl

/-- The reference's activation. -/
theorem act_at (b : Fin 8) (s : Fin 4096) (n : Fin 2816) :
    val_main_v40 (F := Ideal) x0 x1 x3 x4 x9 x10 (ix3 b s n) = actAt (row1 x0 x1 x3 x9 x10 b s) (fun k n => x4 (ix3 0 k n)) n := by
  pointwise [val_main_v32, val_main_v33, val_main_v36, val_main_v37, val_main_v38, val_main_call0_v0, val_main_call0_v1, val_main_call0_cst, val_main_call0_v2, val_main_call0_v3, val_main_call0_cst_0, val_main_call0_v4, val_main_call0_v5, val_main_v39, val_main_v40, row1_at x0 x1 x3 x9 x10]
  rfl

/-- The reference's stream before the feed-forward step's norm. -/
theorem res_at (b : Fin 8) (s : Fin 4096) (j : Fin 1024) :
    val_main_v50 (F := Ideal) x0 x1 x3 x4 x5 x9 x10 (ix3 b s j) = resAt (row1 x0 x1 x3 x9 x10 b s)
      (ffnAt (row1 x0 x1 x3 x9 x10 b s) (fun k n => x4 (ix3 0 k n)) (fun n j => x5 (ix3 0 n j))) j := by
  pointwise [val_main_v34, val_main_v35, val_main_v41, val_main_cst_5, val_main_v42, val_main_v43, val_main_cst_6, val_main_v48, val_main_v49, val_main_v50, act_at x0 x1 x3 x4 x9 x10, row1_at x0 x1 x3 x9 x10]
  rfl

/-- The reference's stream after the feed-forward step's norm. -/
theorem row2_at (b : Fin 8) (s : Fin 4096) (j : Fin 1024) :
    val_main_v72 (F := Ideal) x0 x1 x3 x4 x5 x9 x10 (ix3 b s j) = row2 x0 x1 x3 x4 x5 x9 x10 b s j := by
  pointwise [val_main_v44, val_main_v45, val_main_v46, val_main_v47, val_main_cst_7, val_main_v51, val_main_v52, val_main_cst_8, val_main_v53, val_main_v54, val_main_v55, val_main_v56, val_main_v57, val_main_cst_9, val_main_v58, val_main_v59, val_main_cst_10, val_main_v60, val_main_v61, val_main_cst_11, val_main_v62, val_main_v63, val_main_v64, val_main_v65, val_main_v66, val_main_v67, val_main_v68, val_main_v69, val_main_v70, val_main_v71, val_main_v72, res_at x0 x1 x3 x4 x5 x9 x10]
  rfl

/-- The reference's stream before the last norm. -/
theorem res3_at (b : Fin 8) (s : Fin 4096) (j : Fin 1024) :
    val_main_v99 (F := Ideal) x0 x1 x2 x3 x4 x5 x6 x7 x8 x9 x10 (ix3 b s j) = resAt (row2 x0 x1 x3 x4 x5 x9 x10 b s)
      (pleAt (row2 x0 x1 x3 x4 x5 x9 x10 b s) (fun k j => x6 (ix3 0 k j)) (fun j => x7 (ix2 0 j)) (fun k => x2 (ix4 0 b s k)) (fun k j => x8 (ix3 0 k j))) j := by
  pointwise [val_main_v73, val_main_v74, val_main_v75, val_main_v76, val_main_v77, val_main_v78, val_main_v79, val_main_v80, val_main_v81, val_main_v82, val_main_cst_12, val_main_v83, val_main_v84, val_main_cst_13, val_main_v85, val_main_v86, val_main_v87, val_main_v88, val_main_v89, val_main_v90, val_main_v91, val_main_v92, val_main_cst_14, val_main_v97, val_main_v98, val_main_v99, row2_at x0 x1 x3 x4 x5 x9 x10]
  rfl

/-- The reference's result, at a row of the flattened stream. -/
theorem out_at (r : Fin 32768) (j : Fin 1024) :
    val_main_v122 (F := Ideal) x0 x1 x2 x3 x4 x5 x6 x7 x8 x9 x10 (ix2 r j)
      = row3 x0 x1 x2 x3 x4 x5 x6 x7 x8 x9 x10 ⟨r.val / 4096, by omega⟩ ⟨r.val % 4096, by omega⟩ j := by
  pointwise [val_main_v93, val_main_v94, val_main_v95, val_main_v96, val_main_cst_15, val_main_v100, val_main_v101, val_main_cst_16, val_main_v102, val_main_v103, val_main_v104, val_main_v105, val_main_v106, val_main_cst_17, val_main_v107, val_main_v108, val_main_cst_18, val_main_v109, val_main_v110, val_main_cst_19, val_main_v111, val_main_v112, val_main_v113, val_main_v114, val_main_v115, val_main_v116, val_main_v117, val_main_v118, val_main_v119, val_main_v120, val_main_v121, val_main_v122, res3_at x0 x1 x2 x3 x4 x5 x6 x7 x8 x9 x10]
  rfl

end Cert.PostMix0RefIdeal.Rows

end
-- ==== Proof.Hand.PostMix0Value.lean ====
/- The whole result of the joined steps of layer 0 is the reference's. -/
module

public import proofs.«01_k».proof.Proof.Hand.PostMix0Ker
public import proofs.«01_k».proof.Proof.Hand.PostMix0Ref
public import Idealize.ShloMosaic.Lib.Claim

@[expose] public section

set_option maxRecDepth 16384

noncomputable section

namespace Cert.PostMix0Ideal.Rows

open Idealize.ShloMosaic Idealize.ShloMosaic.TcCoe Idealize.SL.Sem
open Idealize.ShloMosaic.Pipeline (Dat)
open Cert.PostMix0Ideal Cert.PostMix0Ideal.Gen Cert.Rows

variable (m : (ℓ : Loc nD τ sig) → Buf (Elt Ideal) ℓ)

/-- The windows' block indices at each point. -/
theorem idx : ∀ t : Fin cfg0.N, win0_0.index t = ![t.val, 0] ∧ win0_1.index t = ![t.val, 0] ∧ win0_2.index t = ![0, t.val, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- A row of the attention block is a row of the argument. -/
theorem arg0_at (c : Dev nD) (t : Fin cfg0.N) (r : Fin 512) (k : Fin 1024) (h : t.val * 512 + r.val < 32768) :
    (show FVec Ideal S512x1024 .bf16 from iblk m c 0 t) (ix2 r k)
      = (m ((c : Thread nD τ).loc main_arg0) : FVec Ideal S8x4096x1024 .bf16) (ix3 ⟨(t.val * 512 + r.val) / 4096, by omega⟩ ⟨(t.val * 512 + r.val) % 4096, by omega⟩ k) := by
  blk_simp [iblk]
  entry_read
  pointwise []
  blk_point [idx t]

/-- A row of the residual block is a row of the argument. -/
theorem arg1_at (c : Dev nD) (t : Fin cfg0.N) (r : Fin 512) (k : Fin 1024) (h : t.val * 512 + r.val < 32768) :
    (show FVec Ideal S512x1024 .f32 from iblk m c 1 t) (ix2 r k)
      = (m ((c : Thread nD τ).loc main_arg1) : FVec Ideal S8x4096x1024 .f32) (ix3 ⟨(t.val * 512 + r.val) / 4096, by omega⟩ ⟨(t.val * 512 + r.val) % 4096, by omega⟩ k) := by
  blk_simp [iblk]
  entry_read
  pointwise []
  blk_point [idx t]

/-- A row of the per-layer embedding's block is a row of the argument. -/
theorem arg2_at (c : Dev nD) (t : Fin cfg0.N) (r : Fin 512) (k : Fin 256) (h : t.val * 512 + r.val < 32768) :
    (show FVec Ideal S1x512x256 .f32 from iblk m c 2 t) (ix3 0 r k)
      = (m ((c : Thread nD τ).loc main_arg2) : FVec Ideal S2x8x4096x256 .f32) (ix4 0 ⟨(t.val * 512 + r.val) / 4096, by omega⟩ ⟨(t.val * 512 + r.val) % 4096, by omega⟩ k) := by
  blk_simp [iblk]
  entry_read
  pointwise []
  blk_point [idx t]

/-- The projection's block is the argument. -/
theorem arg3_at (c : Dev nD) (t : Fin cfg0.N) (r : Fin 1024) (k : Fin 1024) :
    (show FVec Ideal S1024x1024 .bf16 from iblk m c 3 t) (ix2 r k)
      = (m ((c : Thread nD τ).loc main_arg3) : FVec Ideal S1x1024x1024 .f32) (ix3 0 r k) := by
  blk_simp [iblk]
  entry_read
  pointwise []
  blk_point [idx t]

/-- The feed-forward's first weight block is the layer's slice of the argument. -/
theorem arg4_at (c : Dev nD) (t : Fin cfg0.N) (r : Fin 1024) (k : Fin 5632) :
    (show FVec Ideal S1024x5632 .bf16 from iblk m c 4 t) (ix2 r k)
      = (m ((c : Thread nD τ).loc main_arg4) : FVec Ideal S2x1024x5632 .f32) (ix3 0 r k) := by
  blk_simp [iblk]
  entry_read
  pointwise []
  blk_point [idx t]

/-- The feed-forward's second weight block is the layer's slice of the argument. -/
theorem arg5_at (c : Dev nD) (t : Fin cfg0.N) (r : Fin 2816) (k : Fin 1024) :
    (show FVec Ideal S2816x1024 .bf16 from iblk m c 5 t) (ix2 r k)
      = (m ((c : Thread nD τ).loc main_arg5) : FVec Ideal S2x2816x1024 .f32) (ix3 0 r k) := by
  blk_simp [iblk]
  entry_read
  pointwise []
  blk_point [idx t]

/-- The gate's weight block is the layer's slice of the argument. -/
theorem arg6_at (c : Dev nD) (t : Fin cfg0.N) (r : Fin 1024) (k : Fin 1024) :
    (show FVec Ideal S1024x1024 .bf16 from iblk m c 6 t) (ix2 r k)
      = (m ((c : Thread nD τ).loc main_arg6) : FVec Ideal S2x1024x1024 .f32) (ix3 0 r k) := by
  blk_simp [iblk]
  entry_read
  pointwise []
  blk_point [idx t]

/-- The gate's bias block is the layer's row of the argument. -/
theorem arg7_at (c : Dev nD) (t : Fin cfg0.N) (k : Fin 1024) :
    (show FVec Ideal S1x1024 .f32 from iblk m c 7 t) (ix2 0 k)
      = (m ((c : Thread nD τ).loc main_arg7) : FVec Ideal S2x1024 .f32) (ix2 0 k) := by
  blk_simp [iblk]
  entry_read
  pointwise []
  blk_point [idx t]

/-- The embedding's weight block is the layer's slice of the argument. -/
theorem arg8_at (c : Dev nD) (t : Fin cfg0.N) (r : Fin 256) (k : Fin 1024) :
    (show FVec Ideal S256x1024 .bf16 from iblk m c 8 t) (ix2 r k)
      = (m ((c : Thread nD τ).loc main_arg8) : FVec Ideal S2x256x1024 .f32) (ix3 0 r k) := by
  blk_simp [iblk]
  entry_read
  pointwise []
  blk_point [idx t]

/-- The gains' block is the layer's slice of the argument. -/
theorem arg9_at (c : Dev nD) (t : Fin cfg0.N) (r : Fin 4) (k : Fin 1024) :
    (show FVec Ideal S4x1024 .f32 from iblk m c 9 t) (ix2 r k)
      = (m ((c : Thread nD τ).loc main_arg9) : FVec Ideal S2x4x1024 .f32) (ix3 0 r k) := by
  blk_simp [iblk]
  entry_read
  pointwise []
  blk_point [idx t]

/-- The offsets' block is the layer's slice of the argument. -/
theorem arg10_at (c : Dev nD) (t : Fin cfg0.N) (r : Fin 4) (k : Fin 1024) :
    (show FVec Ideal S4x1024 .f32 from iblk m c 10 t) (ix2 r k)
      = (m ((c : Thread nD τ).loc main_arg10) : FVec Ideal S2x4x1024 .f32) (ix3 0 r k) := by
  blk_simp [iblk]
  entry_read
  pointwise []
  blk_point [idx t]

/-- One row of a block of the result is a row of the reference's. -/
theorem row_at (c : Dev nD) (t : Fin cfg0.N) (r : Fin 512) (j : Fin 1024) (h : t.val * 512 + r.val < 32768) :
    outsAt0 m c t (ix2 r j) = Cert.PostMix0RefIdeal.Rows.row3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨(t.val * 512 + r.val) / 4096, by omega⟩ ⟨(t.val * 512 + r.val) % 4096, by omega⟩ j := by
  refine (out_at m c t (ix2 r j)).trans ?_
  have e1 : ∀ k : Fin 1024, X1 (iblk m c 0 t) (iblk m c 1 t) (iblk m c 3 t) (iblk m c 9 t) (iblk m c 10 t) (ix2 r k)
      = Cert.PostMix0RefIdeal.Rows.row1 (m ((c : Thread nD τ).loc main_arg0)) (m ((c : Thread nD τ).loc main_arg1)) (m ((c : Thread nD τ).loc main_arg3)) (m ((c : Thread nD τ).loc main_arg9)) (m ((c : Thread nD τ).loc main_arg10)) ⟨(t.val * 512 + r.val) / 4096, by omega⟩ ⟨(t.val * 512 + r.val) % 4096, by omega⟩ k := by
    intro k
    refine congrFun (congr (congr (congr (congr (congrArg projRow ?_) ?_) ?_) ?_) ?_) k
    · funext k; exact arg0_at m c t r k h
    · funext k; exact arg1_at m c t r k h
    · funext k n; exact arg3_at m c t k n
    · funext k; exact arg9_at m c t 1 k
    · funext k; exact arg10_at m c t 1 k
  have e2 : ∀ k : Fin 1024, X2 (X1 (iblk m c 0 t) (iblk m c 1 t) (iblk m c 3 t) (iblk m c 9 t) (iblk m c 10 t)) (iblk m c 4 t) (iblk m c 5 t) (iblk m c 9 t) (iblk m c 10 t) (ix2 r k)
      = Cert.PostMix0RefIdeal.Rows.row2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) ⟨(t.val * 512 + r.val) / 4096, by omega⟩ ⟨(t.val * 512 + r.val) % 4096, by omega⟩ k := by
    intro k
    refine congrFun (congr (congr (congr (congr (congrArg ffnRow ?_) ?_) ?_) ?_) ?_) k
    · funext k; exact e1 k
    · funext k n; exact arg4_at m c t k n
    · funext k n; exact arg5_at m c t k n
    · funext k; exact arg9_at m c t 2 k
    · funext k; exact arg10_at m c t 2 k
  refine congrFun (congr (congr (congr (congr (congr (congr (congrArg pleRow ?_) ?_) ?_) ?_) ?_) ?_) ?_) j
  · funext k; exact e2 k
  · funext k n; exact arg6_at m c t k n
  · funext k; exact arg7_at m c t k
  · funext k; exact arg2_at m c t r k h
  · funext k n; exact arg8_at m c t k n
  · funext k; exact arg9_at m c t 3 k
  · funext k; exact arg10_at m c t 3 k

/-- The whole result, over the call's arguments, is the reference's. -/
theorem final (c : Dev nD) :
    (dats m 0 c).arrAt 11 cfg0.N = Cert.PostMix0RefIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]
  have ht : t.val < 64 := t.isLt
  have hr : t.val * 512 + (y 0).val < 32768 := by have := (y 0).isLt; change (y 0).val < 512 at this; omega
  have e : (((cfg0.win 11).blk t).view.emb y : S32768x1024.Idx) = ix2 ⟨t.val * 512 + (y 0).val, hr⟩ (y 1) := by
    blk_ext [idx t]
  have ey : (y : S512x1024.Idx) = ix2 (y 0) (y 1) := by funext a; fin_cases a <;> rfl
  refine Eq.trans ?_ (congrArg (Cert.PostMix0RefIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) e.symm)
  refine Eq.trans ?_ (Cert.PostMix0RefIdeal.Rows.out_at _ _ _ _ _ _ _ _ _ _ _ _ _).symm
  exact (congrArg (outsAt0 m c t) ey).trans (row_at m c t (y 0) (y 1) hr)

end Cert.PostMix0Ideal.Rows

end
-- ==== Proof.Hand.FfnKer.lean ====
/- What the first feed-forward call leaves in its result, row by row. -/
module

public import proofs.«01_k».proof.Proof.Hand.Rows
public import proofs.«01_k».proof.Proof.Gen.FfnIdeal.Value
public import Idealize.ShloMosaic.Lib.Pipeline.ValueKit
public import Idealize.ShloMosaic.Lib.VecWindow

@[expose] public section

set_option maxRecDepth 16384

noncomputable section

namespace Cert.FfnIdeal.Rows

open Idealize.ShloMosaic Idealize.ShloMosaic.TcCoe Idealize.SL.Sem
open Idealize.ShloMosaic.Pipeline (Dat)
open Cert.FfnIdeal Cert.FfnIdeal.Gen Cert.Rows

variable (m : (ℓ : Loc nD τ sig) → Buf (Elt Ideal) ℓ)

/-- The gated activation of a block of rows. -/
def ACT (x0 : FVec Ideal S512x1024 .f32) (x1 : FVec Ideal S1024x5632 .bf16) : FVec Ideal S512x2816 .bf16 :=
  fun i => actAt (fun k => x0 (ix2 (i 0) k)) (fun k n => x1 (ix2 k n)) (i 1)

/-- One block of the result: each row through the feed-forward step. -/
theorem out_at (c : Dev nD) (t : Fin cfg0.N) (y : S512x1024.Idx) :
    outsAt0 m c t y = ffnRow (fun k => (show FVec Ideal S512x1024 .f32 from iblk m c 0 t) (ix2 (y 0) k))
      (fun k n => (show FVec Ideal S1024x5632 .bf16 from iblk m c 1 t) (ix2 k n)) (fun n j => (show FVec Ideal S2816x1024 .bf16 from iblk m c 2 t) (ix2 n j))
      (fun j => (show FVec Ideal S1x1024 .f32 from iblk m c 3 t) (ix2 0 j)) (fun j => (show FVec Ideal S1x1024 .f32 from iblk m c 4 t) (ix2 0 j)) (y 1) := by
  unfold outsAt0
  frame_out
  refine Eq.trans (congrArg (fun A => k0_pay20 (F := Ideal) (k0_pay1 (iblk m c 0 t)) A (iblk m c 2 t) (iblk m c 3 t) (iblk m c 4 t) y) (?_ : _ = ACT (iblk m c 0 t) (iblk m c 1 t))) ?_
  · rw [Cert.Rows.readCov_full _ _ (funext fun a => by fin_cases a <;> rfl)]
    funext i
    idx_vars i
    canon_tiles x h
    all_goals (change i0.val = _ at h0; change i1.val = _ at h1; pointwise [k0_pay19, k0_pay18, k0_pay17, k0_pay16, k0_pay15, k0_pay14, k0_pay13, k0_pay12, k0_pay11, k0_pay10, k0_pay9, k0_pay8, k0_pay7,
      k0_pay6, k0_pay5, k0_pay4, k0_pay3, k0_pay2, k0_pay1, ACT, actAt, mulAt])
    all_goals blk_point []
  · idx_vars y
    pointwise [k0_pay20, k0_pay1, ACT]
    rfl

end Cert.FfnIdeal.Rows

end
-- ==== Proof.Hand.FfnRef.lean ====
/- What the reference of the first feed-forward call computes, row by row. -/
module

public import proofs.«01_k».proof.Proof.Hand.Rows
public import proofs.«01_k».proof.Proof.Gen.FfnRefIdeal.Read

@[expose] public section

set_option maxRecDepth 16384

noncomputable section

namespace Cert.FfnRefIdeal.Rows

open Idealize.ShloMosaic Idealize.ShloMosaic.TcCoe Idealize.SL.Sem
open Cert.FfnRefIdeal Cert.FfnRefIdeal.Gen Cert.FfnRefIdeal.Read Cert.Rows

variable (x0 : FVec Ideal S8x4096x1024 .f32) (x1 : FVec Ideal S2x1024x5632 .f32) (x2 : FVec Ideal S2x2816x1024 .f32)
  (x3 x4 : FVec Ideal S2x4x1024 .f32)

/-- The reference's activation is the row's gated activation. -/
theorem act_at (b : Fin 8) (s : Fin 4096) (n : Fin 2816) :
    val_main_v8 (F := Ideal) x0 x1 (ix3 b s n) = actAt (fun k => x0 (ix3 b s k)) (fun k n => x1 (ix3 0 k n)) n := by
  pointwise [val_main_v8, val_main_v7, val_main_call0_v5, val_main_call0_v4, val_main_call0_cst_0, val_main_call0_v3, val_main_call0_v2,
    val_main_call0_cst, val_main_call0_v1, val_main_call0_v0, val_main_v6, val_main_v5, val_main_v4, val_main_v1, val_main_v0]
  rfl

/-- The reference's residual stream before its norm. -/
theorem res_at (b : Fin 8) (s : Fin 4096) (j : Fin 1024) :
    val_main_v18 (F := Ideal) x0 x1 x2 (ix3 b s j) = resAt (fun k => x0 (ix3 b s k))
      (ffnAt (fun k => x0 (ix3 b s k)) (fun k n => x1 (ix3 0 k n)) (fun n j => x2 (ix3 0 n j))) j := by
  pointwise [val_main_v18, val_main_v17, val_main_v16, val_main_cst_0, val_main_v11, val_main_v10, val_main_cst, val_main_v9, val_main_v3, val_main_v2, act_at x0 x1]
  rfl

/-- The reference's result, at a row of the flattened stream. -/
theorem out_at (r : Fin 32768) (j : Fin 1024) :
    val_main_v41 (F := Ideal) x0 x1 x2 x3 x4 (ix2 r j) = ffnRow (fun k => x0 (ix3 ⟨r.val / 4096, by omega⟩ ⟨r.val % 4096, by omega⟩ k))
      (fun k n => x1 (ix3 0 k n)) (fun n j => x2 (ix3 0 n j)) (fun j => x3 (ix3 0 0 j)) (fun j => x4 (ix3 0 0 j)) j := by
  pointwise [val_main_v41, val_main_v40, val_main_v39, val_main_v38, val_main_v37, val_main_v36, val_main_v35, val_main_v34, val_main_v33,
    val_main_v32, val_main_v31, val_main_v30, val_main_cst_5, val_main_v29, val_main_v28, val_main_cst_4, val_main_v27, val_main_v26, val_main_cst_3,
    val_main_v25, val_main_v24, val_main_v23, val_main_v22, val_main_v21, val_main_cst_2, val_main_v20, val_main_v19, val_main_cst_1,
    val_main_v12, val_main_v13, val_main_v14, val_main_v15, res_at x0 x1 x2]
  rfl

end Cert.FfnRefIdeal.Rows

end
-- ==== Proof.Hand.FfnValue.lean ====
/- The first feed-forward call's whole result is the reference's. -/
module

public import proofs.«01_k».proof.Proof.Hand.FfnKer
public import proofs.«01_k».proof.Proof.Hand.FfnRef
public import Idealize.ShloMosaic.Lib.Claim

@[expose] public section

set_option maxRecDepth 16384

noncomputable section

namespace Cert.FfnIdeal.Rows

open Idealize.ShloMosaic Idealize.ShloMosaic.TcCoe Idealize.SL.Sem
open Idealize.ShloMosaic.Pipeline (Dat)
open Cert.FfnIdeal Cert.FfnIdeal.Gen Cert.Rows

variable (m : (ℓ : Loc nD τ sig) → Buf (Elt Ideal) ℓ)

/-- The windows' block indices at each point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- A row of the activations' block is a row of the argument. -/
theorem arg0_at (c : Dev nD) (t : Fin cfg0.N) (r : Fin 512) (k : Fin 1024) (h : t.val * 512 + r.val < 32768) :
    (show FVec Ideal S512x1024 .f32 from iblk m c 0 t) (ix2 r k)
      = (m ((c : Thread nD τ).loc main_arg0) : FVec Ideal S8x4096x1024 .f32) (ix3 ⟨(t.val * 512 + r.val) / 4096, by omega⟩ ⟨(t.val * 512 + r.val) % 4096, by omega⟩ k) := by
  blk_simp [iblk]
  entry_read
  pointwise []
  blk_point [idx t]

/-- The first weight's block is the layer's first slice of the argument. -/
theorem arg1_at (c : Dev nD) (t : Fin cfg0.N) (r : Fin 1024) (k : Fin 5632) :
    (show FVec Ideal S1024x5632 .bf16 from iblk m c 1 t) (ix2 r k)
      = (m ((c : Thread nD τ).loc main_arg1) : FVec Ideal S2x1024x5632 .f32) (ix3 0 r k) := by
  blk_simp [iblk]
  entry_read
  pointwise []
  blk_point [idx t]

/-- The scale's block is the first row of the argument's first layer. -/
theorem arg3_at (c : Dev nD) (t : Fin cfg0.N) (k : Fin 1024) :
    (show FVec Ideal S1x1024 .f32 from iblk m c 3 t) (ix2 0 k)
      = (m ((c : Thread nD τ).loc main_arg3) : FVec Ideal S2x4x1024 .f32) (ix3 0 0 k) := by
  blk_simp [iblk]
  entry_read
  pointwise []
  blk_point [idx t]

/-- The second weight's block is the layer's first slice of the argument. -/
theorem arg2_at (c : Dev nD) (t : Fin cfg0.N) (r : Fin 2816) (k : Fin 1024) :
    (show FVec Ideal S2816x1024 .bf16 from iblk m c 2 t) (ix2 r k)
      = (m ((c : Thread nD τ).loc main_arg2) : FVec Ideal S2x2816x1024 .f32) (ix3 0 r k) := by
  blk_simp [iblk]
  entry_read
  pointwise []
  blk_point [idx t]

/-- The shift's block is the first row of the argument's first layer. -/
theorem arg4_at (c : Dev nD) (t : Fin cfg0.N) (k : Fin 1024) :
    (show FVec Ideal S1x1024 .f32 from iblk m c 4 t) (ix2 0 k)
      = (m ((c : Thread nD τ).loc main_arg4) : FVec Ideal S2x4x1024 .f32) (ix3 0 0 k) := by
  blk_simp [iblk]
  entry_read
  pointwise []
  blk_point [idx t]

/-- The whole result, over the call's arguments, is the reference's. -/
theorem final (c : Dev nD) :
    (dats m 0 c).arrAt 5 cfg0.N = Cert.FfnRefIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  have ht : t.val < 64 := t.isLt
  have hr : t.val * 512 + (y 0).val < 32768 := by have := (y 0).isLt; change (y 0).val < 512 at this; omega
  refine (out_at m c t y).trans ?_
  have e : (((cfg0.win 5).blk t).view.emb y : S32768x1024.Idx) = ix2 ⟨t.val * 512 + (y 0).val, hr⟩ (y 1) := by
    blk_ext [idx t]
  refine Eq.trans ?_ (congrArg (Cert.FfnRefIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) e.symm)
  refine Eq.trans ?_ (Cert.FfnRefIdeal.Rows.out_at _ _ _ _ _ _ _).symm
  congr 1
  · funext k; exact arg0_at m c t (y 0) k hr
  · funext k n; exact arg1_at m c t k n
  · funext k n; exact arg2_at m c t k n
  · funext k; exact arg3_at m c t k
  · funext k; exact arg4_at m c t k

end Cert.FfnIdeal.Rows

end
-- ==== Proof.Hand.MlaChunk.lean ====
/- Sixteen query rows of the MLA attention's first tile: the masked logits of a row, their greatest, the weights and
   their sum. The kernel walks a tile sixteen rows at a time, over the first 128, 256, 384 or 512 keys. -/
module

public import proofs.«01_k».proof.Proof.Gen.MlaAttnIdeal.Skeleton
public import Idealize.ShloMosaic.Lib.Pointwise
public import Idealize.ShloMosaic.Lib.WordCmp
public import Idealize.ShloMosaic.Lib.Pipeline.ValueKit

@[expose] public section

set_option maxRecDepth 16384

noncomputable section

namespace Cert.MlaAttnIdeal.Tile

open Idealize.ShloMosaic Idealize.ShloMosaic.TcCoe Idealize.SL.Sem
open Cert.MlaAttnIdeal Cert.MlaAttnIdeal.Gen

/-- A query's logits over `L` keys, those after the query's own position `r` at minus infinity. -/
def maskAt {L : ℕ} (r : ℕ) (s : Fin L → EReal) (j : Fin L) : EReal := if j.val ≤ r then s j else ⊥

/-- The greatest of a row. -/
def topAt {L : ℕ} (s : Fin L → EReal) : EReal := Finset.univ.sup s

/-- A query's weights before normalisation: two to the power of the logit less the greatest. -/
def expAt {L : ℕ} (r : ℕ) (s : Fin L → EReal) (j : Fin L) : EReal := Ideal.exp2 (maskAt r s j - topAt (maskAt r s))

/-- The weights' sum. -/
def sumAt {L : ℕ} (r : ℕ) (s : Fin L → EReal) : EReal := ∑ j, expAt r s j

/-- The greatest masked logit over the first `L` keys is the greatest over all, when the query's position is among them. -/
theorem top_widen {L d : ℕ} (r : ℕ) (h : r < L) (s : Fin (L + d) → EReal) :
    topAt (maskAt r fun j : Fin L => s (Fin.castAdd d j)) = topAt (maskAt r s) := by
  apply le_antisymm
  · exact Finset.sup_le fun j _ => Finset.le_sup (f := maskAt r s) (Finset.mem_univ (Fin.castAdd d j))
  · refine Finset.sup_le fun j _ => ?_
    by_cases hj : j.val < L
    · exact Finset.le_sup (f := maskAt r fun j : Fin L => s (Fin.castAdd d j)) (Finset.mem_univ (⟨j.val, hj⟩ : Fin L))
    · have : maskAt r s j = ⊥ := if_neg (by omega)
      rw [this]
      exact bot_le

/-- A key after the query has no weight. -/
theorem exp_zero {L : ℕ} (r : ℕ) (s : Fin L → EReal) (j : Fin L) (h : r < j.val) : expAt r s j = 0 := by
  have : maskAt r s j = ⊥ := if_neg (by omega)
  unfold expAt
  rw [this, EReal.bot_sub]
  rfl

/-- A weight does not depend on how many keys after the query are looked at. -/
theorem exp_widen {L d : ℕ} (r : ℕ) (h : r < L) (s : Fin (L + d) → EReal) (j : Fin L) :
    expAt r (fun j : Fin L => s (Fin.castAdd d j)) j = expAt r s (Fin.castAdd d j) := by
  unfold expAt
  rw [top_widen r h]
  rfl

/-- Nor does the weights' sum, nor any sum they weigh. -/
theorem sum_widen {L d : ℕ} (r : ℕ) (h : r < L) (s y : Fin (L + d) → EReal) :
    ∑ j : Fin L, expAt r (fun j : Fin L => s (Fin.castAdd d j)) j * y (Fin.castAdd d j) = ∑ j, expAt r s j * y j := by
  rw [Fin.sum_univ_add, Finset.sum_eq_zero (s := Finset.univ) (f := fun j : Fin d => expAt r s (Fin.natAdd L j) * y (Fin.natAdd L j)), add_zero]
  · exact Finset.sum_congr rfl fun j _ => by rw [exp_widen r h]
  · intro j _
    rw [exp_zero r s _ (by show r < L + j.val; omega), zero_mul]

theorem sumAt_widen {L d : ℕ} (r : ℕ) (h : r < L) (s : Fin (L + d) → EReal) :
    sumAt r (fun j : Fin L => s (Fin.castAdd d j)) = sumAt r s := by
  simpa [sumAt] using sum_widen r h s fun _ => 1

/-- The word of minus infinity. -/
theorem ofBits_bot : Ideal.ofBits FTy.f32 4286578688#32 = (⊥ : EReal) := by
  simp [Ideal.ofBits, Ideal.ieee]

/-- The comparison of two small positions as words. -/
theorem mask_word (n a j : ℕ) (hn : n ≤ 496) (ha : a < 16) (hj : j < 512) (x : EReal) :
    Scalar.select (IntOp.cmpi CmpIPredicate.sle (BitVec.ofNat 32 j) (IntOp.addi (BitVec.ofNat 32 n) (BitVec.ofNat 32 a))) x (Ideal.ofBits FTy.f32 4286578688#32)
      = if j ≤ n + a then x else ⊥ := by
  rw [ofBits_bot]
  have : IntOp.cmpi CmpIPredicate.sle (BitVec.ofNat 32 j) (IntOp.addi (BitVec.ofNat 32 n) (BitVec.ofNat 32 a)) = if j ≤ n + a then 1#1 else 0#1 := by
    rw [show IntOp.addi (BitVec.ofNat 32 n) (BitVec.ofNat 32 a) = BitVec.ofNat 32 (n + a) from (BitVec.ofNat_add ..).symm,
      WordCmp.cmpi_sle_ofNat (by norm_num; omega) (by norm_num; omega)]
    by_cases h : j ≤ n + a <;> simp [h]
  rw [this]
  split <;> rfl

/-- The masked logits of sixteen rows over 128 keys, the first row at position `o`. -/
def msk128 (o : BitVec 32) (v : FVec Ideal S16x128 .f32) : FVec Ideal S16x128 .f32 :=
  select (cmpi .sle (iota .tc S16x128 32 [1] iota_S16x128_d1_w32) (addi (broadcast S16x128 o) (iota .tc S16x128 32 [0] iota_S16x128_d0_w32))) v (broadcast S16x128 (Scalar.ofBits .f32 0xFF800000#32))

/-- Each row's greatest, in 128 columns. -/
def top128 (o : BitVec 32) (v : FVec Ideal S16x128 .f32) : FVec Ideal S16x128 .f32 :=
  broadcastTo S16x128 (shapeCast S16x1 (shapeCast S16x1 (multiReduction .maximumf [1] S16 (msk128 o v) 0xFF800000#32 reduces_S16x128_S16 (.inl rfl) rfl) shapeCasts_S16_S16x1) shapeCasts_S16x1_S16x1) broadcasts_S16x1_S16x128

/-- The weights. -/
def wt128 (o : BitVec 32) (v : FVec Ideal S16x128 .f32) : FVec Ideal S16x128 .f32 :=
  exp2 (subf (msk128 o v) (top128 o v))

/-- The weights as stored. -/
def wst128 (o : BitVec 32) (v : FVec Ideal S16x128 .f32) : FVec Ideal S1x16x128 .bf16 :=
  shapeCast S1x16x128 (shapeCast S16x128 (truncf .bf16 (wt128 o v) bitsLt_bf16_f32) shapeCasts_S16x128_S16x128) shapeCasts_S16x128_S1x16x128

/-- The weights' sums as stored, in 128 columns. -/
def sst128 (o : BitVec 32) (v : FVec Ideal S16x128 .f32) : FVec Ideal S1x16x128 .f32 :=
  shapeCast S1x16x128 (broadcastTo S16x128 (shapeCast S16x1 (shapeCast S16x1 (multiReduction .add [1] S16 (wt128 o v) 0x00000000#32 reduces_S16x128_S16 (.inl rfl) rfl) shapeCasts_S16_S16x1) shapeCasts_S16x1_S16x1) broadcasts_S16x1_S16x128) shapeCasts_S16x128_S1x16x128

/-- A masked logit. -/
theorem msk128_at (n : ℕ) (hn : n ≤ 496) (v : FVec Ideal S16x128 .f32) (a : Fin 16) (j : Fin 128) :
    msk128 (BitVec.ofNat 32 n) v (ix2 a j) = maskAt (n + a.val) (fun j => v (ix2 a j)) j := by
  pointwise [msk128, maskAt]
  exact mask_word n a.val j.val hn a.isLt (by have := j.isLt; omega) _

/-- A row's greatest masked logit. -/
theorem top128_at (n : ℕ) (hn : n ≤ 496) (v : FVec Ideal S16x128 .f32) (a : Fin 16) (j : Fin 128) :
    top128 (BitVec.ofNat 32 n) v (ix2 a j) = topAt (maskAt (n + a.val) fun j => v (ix2 a j)) := by
  pointwise [top128, topAt]
  rw [ofBits_bot]
  exact congrArg Finset.univ.sup (funext fun j => msk128_at n hn v a j)

/-- A weight. -/
theorem wt128_at (n : ℕ) (hn : n ≤ 496) (v : FVec Ideal S16x128 .f32) (a : Fin 16) (j : Fin 128) :
    wt128 (BitVec.ofNat 32 n) v (ix2 a j) = expAt (n + a.val) (fun j => v (ix2 a j)) j := by
  pointwise [wt128, expAt]
  simp only [msk128_at n hn, top128_at n hn, dite_eq_ite, ite_self]
  rfl

/-- A weight as stored. -/
theorem wst128_at (n : ℕ) (hn : n ≤ 496) (v : FVec Ideal S16x128 .f32) (u : Fin 1) (a : Fin 16) (j : Fin 128) :
    wst128 (BitVec.ofNat 32 n) v (ix3 u a j) = expAt (n + a.val) (fun j => v (ix2 a j)) j := by
  pointwise [wst128]
  exact wt128_at n hn v a j

/-- A row's sum of weights as stored. -/
theorem sst128_at (n : ℕ) (hn : n ≤ 496) (v : FVec Ideal S16x128 .f32) (u : Fin 1) (a : Fin 16) (j : Fin 128) :
    sst128 (BitVec.ofNat 32 n) v (ix3 u a j) = sumAt (n + a.val) (fun j => v (ix2 a j)) := by
  pointwise [sst128, sumAt]
  exact Finset.sum_congr rfl fun j _ => wt128_at n hn v a j

/-- The masked logits of sixteen rows over 256 keys, the first row at position `o`. -/
def msk256 (o : BitVec 32) (v : FVec Ideal S16x256 .f32) : FVec Ideal S16x256 .f32 :=
  select (cmpi .sle (iota .tc S16x256 32 [1] iota_S16x256_d1_w32) (addi (broadcast S16x256 o) (iota .tc S16x256 32 [0] iota_S16x256_d0_w32))) v (broadcast S16x256 (Scalar.ofBits .f32 0xFF800000#32))

/-- Each row's greatest, in 128 columns. -/
def top256 (o : BitVec 32) (v : FVec Ideal S16x256 .f32) : FVec Ideal S16x128 .f32 :=
  broadcastTo S16x128 (shapeCast S16x1 (shapeCast S16x1 (multiReduction .maximumf [1] S16 (msk256 o v) 0xFF800000#32 reduces_S16x256_S16 (.inl rfl) rfl) shapeCasts_S16_S16x1) shapeCasts_S16x1_S16x1) broadcasts_S16x1_S16x128

/-- The weights. -/
def wt256 (o : BitVec 32) (v : FVec Ideal S16x256 .f32) : FVec Ideal S16x256 .f32 :=
  exp2 (subf (msk256 o v) (concatenate S16x256 1 [⟨S16x128, top256 o v⟩, ⟨S16x128, top256 o v⟩] concatenates_S16x128_S16x128_S16x256_d1))

/-- The weights as stored. -/
def wst256 (o : BitVec 32) (v : FVec Ideal S16x256 .f32) : FVec Ideal S1x16x256 .bf16 :=
  shapeCast S1x16x256 (shapeCast S16x256 (truncf .bf16 (wt256 o v) bitsLt_bf16_f32) shapeCasts_S16x256_S16x256) shapeCasts_S16x256_S1x16x256

/-- The weights' sums as stored, in 128 columns. -/
def sst256 (o : BitVec 32) (v : FVec Ideal S16x256 .f32) : FVec Ideal S1x16x128 .f32 :=
  shapeCast S1x16x128 (broadcastTo S16x128 (shapeCast S16x1 (shapeCast S16x1 (multiReduction .add [1] S16 (wt256 o v) 0x00000000#32 reduces_S16x256_S16 (.inl rfl) rfl) shapeCasts_S16_S16x1) shapeCasts_S16x1_S16x1) broadcasts_S16x1_S16x128) shapeCasts_S16x128_S1x16x128

/-- A masked logit. -/
theorem msk256_at (n : ℕ) (hn : n ≤ 496) (v : FVec Ideal S16x256 .f32) (a : Fin 16) (j : Fin 256) :
    msk256 (BitVec.ofNat 32 n) v (ix2 a j) = maskAt (n + a.val) (fun j => v (ix2 a j)) j := by
  pointwise [msk256, maskAt]
  exact mask_word n a.val j.val hn a.isLt (by have := j.isLt; omega) _

/-- A row's greatest masked logit. -/
theorem top256_at (n : ℕ) (hn : n ≤ 496) (v : FVec Ideal S16x256 .f32) (a : Fin 16) (j : Fin 128) :
    top256 (BitVec.ofNat 32 n) v (ix2 a j) = topAt (maskAt (n + a.val) fun j => v (ix2 a j)) := by
  pointwise [top256, topAt]
  rw [ofBits_bot]
  exact congrArg Finset.univ.sup (funext fun j => msk256_at n hn v a j)

/-- A weight. -/
theorem wt256_at (n : ℕ) (hn : n ≤ 496) (v : FVec Ideal S16x256 .f32) (a : Fin 16) (j : Fin 256) :
    wt256 (BitVec.ofNat 32 n) v (ix2 a j) = expAt (n + a.val) (fun j => v (ix2 a j)) j := by
  pointwise [wt256, expAt]
  simp only [msk256_at n hn, top256_at n hn, dite_eq_ite, ite_self]
  rfl

/-- A weight as stored. -/
theorem wst256_at (n : ℕ) (hn : n ≤ 496) (v : FVec Ideal S16x256 .f32) (u : Fin 1) (a : Fin 16) (j : Fin 256) :
    wst256 (BitVec.ofNat 32 n) v (ix3 u a j) = expAt (n + a.val) (fun j => v (ix2 a j)) j := by
  pointwise [wst256]
  exact wt256_at n hn v a j

/-- A row's sum of weights as stored. -/
theorem sst256_at (n : ℕ) (hn : n ≤ 496) (v : FVec Ideal S16x256 .f32) (u : Fin 1) (a : Fin 16) (j : Fin 128) :
    sst256 (BitVec.ofNat 32 n) v (ix3 u a j) = sumAt (n + a.val) (fun j => v (ix2 a j)) := by
  pointwise [sst256, sumAt]
  exact Finset.sum_congr rfl fun j _ => wt256_at n hn v a j

/-- The masked logits of sixteen rows over 384 keys, the first row at position `o`. -/
def msk384 (o : BitVec 32) (v : FVec Ideal S16x384 .f32) : FVec Ideal S16x384 .f32 :=
  select (cmpi .sle (iota .tc S16x384 32 [1] iota_S16x384_d1_w32) (addi (broadcast S16x384 o) (iota .tc S16x384 32 [0] iota_S16x384_d0_w32))) v (broadcast S16x384 (Scalar.ofBits .f32 0xFF800000#32))

/-- Each row's greatest, in 128 columns. -/
def top384 (o : BitVec 32) (v : FVec Ideal S16x384 .f32) : FVec Ideal S16x128 .f32 :=
  broadcastTo S16x128 (shapeCast S16x1 (shapeCast S16x1 (multiReduction .maximumf [1] S16 (msk384 o v) 0xFF800000#32 reduces_S16x384_S16 (.inl rfl) rfl) shapeCasts_S16_S16x1) shapeCasts_S16x1_S16x1) broadcasts_S16x1_S16x128

/-- The weights. -/
def wt384 (o : BitVec 32) (v : FVec Ideal S16x384 .f32) : FVec Ideal S16x384 .f32 :=
  exp2 (subf (msk384 o v) (concatenate S16x384 1 [⟨S16x128, top384 o v⟩, ⟨S16x128, top384 o v⟩, ⟨S16x128, top384 o v⟩] concatenates_S16x128_S16x128_S16x128_S16x384_d1))

/-- The weights as stored. -/
def wst384 (o : BitVec 32) (v : FVec Ideal S16x384 .f32) : FVec Ideal S1x16x384 .bf16 :=
  shapeCast S1x16x384 (shapeCast S16x384 (truncf .bf16 (wt384 o v) bitsLt_bf16_f32) shapeCasts_S16x384_S16x384) shapeCasts_S16x384_S1x16x384

/-- The weights' sums as stored, in 128 columns. -/
def sst384 (o : BitVec 32) (v : FVec Ideal S16x384 .f32) : FVec Ideal S1x16x128 .f32 :=
  shapeCast S1x16x128 (broadcastTo S16x128 (shapeCast S16x1 (shapeCast S16x1 (multiReduction .add [1] S16 (wt384 o v) 0x00000000#32 reduces_S16x384_S16 (.inl rfl) rfl) shapeCasts_S16_S16x1) shapeCasts_S16x1_S16x1) broadcasts_S16x1_S16x128) shapeCasts_S16x128_S1x16x128

/-- A masked logit. -/
theorem msk384_at (n : ℕ) (hn : n ≤ 496) (v : FVec Ideal S16x384 .f32) (a : Fin 16) (j : Fin 384) :
    msk384 (BitVec.ofNat 32 n) v (ix2 a j) = maskAt (n + a.val) (fun j => v (ix2 a j)) j := by
  pointwise [msk384, maskAt]
  exact mask_word n a.val j.val hn a.isLt (by have := j.isLt; omega) _

/-- A row's greatest masked logit. -/
theorem top384_at (n : ℕ) (hn : n ≤ 496) (v : FVec Ideal S16x384 .f32) (a : Fin 16) (j : Fin 128) :
    top384 (BitVec.ofNat 32 n) v (ix2 a j) = topAt (maskAt (n + a.val) fun j => v (ix2 a j)) := by
  pointwise [top384, topAt]
  rw [ofBits_bot]
  exact congrArg Finset.univ.sup (funext fun j => msk384_at n hn v a j)

/-- A weight. -/
theorem wt384_at (n : ℕ) (hn : n ≤ 496) (v : FVec Ideal S16x384 .f32) (a : Fin 16) (j : Fin 384) :
    wt384 (BitVec.ofNat 32 n) v (ix2 a j) = expAt (n + a.val) (fun j => v (ix2 a j)) j := by
  pointwise [wt384, expAt]
  simp only [msk384_at n hn, top384_at n hn, dite_eq_ite, ite_self]
  rfl

/-- A weight as stored. -/
theorem wst384_at (n : ℕ) (hn : n ≤ 496) (v : FVec Ideal S16x384 .f32) (u : Fin 1) (a : Fin 16) (j : Fin 384) :
    wst384 (BitVec.ofNat 32 n) v (ix3 u a j) = expAt (n + a.val) (fun j => v (ix2 a j)) j := by
  pointwise [wst384]
  exact wt384_at n hn v a j

/-- A row's sum of weights as stored. -/
theorem sst384_at (n : ℕ) (hn : n ≤ 496) (v : FVec Ideal S16x384 .f32) (u : Fin 1) (a : Fin 16) (j : Fin 128) :
    sst384 (BitVec.ofNat 32 n) v (ix3 u a j) = sumAt (n + a.val) (fun j => v (ix2 a j)) := by
  pointwise [sst384, sumAt]
  exact Finset.sum_congr rfl fun j _ => wt384_at n hn v a j

/-- The masked logits of sixteen rows over 512 keys, the first row at position `o`. -/
def msk512 (o : BitVec 32) (v : FVec Ideal S16x512 .f32) : FVec Ideal S16x512 .f32 :=
  select (cmpi .sle (iota .tc S16x512 32 [1] iota_S16x512_d1_w32) (addi (broadcast S16x512 o) (iota .tc S16x512 32 [0] iota_S16x512_d0_w32))) v (broadcast S16x512 (Scalar.ofBits .f32 0xFF800000#32))

/-- Each row's greatest, in 128 columns. -/
def top512 (o : BitVec 32) (v : FVec Ideal S16x512 .f32) : FVec Ideal S16x128 .f32 :=
  broadcastTo S16x128 (shapeCast S16x1 (shapeCast S16x1 (multiReduction .maximumf [1] S16 (msk512 o v) 0xFF800000#32 reduces_S16x512_S16 (.inl rfl) rfl) shapeCasts_S16_S16x1) shapeCasts_S16x1_S16x1) broadcasts_S16x1_S16x128

/-- The weights. -/
def wt512 (o : BitVec 32) (v : FVec Ideal S16x512 .f32) : FVec Ideal S16x512 .f32 :=
  exp2 (subf (msk512 o v) (concatenate S16x512 1 [⟨S16x128, top512 o v⟩, ⟨S16x128, top512 o v⟩, ⟨S16x128, top512 o v⟩, ⟨S16x128, top512 o v⟩] concatenates_S16x128_S16x128_S16x128_S16x128_S16x512_d1))

/-- The weights as stored. -/
def wst512 (o : BitVec 32) (v : FVec Ideal S16x512 .f32) : FVec Ideal S1x16x512 .bf16 :=
  shapeCast S1x16x512 (shapeCast S16x512 (truncf .bf16 (wt512 o v) bitsLt_bf16_f32) shapeCasts_S16x512_S16x512) shapeCasts_S16x512_S1x16x512

/-- The weights' sums as stored, in 128 columns. -/
def sst512 (o : BitVec 32) (v : FVec Ideal S16x512 .f32) : FVec Ideal S1x16x128 .f32 :=
  shapeCast S1x16x128 (broadcastTo S16x128 (shapeCast S16x1 (shapeCast S16x1 (multiReduction .add [1] S16 (wt512 o v) 0x00000000#32 reduces_S16x512_S16 (.inl rfl) rfl) shapeCasts_S16_S16x1) shapeCasts_S16x1_S16x1) broadcasts_S16x1_S16x128) shapeCasts_S16x128_S1x16x128

/-- A masked logit. -/
theorem msk512_at (n : ℕ) (hn : n ≤ 496) (v : FVec Ideal S16x512 .f32) (a : Fin 16) (j : Fin 512) :
    msk512 (BitVec.ofNat 32 n) v (ix2 a j) = maskAt (n + a.val) (fun j => v (ix2 a j)) j := by
  pointwise [msk512, maskAt]
  exact mask_word n a.val j.val hn a.isLt (by have := j.isLt; omega) _

/-- A row's greatest masked logit. -/
theorem top512_at (n : ℕ) (hn : n ≤ 496) (v : FVec Ideal S16x512 .f32) (a : Fin 16) (j : Fin 128) :
    top512 (BitVec.ofNat 32 n) v (ix2 a j) = topAt (maskAt (n + a.val) fun j => v (ix2 a j)) := by
  pointwise [top512, topAt]
  rw [ofBits_bot]
  exact congrArg Finset.univ.sup (funext fun j => msk512_at n hn v a j)

/-- A weight. -/
theorem wt512_at (n : ℕ) (hn : n ≤ 496) (v : FVec Ideal S16x512 .f32) (a : Fin 16) (j : Fin 512) :
    wt512 (BitVec.ofNat 32 n) v (ix2 a j) = expAt (n + a.val) (fun j => v (ix2 a j)) j := by
  pointwise [wt512, expAt]
  simp only [msk512_at n hn, top512_at n hn, dite_eq_ite, ite_self]
  rfl

/-- A weight as stored. -/
theorem wst512_at (n : ℕ) (hn : n ≤ 496) (v : FVec Ideal S16x512 .f32) (u : Fin 1) (a : Fin 16) (j : Fin 512) :
    wst512 (BitVec.ofNat 32 n) v (ix3 u a j) = expAt (n + a.val) (fun j => v (ix2 a j)) j := by
  pointwise [wst512]
  exact wt512_at n hn v a j

/-- A row's sum of weights as stored. -/
theorem sst512_at (n : ℕ) (hn : n ≤ 496) (v : FVec Ideal S16x512 .f32) (u : Fin 1) (a : Fin 16) (j : Fin 128) :
    sst512 (BitVec.ofNat 32 n) v (ix3 u a j) = sumAt (n + a.val) (fun j => v (ix2 a j)) := by
  pointwise [sst512, sumAt]
  exact Finset.sum_congr rfl fun j _ => wt512_at n hn v a j

end Cert.MlaAttnIdeal.Tile

end
-- ==== Proof.Hand.MlaTile.lean ====
/- The MLA attention's first tile, scratch buffer by scratch buffer: the keys, the logits, the weights and their sums,
   the weighted values. -/
module

public import proofs.«01_k».proof.Proof.Hand.MlaChunk
public import proofs.«01_k».proof.Proof.Gen.MlaAttnIdeal.Frame.RunA
public import Idealize.ShloMosaic.Lib.Pipeline.ReadBack
public import Idealize.ShloMosaic.Lib.VecWindow

@[expose] public section

set_option maxRecDepth 16384

noncomputable section

namespace Cert.MlaAttnIdeal.Tile

open Idealize.ShloMosaic Idealize.ShloMosaic.TcCoe Idealize.SL.Sem
open Cert.MlaAttnIdeal Cert.MlaAttnIdeal.Gen

/-- A load covered by stores that agree with one function reads that function. -/
theorem read_box {Val : EltTy → Type} [∀ e, Nonempty (Val e)] {sg : RefSig} {κ : Kind} {sp : Space} {S : Shape} {e : EltTy}
    (v : View sg κ sp S e) (L : List (View.Piece Val S e)) (G : S.Idx → Val e) (hL : View.PiecesOf G L) (B : LoadRect S)
    (hc : ∀ j, ∃ p ∈ L, B.idx j ∈ p.1.set) : v.readCov L B = fun j => G (B.idx j) := by
  rw [View.readCov_eq_canon']
  funext j
  have := View.canon_append_of_piecesOf G [] L hL _ (hc j)
  rwa [List.append_nil] at this

/-- A key's 256 columns: the head's own 128, then the 128 shared by the heads. -/
def keyAt (x1 x2 : FVec Ideal S1x4096x128 .bf16) (k : Fin 4096) (d : Fin 256) : EReal :=
  if h : d.val < 128 then x1 (ix3 0 k ⟨d.val, h⟩) else x2 (ix3 0 k ⟨d.val - 128, by omega⟩)

/-- The logit of query `r` of the tile and key `k`. -/
def dotAt (x0 : FVec Ideal S1x512x256 .bf16) (x1 x2 : FVec Ideal S1x4096x128 .bf16) (r : Fin 512) (k : Fin 512) : EReal :=
  ∑ d : Fin 256, x0 (ix3 0 r d) * keyAt x1 x2 ⟨k.val, by omega⟩ d

variable (c : Dev nD) (arg3 : Memref sig .tc .vmem S1x512x256 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x4096x128 .bf16) (harg6 : arg6.IsWhole) (arg8 : Memref sig .tc .vmem S4096x256 .bf16)
  (arg9 : Memref sig .tc .vmem S2x512x512 .f32) (arg10 : Memref sig .tc .vmem S2x512x512 .bf16)
  (arg13 arg14 : Memref sig .tc .vmem S1x512x128 .f32)
  (x0 : FVec Ideal S1x512x256 .bf16) (x1 x2 x3 : FVec Ideal S1x4096x128 .bf16)

/-- A whole load of a whole buffer's contents. -/
theorem read_in {S : Shape} {e : EltTy} (a : Memref sig .tc .vmem S e) (h : a.IsWhole) {off : Fin S.rank → ℕ} (ho : off = fun _ => 0)
    (inb : ∀ i, off i + S.size i ≤ S.size i) (x : S.Idx → Elt Ideal e) :
    View.readAt (Elt Ideal) a.view (Rect.unit off S.size inb).toLoadRect (h.unread x) = x := by
  subst ho
  funext j
  exact (congrFun (h.read_unread x) _).trans (congrArg x (funext fun a => Fin.ext ((Rect.idx_unit_val _ _ _ j a).trans (Nat.zero_add _))))

/-- A block stored into a plane agrees with a function of the plane's rows and columns. -/
theorem block_piece {α : Type} {R C h w r c : ℕ} (inb : ∀ a, (![r, c] : Fin 2 → ℕ) a + (![h, w] : Fin 2 → ℕ) a ≤ (⟨2, ![R, C]⟩ : Shape).size a)
    (w₀ : (⟨2, ![h, w]⟩ : Shape).Idx → α) (G : (⟨2, ![R, C]⟩ : Shape).Idx → α)
    (H : ∀ (a : Fin h) (b : Fin w) (ha : r + a.val < R) (hb : c + b.val < C), w₀ (ix2 a b) = G (ix2 ⟨r + a.val, ha⟩ ⟨c + b.val, hb⟩))
    (x : (Rect.unit (s := ⟨2, ![R, C]⟩) ![r, c] ![h, w] inb).shape.Idx) : w₀ x = G ((Rect.unit (s := ⟨2, ![R, C]⟩) ![r, c] ![h, w] inb).emb x) := by
  have h0 := inb 0
  have h1 := inb 1
  have x0 := (x 0).isLt
  have x1 := (x 1).isLt
  simp at h0 h1
  change (x 0).val < h at x0
  change (x 1).val < w at x1
  refine (congrArg w₀ ?_).trans ((H ⟨(x 0).val, x0⟩ ⟨(x 1).val, x1⟩ (by show r + (x 0).val < R; omega) (by show c + (x 1).val < C; omega)).trans (congrArg G ?_))
  · funext i; fin_cases i <;> rfl
  · funext i; apply Fin.ext; rw [Rect.emb_apply]; fin_cases i
    · show r + (x 0).val = r + 1 * (x 0).val; omega
    · show c + (x 1).val = c + 1 * (x 1).val; omega

/-- The same of a block stored under a leading unit axis. -/
theorem slab_piece {α : Type} {N R C h w r c : ℕ} (inb : ∀ a, (![0, r, c] : Fin 3 → ℕ) a + (![1, h, w] : Fin 3 → ℕ) a ≤ (⟨3, ![N, R, C]⟩ : Shape).size a)
    (w₀ : (⟨3, ![1, h, w]⟩ : Shape).Idx → α) (G : Fin R → Fin C → α)
    (H : ∀ (a : Fin h) (b : Fin w) (ha : r + a.val < R) (hb : c + b.val < C), w₀ (ix3 0 a b) = G ⟨r + a.val, ha⟩ ⟨c + b.val, hb⟩)
    (x : (Rect.unit (s := ⟨3, ![N, R, C]⟩) ![0, r, c] ![1, h, w] inb).shape.Idx) :
    w₀ x = (fun i : (⟨3, ![N, R, C]⟩ : Shape).Idx => G (i 1) (i 2)) ((Rect.unit (s := ⟨3, ![N, R, C]⟩) ![0, r, c] ![1, h, w] inb).emb x) := by
  have h0 := inb 1
  have h1 := inb 2
  have xz := (x 0).isLt
  have x0 := (x 1).isLt
  have x1 := (x 2).isLt
  change r + h ≤ R at h0
  change c + w ≤ C at h1
  change (x 0).val < 1 at xz
  change (x 1).val < h at x0
  change (x 2).val < w at x1
  refine (congrArg w₀ ?_).trans ((H ⟨(x 1).val, x0⟩ ⟨(x 2).val, x1⟩ (by show r + (x 1).val < R; omega) (by show c + (x 2).val < C; omega)).trans (congrArg₂ G (Fin.ext ?_) (Fin.ext ?_)))
  · funext i; apply Fin.ext; fin_cases i
    · show (x 0).val = 0; omega
    · rfl
    · rfl
  · rw [Rect.emb_apply]; show r + (x 1).val = r + 1 * (x 1).val; omega
  · rw [Rect.emb_apply]; show c + (x 2).val = c + 1 * (x 2).val; omega

/-- The same of a block stored through the first plane of a stack. -/
theorem plane_piece {α : Type} {r c h w : ℕ} (inb0 : ∀ a, (![0, 0, 0] : Fin 3 → ℕ) a + S1x512x512.size a ≤ S2x512x512.size a)
    (inb : ∀ a, (![r, c] : Fin 2 → ℕ) a + (![h, w] : Fin 2 → ℕ) a ≤ S512x512.size a) (e0 es e1)
    (hR : ((Rect.unit (s := S2x512x512) ![0, 0, 0] S1x512x512.size inb0).within ((Rect.unit (s := S512x512) ![r, c] ![h, w] inb).consLift ![1, 512, 512] e0 es) e1).shape.numel = (Rect.unit (s := S512x512) ![r, c] ![h, w] inb).shape.numel)
    (w₀ : (⟨2, ![h, w]⟩ : Shape).Idx → α) (G : Fin 512 → Fin 512 → α)
    (H : ∀ (a : Fin h) (b : Fin w) (ha : r + a.val < 512) (hb : c + b.val < 512), w₀ (ix2 a b) = G ⟨r + a.val, ha⟩ ⟨c + b.val, hb⟩)
    (x : ((Rect.unit (s := S2x512x512) ![0, 0, 0] S1x512x512.size inb0).within ((Rect.unit (s := S512x512) ![r, c] ![h, w] inb).consLift ![1, 512, 512] e0 es) e1).shape.Idx) :
    Rect.payAlong (r := Rect.unit (s := S512x512) ![r, c] ![h, w] inb) hR w₀ x = (fun i : S2x512x512.Idx => G (i 1) (i 2))
      (((Rect.unit (s := S2x512x512) ![0, 0, 0] S1x512x512.size inb0).within ((Rect.unit (s := S512x512) ![r, c] ![h, w] inb).consLift ![1, 512, 512] e0 es) e1).emb x) := by
  have h0 := inb 0
  have h1 := inb 1
  have x0 := (x 1).isLt
  have x1 := (x 2).isLt
  change r + h ≤ 512 at h0
  change c + w ≤ 512 at h1
  change (x 1).val < h at x0
  change (x 2).val < w at x1
  refine (Rect.payAlong_consLift (Rect.unit (s := S512x512) ![r, c] ![h, w] inb) ![1, 512, 512] e0 es w₀ hR x (ix2 ⟨(x 1).val, x0⟩ ⟨(x 2).val, x1⟩) ?_).trans
    ((H ⟨(x 1).val, x0⟩ ⟨(x 2).val, x1⟩ (by show r + (x 1).val < 512; omega) (by show c + (x 2).val < 512; omega)).trans (congrArg₂ G (Fin.ext ?_) (Fin.ext ?_)))
  · intro i; fin_cases i <;> rfl
  · rw [Rect.emb_apply]; show r + (x 1).val = 0 + r + 1 * (x 1).val; omega
  · rw [Rect.emb_apply]; show c + (x 2).val = 0 + c + 1 * (x 2).val; omega

/-- The tile's keys, read back. -/
theorem keys_read : kernelRun0_A.sl.v29 (F := Ideal) c arg4 harg4 arg5 harg5 arg8 x1 x2
    = fun j : S512x256.Idx => keyAt x1 x2 ⟨(j 0).val, by have := (j 0).isLt; change _ < 512 at this; omega⟩ (j 1) := by
  unfold kernelRun0_A.sl.v29 kernelRun0_A.sl.HS0_2
  refine (read_box _ _ (fun i : S4096x256.Idx => keyAt x1 x2 (i 0) (i 1)) ?_ _
    (LoadRect.cover_of_covChk _ _ (.split 1 128 (.leaf 1) (.leaf 0)) (by sl_kernel_rfl))).trans ?_
  · rw [read_in _ _ (by funext i; fin_cases i <;> rfl), read_in _ _ (by funext i; fin_cases i <;> rfl)]
    refine ⟨fun x => block_piece inb_S4096x256_S4096x128_0_128 _ (fun i : S4096x256.Idx => keyAt x1 x2 (i 0) (i 1)) (fun a b ha hb => ?_) x,
      fun x => block_piece inb_S4096x256_S4096x128_0_0 _ (fun i : S4096x256.Idx => keyAt x1 x2 (i 0) (i 1)) (fun a b ha hb => ?_) x, trivial⟩
    · pointwise [k0_pay2]
      unfold keyAt
      rw [dif_neg (by show ¬ 128 + b.val < 128; omega)]
      exact congrArg x2 (congrArg₂ (ix3 0) rfl (Fin.ext (by show b.val = 128 + b.val - 128; omega)))
    · pointwise [k0_pay1]
      unfold keyAt
      rw [dif_pos (by show b.val < 128; omega)]
  · funext j
    exact congrArg₂ (keyAt x1 x2) (Fin.ext ((Rect.idx_unit_val _ _ _ j 0).trans (Nat.zero_add _))) (Fin.ext ((Rect.idx_unit_val _ _ _ j 1).trans (Nat.zero_add _)))

/-- The logits' two stores hold the logits. -/
theorem logit_pieces : View.PiecesOf (fun i : S2x512x512.Idx => dotAt x0 x1 x2 (i 1) (i 2))
    (kernelRun0_A.sl.HS1_2 (F := Ideal) c arg3 harg3 arg4 harg4 arg5 harg5 arg8 x0 x1 x2) := by
  unfold kernelRun0_A.sl.HS1_2
  rw [keys_read, read_in _ _ (by funext i; fin_cases i <;> rfl)]
  refine ⟨fun x => plane_piece (h := 256) (w := 256) inb_S2x512x512_S1x512x512_0_0_0 inb_S512x512_S256x256_256_256 _ _ (fun _ => rfl) _
      (k0_pay15 (F := Ideal) x0 fun j => keyAt x1 x2 ⟨(j 0).val, _⟩ (j 1)) (dotAt x0 x1 x2) (fun a b ha hb => ?_) x,
    fun x => plane_piece (h := 512) (w := 256) inb_S2x512x512_S1x512x512_0_0_0 inb_S512x512_S512x256_0_0 _ _ (fun _ => rfl) _ (k0_pay14 (F := Ideal) x0 fun j => keyAt x1 x2 ⟨(j 0).val, _⟩ (j 1)) (dotAt x0 x1 x2) (fun a b ha hb => ?_) x, trivial⟩
  · pointwise [k0_pay15, k0_pay13, dotAt]
  · pointwise [k0_pay14, k0_pay13, dotAt]

end Cert.MlaAttnIdeal.Tile

end
-- ==== Proof.Hand.MlaProbs.lean ====
/-
The first query tile's weights: what the run has stored of them, and of their sums, when they are multiplied with the values.
-/
module

public import proofs.«01_k».proof.Proof.Hand.MlaTile

@[expose] public section

open Idealize.ShloMosaic
open Cert.MlaAttnIdeal Cert.MlaAttnIdeal.Gen

namespace Cert.MlaAttnIdeal.Tile

set_option maxRecDepth 100000
set_option maxHeartbeats 4000000

/-- A load through the first plane of a stack reads a function of the plane's rows and columns that the stores before it agree with. -/
theorem plane_load {Val : EltTy → Type} [∀ e, Nonempty (Val e)] {sg : RefSig} {κ : Kind} {sp : Space} {e : EltTy}
    (v : View sg κ sp S2x512x512 e) (L : List (View.Piece Val S2x512x512 e)) (G : Fin 512 → Fin 512 → Val e)
    (hL : View.PiecesOf (fun i : S2x512x512.Idx => G (i 1) (i 2)) L) {r c h w : ℕ}
    (inb0 : ∀ a, (![0, 0, 0] : Fin 3 → ℕ) a + S1x512x512.size a ≤ S2x512x512.size a)
    (inb : ∀ a, (![r, c] : Fin 2 → ℕ) a + (![h, w] : Fin 2 → ℕ) a ≤ S512x512.size a) (e0 es e1)
    (hR : (Rect.unit (s := S512x512) ![r, c] ![h, w] inb).toLoadRect.shape.numel = ((Rect.unit (s := S2x512x512) ![0, 0, 0] S1x512x512.size inb0).withinL ((Rect.unit (s := S512x512) ![r, c] ![h, w] inb).toLoadRect.consLift ![1, 512, 512] e0 es) e1).shape.numel)
    (hc : ∀ j, ∃ p ∈ L, ((Rect.unit (s := S2x512x512) ![0, 0, 0] S1x512x512.size inb0).withinL ((Rect.unit (s := S512x512) ![r, c] ![h, w] inb).toLoadRect.consLift ![1, 512, 512] e0 es) e1).idx j ∈ p.1.set)
    (a : Fin h) (b : Fin w) (ha : r + a.val < 512) (hb : c + b.val < 512) :
    LoadRect.valAlong (lr := (Rect.unit (s := S512x512) ![r, c] ![h, w] inb).toLoadRect) hR
      (v.readCov L ((Rect.unit (s := S2x512x512) ![0, 0, 0] S1x512x512.size inb0).withinL ((Rect.unit (s := S512x512) ![r, c] ![h, w] inb).toLoadRect.consLift ![1, 512, 512] e0 es) e1)) (ix2 a b)
      = G ⟨r + a.val, ha⟩ ⟨c + b.val, hb⟩ := by
  have hx : Shape.reshapeEquiv hR (ix2 a b) = Fin.cons ⟨0, Nat.one_pos⟩ (ix2 a b) := Shape.reshapeEquiv_cons_one (d := ![h, w]) _ _
  rw [read_box v L _ hL _ hc]
  refine congrArg₂ G (Fin.ext ?_) (Fin.ext ?_)
  · show 0 + r + 1 * (Shape.reshapeEquiv hR (ix2 a b) 1).val = r + a.val
    rw [hx]
    show 0 + r + 1 * a.val = r + a.val
    omega
  · show 0 + c + 1 * (Shape.reshapeEquiv hR (ix2 a b) 2).val = c + b.val
    rw [hx]
    show 0 + c + 1 * b.val = c + b.val
    omega

variable (c : Dev nD) (arg3 : Memref sig .tc .vmem S1x512x256 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x4096x128 .bf16) (harg6 : arg6.IsWhole) (arg8 : Memref sig .tc .vmem S4096x256 .bf16)
  (arg9 : Memref sig .tc .vmem S2x512x512 .f32) (arg10 : Memref sig .tc .vmem S2x512x512 .bf16)
  (arg13 arg14 : Memref sig .tc .vmem S1x512x128 .f32)
  (x0 : FVec Ideal S1x512x256 .bf16) (x1 x2 x3 : FVec Ideal S1x4096x128 .bf16)

/-- The rows of logits that a chunk of sixteen queries loads. -/
noncomputable def rows (o L : ℕ) (inb : ∀ a, (![o, 0] : Fin 2 → ℕ) a + (![16, L] : Fin 2 → ℕ) a ≤ S512x512.size a) : (⟨2, ![16, L]⟩ : Shape).Idx → EReal :=
  LoadRect.valAlong (lr := (Rect.unit (s := S512x512) ![o, 0] ![16, L] inb).toLoadRect) (LoadRect.numel_consLift (Rect.unit (s := S512x512) ![o, 0] ![16, L] inb).toLoadRect ![1, 512, 512] rfl (fun _ => rfl))
    (arg9.view.readCov (kernelRun0_A.sl.HS1_2 (F := Ideal) c arg3 harg3 arg4 harg4 arg5 harg5 arg8 x0 x1 x2)
      ((Rect.unit (s := S2x512x512) ![0, 0, 0] S1x512x512.size inb_S2x512x512_S1x512x512_0_0_0).withinL
        ((Rect.unit (s := S512x512) ![o, 0] ![16, L] inb).toLoadRect.consLift ![1, 512, 512] rfl (fun _ => rfl)) (fun _ => rfl)))

/-- The loaded rows are the logits' own. -/
theorem rows_at (o L : ℕ) (inb : ∀ a, (![o, 0] : Fin 2 → ℕ) a + (![16, L] : Fin 2 → ℕ) a ≤ S512x512.size a) (hL : L ≤ 256 ∨ 256 ≤ o)
    (a : Fin 16) (b : Fin L) (ha : o + a.val < 512) (hb : b.val < 512) :
    rows c arg3 harg3 arg4 harg4 arg5 harg5 arg8 arg9 x0 x1 x2 o L inb (ix2 a b) = dotAt x0 x1 x2 ⟨o + a.val, ha⟩ ⟨b.val, hb⟩ := by
  refine (plane_load arg9.view _ (dotAt x0 x1 x2) (logit_pieces c arg3 harg3 arg4 harg4 arg5 harg5 arg8 x0 x1 x2) _ inb _ _ _ _ (fun j => ?_) a b ha (by omega)).trans (congrArg₂ _ rfl (Fin.ext (by show 0 + b.val = b.val; omega)))
  have h0 := inb 0
  have h1 := inb 1
  have j0 := (j 0).isLt
  have j1 := (j 1).isLt
  have j2 := (j 2).isLt
  change o + 16 ≤ 512 at h0
  change 0 + L ≤ 512 at h1
  change (j 0).val < 1 at j0
  change (j 1).val < 16 at j1
  change (j 2).val < L at j2
  unfold kernelRun0_A.sl.HS1_2
  by_cases h : (j 2).val < 256
  · refine ⟨_, List.mem_cons_of_mem _ List.mem_cons_self, (LoadRect.mem_set _).mpr fun d => ?_⟩
    fin_cases d
    · exact ⟨0, Nat.one_pos, by show 0 + 0 + 1 * (j 0).val = 0 + 0 + 1 * 0; omega⟩
    · exact ⟨o + (j 1).val, by show o + (j 1).val < 512; omega, by show 0 + o + 1 * (j 1).val = 0 + 0 + 1 * (o + (j 1).val); omega⟩
    · exact ⟨(j 2).val, h, by show 0 + 0 + 1 * (j 2).val = 0 + 0 + 1 * (j 2).val; omega⟩
  · refine ⟨_, List.mem_cons_self, (LoadRect.mem_set _).mpr fun d => ?_⟩
    fin_cases d
    · exact ⟨0, Nat.one_pos, by show 0 + 0 + 1 * (j 0).val = 0 + 0 + 1 * 0; omega⟩
    · exact ⟨o + (j 1).val - 256, by show o + (j 1).val - 256 < 256; omega, by show 0 + o + 1 * (j 1).val = 0 + 256 + 1 * (o + (j 1).val - 256); omega⟩
    · exact ⟨(j 2).val - 256, by show (j 2).val - 256 < 256; omega, by show 0 + 0 + 1 * (j 2).val = 0 + 256 + 1 * ((j 2).val - 256); omega⟩

/-- The weight of key `k` for query `r`, before the division by their sum. -/
noncomputable def weightAt (x0 : FVec Ideal S1x512x256 .bf16) (x1 x2 : FVec Ideal S1x4096x128 .bf16) (r k : Fin 512) : EReal :=
  expAt r.val (dotAt x0 x1 x2 r) k

/-- The sum of a query's weights. -/
noncomputable def massAt (x0 : FVec Ideal S1x512x256 .bf16) (x1 x2 : FVec Ideal S1x4096x128 .bf16) (r : Fin 512) : EReal :=
  sumAt r.val (dotAt x0 x1 x2 r)

/-- Fewer keys, and the same weight. -/
theorem exp_of_rows {L N : ℕ} (hL : L ≤ N) (r : ℕ) (h : r < L) (s : Fin N → EReal) (j : Fin L) :
    expAt r (fun j : Fin L => s ⟨j.val, by omega⟩) j = expAt r s ⟨j.val, by omega⟩ := by
  obtain ⟨d, rfl⟩ := Nat.exists_eq_add_of_le hL
  exact exp_widen r h s j

/-- Fewer keys, and the same sum. -/
theorem sum_of_rows {L N : ℕ} (hL : L ≤ N) (r : ℕ) (h : r < L) (s : Fin N → EReal) :
    sumAt r (fun j : Fin L => s ⟨j.val, by omega⟩) = sumAt r s := by
  obtain ⟨d, rfl⟩ := Nat.exists_eq_add_of_le hL
  exact sumAt_widen r h s

/-- Fewer keys, and the same weighted sum. -/
theorem mix_of_rows {L N : ℕ} (hL : L ≤ N) (r : ℕ) (h : r < L) (s y : Fin N → EReal) :
    ∑ j : Fin L, expAt r (fun j : Fin L => s ⟨j.val, by omega⟩) j * y ⟨j.val, by omega⟩ = ∑ j, expAt r s j * y j := by
  obtain ⟨d, rfl⟩ := Nat.exists_eq_add_of_le hL
  exact sum_widen r h s y

/-- What a chunk of sixteen queries stores of its weights. -/
theorem weight_piece {L : ℕ} (o : ℕ) (inb : ∀ a, (![o, 0] : Fin 2 → ℕ) a + (![16, L] : Fin 2 → ℕ) a ≤ S512x512.size a) (hL : L ≤ 256 ∨ 256 ≤ o) (ho : o + 16 ≤ L)
    (w : (⟨3, ![1, 16, L]⟩ : Shape).Idx → EReal)
    (hw : ∀ (a : Fin 16) (b : Fin L), w (ix3 0 a b) = expAt (o + a.val) (fun j => rows c arg3 harg3 arg4 harg4 arg5 harg5 arg8 arg9 x0 x1 x2 o L inb (ix2 a j)) b)
    (a : Fin 16) (b : Fin L) (ha : o + a.val < 512) (hb : 0 + b.val < 512) : w (ix3 0 a b) = weightAt x0 x1 x2 ⟨o + a.val, ha⟩ ⟨0 + b.val, hb⟩ := by
  have h1 : 0 + L ≤ 512 := inb 1
  rw [hw, funext fun j => rows_at c arg3 harg3 arg4 harg4 arg5 harg5 arg8 arg9 x0 x1 x2 o L inb hL a j ha (by omega)]
  refine (exp_of_rows (by omega) (o + a.val) (by omega) (dotAt x0 x1 x2 ⟨o + a.val, ha⟩) b).trans ?_
  exact congrArg _ (Fin.ext (by show b.val = 0 + b.val; omega))

/-- What it stores of their sums. -/
theorem mass_piece {L : ℕ} (o : ℕ) (inb : ∀ a, (![o, 0] : Fin 2 → ℕ) a + (![16, L] : Fin 2 → ℕ) a ≤ S512x512.size a) (hL : L ≤ 256 ∨ 256 ≤ o) (ho : o + 16 ≤ L)
    (w : (⟨3, ![1, 16, 128]⟩ : Shape).Idx → EReal)
    (hw : ∀ (a : Fin 16) (b : Fin 128), w (ix3 0 a b) = sumAt (o + a.val) (fun j => rows c arg3 harg3 arg4 harg4 arg5 harg5 arg8 arg9 x0 x1 x2 o L inb (ix2 a j)))
    (a : Fin 16) (b : Fin 128) (ha : o + a.val < 512) (hb : 0 + b.val < 128) : w (ix3 0 a b) = massAt x0 x1 x2 ⟨o + a.val, ha⟩ := by
  have h1 : 0 + L ≤ 512 := inb 1
  rw [hw, funext fun j => rows_at c arg3 harg3 arg4 harg4 arg5 harg5 arg8 arg9 x0 x1 x2 o L inb hL a j ha (by omega)]
  exact sum_of_rows (by omega) (o + a.val) (by omega) (dotAt x0 x1 x2 ⟨o + a.val, ha⟩)

/-- The weights of keys after the chunk's queries: zero. -/
theorem zero_piece (o q : ℕ) (hq : o + 16 ≤ q) (w : (⟨3, ![1, 16, 128]⟩ : Shape).Idx → EReal) (hw : ∀ a b, w (ix3 0 a b) = 0)
    (a : Fin 16) (b : Fin 128) (ha : o + a.val < 512) (hb : q + b.val < 512) : w (ix3 0 a b) = weightAt x0 x1 x2 ⟨o + a.val, ha⟩ ⟨q + b.val, hb⟩ :=
  (hw a b).trans (exp_zero _ _ _ (by show o + a.val < q + b.val; omega)).symm

/-- The zero word. -/
theorem zero_word (i : S1x16x128.Idx) : (k0_pay23 (F := Ideal)) i = 0 := by
  pointwise [k0_pay23]

/-- The stored weights. -/
theorem weight_pieces : View.PiecesOf (fun i : S2x512x512.Idx => weightAt x0 x1 x2 (i 1) (i 2))
    (kernelRun0_A.sl.HS2_48 (F := Ideal) c arg3 harg3 arg4 harg4 arg5 harg5 arg8 arg9 x0 x1 x2) := by
  unfold kernelRun0_A.sl.HS2_48
  refine ⟨
    fun x => slab_piece (h := 16) (w := 512) inb_S2x512x512_S1x16x512_0_496_0 _ (weightAt x0 x1 x2) (weight_piece c arg3 harg3 arg4 harg4 arg5 harg5 arg8 arg9 x0 x1 x2 496 inb_S512x512_S16x512_496_0 (by decide) (by decide) _ (fun a b => wst512_at 496 (by decide) _ 0 a b)) x,
    fun x => slab_piece (h := 16) (w := 512) inb_S2x512x512_S1x16x512_0_480_0 _ (weightAt x0 x1 x2) (weight_piece c arg3 harg3 arg4 harg4 arg5 harg5 arg8 arg9 x0 x1 x2 480 inb_S512x512_S16x512_480_0 (by decide) (by decide) _ (fun a b => wst512_at 480 (by decide) _ 0 a b)) x,
    fun x => slab_piece (h := 16) (w := 512) inb_S2x512x512_S1x16x512_0_464_0 _ (weightAt x0 x1 x2) (weight_piece c arg3 harg3 arg4 harg4 arg5 harg5 arg8 arg9 x0 x1 x2 464 inb_S512x512_S16x512_464_0 (by decide) (by decide) _ (fun a b => wst512_at 464 (by decide) _ 0 a b)) x,
    fun x => slab_piece (h := 16) (w := 512) inb_S2x512x512_S1x16x512_0_448_0 _ (weightAt x0 x1 x2) (weight_piece c arg3 harg3 arg4 harg4 arg5 harg5 arg8 arg9 x0 x1 x2 448 inb_S512x512_S16x512_448_0 (by decide) (by decide) _ (fun a b => wst512_at 448 (by decide) _ 0 a b)) x,
    fun x => slab_piece (h := 16) (w := 512) inb_S2x512x512_S1x16x512_0_432_0 _ (weightAt x0 x1 x2) (weight_piece c arg3 harg3 arg4 harg4 arg5 harg5 arg8 arg9 x0 x1 x2 432 inb_S512x512_S16x512_432_0 (by decide) (by decide) _ (fun a b => wst512_at 432 (by decide) _ 0 a b)) x,
    fun x => slab_piece (h := 16) (w := 512) inb_S2x512x512_S1x16x512_0_416_0 _ (weightAt x0 x1 x2) (weight_piece c arg3 harg3 arg4 harg4 arg5 harg5 arg8 arg9 x0 x1 x2 416 inb_S512x512_S16x512_416_0 (by decide) (by decide) _ (fun a b => wst512_at 416 (by decide) _ 0 a b)) x,
    fun x => slab_piece (h := 16) (w := 512) inb_S2x512x512_S1x16x512_0_400_0 _ (weightAt x0 x1 x2) (weight_piece c arg3 harg3 arg4 harg4 arg5 harg5 arg8 arg9 x0 x1 x2 400 inb_S512x512_S16x512_400_0 (by decide) (by decide) _ (fun a b => wst512_at 400 (by decide) _ 0 a b)) x,
    fun x => slab_piece (h := 16) (w := 512) inb_S2x512x512_S1x16x512_0_384_0 _ (weightAt x0 x1 x2) (weight_piece c arg3 harg3 arg4 harg4 arg5 harg5 arg8 arg9 x0 x1 x2 384 inb_S512x512_S16x512_384_0 (by decide) (by decide) _ (fun a b => wst512_at 384 (by decide) _ 0 a b)) x,
    fun x => slab_piece (h := 16) (w := 128) inb_S2x512x512_S1x16x128_0_368_384 _ (weightAt x0 x1 x2) (zero_piece x0 x1 x2 368 384 (by decide) _ (fun a b => zero_word _)) x,
    fun x => slab_piece (h := 16) (w := 384) inb_S2x512x512_S1x16x384_0_368_0 _ (weightAt x0 x1 x2) (weight_piece c arg3 harg3 arg4 harg4 arg5 harg5 arg8 arg9 x0 x1 x2 368 inb_S512x512_S16x384_368_0 (by decide) (by decide) _ (fun a b => wst384_at 368 (by decide) _ 0 a b)) x,
    fun x => slab_piece (h := 16) (w := 128) inb_S2x512x512_S1x16x128_0_352_384 _ (weightAt x0 x1 x2) (zero_piece x0 x1 x2 352 384 (by decide) _ (fun a b => zero_word _)) x,
    fun x => slab_piece (h := 16) (w := 384) inb_S2x512x512_S1x16x384_0_352_0 _ (weightAt x0 x1 x2) (weight_piece c arg3 harg3 arg4 harg4 arg5 harg5 arg8 arg9 x0 x1 x2 352 inb_S512x512_S16x384_352_0 (by decide) (by decide) _ (fun a b => wst384_at 352 (by decide) _ 0 a b)) x,
    fun x => slab_piece (h := 16) (w := 128) inb_S2x512x512_S1x16x128_0_336_384 _ (weightAt x0 x1 x2) (zero_piece x0 x1 x2 336 384 (by decide) _ (fun a b => zero_word _)) x,
    fun x => slab_piece (h := 16) (w := 384) inb_S2x512x512_S1x16x384_0_336_0 _ (weightAt x0 x1 x2) (weight_piece c arg3 harg3 arg4 harg4 arg5 harg5 arg8 arg9 x0 x1 x2 336 inb_S512x512_S16x384_336_0 (by decide) (by decide) _ (fun a b => wst384_at 336 (by decide) _ 0 a b)) x,
    fun x => slab_piece (h := 16) (w := 128) inb_S2x512x512_S1x16x128_0_320_384 _ (weightAt x0 x1 x2) (zero_piece x0 x1 x2 320 384 (by decide) _ (fun a b => zero_word _)) x,
    fun x => slab_piece (h := 16) (w := 384) inb_S2x512x512_S1x16x384_0_320_0 _ (weightAt x0 x1 x2) (weight_piece c arg3 harg3 arg4 harg4 arg5 harg5 arg8 arg9 x0 x1 x2 320 inb_S512x512_S16x384_320_0 (by decide) (by decide) _ (fun a b => wst384_at 320 (by decide) _ 0 a b)) x,
    fun x => slab_piece (h := 16) (w := 128) inb_S2x512x512_S1x16x128_0_304_384 _ (weightAt x0 x1 x2) (zero_piece x0 x1 x2 304 384 (by decide) _ (fun a b => zero_word _)) x,
    fun x => slab_piece (h := 16) (w := 384) inb_S2x512x512_S1x16x384_0_304_0 _ (weightAt x0 x1 x2) (weight_piece c arg3 harg3 arg4 harg4 arg5 harg5 arg8 arg9 x0 x1 x2 304 inb_S512x512_S16x384_304_0 (by decide) (by decide) _ (fun a b => wst384_at 304 (by decide) _ 0 a b)) x,
    fun x => slab_piece (h := 16) (w := 128) inb_S2x512x512_S1x16x128_0_288_384 _ (weightAt x0 x1 x2) (zero_piece x0 x1 x2 288 384 (by decide) _ (fun a b => zero_word _)) x,
    fun x => slab_piece (h := 16) (w := 384) inb_S2x512x512_S1x16x384_0_288_0 _ (weightAt x0 x1 x2) (weight_piece c arg3 harg3 arg4 harg4 arg5 harg5 arg8 arg9 x0 x1 x2 288 inb_S512x512_S16x384_288_0 (by decide) (by decide) _ (fun a b => wst384_at 288 (by decide) _ 0 a b)) x,
    fun x => slab_piece (h := 16) (w := 128) inb_S2x512x512_S1x16x128_0_272_384 _ (weightAt x0 x1 x2) (zero_piece x0 x1 x2 272 384 (by decide) _ (fun a b => zero_word _)) x,
    fun x => slab_piece (h := 16) (w := 384) inb_S2x512x512_S1x16x384_0_272_0 _ (weightAt x0 x1 x2) (weight_piece c arg3 harg3 arg4 harg4 arg5 harg5 arg8 arg9 x0 x1 x2 272 inb_S512x512_S16x384_272_0 (by decide) (by decide) _ (fun a b => wst384_at 272 (by decide) _ 0 a b)) x,
    fun x => slab_piece (h := 16) (w := 128) inb_S2x512x512_S1x16x128_0_256_384 _ (weightAt x0 x1 x2) (zero_piece x0 x1 x2 256 384 (by decide) _ (fun a b => zero_word _)) x,
    fun x => slab_piece (h := 16) (w := 384) inb_S2x512x512_S1x16x384_0_256_0 _ (weightAt x0 x1 x2) (weight_piece c arg3 harg3 arg4 harg4 arg5 harg5 arg8 arg9 x0 x1 x2 256 inb_S512x512_S16x384_256_0 (by decide) (by decide) _ (fun a b => wst384_at 256 (by decide) _ 0 a b)) x,
    fun x => slab_piece (h := 16) (w := 256) inb_S2x512x512_S1x16x256_0_240_0 _ (weightAt x0 x1 x2) (weight_piece c arg3 harg3 arg4 harg4 arg5 harg5 arg8 arg9 x0 x1 x2 240 inb_S512x512_S16x256_240_0 (by decide) (by decide) _ (fun a b => wst256_at 240 (by decide) _ 0 a b)) x,
    fun x => slab_piece (h := 16) (w := 256) inb_S2x512x512_S1x16x256_0_224_0 _ (weightAt x0 x1 x2) (weight_piece c arg3 harg3 arg4 harg4 arg5 harg5 arg8 arg9 x0 x1 x2 224 inb_S512x512_S16x256_224_0 (by decide) (by decide) _ (fun a b => wst256_at 224 (by decide) _ 0 a b)) x,
    fun x => slab_piece (h := 16) (w := 256) inb_S2x512x512_S1x16x256_0_208_0 _ (weightAt x0 x1 x2) (weight_piece c arg3 harg3 arg4 harg4 arg5 harg5 arg8 arg9 x0 x1 x2 208 inb_S512x512_S16x256_208_0 (by decide) (by decide) _ (fun a b => wst256_at 208 (by decide) _ 0 a b)) x,
    fun x => slab_piece (h := 16) (w := 256) inb_S2x512x512_S1x16x256_0_192_0 _ (weightAt x0 x1 x2) (weight_piece c arg3 harg3 arg4 harg4 arg5 harg5 arg8 arg9 x0 x1 x2 192 inb_S512x512_S16x256_192_0 (by decide) (by decide) _ (fun a b => wst256_at 192 (by decide) _ 0 a b)) x,
    fun x => slab_piece (h := 16) (w := 256) inb_S2x512x512_S1x16x256_0_176_0 _ (weightAt x0 x1 x2) (weight_piece c arg3 harg3 arg4 harg4 arg5 harg5 arg8 arg9 x0 x1 x2 176 inb_S512x512_S16x256_176_0 (by decide) (by decide) _ (fun a b => wst256_at 176 (by decide) _ 0 a b)) x,
    fun x => slab_piece (h := 16) (w := 256) inb_S2x512x512_S1x16x256_0_160_0 _ (weightAt x0 x1 x2) (weight_piece c arg3 harg3 arg4 harg4 arg5 harg5 arg8 arg9 x0 x1 x2 160 inb_S512x512_S16x256_160_0 (by decide) (by decide) _ (fun a b => wst256_at 160 (by decide) _ 0 a b)) x,
    fun x => slab_piece (h := 16) (w := 256) inb_S2x512x512_S1x16x256_0_144_0 _ (weightAt x0 x1 x2) (weight_piece c arg3 harg3 arg4 harg4 arg5 harg5 arg8 arg9 x0 x1 x2 144 inb_S512x512_S16x256_144_0 (by decide) (by decide) _ (fun a b => wst256_at 144 (by decide) _ 0 a b)) x,
    fun x => slab_piece (h := 16) (w := 256) inb_S2x512x512_S1x16x256_0_128_0 _ (weightAt x0 x1 x2) (weight_piece c arg3 harg3 arg4 harg4 arg5 harg5 arg8 arg9 x0 x1 x2 128 inb_S512x512_S16x256_128_0 (by decide) (by decide) _ (fun a b => wst256_at 128 (by decide) _ 0 a b)) x,
    fun x => slab_piece (h := 16) (w := 128) inb_S2x512x512_S1x16x128_0_112_128 _ (weightAt x0 x1 x2) (zero_piece x0 x1 x2 112 128 (by decide) _ (fun a b => zero_word _)) x,
    fun x => slab_piece (h := 16) (w := 128) inb_S2x512x512_S1x16x128_0_112_0 _ (weightAt x0 x1 x2) (weight_piece c arg3 harg3 arg4 harg4 arg5 harg5 arg8 arg9 x0 x1 x2 112 inb_S512x512_S16x128_112_0 (by decide) (by decide) _ (fun a b => wst128_at 112 (by decide) _ 0 a b)) x,
    fun x => slab_piece (h := 16) (w := 128) inb_S2x512x512_S1x16x128_0_96_128 _ (weightAt x0 x1 x2) (zero_piece x0 x1 x2 96 128 (by decide) _ (fun a b => zero_word _)) x,
    fun x => slab_piece (h := 16) (w := 128) inb_S2x512x512_S1x16x128_0_96_0 _ (weightAt x0 x1 x2) (weight_piece c arg3 harg3 arg4 harg4 arg5 harg5 arg8 arg9 x0 x1 x2 96 inb_S512x512_S16x128_96_0 (by decide) (by decide) _ (fun a b => wst128_at 96 (by decide) _ 0 a b)) x,
    fun x => slab_piece (h := 16) (w := 128) inb_S2x512x512_S1x16x128_0_80_128 _ (weightAt x0 x1 x2) (zero_piece x0 x1 x2 80 128 (by decide) _ (fun a b => zero_word _)) x,
    fun x => slab_piece (h := 16) (w := 128) inb_S2x512x512_S1x16x128_0_80_0 _ (weightAt x0 x1 x2) (weight_piece c arg3 harg3 arg4 harg4 arg5 harg5 arg8 arg9 x0 x1 x2 80 inb_S512x512_S16x128_80_0 (by decide) (by decide) _ (fun a b => wst128_at 80 (by decide) _ 0 a b)) x,
    fun x => slab_piece (h := 16) (w := 128) inb_S2x512x512_S1x16x128_0_64_128 _ (weightAt x0 x1 x2) (zero_piece x0 x1 x2 64 128 (by decide) _ (fun a b => zero_word _)) x,
    fun x => slab_piece (h := 16) (w := 128) inb_S2x512x512_S1x16x128_0_64_0 _ (weightAt x0 x1 x2) (weight_piece c arg3 harg3 arg4 harg4 arg5 harg5 arg8 arg9 x0 x1 x2 64 inb_S512x512_S16x128_64_0 (by decide) (by decide) _ (fun a b => wst128_at 64 (by decide) _ 0 a b)) x,
    fun x => slab_piece (h := 16) (w := 128) inb_S2x512x512_S1x16x128_0_48_128 _ (weightAt x0 x1 x2) (zero_piece x0 x1 x2 48 128 (by decide) _ (fun a b => zero_word _)) x,
    fun x => slab_piece (h := 16) (w := 128) inb_S2x512x512_S1x16x128_0_48_0 _ (weightAt x0 x1 x2) (weight_piece c arg3 harg3 arg4 harg4 arg5 harg5 arg8 arg9 x0 x1 x2 48 inb_S512x512_S16x128_48_0 (by decide) (by decide) _ (fun a b => wst128_at 48 (by decide) _ 0 a b)) x,
    fun x => slab_piece (h := 16) (w := 128) inb_S2x512x512_S1x16x128_0_32_128 _ (weightAt x0 x1 x2) (zero_piece x0 x1 x2 32 128 (by decide) _ (fun a b => zero_word _)) x,
    fun x => slab_piece (h := 16) (w := 128) inb_S2x512x512_S1x16x128_0_32_0 _ (weightAt x0 x1 x2) (weight_piece c arg3 harg3 arg4 harg4 arg5 harg5 arg8 arg9 x0 x1 x2 32 inb_S512x512_S16x128_32_0 (by decide) (by decide) _ (fun a b => wst128_at 32 (by decide) _ 0 a b)) x,
    fun x => slab_piece (h := 16) (w := 128) inb_S2x512x512_S1x16x128_0_16_128 _ (weightAt x0 x1 x2) (zero_piece x0 x1 x2 16 128 (by decide) _ (fun a b => zero_word _)) x,
    fun x => slab_piece (h := 16) (w := 128) inb_S2x512x512_S1x16x128_0_16_0 _ (weightAt x0 x1 x2) (weight_piece c arg3 harg3 arg4 harg4 arg5 harg5 arg8 arg9 x0 x1 x2 16 inb_S512x512_S16x128_16_0 (by decide) (by decide) _ (fun a b => wst128_at 16 (by decide) _ 0 a b)) x,
    fun x => slab_piece (h := 16) (w := 128) inb_S2x512x512_S1x16x128_0_0_128 _ (weightAt x0 x1 x2) (zero_piece x0 x1 x2 0 128 (by decide) _ (fun a b => zero_word _)) x,
    fun x => slab_piece (h := 16) (w := 128) inb_S2x512x512_S1x16x128_0_0_0 _ (weightAt x0 x1 x2) (weight_piece c arg3 harg3 arg4 harg4 arg5 harg5 arg8 arg9 x0 x1 x2 0 inb_S512x512_S16x128_0_0 (by decide) (by decide) _ (fun a b => wst128_at 0 (by decide) _ 0 a b)) x, trivial⟩

/-- The stored sums. -/
theorem mass_pieces : View.PiecesOf (fun i : S1x512x128.Idx => massAt x0 x1 x2 (i 1))
    (kernelRun0_A.sl.HS5_32 (F := Ideal) c arg3 harg3 arg4 harg4 arg5 harg5 arg8 arg9 x0 x1 x2) := by
  unfold kernelRun0_A.sl.HS5_32
  refine ⟨
    fun x => slab_piece (h := 16) (w := 128) inb_S1x512x128_S1x16x128_0_496_0 _ (fun r _ => massAt x0 x1 x2 r) (mass_piece c arg3 harg3 arg4 harg4 arg5 harg5 arg8 arg9 x0 x1 x2 496 inb_S512x512_S16x512_496_0 (by decide) (by decide) _ (fun a b => sst512_at 496 (by decide) _ 0 a b)) x,
    fun x => slab_piece (h := 16) (w := 128) inb_S1x512x128_S1x16x128_0_480_0 _ (fun r _ => massAt x0 x1 x2 r) (mass_piece c arg3 harg3 arg4 harg4 arg5 harg5 arg8 arg9 x0 x1 x2 480 inb_S512x512_S16x512_480_0 (by decide) (by decide) _ (fun a b => sst512_at 480 (by decide) _ 0 a b)) x,
    fun x => slab_piece (h := 16) (w := 128) inb_S1x512x128_S1x16x128_0_464_0 _ (fun r _ => massAt x0 x1 x2 r) (mass_piece c arg3 harg3 arg4 harg4 arg5 harg5 arg8 arg9 x0 x1 x2 464 inb_S512x512_S16x512_464_0 (by decide) (by decide) _ (fun a b => sst512_at 464 (by decide) _ 0 a b)) x,
    fun x => slab_piece (h := 16) (w := 128) inb_S1x512x128_S1x16x128_0_448_0 _ (fun r _ => massAt x0 x1 x2 r) (mass_piece c arg3 harg3 arg4 harg4 arg5 harg5 arg8 arg9 x0 x1 x2 448 inb_S512x512_S16x512_448_0 (by decide) (by decide) _ (fun a b => sst512_at 448 (by decide) _ 0 a b)) x,
    fun x => slab_piece (h := 16) (w := 128) inb_S1x512x128_S1x16x128_0_432_0 _ (fun r _ => massAt x0 x1 x2 r) (mass_piece c arg3 harg3 arg4 harg4 arg5 harg5 arg8 arg9 x0 x1 x2 432 inb_S512x512_S16x512_432_0 (by decide) (by decide) _ (fun a b => sst512_at 432 (by decide) _ 0 a b)) x,
    fun x => slab_piece (h := 16) (w := 128) inb_S1x512x128_S1x16x128_0_416_0 _ (fun r _ => massAt x0 x1 x2 r) (mass_piece c arg3 harg3 arg4 harg4 arg5 harg5 arg8 arg9 x0 x1 x2 416 inb_S512x512_S16x512_416_0 (by decide) (by decide) _ (fun a b => sst512_at 416 (by decide) _ 0 a b)) x,
    fun x => slab_piece (h := 16) (w := 128) inb_S1x512x128_S1x16x128_0_400_0 _ (fun r _ => massAt x0 x1 x2 r) (mass_piece c arg3 harg3 arg4 harg4 arg5 harg5 arg8 arg9 x0 x1 x2 400 inb_S512x512_S16x512_400_0 (by decide) (by decide) _ (fun a b => sst512_at 400 (by decide) _ 0 a b)) x,
    fun x => slab_piece (h := 16) (w := 128) inb_S1x512x128_S1x16x128_0_384_0 _ (fun r _ => massAt x0 x1 x2 r) (mass_piece c arg3 harg3 arg4 harg4 arg5 harg5 arg8 arg9 x0 x1 x2 384 inb_S512x512_S16x512_384_0 (by decide) (by decide) _ (fun a b => sst512_at 384 (by decide) _ 0 a b)) x,
    fun x => slab_piece (h := 16) (w := 128) inb_S1x512x128_S1x16x128_0_368_0 _ (fun r _ => massAt x0 x1 x2 r) (mass_piece c arg3 harg3 arg4 harg4 arg5 harg5 arg8 arg9 x0 x1 x2 368 inb_S512x512_S16x384_368_0 (by decide) (by decide) _ (fun a b => sst384_at 368 (by decide) _ 0 a b)) x,
    fun x => slab_piece (h := 16) (w := 128) inb_S1x512x128_S1x16x128_0_352_0 _ (fun r _ => massAt x0 x1 x2 r) (mass_piece c arg3 harg3 arg4 harg4 arg5 harg5 arg8 arg9 x0 x1 x2 352 inb_S512x512_S16x384_352_0 (by decide) (by decide) _ (fun a b => sst384_at 352 (by decide) _ 0 a b)) x,
    fun x => slab_piece (h := 16) (w := 128) inb_S1x512x128_S1x16x128_0_336_0 _ (fun r _ => massAt x0 x1 x2 r) (mass_piece c arg3 harg3 arg4 harg4 arg5 harg5 arg8 arg9 x0 x1 x2 336 inb_S512x512_S16x384_336_0 (by decide) (by decide) _ (fun a b => sst384_at 336 (by decide) _ 0 a b)) x,
    fun x => slab_piece (h := 16) (w := 128) inb_S1x512x128_S1x16x128_0_320_0 _ (fun r _ => massAt x0 x1 x2 r) (mass_piece c arg3 harg3 arg4 harg4 arg5 harg5 arg8 arg9 x0 x1 x2 320 inb_S512x512_S16x384_320_0 (by decide) (by decide) _ (fun a b => sst384_at 320 (by decide) _ 0 a b)) x,
    fun x => slab_piece (h := 16) (w := 128) inb_S1x512x128_S1x16x128_0_304_0 _ (fun r _ => massAt x0 x1 x2 r) (mass_piece c arg3 harg3 arg4 harg4 arg5 harg5 arg8 arg9 x0 x1 x2 304 inb_S512x512_S16x384_304_0 (by decide) (by decide) _ (fun a b => sst384_at 304 (by decide) _ 0 a b)) x,
    fun x => slab_piece (h := 16) (w := 128) inb_S1x512x128_S1x16x128_0_288_0 _ (fun r _ => massAt x0 x1 x2 r) (mass_piece c arg3 harg3 arg4 harg4 arg5 harg5 arg8 arg9 x0 x1 x2 288 inb_S512x512_S16x384_288_0 (by decide) (by decide) _ (fun a b => sst384_at 288 (by decide) _ 0 a b)) x,
    fun x => slab_piece (h := 16) (w := 128) inb_S1x512x128_S1x16x128_0_272_0 _ (fun r _ => massAt x0 x1 x2 r) (mass_piece c arg3 harg3 arg4 harg4 arg5 harg5 arg8 arg9 x0 x1 x2 272 inb_S512x512_S16x384_272_0 (by decide) (by decide) _ (fun a b => sst384_at 272 (by decide) _ 0 a b)) x,
    fun x => slab_piece (h := 16) (w := 128) inb_S1x512x128_S1x16x128_0_256_0 _ (fun r _ => massAt x0 x1 x2 r) (mass_piece c arg3 harg3 arg4 harg4 arg5 harg5 arg8 arg9 x0 x1 x2 256 inb_S512x512_S16x384_256_0 (by decide) (by decide) _ (fun a b => sst384_at 256 (by decide) _ 0 a b)) x,
    fun x => slab_piece (h := 16) (w := 128) inb_S1x512x128_S1x16x128_0_240_0 _ (fun r _ => massAt x0 x1 x2 r) (mass_piece c arg3 harg3 arg4 harg4 arg5 harg5 arg8 arg9 x0 x1 x2 240 inb_S512x512_S16x256_240_0 (by decide) (by decide) _ (fun a b => sst256_at 240 (by decide) _ 0 a b)) x,
    fun x => slab_piece (h := 16) (w := 128) inb_S1x512x128_S1x16x128_0_224_0 _ (fun r _ => massAt x0 x1 x2 r) (mass_piece c arg3 harg3 arg4 harg4 arg5 harg5 arg8 arg9 x0 x1 x2 224 inb_S512x512_S16x256_224_0 (by decide) (by decide) _ (fun a b => sst256_at 224 (by decide) _ 0 a b)) x,
    fun x => slab_piece (h := 16) (w := 128) inb_S1x512x128_S1x16x128_0_208_0 _ (fun r _ => massAt x0 x1 x2 r) (mass_piece c arg3 harg3 arg4 harg4 arg5 harg5 arg8 arg9 x0 x1 x2 208 inb_S512x512_S16x256_208_0 (by decide) (by decide) _ (fun a b => sst256_at 208 (by decide) _ 0 a b)) x,
    fun x => slab_piece (h := 16) (w := 128) inb_S1x512x128_S1x16x128_0_192_0 _ (fun r _ => massAt x0 x1 x2 r) (mass_piece c arg3 harg3 arg4 harg4 arg5 harg5 arg8 arg9 x0 x1 x2 192 inb_S512x512_S16x256_192_0 (by decide) (by decide) _ (fun a b => sst256_at 192 (by decide) _ 0 a b)) x,
    fun x => slab_piece (h := 16) (w := 128) inb_S1x512x128_S1x16x128_0_176_0 _ (fun r _ => massAt x0 x1 x2 r) (mass_piece c arg3 harg3 arg4 harg4 arg5 harg5 arg8 arg9 x0 x1 x2 176 inb_S512x512_S16x256_176_0 (by decide) (by decide) _ (fun a b => sst256_at 176 (by decide) _ 0 a b)) x,
    fun x => slab_piece (h := 16) (w := 128) inb_S1x512x128_S1x16x128_0_160_0 _ (fun r _ => massAt x0 x1 x2 r) (mass_piece c arg3 harg3 arg4 harg4 arg5 harg5 arg8 arg9 x0 x1 x2 160 inb_S512x512_S16x256_160_0 (by decide) (by decide) _ (fun a b => sst256_at 160 (by decide) _ 0 a b)) x,
    fun x => slab_piece (h := 16) (w := 128) inb_S1x512x128_S1x16x128_0_144_0 _ (fun r _ => massAt x0 x1 x2 r) (mass_piece c arg3 harg3 arg4 harg4 arg5 harg5 arg8 arg9 x0 x1 x2 144 inb_S512x512_S16x256_144_0 (by decide) (by decide) _ (fun a b => sst256_at 144 (by decide) _ 0 a b)) x,
    fun x => slab_piece (h := 16) (w := 128) inb_S1x512x128_S1x16x128_0_128_0 _ (fun r _ => massAt x0 x1 x2 r) (mass_piece c arg3 harg3 arg4 harg4 arg5 harg5 arg8 arg9 x0 x1 x2 128 inb_S512x512_S16x256_128_0 (by decide) (by decide) _ (fun a b => sst256_at 128 (by decide) _ 0 a b)) x,
    fun x => slab_piece (h := 16) (w := 128) inb_S1x512x128_S1x16x128_0_112_0 _ (fun r _ => massAt x0 x1 x2 r) (mass_piece c arg3 harg3 arg4 harg4 arg5 harg5 arg8 arg9 x0 x1 x2 112 inb_S512x512_S16x128_112_0 (by decide) (by decide) _ (fun a b => sst128_at 112 (by decide) _ 0 a b)) x,
    fun x => slab_piece (h := 16) (w := 128) inb_S1x512x128_S1x16x128_0_96_0 _ (fun r _ => massAt x0 x1 x2 r) (mass_piece c arg3 harg3 arg4 harg4 arg5 harg5 arg8 arg9 x0 x1 x2 96 inb_S512x512_S16x128_96_0 (by decide) (by decide) _ (fun a b => sst128_at 96 (by decide) _ 0 a b)) x,
    fun x => slab_piece (h := 16) (w := 128) inb_S1x512x128_S1x16x128_0_80_0 _ (fun r _ => massAt x0 x1 x2 r) (mass_piece c arg3 harg3 arg4 harg4 arg5 harg5 arg8 arg9 x0 x1 x2 80 inb_S512x512_S16x128_80_0 (by decide) (by decide) _ (fun a b => sst128_at 80 (by decide) _ 0 a b)) x,
    fun x => slab_piece (h := 16) (w := 128) inb_S1x512x128_S1x16x128_0_64_0 _ (fun r _ => massAt x0 x1 x2 r) (mass_piece c arg3 harg3 arg4 harg4 arg5 harg5 arg8 arg9 x0 x1 x2 64 inb_S512x512_S16x128_64_0 (by decide) (by decide) _ (fun a b => sst128_at 64 (by decide) _ 0 a b)) x,
    fun x => slab_piece (h := 16) (w := 128) inb_S1x512x128_S1x16x128_0_48_0 _ (fun r _ => massAt x0 x1 x2 r) (mass_piece c arg3 harg3 arg4 harg4 arg5 harg5 arg8 arg9 x0 x1 x2 48 inb_S512x512_S16x128_48_0 (by decide) (by decide) _ (fun a b => sst128_at 48 (by decide) _ 0 a b)) x,
    fun x => slab_piece (h := 16) (w := 128) inb_S1x512x128_S1x16x128_0_32_0 _ (fun r _ => massAt x0 x1 x2 r) (mass_piece c arg3 harg3 arg4 harg4 arg5 harg5 arg8 arg9 x0 x1 x2 32 inb_S512x512_S16x128_32_0 (by decide) (by decide) _ (fun a b => sst128_at 32 (by decide) _ 0 a b)) x,
    fun x => slab_piece (h := 16) (w := 128) inb_S1x512x128_S1x16x128_0_16_0 _ (fun r _ => massAt x0 x1 x2 r) (mass_piece c arg3 harg3 arg4 harg4 arg5 harg5 arg8 arg9 x0 x1 x2 16 inb_S512x512_S16x128_16_0 (by decide) (by decide) _ (fun a b => sst128_at 16 (by decide) _ 0 a b)) x,
    fun x => slab_piece (h := 16) (w := 128) inb_S1x512x128_S1x16x128_0_0_0 _ (fun r _ => massAt x0 x1 x2 r) (mass_piece c arg3 harg3 arg4 harg4 arg5 harg5 arg8 arg9 x0 x1 x2 0 inb_S512x512_S16x128_0_0 (by decide) (by decide) _ (fun a b => sst128_at 0 (by decide) _ 0 a b)) x, trivial⟩

end Cert.MlaAttnIdeal.Tile

end
-- ==== Proof.Hand.MlaRunH.lean ====
/- The MLA attention body run at the grid points of its eighth case (a query tile other than the first that is not
   the first point of its row): every part of the body is replaced by its skeleton, and the triple of the body gives
   the pieces each buffer ends with. -/
module

public import proofs.«01_k».proof.Proof.Gen.MlaAttnIdeal.Frame.RunG

@[expose] public section

-- membership in a rectangle of production extents (`View.cover_of_tiled`): the elaborator's structural look
-- recurses once per coordinate of the long axes
set_option maxRecDepth 16384

noncomputable section

namespace Cert.MlaAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 26784000 in set_option sl_exec.squeezeSlice true in
/-- What the body's stores leave in each output's staging memref, as pieces (last first) IN CASE H (`scf.if` 0 not taken, `scf.if` 1 not taken, `scf.if` 2 not taken, `scf.if` 3 not taken, `scf.if` 4 not taken, `scf.if` 5 not taken, `scf.if` 6 not taken, `scf.if` 7 not taken, `scf.if` 8 taken: points 7, 15, … 1023: 128 of 1024), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_H (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S1x512x256 .bf16) (x1 : Vec F S1x4096x128 .bf16) (x2 : Vec F S1x4096x128 .bf16) (x3 : Vec F S1x4096x128 .bf16) (xs0 : Vec F S4096x256 .bf16) :
    Σ' (L4 : List (View.Piece (Elt F) S1x512x128 .bf16)), Σ' (LS0 : List (View.Piece (Elt F) S4096x256 .bf16)), Σ' (LT2 : List (View.Piece (Elt F) S2x512x512 .bf16)), Σ' (LT4 : List (View.Piece (Elt F) S1x512x128 .f32)), Σ' (LT5 : List (View.Piece (Elt F) S1x512x128 .f32)), { LT6 : List (View.Piece (Elt F) S1x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xs0 ∗ (∃ d, owns (c : Thread nD τ) arg9 fullShare d) ∗ (∃ f, arg10.view.loc (c : Thread nD τ) ↦[arg10.view.set]{fullShare} arg10.view.writes (Elt F) f LT2) ∗ (∃ d, owns (c : Thread nD τ) arg11 fullShare d) ∗ (∃ f, arg12.view.loc (c : Thread nD τ) ↦[arg12.view.set]{fullShare} arg12.view.writes (Elt F) f LT4) ∗ (∃ f, arg13.view.loc (c : Thread nD τ) ↦[arg13.view.set]{fullShare} arg13.view.writes (Elt F) f LT5) ∗ (∃ f, arg14.view.loc (c : Thread nD τ) ↦[arg14.view.set]{fullShare} arg14.view.writes (Elt F) f LT6)) -∗ K ⟨⟩))
          ⊢ wp frame (wpE (defs₀ (F := F)) Variants.none c none) E (cc0_mla_attn i arg3 harg3 arg4 harg4 arg5 harg5 arg6 harg6 arg7 harg7 arg8 harg8 arg9 harg9 arg10 harg10 arg11 harg11 arg12 harg12 arg13 harg13 arg14 harg14) K } := by
  refine ⟨?_, [], ?_, ?_, ?_, ?_, fun E K => ?run⟩
  case run =>
    simp only [cc0_mla_attn_eq_skeleton]; unfold cc0_mla_attn_skel
    rw [k0_part1407_eq_skeleton, k0_part1408_eq_skeleton, k0_part1409_eq_skeleton, k0_part1410_eq_skeleton, k0_part1411_eq_skeleton, k0_part1395_eq_skeleton, k0_part1396_eq_skeleton, k0_part1397_eq_skeleton, k0_part1398_eq_skeleton, k0_part1399_eq_skeleton, k0_part1400_eq_skeleton, k0_part1401_eq_skeleton, k0_part1402_eq_skeleton, k0_part1403_eq_skeleton, k0_part1404_eq_skeleton, k0_part1405_eq_skeleton, k0_part1406_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]
    · iexists _, _; isplitr; swap; · iexact HS1
      ipureintro; rfl
    isplitl [HS2]; · iexists _; iexact HS2
    isplitl [HS3]
    · iexists _, _; isplitr; swap; · iexact HS3
      ipureintro; rfl
    isplitl [HS4]; · iexists _; iexact HS4
    isplitl [HS5]; · iexists _; iexact HS5
    iexists _; iexact HS6

end Cert.MlaAttnIdeal.Gen

end
-- ==== Proof.Hand.MlaFrame.lean ====
/- The frame of the MLA attention call: what its output and its carried scratch hold per case and point by point,
   the proof data of the pipeline, the obligation of the body, and the run of the whole program. -/
module

public import proofs.«01_k».proof.Proof.Hand.MlaRunH
public import Idealize.ShloMosaic.Lib.Claim

@[expose] public section

-- membership in a rectangle of production extents (`View.cover_of_tiled`): the elaborator's structural look
-- recurses once per coordinate of the long axes
set_option maxRecDepth 16384

noncomputable section

namespace Cert.MlaAttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (1 store of `S1x512x128`, checked by the kernel's evaluation: Lib/Ring.lean `Piece.tiledL`, linear in the pieces, through a loop's `@[irreducible]` trip theorem too), so they cover it. -/
theorem cover0_A_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (y : S1x512x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3).1 S1x512x128.size (by sl_kernel_rfl) y

/-- What case A leaves in output 4's staging buffer: its pieces read back over junk. -/
def out0_A_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) : Vec F S1x512x128 .bf16 :=
  VO0_4.read (Elt F) (VO0_4.writes (Elt F) VO0_4.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3).1)

/-- Case A's pieces for scratch `arg8`, which the kernel carries between points, cover it: 2 pieces of `S4096x128` tiling it (Lib/Ring.lean `Piece.tiledL`). -/
theorem scover0_A_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (y : S4096x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3).2.1 S4096x128.size (by sl_kernel_rfl) y

/-- What case A leaves in scratch `arg8`: its pieces read back over junk. -/
def sout0_A_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) : Vec F S4096x256 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3).2.1)

/-- Case B's pieces for output 4 tile its block (1 store of `S1x512x128`, checked by the kernel's evaluation: Lib/Ring.lean `Piece.tiledL`, linear in the pieces, through a loop's `@[irreducible]` trip theorem too), so they cover it. -/
theorem cover0_B_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case B leaves in output 4's staging buffer: its pieces read back over junk. -/
def out0_B_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_B c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case B stores nothing into scratch `arg8`: it holds what the point before left. -/
def sout0_B_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-- Case C's pieces for output 4 tile its block (1 store of `S1x512x128`, checked by the kernel's evaluation: Lib/Ring.lean `Piece.tiledL`, linear in the pieces, through a loop's `@[irreducible]` trip theorem too), so they cover it. -/
theorem cover0_C_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case C leaves in output 4's staging buffer: its pieces read back over junk. -/
def out0_C_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_C c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case C stores nothing into scratch `arg8`: it holds what the point before left. -/
def sout0_C_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-- Case D's pieces for output 4 tile its block (1 store of `S1x512x128`, checked by the kernel's evaluation: Lib/Ring.lean `Piece.tiledL`, linear in the pieces, through a loop's `@[irreducible]` trip theorem too), so they cover it. -/
theorem cover0_D_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_D c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case D leaves in output 4's staging buffer: its pieces read back over junk. -/
def out0_D_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_D c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case D stores nothing into scratch `arg8`: it holds what the point before left. -/
def sout0_D_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-- Case E's pieces for output 4 tile its block (1 store of `S1x512x128`, checked by the kernel's evaluation: Lib/Ring.lean `Piece.tiledL`, linear in the pieces, through a loop's `@[irreducible]` trip theorem too), so they cover it. -/
theorem cover0_E_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_E c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case E leaves in output 4's staging buffer: its pieces read back over junk. -/
def out0_E_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_E c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case E stores nothing into scratch `arg8`: it holds what the point before left. -/
def sout0_E_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-- Case F's pieces for output 4 tile its block (1 store of `S1x512x128`, checked by the kernel's evaluation: Lib/Ring.lean `Piece.tiledL`, linear in the pieces, through a loop's `@[irreducible]` trip theorem too), so they cover it. -/
theorem cover0_F_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_F c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_F c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case F leaves in output 4's staging buffer: its pieces read back over junk. -/
def out0_F_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_F c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case F stores nothing into scratch `arg8`: it holds what the point before left. -/
def sout0_F_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-- Case G's pieces for output 4 tile its block (1 store of `S1x512x128`, checked by the kernel's evaluation: Lib/Ring.lean `Piece.tiledL`, linear in the pieces, through a loop's `@[irreducible]` trip theorem too), so they cover it. -/
theorem cover0_G_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_G c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_G c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case G leaves in output 4's staging buffer: its pieces read back over junk. -/
def out0_G_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_G c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case G stores nothing into scratch `arg8`: it holds what the point before left. -/
def sout0_G_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-- Case H's pieces for output 4 tile its block (1 store of `S1x512x128`, checked by the kernel's evaluation: Lib/Ring.lean `Piece.tiledL`, linear in the pieces, through a loop's `@[irreducible]` trip theorem too), so they cover it. -/
theorem cover0_H_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S1x512x256 .bf16) (x1 : Vec F S1x4096x128 .bf16) (x2 : Vec F S1x4096x128 .bf16) (x3 : Vec F S1x4096x128 .bf16) (xs0 : Vec F S4096x256 .bf16) (y : S1x512x128.Idx) :
    ∃ pc ∈ (kernelRun0_H c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1, y ∈ pc.1.set :=
  View.cover_of_tiledL (kernelRun0_H c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1 S1x512x128.size (by sl_kernel_rfl) y

/-- What case H leaves in output 4's staging buffer: its pieces read back over junk. -/
def out0_H_4 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S1x512x256 .bf16) (x1 : Vec F S1x4096x128 .bf16) (x2 : Vec F S1x4096x128 .bf16) (x3 : Vec F S1x4096x128 .bf16) (xs0 : Vec F S4096x256 .bf16) : Vec F S1x512x128 .bf16 :=
  VO0_4.read (Elt F) (VO0_4.writes (Elt F) VO0_4.junk (kernelRun0_H c i arg3 harg3 arg4 harg4 arg5 harg5 arg6 harg6 arg7 harg7 arg8 harg8 arg9 harg9 arg10 harg10 arg11 harg11 arg12 harg12 arg13 harg13 arg14 harg14 hc0 hc1 hc2 hc3 hc4 hc5 hc6 hc7 hc8 x0 x1 x2 x3 xs0).1)

/-- Case H stores nothing into scratch `arg8`: it holds what the point before left. -/
def sout0_H_0 (c : Dev nD) (i : grid0.Coords) (arg3 : Memref sig .tc .vmem S1x512x256 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S4096x256 .bf16) (harg8 : arg8.IsWhole) (arg9 : Memref sig .tc .vmem S2x512x512 .f32) (harg9 : arg9.IsWhole) (arg10 : Memref sig .tc .vmem S2x512x512 .bf16) (harg10 : arg10.IsWhole) (arg11 : Memref sig .tc .vmem S2x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S1x512x256 .bf16) (x1 : Vec F S1x4096x128 .bf16) (x2 : Vec F S1x4096x128 .bf16) (x3 : Vec F S1x4096x128 .bf16) (xs0 : Vec F S4096x256 .bf16) : Vec F S4096x256 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x128 .bf16 × Vec F S4096x256 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (fun h => (fun h => by (try dsimp only at h); omega) ((hcond0_6 ⟨0, hn⟩).mp h)) (fun h => (fun h => by (try dsimp only at h); omega) ((hcond0_7 ⟨0, hn⟩).mp h)) (fun h => (fun h => by (try dsimp only at h); omega) ((hcond0_8 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (fun h => (fun h => by (try dsimp only at h); omega) ((hcond0_5 ⟨0, hn⟩).mp h)) (fun h => (fun h => by (try dsimp only at h); omega) ((hcond0_6 ⟨0, hn⟩).mp h)) (fun h => (fun h => by (try dsimp only at h); omega) ((hcond0_7 ⟨0, hn⟩).mp h)) (fun h => (fun h => by (try dsimp only at h); omega) ((hcond0_8 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 0 then
        if h2 : (n + 1) % 8 = 1 then
          False.elim (by have hN : n + 1 < 1024 := lt_of_lt_of_eq hn (show cfg0.N = 1024 from N_0); omega)
        else
          if h3 : (n + 1) % 8 = 2 then
            False.elim (by have hN : n + 1 < 1024 := lt_of_lt_of_eq hn (show cfg0.N = 1024 from N_0); omega)
          else
            if h4 : (n + 1) % 8 = 3 then
              False.elim (by have hN : n + 1 < 1024 := lt_of_lt_of_eq hn (show cfg0.N = 1024 from N_0); omega)
            else
              if h5 : (n + 1) % 8 = 4 then
                False.elim (by have hN : n + 1 < 1024 := lt_of_lt_of_eq hn (show cfg0.N = 1024 from N_0); omega)
              else
                if h6 : (n + 1) % 8 = 5 then
                  False.elim (by have hN : n + 1 < 1024 := lt_of_lt_of_eq hn (show cfg0.N = 1024 from N_0); omega)
                else
                  if h7 : (n + 1) % 8 = 6 then
                    False.elim (by have hN : n + 1 < 1024 := lt_of_lt_of_eq hn (show cfg0.N = 1024 from N_0); omega)
                  else
                    if h8 : (n + 1) % 8 = 7 then
                      False.elim (by have hN : n + 1 < 1024 := lt_of_lt_of_eq hn (show cfg0.N = 1024 from N_0); omega)
                    else
                      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 1024 := lt_of_lt_of_eq hn (show cfg0.N = 1024 from N_0); omega)
    else
      if h1 : (n + 1) % 8 = 0 then
        False.elim (by have hN : n + 1 < 1024 := lt_of_lt_of_eq hn (show cfg0.N = 1024 from N_0); omega)
      else
        if h2 : (n + 1) % 8 = 1 then
          if h3 : (n + 1) % 8 = 2 then
            False.elim (by have hN : n + 1 < 1024 := lt_of_lt_of_eq hn (show cfg0.N = 1024 from N_0); omega)
          else
            if h4 : (n + 1) % 8 = 3 then
              False.elim (by have hN : n + 1 < 1024 := lt_of_lt_of_eq hn (show cfg0.N = 1024 from N_0); omega)
            else
              if h5 : (n + 1) % 8 = 4 then
                False.elim (by have hN : n + 1 < 1024 := lt_of_lt_of_eq hn (show cfg0.N = 1024 from N_0); omega)
              else
                if h6 : (n + 1) % 8 = 5 then
                  False.elim (by have hN : n + 1 < 1024 := lt_of_lt_of_eq hn (show cfg0.N = 1024 from N_0); omega)
                else
                  if h7 : (n + 1) % 8 = 6 then
                    False.elim (by have hN : n + 1 < 1024 := lt_of_lt_of_eq hn (show cfg0.N = 1024 from N_0); omega)
                  else
                    if h8 : (n + 1) % 8 = 7 then
                      False.elim (by have hN : n + 1 < 1024 := lt_of_lt_of_eq hn (show cfg0.N = 1024 from N_0); omega)
                    else
                      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
        else
          if h3 : (n + 1) % 8 = 2 then
            if h4 : (n + 1) % 8 = 3 then
              False.elim (by have hN : n + 1 < 1024 := lt_of_lt_of_eq hn (show cfg0.N = 1024 from N_0); omega)
            else
              if h5 : (n + 1) % 8 = 4 then
                False.elim (by have hN : n + 1 < 1024 := lt_of_lt_of_eq hn (show cfg0.N = 1024 from N_0); omega)
              else
                if h6 : (n + 1) % 8 = 5 then
                  False.elim (by have hN : n + 1 < 1024 := lt_of_lt_of_eq hn (show cfg0.N = 1024 from N_0); omega)
                else
                  if h7 : (n + 1) % 8 = 6 then
                    False.elim (by have hN : n + 1 < 1024 := lt_of_lt_of_eq hn (show cfg0.N = 1024 from N_0); omega)
                  else
                    if h8 : (n + 1) % 8 = 7 then
                      False.elim (by have hN : n + 1 < 1024 := lt_of_lt_of_eq hn (show cfg0.N = 1024 from N_0); omega)
                    else
                      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
          else
            if h4 : (n + 1) % 8 = 3 then
              if h5 : (n + 1) % 8 = 4 then
                False.elim (by have hN : n + 1 < 1024 := lt_of_lt_of_eq hn (show cfg0.N = 1024 from N_0); omega)
              else
                if h6 : (n + 1) % 8 = 5 then
                  False.elim (by have hN : n + 1 < 1024 := lt_of_lt_of_eq hn (show cfg0.N = 1024 from N_0); omega)
                else
                  if h7 : (n + 1) % 8 = 6 then
                    False.elim (by have hN : n + 1 < 1024 := lt_of_lt_of_eq hn (show cfg0.N = 1024 from N_0); omega)
                  else
                    if h8 : (n + 1) % 8 = 7 then
                      False.elim (by have hN : n + 1 < 1024 := lt_of_lt_of_eq hn (show cfg0.N = 1024 from N_0); omega)
                    else
                      (out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) ((hcond0_4 ⟨n + 1, hn⟩).mpr h4) (fun h => h5 ((hcond0_5 ⟨n + 1, hn⟩).mp h)) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
            else
              if h5 : (n + 1) % 8 = 4 then
                if h6 : (n + 1) % 8 = 5 then
                  False.elim (by have hN : n + 1 < 1024 := lt_of_lt_of_eq hn (show cfg0.N = 1024 from N_0); omega)
                else
                  if h7 : (n + 1) % 8 = 6 then
                    False.elim (by have hN : n + 1 < 1024 := lt_of_lt_of_eq hn (show cfg0.N = 1024 from N_0); omega)
                  else
                    if h8 : (n + 1) % 8 = 7 then
                      False.elim (by have hN : n + 1 < 1024 := lt_of_lt_of_eq hn (show cfg0.N = 1024 from N_0); omega)
                    else
                      (out0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) ((hcond0_5 ⟨n + 1, hn⟩).mpr h5) (fun h => h6 ((hcond0_6 ⟨n + 1, hn⟩).mp h)) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
              else
                if h6 : (n + 1) % 8 = 5 then
                  if h7 : (n + 1) % 8 = 6 then
                    False.elim (by have hN : n + 1 < 1024 := lt_of_lt_of_eq hn (show cfg0.N = 1024 from N_0); omega)
                  else
                    if h8 : (n + 1) % 8 = 7 then
                      False.elim (by have hN : n + 1 < 1024 := lt_of_lt_of_eq hn (show cfg0.N = 1024 from N_0); omega)
                    else
                      (out0_F_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) ((hcond0_6 ⟨n + 1, hn⟩).mpr h6) (fun h => h7 ((hcond0_7 ⟨n + 1, hn⟩).mp h)) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
                else
                  if h7 : (n + 1) % 8 = 6 then
                    if h8 : (n + 1) % 8 = 7 then
                      False.elim (by have hN : n + 1 < 1024 := lt_of_lt_of_eq hn (show cfg0.N = 1024 from N_0); omega)
                    else
                      (out0_G_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_G_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) ((hcond0_7 ⟨n + 1, hn⟩).mpr h7) (fun h => h8 ((hcond0_8 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
                  else
                    if h8 : (n + 1) % 8 = 7 then
                      (out0_H_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) ((hcond0_8 ⟨n + 1, hn⟩).mpr h8) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_H_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (fun h => h3 ((hcond0_3 ⟨n + 1, hn⟩).mp h)) (fun h => h4 ((hcond0_4 ⟨n + 1, hn⟩).mp h)) (fun h => h5 ((hcond0_5 ⟨n + 1, hn⟩).mp h)) (fun h => h6 ((hcond0_6 ⟨n + 1, hn⟩).mp h)) (fun h => h7 ((hcond0_7 ⟨n + 1, hn⟩).mp h)) ((hcond0_8 ⟨n + 1, hn⟩).mpr h8) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
                    else
                      False.elim (by have hN : n + 1 < 1024 := lt_of_lt_of_eq hn (show cfg0.N = 1024 from N_0); omega)

/-- `outsAt0` at a point of case A: that case's contents. -/
theorem outsAt0_A (c : Dev nD) (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans ((dif_neg h3).trans ((dif_neg h4).trans ((dif_neg h5).trans ((dif_neg h6).trans ((dif_neg h7).trans ((dif_neg h8).trans rfl))))))))

/-- `outsAt0` at a point of case B: that case's contents, over what the point before left. -/
theorem outsAt0_B (c : Dev nD) (t : Fin cfg0.N) (h0 : ¬t.val % 8 = 0) (h1 : ¬t.val % 8 = 0) (h2 : t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans ((dif_neg h5).trans ((dif_neg h6).trans ((dif_neg h7).trans ((dif_neg h8).trans rfl))))))))

/-- `outsAt0` at a point of case C: that case's contents, over what the point before left. -/
theorem outsAt0_C (c : Dev nD) (t : Fin cfg0.N) (h0 : ¬t.val % 8 = 0) (h1 : ¬t.val % 8 = 0) (h2 : ¬t.val % 8 = 1) (h3 : t.val % 8 = 2) (h4 : ¬t.val % 8 = 3) (h5 : ¬t.val % 8 = 4) (h6 : ¬t.val % 8 = 5) (h7 : ¬t.val % 8 = 6) (h8 : ¬t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans ((dif_neg h5).trans ((dif_neg h6).trans ((dif_neg h7).trans ((dif_neg h8).trans rfl))))))))

/-- `outsAt0` at a point of case D: that case's contents, over what the point before left. -/
theorem outsAt0_D (c : Dev nD) (t : Fin cfg0.N) (h0 : ¬t.val % 8 = 0) (h1 : ¬t.val % 8 = 0) (h2 : ¬t.val % 8 = 1) (h3 : ¬t.val % 8 = 2) (h4 : t.val % 8 = 3) (h5 : ¬t.val % 8 = 4) (h6 : ¬t.val % 8 = 5) (h7 : ¬t.val % 8 = 6) (h8 : ¬t.val % 8 = 7) :
    outsAt0 m c t.val t.isLt = (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2, sout0_D_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans ((dif_neg h5).trans ((dif_neg h6).trans ((dif_neg h7).trans ((dif_neg h8).trans rfl))))))))

/-- `outsAt0` at a point of case E: that case's contents, over what the point before left. -/
theorem outsAt0_E (c : Dev nD) (t : Fin cfg0.N) (h0 : ¬t.val % 8 = 0) (h1 : ¬t.val % 8 = 0) (h2 : ¬t.val % 8 = 1) (h3 : ¬t.val % 8 = 2) (h4 : ¬t.val % 8 = 3) (h5 : t.val % 8 = 4) (h6 : ¬t.val % 8 = 5) (h7 : ¬t.val % 8 = 6) (h8 : ¬t.val % 8 = 7) :
    outsAt0 m c t.val t.isLt = (out0_E_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2, sout0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_pos h5).trans ((dif_neg h6).trans ((dif_neg h7).trans ((dif_neg h8).trans rfl))))))))

/-- `outsAt0` at a point of case F: that case's contents, over what the point before left. -/
theorem outsAt0_F (c : Dev nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : t.val % 8 = 5) (h7 : ¬t.val % 8 = 6) (h8 : ¬t.val % 8 = 7) :
    outsAt0 m c t.val t.isLt = (out0_F_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2, sout0_F_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_neg h5).trans ((dif_pos h6).trans ((dif_neg h7).trans ((dif_neg h8).trans rfl))))))))

/-- `outsAt0` at a point of case G: that case's contents, over what the point before left. -/
theorem outsAt0_G (c : Dev nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : t.val % 8 = 6) (h8 : ¬t.val % 8 = 7) :
    outsAt0 m c t.val t.isLt = (out0_G_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (outsAt0 m c (t.val - 1) (Nat.lt_of_le_of_lt (Nat.sub_le _ _) t.isLt)).2, sout0_G_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_neg h5).trans ((dif_neg h6).trans ((dif_pos h7).trans ((dif_neg h8).trans rfl))))))))

/-- `outsAt0` at a point of case H: that case's contents, over what the point before left. -/
theorem outsAt0_H (c : Dev nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : t.val % 8 = 7) :
    outsAt0 m c t.val t.isLt = (out0_H_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (outsAt0 m c (t.val - 1) (Nat.lt_of_le_of_lt (Nat.sub_le _ _) t.isLt)).2, sout0_H_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_neg h4).trans ((dif_neg h5).trans ((dif_neg h6).trans ((dif_neg h7).trans ((dif_pos h8).trans rfl))))))))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 38400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 1024 := lt_of_lt_of_eq t.isLt (show cfg0.N = 1024 from N_0)
  by_cases h0 : t.val % 8 = 0
  · by_cases h1 : t.val % 8 = 0
    · by_cases h2 : t.val % 8 = 1
      · exfalso; omega
      · by_cases h3 : t.val % 8 = 2
        · exfalso; omega
        · by_cases h4 : t.val % 8 = 3
          · exfalso; omega
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_A t ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h))], after0_4]
                    by_cases hz : t.val = 0
                    · rw [PhiS_castSucc m c t, PhiS_zero m c _ _ hz, PhiA0_eq]
                      rw [outsAt0_A m c t h0 h1 h2 h3 h4 h5 h6 h7 h8]
                      unfold out0_A_4 sout0_A_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t)).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, ⟨%es0, HS0⟩, HS1, ⟨%fT2, HS2⟩, HS3, HS4, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · unfold owns; iexists _; isplitr
                            swap; · iexact HS0
                            ipureintro; exact View.read_writes_of_cover _ _ _ _ _ (scover0_A_0 c _ _ _ _ _ _ _ _ _ _ _ _ _ _ _ _ _ _ _ _ _ _ _ _ _ _ _ _ _ _ _ _ _ _ _ _ _ _)
                          isplitl [HS1]
                          · iexact HS1
                          isplitl [HS2]
                          · iexists _; unfold owns; iexists _; isplitr
                            swap; · iexact HS2
                            ipureintro; rfl
                          isplitl [HS3]
                          · iexact HS3
                          isplitl [HS4]
                          · iexact HS4
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_A_4 c _ _ _ _ _ _ _ _ _ _ _ _ _ _ _ _ _ _ _ _ _ _ _ _ _ _ _ _ _ _ _ _ _ _ _ _ _ _)
                    · rw [PhiS_castSucc m c t, PhiS_pos m c _ _ hz]
                      rw [outsAt0_A m c t h0 h1 h2 h3 h4 h5 h6 h7 h8]
                      unfold out0_A_4 sout0_A_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t)).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexists _; iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, ⟨%es0, HS0⟩, HS1, ⟨%fT2, HS2⟩, HS3, HS4, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · unfold owns; iexists _; isplitr
                            swap; · iexact HS0
                            ipureintro; exact View.read_writes_of_cover _ _ _ _ _ (scover0_A_0 c _ _ _ _ _ _ _ _ _ _ _ _ _ _ _ _ _ _ _ _ _ _ _ _ _ _ _ _ _ _ _ _ _ _ _ _ _ _)
                          isplitl [HS1]
                          · iexact HS1
                          isplitl [HS2]
                          · iexists _; unfold owns; iexists _; isplitr
                            swap; · iexact HS2
                            ipureintro; rfl
                          isplitl [HS3]
                          · iexact HS3
                          isplitl [HS4]
                          · iexact HS4
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_A_4 c _ _ _ _ _ _ _ _ _ _ _ _ _ _ _ _ _ _ _ _ _ _ _ _ _ _ _ _ _ _ _ _ _ _ _ _ _ _)
    · exfalso; omega
  · by_cases h1 : t.val % 8 = 0
    · exfalso; omega
    · by_cases h2 : t.val % 8 = 1
      · by_cases h3 : t.val % 8 = 2
        · exfalso; omega
        · by_cases h4 : t.val % 8 = 3
          · exfalso; omega
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_B t (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h))], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_B m c t h0 h1 h2 h3 h4 h5 h6 h7 h8]
                      unfold out0_B_4 sout0_B_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_B c (grid0.coords t) _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_B_4 c _ _ _ _ _ _ _ _ _ _ _ _ _ _ _ _ _ _ _ _ _ _ _ _ _ _ _ _ _ _ _ _ _ _ _ _ _ _ _)
      · by_cases h3 : t.val % 8 = 2
        · by_cases h4 : t.val % 8 = 3
          · exfalso; omega
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h))], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_C m c t h0 h1 h2 h3 h4 h5 h6 h7 h8]
                      unfold out0_C_4 sout0_C_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_C c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_C_4 c _ _ _ _ _ _ _ _ _ _ _ _ _ _ _ _ _ _ _ _ _ _ _ _ _ _ _ _ _ _ _ _ _ _ _ _ _ _ _)
        · by_cases h4 : t.val % 8 = 3
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_D t (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h))], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_D m c t h0 h1 h2 h3 h4 h5 h6 h7 h8]
                      unfold out0_D_4 sout0_D_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_D c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_D_4 c _ _ _ _ _ _ _ _ _ _ _ _ _ _ _ _ _ _ _ _ _ _ _ _ _ _ _ _ _ _ _ _ _ _ _ _ _ _ _)
          · by_cases h5 : t.val % 8 = 4
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_E t (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h))], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_E m c t h0 h1 h2 h3 h4 h5 h6 h7 h8]
                      unfold out0_E_4 sout0_E_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_E c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_E_4 c _ _ _ _ _ _ _ _ _ _ _ _ _ _ _ _ _ _ _ _ _ _ _ _ _ _ _ _ _ _ _ _ _ _ _ _ _ _ _)
            · by_cases h6 : t.val % 8 = 5
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_F t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h))], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_F m c t h0 h1 h2 h3 h4 h5 h6 h7 h8]
                      unfold out0_F_4 sout0_F_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_F c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_F_4 c _ _ _ _ _ _ _ _ _ _ _ _ _ _ _ _ _ _ _ _ _ _ _ _ _ _ _ _ _ _ _ _ _ _ _ _ _ _ _)
              · by_cases h7 : t.val % 8 = 6
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_G t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h))], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_G m c t h0 h1 h2 h3 h4 h5 h6 h7 h8]
                      unfold out0_G_4 sout0_G_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_G c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_G_4 c _ _ _ _ _ _ _ _ _ _ _ _ _ _ _ _ _ _ _ _ _ _ _ _ _ _ _ _ _ _ _ _ _ _ _ _ _ _ _)
                · by_cases h8 : t.val % 8 = 7
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    rw [show (dats m 0 c).leavesExact 3 t = owns (c : Thread nD τ) (ms0_3 t) fullShare ((dats m 0 c).after 3 t) from by
      unfold Dat.leavesExact; rw [liveAt0_3 t], after0_3]
                    rw [show (dats m 0 c).leavesExact 4 t = owns (c : Thread nD τ) (ms0_4 t) fullShare ((dats m 0 c).after 4 t) from by
      unfold Dat.leavesExact; rw [liveAt0_4_H t (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8)], after0_4]
                    by_cases hz : t.val = 0
                    · exfalso; have hN : t.val < 1024 := lt_of_lt_of_eq t.isLt (show cfg0.N = 1024 from N_0); omega
                    · rw [PhiS_castSucc m c t, PhiS_pos m c _ _ hz]
                      rw [outsAt0_H m c t h0 h1 h2 h3 h4 h5 h6 h7 h8]
                      unfold out0_H_4 sout0_H_0; (try dsimp only)
                      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩⟩
                      iapply ((kernelRun0_H c (grid0.coords t) _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) _).2.2.2.2.2.2 Set.univ _)
                      isplitl [H0]; · iexact H0
                      isplitl [H1]; · iexact H1
                      isplitl [H2]; · iexact H2
                      isplitl [H3]; · iexact H3
                      isplitl [H4]; · iexists _; iexact H4
                      isplitl [HS0]; · iexact HS0
                      isplitl [HS1]; · iexact HS1
                      isplitl [HS2]; · iexact HS2
                      isplitl [HS3]; · iexact HS3
                      isplitl [HS4]; · iexact HS4
                      isplitl [HS5]; · iexact HS5
                      isplitl [HS6]; · iexact HS6
                      iintro ⟨H0, H1, H2, H3, ⟨%e4, H4⟩, HS0, HS1, ⟨%fT2, HS2⟩, HS3, ⟨%fT4, HS4⟩, ⟨%fT5, HS5⟩, ⟨%fT6, HS6⟩⟩
                      isplitl [HS0 HS1 HS2 HS3 HS4 HS5 HS6 Hg]
                      · isplitl [HS0 HS1 HS2 HS3 HS4 HS5 HS6]
                        · isplitl [HS0]
                          · iexact HS0
                          isplitl [HS1]
                          · iexact HS1
                          isplitl [HS2]
                          · iexists _; unfold owns; iexists _; isplitr
                            swap; · iexact HS2
                            ipureintro; rfl
                          isplitl [HS3]
                          · iexact HS3
                          isplitl [HS4]
                          · iexists _; unfold owns; iexists _; isplitr
                            swap; · iexact HS4
                            ipureintro; rfl
                          isplitl [HS5]
                          · iexists _; unfold owns; iexists _; isplitr
                            swap; · iexact HS5
                            ipureintro; rfl
                          iexists _; unfold owns; iexists _; isplitr
                          swap; · iexact HS6
                          ipureintro; rfl
                        iexact Hg
                      isplitl [Ho]; · iexact Ho
                      isplitl [H0]; · iexact H0
                      isplitl [H1]; · iexact H1
                      isplitl [H2]; · iexact H2
                      isplitl [H3]; · iexact H3
                      unfold owns; iexists _; isplitr
                      swap; · iexact H4
                      ipureintro; exact View.read_writes_of_cover _ _ _ _ _ (cover0_H_4 c _ _ _ _ _ _ _ _ _ _ _ _ _ _ _ _ _ _ _ _ _ _ _ _ _ _ _ _ _ _ _ _ _ _ _ _ _ _ _)
                  · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_MlaAttnIdeal`'s statement (Defs.lean) at any `F` . -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MlaAttnIdeal.Gen

end
-- ==== Proof.Hand.MlaOut.lean ====
/-
The first query tile's result: the weighted sum of the values over the sum of the weights.
-/
module

public import proofs.«01_k».proof.Proof.Hand.MlaProbs
public import proofs.«01_k».proof.Proof.Hand.MlaFrame

@[expose] public section

open Idealize.ShloMosaic
open Cert.MlaAttnIdeal Cert.MlaAttnIdeal.Gen

namespace Cert.MlaAttnIdeal.Tile

set_option maxRecDepth 100000
set_option maxHeartbeats 4000000

variable (c : Dev nD) (arg3 : Memref sig .tc .vmem S1x512x256 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x4096x128 .bf16) (harg6 : arg6.IsWhole) (arg8 : Memref sig .tc .vmem S4096x256 .bf16)
  (arg9 : Memref sig .tc .vmem S2x512x512 .f32) (arg10 : Memref sig .tc .vmem S2x512x512 .bf16)
  (arg13 arg14 : Memref sig .tc .vmem S1x512x128 .f32)
  (x0 : FVec Ideal S1x512x256 .bf16) (x1 x2 x3 : FVec Ideal S1x4096x128 .bf16)

/-- The weights of the tile's first 256 keys, read back. -/
theorem low_weights (a : Fin 512) (b : Fin 256) :
    LoadRect.valAlong (lr := (Rect.unit (s := S512x512) ![0, 0] ![512, 256] inb_S512x512_S512x256_0_0).toLoadRect)
      (LoadRect.numel_consLift (Rect.unit (s := S512x512) ![0, 0] ![512, 256] inb_S512x512_S512x256_0_0).toLoadRect ![1, 512, 512] rfl (fun _ => rfl))
      (kernelRun0_A.sl.v1193 (F := Ideal) c arg3 harg3 arg4 harg4 arg5 harg5 arg8 arg9 arg10 x0 x1 x2) (ix2 a b) = weightAt x0 x1 x2 a ⟨b.val, by omega⟩ := by
  unfold kernelRun0_A.sl.v1193
  refine (plane_load (Val := Elt Ideal) arg10.view _ (weightAt x0 x1 x2) (weight_pieces c arg3 harg3 arg4 harg4 arg5 harg5 arg8 arg9 x0 x1 x2) _ inb_S512x512_S512x256_0_0 _ _ _ _
    (LoadRect.cover_of_covChk _ _ (.split 1 256 (.split 1 128 (.split 1 64 (.split 1 32 (.split 1 16 (.split 2 128 (.leaf 47) (.leaf 46)) (.split 2 128 (.leaf 45) (.leaf 44))) (.split 1 16 (.split 2 128 (.leaf 43) (.leaf 42)) (.split 2 128 (.leaf 41) (.leaf 40)))) (.split 1 32 (.split 1 16 (.split 2 128 (.leaf 39) (.leaf 38)) (.split 2 128 (.leaf 37) (.leaf 36))) (.split 1 16 (.split 2 128 (.leaf 35) (.leaf 34)) (.split 2 128 (.leaf 33) (.leaf 32))))) (.split 1 64 (.split 1 32 (.split 1 16 (.leaf 31) (.leaf 30)) (.split 1 16 (.leaf 29) (.leaf 28))) (.split 1 32 (.split 1 16 (.leaf 27) (.leaf 26)) (.split 1 16 (.leaf 25) (.leaf 24))))) (.split 1 128 (.split 1 64 (.split 1 32 (.split 1 16 (.leaf 23) (.leaf 21)) (.split 1 16 (.leaf 19) (.leaf 17))) (.split 1 32 (.split 1 16 (.leaf 15) (.leaf 13)) (.split 1 16 (.leaf 11) (.leaf 9)))) (.split 1 64 (.split 1 32 (.split 1 16 (.leaf 7) (.leaf 6)) (.split 1 16 (.leaf 5) (.leaf 4))) (.split 1 32 (.split 1 16 (.leaf 3) (.leaf 2)) (.split 1 16 (.leaf 1) (.leaf 0)))))) (by sl_kernel_rfl)) a b (by omega) (by omega)).trans (congrArg₂ _ (Fin.ext ?_) (Fin.ext ?_))
  · show 0 + a.val = a.val; omega
  · show 0 + b.val = b.val; omega

/-- The later 256 queries' weights of the tile's later 256 keys, read back. -/
theorem high_weights (a : Fin 256) (b : Fin 256) :
    LoadRect.valAlong (lr := (Rect.unit (s := S512x512) ![256, 256] ![256, 256] inb_S512x512_S256x256_256_256).toLoadRect)
      (LoadRect.numel_consLift (Rect.unit (s := S512x512) ![256, 256] ![256, 256] inb_S512x512_S256x256_256_256).toLoadRect ![1, 512, 512] rfl (fun _ => rfl))
      (kernelRun0_A.sl.v1200 (F := Ideal) c arg3 harg3 arg4 harg4 arg5 harg5 arg8 arg9 arg10 x0 x1 x2) (ix2 a b) = weightAt x0 x1 x2 ⟨256 + a.val, by omega⟩ ⟨256 + b.val, by omega⟩ := by
  unfold kernelRun0_A.sl.v1200
  exact plane_load (Val := Elt Ideal) arg10.view _ (weightAt x0 x1 x2) (weight_pieces c arg3 harg3 arg4 harg4 arg5 harg5 arg8 arg9 x0 x1 x2) _ inb_S512x512_S256x256_256_256 _ _ _ _
    (LoadRect.cover_of_covChk _ _ (.split 1 128 (.split 1 64 (.split 1 32 (.split 1 16 (.split 2 128 (.leaf 23) (.leaf 22)) (.split 2 128 (.leaf 21) (.leaf 20))) (.split 1 16 (.split 2 128 (.leaf 19) (.leaf 18)) (.split 2 128 (.leaf 17) (.leaf 16)))) (.split 1 32 (.split 1 16 (.split 2 128 (.leaf 15) (.leaf 14)) (.split 2 128 (.leaf 13) (.leaf 12))) (.split 1 16 (.split 2 128 (.leaf 11) (.leaf 10)) (.split 2 128 (.leaf 9) (.leaf 8))))) (.split 1 64 (.split 1 32 (.split 1 16 (.leaf 7) (.leaf 6)) (.split 1 16 (.leaf 5) (.leaf 4))) (.split 1 32 (.split 1 16 (.leaf 3) (.leaf 2)) (.split 1 16 (.leaf 1) (.leaf 0))))) (by sl_kernel_rfl)) a b (by omega) (by omega)

/-- The sums of the weights, read back. -/
theorem mass_read (u : Fin 1) (a : Fin 512) (b : Fin 128) :
    kernelRun0_A.sl.v1210 (F := Ideal) c arg3 harg3 arg4 harg4 arg5 harg5 arg8 arg9 arg13 x0 x1 x2 (ix3 u a b) = massAt x0 x1 x2 a := by
  unfold kernelRun0_A.sl.v1210
  rw [read_box arg13.view _ _ (mass_pieces c arg3 harg3 arg4 harg4 arg5 harg5 arg8 arg9 x0 x1 x2) _ (LoadRect.cover_of_covChk _ _ (.split 1 256 (.split 1 128 (.split 1 64 (.split 1 32 (.split 1 16 (.leaf 31) (.leaf 30)) (.split 1 16 (.leaf 29) (.leaf 28))) (.split 1 32 (.split 1 16 (.leaf 27) (.leaf 26)) (.split 1 16 (.leaf 25) (.leaf 24)))) (.split 1 64 (.split 1 32 (.split 1 16 (.leaf 23) (.leaf 22)) (.split 1 16 (.leaf 21) (.leaf 20))) (.split 1 32 (.split 1 16 (.leaf 19) (.leaf 18)) (.split 1 16 (.leaf 17) (.leaf 16))))) (.split 1 128 (.split 1 64 (.split 1 32 (.split 1 16 (.leaf 15) (.leaf 14)) (.split 1 16 (.leaf 13) (.leaf 12))) (.split 1 32 (.split 1 16 (.leaf 11) (.leaf 10)) (.split 1 16 (.leaf 9) (.leaf 8)))) (.split 1 64 (.split 1 32 (.split 1 16 (.leaf 7) (.leaf 6)) (.split 1 16 (.leaf 5) (.leaf 4))) (.split 1 32 (.split 1 16 (.leaf 3) (.leaf 2)) (.split 1 16 (.leaf 1) (.leaf 0)))))) (by sl_kernel_rfl))]
  exact congrArg _ (Fin.ext (by show 0 + 1 * a.val = a.val; omega))

/-- The weighted sum of the values. -/
noncomputable def mixAt (x0 : FVec Ideal S1x512x256 .bf16) (x1 x2 x3 : FVec Ideal S1x4096x128 .bf16) (r : Fin 512) (n : Fin 128) : EReal :=
  ∑ k : Fin 512, weightAt x0 x1 x2 r k * x3 (ix3 0 ⟨k.val, by omega⟩ n)

/-- The values that the tile's keys carry. -/
theorem values_read (a : Fin 512) (b : Fin 128) :
    View.readAt (Elt Ideal) arg6.view (Rect.unit (s := S1x4096x128) ![0, 0, 0] S1x512x128.size inb_S1x4096x128_S1x512x128_0_0_0).toLoadRect (harg6.unread x3) (ix3 0 a b)
      = x3 (ix3 0 ⟨a.val, by omega⟩ b) := by
  refine Eq.trans (b := x3 ((Rect.unit (s := S1x4096x128) ![0, 0, 0] S1x512x128.size inb_S1x4096x128_S1x512x128_0_0_0).toLoadRect.idx (ix3 0 a b)))
    (congrFun (harg6.read_unread (show S1x4096x128.Idx → Elt Ideal .bf16 from x3)) _) (congrArg x3 (funext fun i => Fin.ext ?_))
  rw [LoadRect.idx_apply]
  fin_cases i
  · rfl
  · show 0 + 1 * a.val = a.val; omega
  · show 0 + 1 * b.val = b.val; omega

/-- The sum over 512 keys as the sum over the first 256 and that over the others. -/
theorem sum_halves (f : Fin 512 → EReal) : ∑ k, f k = (∑ k : Fin 256, f ⟨k.val, by omega⟩) + ∑ k : Fin 256, f ⟨256 + k.val, by omega⟩ :=
  Fin.sum_univ_add (a := 256) (b := 256) f

/-- The weights of the later half of the keys are zero for the earlier half of the queries. -/
theorem mix_low (r : Fin 512) (hr : r.val < 256) (n : Fin 128) :
    mixAt x0 x1 x2 x3 r n = ∑ k : Fin 256, weightAt x0 x1 x2 r ⟨k.val, by omega⟩ * x3 (ix3 0 ⟨k.val, by omega⟩ n) := by
  unfold mixAt
  rw [sum_halves, Finset.sum_eq_zero (s := Finset.univ) (f := fun k : Fin 256 => _ * x3 (ix3 0 ⟨256 + k.val, by omega⟩ n)), add_zero]
  intro k _
  show weightAt x0 x1 x2 r ⟨256 + k.val, by omega⟩ * _ = 0
  rw [show weightAt x0 x1 x2 r ⟨256 + k.val, by omega⟩ = 0 from exp_zero _ _ _ (by show r.val < 256 + k.val; omega), zero_mul]

/-- The stored sums of the earlier half of the queries. -/
theorem pay_low (v : FVec Ideal S1x512x128 .bf16) (w1 : FVec Ideal S512x256 .bf16) (w2 : FVec Ideal S256x256 .bf16) (a : Fin 512) (ha : a.val < 256) (b : Fin 128) :
    (k0_pay249 (F := Ideal) (k0_pay245 v) (k0_pay247 v w1) (k0_pay248 v w1) w2 (ix3 0 a b) : EReal) = ∑ k : Fin 256, w1 (ix2 a k) * v (ix3 0 ⟨k.val, by omega⟩ b) := by
  pointwise [k0_pay249, k0_pay245, k0_pay246, k0_pay247, k0_pay248]
  rw [dif_pos ha]

/-- The stored sums of the later half of the queries. -/
theorem pay_high (v : FVec Ideal S1x512x128 .bf16) (w1 : FVec Ideal S512x256 .bf16) (w2 : FVec Ideal S256x256 .bf16) (a : Fin 512) (ha : 256 ≤ a.val) (b : Fin 128) :
    (k0_pay249 (F := Ideal) (k0_pay245 v) (k0_pay247 v w1) (k0_pay248 v w1) w2 (ix3 0 a b) : EReal) = ((∑ k : Fin 256, w1 (ix2 a k) * v (ix3 0 ⟨k.val, by omega⟩ b) : EReal)
      + ∑ k : Fin 256, w2 (ix2 ⟨a.val - 256, by omega⟩ k) * v (ix3 0 ⟨256 + k.val, by omega⟩ b)) := by
  pointwise [k0_pay249, k0_pay245, k0_pay246, k0_pay247, k0_pay248]
  rw [dif_neg (by omega), show (⟨256 + (a.val - 256), by omega⟩ : Fin 512) = a from Fin.ext (by show 256 + (a.val - 256) = a.val; omega)]

/-- The weighted sum of the values, as the run has it. -/
theorem mix_pieces : View.PiecesOf (fun i : S1x512x128.Idx => mixAt x0 x1 x2 x3 (i 1) (i 2))
    (kernelRun0_A.sl.HS6_1 (F := Ideal) c arg3 harg3 arg4 harg4 arg5 harg5 arg6 harg6 arg8 arg9 arg10 x0 x1 x2 x3) := by
  unfold kernelRun0_A.sl.HS6_1
  refine ⟨fun x => slab_piece (h := 512) (w := 128) inb_S1x512x128_S1x512x128_0_0_0 _ (mixAt x0 x1 x2 x3) (fun a b ha hb => ?_) x, trivial⟩
  have hv : View.readAt (Elt Ideal) arg6.view (Rect.unit (s := S1x4096x128) ![0, 0, 0] S1x512x128.size inb_S1x4096x128_S1x512x128_0_0_0).toLoadRect (harg6.unread x3) = _ := rfl
  by_cases h : a.val < 256
  · refine (pay_low _ _ _ a h b).trans ?_
    rw [mix_low x0 x1 x2 x3 ⟨0 + a.val, ha⟩ (by show 0 + a.val < 256; omega)]
    refine Finset.sum_congr rfl fun k _ => congrArg₂ _ ((low_weights c arg3 harg3 arg4 harg4 arg5 harg5 arg8 arg9 arg10 x0 x1 x2 a k).trans (congrArg₂ _ (Fin.ext (Nat.zero_add _).symm) rfl)) ((values_read arg6 harg6 x3 ⟨k.val, by omega⟩ b).trans ?_)
    exact congrArg x3 (congrArg (ix3 _ _) (Fin.ext (Nat.zero_add _).symm))
  · refine (pay_high _ _ _ a (by omega) b).trans ?_
    unfold mixAt
    rw [sum_halves]
    refine congrArg₂ _ (Finset.sum_congr rfl fun k _ => congrArg₂ _ ((low_weights c arg3 harg3 arg4 harg4 arg5 harg5 arg8 arg9 arg10 x0 x1 x2 a k).trans (congrArg₂ _ (Fin.ext (Nat.zero_add _).symm) rfl)) ((values_read arg6 harg6 x3 ⟨k.val, by omega⟩ b).trans ?_))
      (Finset.sum_congr rfl fun k _ => congrArg₂ _ ((high_weights c arg3 harg3 arg4 harg4 arg5 harg5 arg8 arg9 arg10 x0 x1 x2 ⟨a.val - 256, by omega⟩ k).trans (congrArg₂ _ (Fin.ext ?_) rfl)) ((values_read arg6 harg6 x3 ⟨256 + k.val, by omega⟩ b).trans ?_))
    · exact congrArg x3 (congrArg (ix3 _ _) (Fin.ext (Nat.zero_add _).symm))
    · show 256 + (a.val - 256) = 0 + a.val; omega
    · exact congrArg x3 (congrArg (ix3 _ _) (Fin.ext (Nat.zero_add _).symm))

/-- The weighted sum of the values, read back. -/
theorem mix_read (u : Fin 1) (a : Fin 512) (b : Fin 128) :
    kernelRun0_A.sl.v1208 (F := Ideal) c arg3 harg3 arg4 harg4 arg5 harg5 arg6 harg6 arg8 arg9 arg10 arg14 x0 x1 x2 x3 (ix3 u a b) = mixAt x0 x1 x2 x3 a b := by
  unfold kernelRun0_A.sl.v1208
  rw [read_box arg14.view _ _ (mix_pieces c arg3 harg3 arg4 harg4 arg5 harg5 arg6 harg6 arg8 arg9 arg10 x0 x1 x2 x3) _ (LoadRect.cover_of_covChk _ _ (.leaf 0) (by sl_kernel_rfl))]
  exact congrArg₂ _ (Fin.ext (by show 0 + 1 * a.val = a.val; omega)) (Fin.ext (by show 0 + 1 * b.val = b.val; omega))

/-- What the body stores of its result, from the sums read back. -/
theorem pay_out (v w : FVec Ideal S1x512x128 .f32) (u : Fin 1) (a : Fin 512) (b : Fin 128) :
    (k0_pay3 (F := Ideal) (k0_pay250 v) (k0_pay251 w) (ix3 u a b) : EReal) = Ideal.div (v (ix3 0 a b)) (w (ix3 0 a b)) := by
  pointwise [k0_pay3, k0_pay250, k0_pay251]

/-- The first query tile's result: the weighted sum of the values over the sum of the weights. -/
theorem out_tile (i : grid0.Coords) (arg7 : Memref sig .tc .vmem S1x512x128 .bf16) (harg7 : arg7.IsWhole) (harg8 : arg8.IsWhole) (harg9 : arg9.IsWhole) (harg10 : arg10.IsWhole)
    (arg11 : Memref sig .tc .vmem S2x512x128 .f32) (harg11 : arg11.IsWhole) (arg12 : Memref sig .tc .vmem S1x512x128 .f32) (harg12 : arg12.IsWhole) (harg13 : arg13.IsWhole) (harg14 : arg14.IsWhole)
    (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (u : Fin 1) (a : Fin 512) (b : Fin 128) :
    (out0_A_4 (F := Ideal) c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 hc7 hc8 x0 x1 x2 x3 (ix3 u a b) : EReal) = Ideal.div (mixAt x0 x1 x2 x3 a b) (massAt x0 x1 x2 a) := by
  unfold out0_A_4
  rw [View.read_writes_junk_apply_eq_canon]
  have hL : (kernelRun0_A (F := Ideal) c i arg3 harg3 arg4 harg4 arg5 harg5 arg6 harg6 arg7 harg7 arg8 harg8 arg9 harg9 arg10 harg10 arg11 harg11 arg12 harg12 arg13 harg13 arg14 harg14
      hc0 hc1 hc2 hc3 hc4 hc5 hc6 hc7 hc8 x0 x1 x2 x3).1 = [⟨Rect.unit (s := S1x512x128) ![0, 0, 0] S1x512x128.size inb_S1x512x128_S1x512x128_0_0_0,
        k0_pay3 (F := Ideal) (k0_pay250 (kernelRun0_A.sl.v1208 (F := Ideal) c arg3 harg3 arg4 harg4 arg5 harg5 arg6 harg6 arg8 arg9 arg10 arg14 x0 x1 x2 x3))
          (k0_pay251 (kernelRun0_A.sl.v1210 (F := Ideal) c arg3 harg3 arg4 harg4 arg5 harg5 arg8 arg9 arg13 x0 x1 x2))⟩] := rfl
  rw [hL]
  have hp : View.PiecesOf (Val := Elt Ideal) (s := S1x512x128) (e := .bf16) (fun i => Ideal.div (mixAt x0 x1 x2 x3 (i 1) (i 2)) (massAt x0 x1 x2 (i 1)))
      [⟨Rect.unit (s := S1x512x128) ![0, 0, 0] S1x512x128.size inb_S1x512x128_S1x512x128_0_0_0, k0_pay3 (F := Ideal) (k0_pay250 (kernelRun0_A.sl.v1208 (F := Ideal) c arg3 harg3 arg4 harg4 arg5 harg5 arg6 harg6 arg8 arg9 arg10 arg14 x0 x1 x2 x3))
          (k0_pay251 (kernelRun0_A.sl.v1210 (F := Ideal) c arg3 harg3 arg4 harg4 arg5 harg5 arg8 arg9 arg13 x0 x1 x2))⟩] := by
    refine ⟨fun x => slab_piece (h := 512) (w := 128) inb_S1x512x128_S1x512x128_0_0_0 (k0_pay3 (F := Ideal) (k0_pay250 (kernelRun0_A.sl.v1208 (F := Ideal) c arg3 harg3 arg4 harg4 arg5 harg5 arg6 harg6 arg8 arg9 arg10 arg14 x0 x1 x2 x3))
          (k0_pay251 (kernelRun0_A.sl.v1210 (F := Ideal) c arg3 harg3 arg4 harg4 arg5 harg5 arg8 arg9 arg13 x0 x1 x2)))
      (fun a b => Ideal.div (mixAt x0 x1 x2 x3 a b) (massAt x0 x1 x2 a)) (fun a b ha hb => ?_) x, trivial⟩
    refine (pay_out _ _ 0 a b).trans ?_
    rw [mix_read, mass_read]
    exact congrArg₂ Ideal.div (congrArg₂ _ (Fin.ext (Nat.zero_add _).symm) (Fin.ext (Nat.zero_add _).symm)) (congrArg _ (Fin.ext (Nat.zero_add _).symm))
  have := View.canon_append_of_piecesOf (Val := Elt Ideal) _ [] _ hp (ix3 u a b) ⟨_, List.mem_cons_self, (LoadRect.mem_set _).mpr fun d => ⟨(ix3 u a b d).val, (ix3 u a b d).isLt, by
    fin_cases d
    · show u.val = 0 + 1 * u.val; omega
    · show a.val = 0 + 1 * a.val; omega
    · show b.val = 0 + 1 * b.val; omega⟩⟩
  rwa [List.append_nil] at this

end Cert.MlaAttnIdeal.Tile

end
-- ==== Proof.Hand.MlaBlocks.lean ====
/- What a flush of the MLA attention call writes at each kind of grid point, and the run of the program with the
   blocks it leaves. -/
module

public import proofs.«01_k».proof.Proof.Hand.MlaFrame
public import Idealize.ShloMosaic.Lib.Pipeline.Value

@[expose] public section

noncomputable section

namespace Cert.MlaAttnIdeal.Value

open Cert.MlaAttnIdeal Cert.MlaAttnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t)) := by
  simp only [flushed4, outsAt0_A m c t h0 h1 h2 h3 h4 h5 h6 h7 h8]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 8 = 0) (h1 : ¬t.val % 8 = 0) (h2 : t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_B m c t h0 h1 h2 h3 h4 h5 h6 h7 h8]

/-- … so at a point where case C runs, what its write-back would write is that case's NAMED TERM for the window (`Gen.out0_C_4`: the pieces
    its run found, read back) at the point's memrefs and input blocks, and for an output the case reads back what the point before left (`Gen.outsAt0` at `t - 1`) — by the frame's rewriting lemma for the case. -/
theorem flushed4_C (c : Dev nD) (t : Fin cfg0.N) (h0 : ¬t.val % 8 = 0) (h1 : ¬t.val % 8 = 0) (h2 : ¬t.val % 8 = 1) (h3 : t.val % 8 = 2) (h4 : ¬t.val % 8 = 3) (h5 : ¬t.val % 8 = 4) (h6 : ¬t.val % 8 = 5) (h7 : ¬t.val % 8 = 6) (h8 : ¬t.val % 8 = 7) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_C m c t h0 h1 h2 h3 h4 h5 h6 h7 h8]

/-- … so at a point where case D runs, what its write-back would write is that case's NAMED TERM for the window (`Gen.out0_D_4`: the pieces
    its run found, read back) at the point's memrefs and input blocks, and for an output the case reads back what the point before left (`Gen.outsAt0` at `t - 1`) — by the frame's rewriting lemma for the case. -/
theorem flushed4_D (c : Dev nD) (t : Fin cfg0.N) (h0 : ¬t.val % 8 = 0) (h1 : ¬t.val % 8 = 0) (h2 : ¬t.val % 8 = 1) (h3 : ¬t.val % 8 = 2) (h4 : t.val % 8 = 3) (h5 : ¬t.val % 8 = 4) (h6 : ¬t.val % 8 = 5) (h7 : ¬t.val % 8 = 6) (h8 : ¬t.val % 8 = 7) :
    (dats m 0 c).flushed 4 t = (cfg0.win 4).cut (grid0.coords t) (out0_D_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_D m c t h0 h1 h2 h3 h4 h5 h6 h7 h8]

/-- … so at a point where case E runs, what its write-back would write is that case's NAMED TERM for the window (`Gen.out0_E_4`: the pieces
    its run found, read back) at the point's memrefs and input blocks, and for an output the case reads back what the point before left (`Gen.outsAt0` at `t - 1`) — by the frame's rewriting lemma for the case. -/
theorem flushed4_E (c : Dev nD) (t : Fin cfg0.N) (h0 : ¬t.val % 8 = 0) (h1 : ¬t.val % 8 = 0) (h2 : ¬t.val % 8 = 1) (h3 : ¬t.val % 8 = 2) (h4 : ¬t.val % 8 = 3) (h5 : t.val % 8 = 4) (h6 : ¬t.val % 8 = 5) (h7 : ¬t.val % 8 = 6) (h8 : ¬t.val % 8 = 7) :
    (dats m 0 c).flushed 4 t = (cfg0.win 4).cut (grid0.coords t) (out0_E_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_E m c t h0 h1 h2 h3 h4 h5 h6 h7 h8]

/-- … so at a point where case F runs, what its write-back would write is that case's NAMED TERM for the window (`Gen.out0_F_4`: the pieces
    its run found, read back) at the point's memrefs and input blocks, and for an output the case reads back what the point before left (`Gen.outsAt0` at `t - 1`) — by the frame's rewriting lemma for the case. -/
theorem flushed4_F (c : Dev nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : t.val % 8 = 5) (h7 : ¬t.val % 8 = 6) (h8 : ¬t.val % 8 = 7) :
    (dats m 0 c).flushed 4 t = (cfg0.win 4).cut (grid0.coords t) (out0_F_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_F m c t h0 h1 h2 h3 h4 h5 h6 h7 h8]

/-- … so at a point where case G runs, what its write-back would write is that case's NAMED TERM for the window (`Gen.out0_G_4`: the pieces
    its run found, read back) at the point's memrefs and input blocks, and for an output the case reads back what the point before left (`Gen.outsAt0` at `t - 1`) — by the frame's rewriting lemma for the case. -/
theorem flushed4_G (c : Dev nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : t.val % 8 = 6) (h8 : ¬t.val % 8 = 7) :
    (dats m 0 c).flushed 4 t = (cfg0.win 4).cut (grid0.coords t) (out0_G_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t) (iblk m c 3 t) (outsAt0 m c (t.val - 1) (Nat.lt_of_le_of_lt (Nat.sub_le _ _) t.isLt)).2) := by
  simp only [flushed4, outsAt0_G m c t h0 h1 h2 h3 h4 h5 h6 h7 h8]

/-- … so at a point where case H runs, what its write-back would write is that case's NAMED TERM for the window (`Gen.out0_H_4`: the pieces
    its run found, read back) at the point's memrefs and input blocks, and for an output the case reads back what the point before left (`Gen.outsAt0` at `t - 1`) — by the frame's rewriting lemma for the case. -/
theorem flushed4_H (c : Dev nD) (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : t.val % 8 = 7) :
    (dats m 0 c).flushed 4 t = (cfg0.win 4).cut (grid0.coords t) (out0_H_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t) (iblk m c 3 t) (outsAt0 m c (t.val - 1) (Nat.lt_of_le_of_lt (Nat.sub_le _ _) t.isLt)).2) := by
  simp only [flushed4, outsAt0_H m c t h0 h1 h2 h3 h4 h5 h6 h7 h8]

-- no `blocks4`: window 4's index map is injective over its 1024 points, but past 200 points that is decided here only for a window whose block index on one axis is the point's position;
-- the final array is still the frame's `arrAt`, to read with Lib/Pipeline/Value.lean's lemmas by hand

/-- An index that no flushing point's block covers keeps output window 4's array contents at region entry. -/
theorem entry4 (c : Dev nD) (i : S8x4096x2048.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

end Cert.MlaAttnIdeal.Value

end
-- ==== Proof.Hand.MlaKer.lean ====
/-
The result's first 512 rows, over the call's arguments: each is the weighted sum of the values over the sum of the weights.
-/
module

public import proofs.«01_k».proof.Proof.Hand.MlaOut
public import proofs.«01_k».proof.Proof.Hand.MlaBlocks
public import Idealize.ShloMosaic.Lib.Pipeline.ValueKit.Geometry

@[expose] public section

open Idealize.ShloMosaic Idealize.ShloMosaic.TcCoe Idealize.SL.Sem
open Idealize.ShloMosaic.Pipeline (Dat Window)
open Cert.MlaAttnIdeal Cert.MlaAttnIdeal.Gen

namespace Cert.MlaAttnIdeal.Tile

set_option maxRecDepth 100000

/-- The key of head `h` at position `k`: the head's own columns, then the columns all heads share. -/
noncomputable def keyOf (kn : FVec Ideal S8x4096x2048 .bf16) (kr : FVec Ideal S8x4096x128 .bf16) (b : Fin 8) (h : Fin 16) (k : Fin 4096) (d : Fin 256) : EReal :=
  if hd : d.val < 128 then kn (ix3 b k ⟨h.val * 128 + d.val, by omega⟩) else kr (ix3 b k ⟨d.val - 128, by omega⟩)

/-- The logit of query `r` and key `k` of head `h`. -/
noncomputable def logitOf (q : FVec Ideal S8x4096x4096 .bf16) (kn : FVec Ideal S8x4096x2048 .bf16) (kr : FVec Ideal S8x4096x128 .bf16) (b : Fin 8) (h : Fin 16) (r k : Fin 4096) : EReal :=
  ∑ d : Fin 256, q (ix3 b r ⟨h.val * 256 + d.val, by omega⟩) * keyOf kn kr b h k d

variable (m : (ℓ : Loc nD τ sig) → Buf (Elt Ideal) ℓ)

/-- The windows' block indices at each point. -/
theorem idx : ∀ t : Fin cfg0.N, win0_0.index t = ![t.val / 128, t.val % 8, t.val / 8 % 16] ∧ win0_1.index t = ![t.val / 128, 0, t.val / 8 % 16]
    ∧ win0_2.index t = ![t.val / 128, 0, 0] ∧ win0_3.index t = ![t.val / 128, 0, t.val / 8 % 16] ∧ win0_4.index t = ![t.val / 128, t.val % 8, t.val / 8 % 16] :=
  (by decide +kernel : ∀ t : Fin grid0.N, _)

/-- The point of a batch and a head's first query tile. -/
def point (b : Fin 8) (h : Fin 16) : Fin cfg0.N := ⟨b.val * 128 + h.val * 8, by show _ < 1024; omega⟩

/-- The queries' block. -/
theorem arg0_at (c : Dev nD) (t : Fin cfg0.N) (b : Fin 8) (h : Fin 16) (hb : t.val / 128 = b.val) (ht : t.val % 8 = 0) (hh : t.val / 8 % 16 = h.val) (r : Fin 512) (d : Fin 256) :
    (show FVec Ideal S1x512x256 .bf16 from iblk m c 0 t) (ix3 0 r d)
      = (m ((c : Thread nD τ).loc main_arg0) : FVec Ideal S8x4096x4096 .bf16) (ix3 b ⟨r.val, by omega⟩ ⟨h.val * 256 + d.val, by omega⟩) := by
  blk_simp [iblk]
  entry_read
  pointwise []
  blk_point [idx t, hb, ht, hh]

/-- The heads' own keys' block. -/
theorem arg1_at (c : Dev nD) (t : Fin cfg0.N) (b : Fin 8) (h : Fin 16) (hb : t.val / 128 = b.val) (ht : t.val % 8 = 0) (hh : t.val / 8 % 16 = h.val) (k : Fin 4096) (d : Fin 128) :
    (show FVec Ideal S1x4096x128 .bf16 from iblk m c 1 t) (ix3 0 k d)
      = (m ((c : Thread nD τ).loc main_arg1) : FVec Ideal S8x4096x2048 .bf16) (ix3 b k ⟨h.val * 128 + d.val, by omega⟩) := by
  blk_simp [iblk]
  entry_read
  pointwise []
  blk_point [idx t, hb, ht, hh]

/-- The shared keys' block. -/
theorem arg2_at (c : Dev nD) (t : Fin cfg0.N) (b : Fin 8) (h : Fin 16) (hb : t.val / 128 = b.val) (ht : t.val % 8 = 0) (hh : t.val / 8 % 16 = h.val) (k : Fin 4096) (d : Fin 128) :
    (show FVec Ideal S1x4096x128 .bf16 from iblk m c 2 t) (ix3 0 k d)
      = (m ((c : Thread nD τ).loc main_arg2) : FVec Ideal S8x4096x128 .bf16) (ix3 b k d) := by
  blk_simp [iblk]
  entry_read
  pointwise []
  blk_point [idx t, hb, ht, hh]

/-- The values' block. -/
theorem arg3_at (c : Dev nD) (t : Fin cfg0.N) (b : Fin 8) (h : Fin 16) (hb : t.val / 128 = b.val) (ht : t.val % 8 = 0) (hh : t.val / 8 % 16 = h.val) (k : Fin 4096) (d : Fin 128) :
    (show FVec Ideal S1x4096x128 .bf16 from iblk m c 3 t) (ix3 0 k d)
      = (m ((c : Thread nD τ).loc main_arg3) : FVec Ideal S8x4096x2048 .bf16) (ix3 b k ⟨h.val * 128 + d.val, by omega⟩) := by
  blk_simp [iblk]
  entry_read
  pointwise []
  blk_point [idx t, hb, ht, hh]

/-- The tile's logits are the arguments'. -/
theorem dot_at (c : Dev nD) (t : Fin cfg0.N) (b : Fin 8) (h : Fin 16) (hb : t.val / 128 = b.val) (ht : t.val % 8 = 0) (hh : t.val / 8 % 16 = h.val) (r k : Fin 512) :
    dotAt (show FVec Ideal S1x512x256 .bf16 from iblk m c 0 t) (show FVec Ideal S1x4096x128 .bf16 from iblk m c 1 t) (show FVec Ideal S1x4096x128 .bf16 from iblk m c 2 t) r k
      = logitOf (m ((c : Thread nD τ).loc main_arg0)) (m ((c : Thread nD τ).loc main_arg1)) (m ((c : Thread nD τ).loc main_arg2)) b h ⟨r.val, by omega⟩ ⟨k.val, by omega⟩ := by
  unfold dotAt logitOf
  refine Finset.sum_congr rfl fun d _ => congrArg₂ (· * ·) (arg0_at m c t b h hb ht hh r d) ?_
  unfold keyAt keyOf
  split
  · exact arg1_at m c t b h hb ht hh _ _
  · exact arg2_at m c t b h hb ht hh _ _

/-- A block of the result belongs to one point. -/
theorem out_inj (t t' : Fin cfg0.N) (h : win0_4.index t = win0_4.index t') : t = t' := by
  rw [(idx t).2.2.2.2, (idx t').2.2.2.2] at h
  have h0 : t.val / 128 = t'.val / 128 := congrFun h 0
  have h1 : t.val % 8 = t'.val % 8 := congrFun h 1
  have h2 : t.val / 8 % 16 = t'.val / 8 % 16 := congrFun h 2
  exact Fin.ext (by omega)

/-- Every point of the grid writes its block back. -/
theorem flush_all : ∀ t : Fin cfg0.N, (cfg0.win 4).flush t = true := by decide +kernel

/-- Where a block's element sits in the result. -/
theorem emb_at (t : Fin cfg0.N) (b : Fin 8) (h : Fin 16) (hb : t.val / 128 = b.val) (ht : t.val % 8 = 0) (hh : t.val / 8 % 16 = h.val) (r : Fin 4096) (hr : r.val < 512) (e : Fin 128) :
    (((cfg0.win 4).blk t).view.emb (ix3 0 ⟨r.val, hr⟩ e) : S8x4096x2048.Idx) = ix3 b r ⟨h.val * 128 + e.val, by omega⟩ := by
  blk_ext [idx t, hb, ht, hh]

/-- A write-back takes the whole block. -/
theorem cut_at (t : Fin cfg0.N) (v : FVec Ideal S1x512x128 .bf16) : (cfg0.win 4).cut (grid0.coords t) v = v := rfl

/-- What the first query tile's point writes back. -/
theorem flushed_at (c : Dev nD) (t : Fin cfg0.N) (ht : t.val % 8 = 0) (a : Fin 512) (e : Fin 128) :
    ((dats m 0 c).flushed 4 t (ix3 0 a e) : EReal) = Ideal.div (mixAt (iblk m c 0 t) (iblk m c 1 t) (iblk m c 2 t) (iblk m c 3 t) a e) (massAt (iblk m c 0 t) (iblk m c 1 t) (iblk m c 2 t) a) := by
  rw [Value.flushed4_A m c t ht ht (by omega) (by omega) (by omega) (by omega) (by omega) (by omega) (by omega)]
  erw [cut_at]
  exact out_tile (u := 0) (a := a) (b := e) ..

/-- The result's first 512 rows. -/
theorem result_at (c : Dev nD) (b : Fin 8) (h : Fin 16) (r : Fin 4096) (hr : r.val < 512) (e : Fin 128) :
    ((dats m 0 c).arrAt 4 cfg0.N : FVec Ideal S8x4096x2048 .bf16) (ix3 b r ⟨h.val * 128 + e.val, by omega⟩)
      = Ideal.div (∑ k, expAt r.val (logitOf (m ((c : Thread nD τ).loc main_arg0)) (m ((c : Thread nD τ).loc main_arg1)) (m ((c : Thread nD τ).loc main_arg2)) b h r) k
            * (m ((c : Thread nD τ).loc main_arg3) : FVec Ideal S8x4096x2048 .bf16) (ix3 b k ⟨h.val * 128 + e.val, by omega⟩))
          (sumAt r.val (logitOf (m ((c : Thread nD τ).loc main_arg0)) (m ((c : Thread nD τ).loc main_arg1)) (m ((c : Thread nD τ).loc main_arg2)) b h r)) := by
  have hb : (point b h).val / 128 = b.val := by show (b.val * 128 + h.val * 8) / 128 = _; omega
  have hh : (point b h).val / 8 % 16 = h.val := by show (b.val * 128 + h.val * 8) / 8 % 16 = _; omega
  have h8 : (point b h).val % 8 = 0 := by show (b.val * 128 + h.val * 8) % 8 = 0; omega
  have key := (dats m 0 c).arrAt_emb_eq_flushed 4 (Window.hdisj_of_index_inj _ fun t t' _ _ => out_inj t t') (point b h) (flush_all _) (ix3 0 ⟨r.val, hr⟩ e)
  have he := emb_at (point b h) b h hb h8 hh r hr e
  rw [he] at key
  refine key.trans ((flushed_at m c (point b h) h8 ⟨r.val, hr⟩ e).trans ?_)
  unfold mixAt massAt weightAt
  have hd : dotAt (show FVec Ideal S1x512x256 .bf16 from iblk m c 0 (point b h)) (show FVec Ideal S1x4096x128 .bf16 from iblk m c 1 (point b h)) (show FVec Ideal S1x4096x128 .bf16 from iblk m c 2 (point b h)) ⟨r.val, hr⟩
      = fun k : Fin 512 => logitOf (m ((c : Thread nD τ).loc main_arg0)) (m ((c : Thread nD τ).loc main_arg1)) (m ((c : Thread nD τ).loc main_arg2)) b h r ⟨k.val, by omega⟩ :=
    funext fun k => dot_at m c (point b h) b h hb h8 hh ⟨r.val, hr⟩ k
  refine congrArg₂ Ideal.div ?_ ?_
  · refine Eq.trans ?_ (mix_of_rows (L := 512) (by decide) r.val hr (logitOf (m ((c : Thread nD τ).loc main_arg0)) (m ((c : Thread nD τ).loc main_arg1)) (m ((c : Thread nD τ).loc main_arg2)) b h r)
      (fun k => (m ((c : Thread nD τ).loc main_arg3) : FVec Ideal S8x4096x2048 .bf16) (ix3 b k ⟨h.val * 128 + e.val, by omega⟩)))
    exact Finset.sum_congr rfl fun k _ => congrArg₂ (· * ·) (congrArg (fun s => expAt r.val s k) hd) (arg3_at m c (point b h) b h hb h8 hh _ e)
  · exact (congrArg (sumAt r.val) hd).trans (sum_of_rows (L := 512) (by decide) r.val hr _)

end Cert.MlaAttnIdeal.Tile

end
-- ==== Proof.Hand.MlaRef.lean ====
/-
The reference's result over its arguments: every query's weights over their sum, weighing the values.
-/
module

public import proofs.«01_k».proof.Proof.Hand.MlaKer
public import proofs.«01_k».proof.Proof.Gen.MlaAttnRefIdeal.Read

@[expose] public section

open Idealize.ShloMosaic Idealize.ShloMosaic.TcCoe Idealize.SL.Sem
open Cert.MlaAttnRefIdeal Cert.MlaAttnRefIdeal.Gen Cert.MlaAttnRefIdeal.Read
open Cert.MlaAttnIdeal.Tile (keyOf logitOf maskAt topAt expAt sumAt ofBits_bot)

namespace Cert.MlaAttnRefIdeal.Rows

set_option maxRecDepth 100000

/-- The word of two. -/
theorem ofBits_two : Ideal.ofBits FTy.f32 1073741824#32 = ((2 : ℝ) : EReal) := by
  simp [Ideal.ofBits, Ideal.ieee]
  rw [← EReal.coe_mul]
  norm_num

/-- Two to a power is the base-two exponential. -/
theorem pow_two (x : EReal) : Ideal.pow ((2 : ℝ) : EReal) x = Ideal.exp2 x := by
  induction x using EReal.rec with
  | bot =>
    show (if (2 : ℝ) < 0 then (⊥ : EReal) else if (1 : ℝ) < 2 then 0 else if (2 : ℝ) = 1 then 1 else ⊤) = 0
    norm_num
  | coe r => rfl
  | top =>
    show (if (2 : ℝ) < 0 then (⊥ : EReal) else if (1 : ℝ) < 2 then ⊤ else if (2 : ℝ) = 1 then 1 else 0) = ⊤
    norm_num

variable (q : FVec Ideal S8x4096x4096 .bf16) (kn : FVec Ideal S8x4096x2048 .bf16) (kr : FVec Ideal S8x4096x128 .bf16) (v : FVec Ideal S8x4096x2048 .bf16)

/-- The reference's logits. -/
theorem logit_at (b : Fin 8) (h : Fin 16) (r k : Fin 4096) : val_main_v12 (F := Ideal) q kn kr (ix4 b h r k) = logitOf q kn kr b h r k := by
  have e : logitOf q kn kr b h r k = (∑ d : Fin 128, q (ix3 b r ⟨h.val * 256 + d.val, by omega⟩) * kn (ix3 b k ⟨h.val * 128 + d.val, by omega⟩))
      + ∑ d : Fin 128, q (ix3 b r ⟨h.val * 256 + (128 + d.val), by omega⟩) * kr (ix3 b k d) := by
    unfold logitOf
    refine (Fin.sum_univ_add (a := 128) (b := 128) _).trans (congrArg₂ _ (Finset.sum_congr rfl fun d _ => ?_) (Finset.sum_congr rfl fun d _ => ?_))
    · refine congrArg₂ (· * ·) rfl ?_
      unfold keyOf
      rw [dif_pos (show (Fin.castAdd 128 d).val < 128 from d.isLt)]
      rfl
    · refine congrArg₂ (· * ·) rfl ?_
      unfold keyOf
      rw [dif_neg (show ¬(Fin.natAdd 128 d).val < 128 by show ¬128 + d.val < 128; omega)]
      exact congrArg (fun d => kr (ix3 b k d)) (Fin.ext (by show 128 + d.val - 128 = d.val; omega))
  rw [e]
  pointwise [val_main_v12, val_main_v11, val_main_v10, val_main_v9, val_main_v8, val_main_v7, val_main_v4, val_main_v3, val_main_v2, val_main_v1, val_main_v0]
  exact congrArg₂ _ rfl (Finset.sum_congr rfl fun d _ => mul_comm _ _)

/-- The reference's masked logits. -/
theorem mask_at (b : Fin 8) (h : Fin 16) (r k : Fin 4096) : val_main_v19 (F := Ideal) q kn kr (ix4 b h r k) = maskAt r.val (logitOf q kn kr b h r) k := by
  pointwise [val_main_v19, val_main_call0_v2, val_main_call0_v1, val_main_call0_v0, val_main_cst, val_main_v18, val_main_v17, val_main_v16, val_main_v15, val_main_v14, val_main_v13, logit_at q kn kr]
  rw [WordCmp.cmpi_sle_ofNat (by have := k.isLt; norm_num; omega) (by have := r.isLt; norm_num; omega)]
  have hb : (id (constant (F := Ideal) S_ .f32 4286578688#32) ix0 : EReal) = ⊥ := ofBits_bot
  unfold maskAt
  by_cases h : k.val ≤ r.val
  · simp [h, Scalar.select]
  · simp only [h, Scalar.select]
    exact hb

/-- The reference's weights before normalisation. -/
theorem exp_at (b : Fin 8) (h : Fin 16) (r k : Fin 4096) : val_main_v25 (F := Ideal) q kn kr (ix4 b h r k) = expAt r.val (logitOf q kn kr b h r) k := by
  pointwise [val_main_v25, val_main_v24, val_main_cst_1, val_main_v23, val_main_v22, val_main_v21, val_main_v20, val_main_cst_0, mask_at q kn kr]
  rw [ofBits_bot, ofBits_two]
  exact pow_two _

/-- The reference's result. -/
theorem out_at (b : Fin 8) (h : Fin 16) (r : Fin 4096) (e : Fin 128) : val_main_v33 (F := Ideal) q kn kr v (ix3 b r ⟨h.val * 128 + e.val, by omega⟩)
    = ∑ k, Ideal.div (expAt r.val (logitOf q kn kr b h r) k) (sumAt r.val (logitOf q kn kr b h r)) * v (ix3 b k ⟨h.val * 128 + e.val, by omega⟩) := by
  pointwise [val_main_v33, val_main_v32, val_main_v31, val_main_v30, val_main_v29, val_main_v28, val_main_v27, val_main_v26, val_main_cst_2, val_main_v6, val_main_v5, exp_at q kn kr]
  exact Finset.sum_congr rfl fun k _ => mul_comm _ _

end Cert.MlaAttnRefIdeal.Rows

end
-- ==== Proof.Hand.MlaFin.lean ====
/-
Finite logits: dividing each weight by the weights' sum is dividing the weighted sum by it.
-/
module

public import proofs.«01_k».proof.Proof.Hand.MlaKer

@[expose] public section

open Idealize.ShloMosaic
open Cert.MlaAttnIdeal

namespace Cert.MlaAttnIdeal.Tile

/-- An extended real that is a real. -/
def Finite (x : EReal) : Prop := ∃ r : ℝ, x = (r : EReal)

/-- A sum of reals is a real. -/
theorem coe_sum {ι : Type*} (s : Finset ι) (w : ι → ℝ) : ∑ j ∈ s, (w j : EReal) = ((∑ j ∈ s, w j : ℝ) : EReal) := by
  classical
  induction s using Finset.induction_on with
  | empty => simp
  | insert a s ha ih => rw [Finset.sum_insert ha, Finset.sum_insert ha, ih, EReal.coe_add]

/-- A sum of finite terms is finite. -/
theorem Finite.sum {ι : Type*} (s : Finset ι) (f : ι → EReal) (h : ∀ j, Finite (f j)) : Finite (∑ j ∈ s, f j) := by
  choose w hw using h
  exact ⟨∑ j ∈ s, w j, (Finset.sum_congr rfl fun j _ => hw j).trans (coe_sum s w)⟩

/-- A product of finite factors is finite. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- A nonnegative real factor leaves a sum. -/
theorem sum_mul_coe {ι : Type*} (s : Finset ι) (f : ι → EReal) (c : ℝ) (hc : 0 ≤ c) : ∑ j ∈ s, f j * (c : EReal) = (∑ j ∈ s, f j) * (c : EReal) := by
  classical
  induction s using Finset.induction_on with
  | empty => simp
  | insert a s ha ih =>
    rw [Finset.sum_insert ha, Finset.sum_insert ha, ih, EReal.right_distrib_of_nonneg_of_ne_top (EReal.coe_nonneg.mpr hc) (EReal.coe_ne_top c)]

/-- The greatest masked logit of finite logits is finite. -/
theorem top_finite {L : ℕ} (r : ℕ) (hr : r < L) (s : Fin L → EReal) (hs : ∀ j, Finite (s j)) : Finite (topAt (maskAt r s)) := by
  obtain ⟨j, -, hj⟩ := Finset.exists_mem_eq_sup Finset.univ ⟨⟨r, hr⟩, Finset.mem_univ _⟩ (maskAt r s)
  have hle : maskAt r s ⟨r, hr⟩ ≤ topAt (maskAt r s) := Finset.le_sup (f := maskAt r s) (Finset.mem_univ _)
  have hself : maskAt r s ⟨r, hr⟩ = s ⟨r, hr⟩ := if_pos le_rfl
  have htop : topAt (maskAt r s) = maskAt r s j := hj
  by_cases h : j.val ≤ r
  · exact htop ▸ (show maskAt r s j = s j from if_pos h) ▸ hs j
  · rw [htop, show maskAt r s j = ⊥ from if_neg h, hself, le_bot_iff] at hle
    obtain ⟨x, hx⟩ := hs ⟨r, hr⟩
    exact absurd (hx.symm.trans hle) (EReal.coe_ne_bot x)

/-- The weights of finite logits are nonnegative reals, and the query's own is positive. -/
theorem exp_real {L : ℕ} (r : ℕ) (hr : r < L) (s : Fin L → EReal) (hs : ∀ j, Finite (s j)) (j : Fin L) :
    ∃ w : ℝ, expAt r s j = (w : EReal) ∧ 0 ≤ w ∧ (j.val ≤ r → 0 < w) := by
  obtain ⟨t, ht⟩ := top_finite r hr s hs
  by_cases h : j.val ≤ r
  · obtain ⟨x, hx⟩ := hs j
    have hp : (0 : ℝ) < Real.rpow 2 (x - t) := Real.rpow_pos_of_pos (by norm_num) _
    refine ⟨Real.rpow 2 (x - t), ?_, hp.le, fun _ => hp⟩
    unfold expAt
    rw [ht, show maskAt r s j = s j from if_pos h, hx, ← EReal.coe_sub]
    rfl
  · exact ⟨0, (exp_zero r s j (by omega)).trans EReal.coe_zero.symm, le_rfl, fun h' => absurd h' h⟩

/-- Dividing each weight by the weights' sum is dividing the weighted sum by it. -/
theorem normalised {L : ℕ} (r : ℕ) (hr : r < L) (s y : Fin L → EReal) (hs : ∀ j, Finite (s j)) :
    ∑ k, Ideal.div (expAt r s k) (sumAt r s) * y k = Ideal.div (∑ k, expAt r s k * y k) (sumAt r s) := by
  choose w hw h0 hp using exp_real r hr s hs
  have hsum : sumAt r s = ((∑ j, w j : ℝ) : EReal) := (Finset.sum_congr rfl fun j _ => hw j).trans (coe_sum _ w)
  have hpos : 0 < ∑ j, w j := Finset.sum_pos' (fun j _ => h0 j) ⟨⟨r, hr⟩, Finset.mem_univ _, hp _ le_rfl⟩
  have hdiv : ∀ x : EReal, Ideal.div x (sumAt r s) = x * (((∑ j, w j)⁻¹ : ℝ) : EReal) := fun x => by
    rw [hsum]
    unfold Ideal.div
    rw [if_neg (fun h => hpos.ne' (EReal.coe_eq_zero.mp h)), EReal.coe_inv]
  rw [hdiv, ← sum_mul_coe _ _ _ (inv_nonneg.mpr hpos.le)]
  exact Finset.sum_congr rfl fun k _ => by rw [hdiv, mul_right_comm]

/-- Finite arguments have finite logits. -/
theorem logit_finite (q : FVec Ideal S8x4096x4096 .bf16) (kn : FVec Ideal S8x4096x2048 .bf16) (kr : FVec Ideal S8x4096x128 .bf16)
    (hq : ∀ i, Finite (q i)) (hn : ∀ i, Finite (kn i)) (hr : ∀ i, Finite (kr i)) (b : Fin 8) (h : Fin 16) (r k : Fin 4096) : Finite (logitOf q kn kr b h r k) := by
  refine Finite.sum _ _ fun d => (hq _).mul ?_
  unfold keyOf
  split
  · exact hn _
  · exact hr _

/-- An extended real below infinity in magnitude is a real. -/
theorem finite_of_abs (x : EReal) (h : Ideal.cmp .olt (max x (-x)) (Ideal.ofBits .f32 0x7F800000#32) = 1#1) : Finite x := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

end Cert.MlaAttnIdeal.Tile

end
-- ==== Proof.Hand.MlaValue.lean ====
/-
The attention call's claims: its frames, and its result's first 512 rows.
-/
module

public import proofs.«01_k».proof.Defs
public import proofs.«01_k».proof.Proof.Gen.MlaAttn
public import proofs.«01_k».proof.Proof.Gen.MlaAttnRefIdeal.Run
public import proofs.«01_k».proof.Proof.Hand.MlaRef
public import proofs.«01_k».proof.Proof.Hand.MlaFin

@[expose] public section

open Idealize.ShloMosaic Idealize.ShloMosaic.TcCoe Idealize.SL.Sem
open Cert.MlaAttnIdeal.Tile

namespace Cert.MlaProof

set_option maxRecDepth 100000

/-- The side conditions of the condition on the arguments. -/
theorem pre_facts : Cert.Pre_finite_inputs.Facts where
  bitsLt_bf16_f32 := by decide
  bcast_S_S8x4096x4096 := by decide
  bcast_S_S8x4096x2048 := by decide
  bcast_S_S8x4096x128 := by decide

/-- The side condition of the choice of rows. -/
theorem on_facts : Cert.On_first_rows.Facts where
  bcast_S_S8x4096x2048 := by decide

/-- The kernel's body and its idealization's are one text. -/
theorem bodies_eq : Cert.MlaAttn.defs₀ (F := Bits) = Cert.MlaAttnIdeal.defs₀ (F := Bits) := by
  unfold Cert.MlaAttn.defs₀ Cert.MlaAttnIdeal.defs₀
  refine congrArg Defs.onTc ?_
  funext l a
  match l, a with
  | ⟨0, _⟩, (t, s) => rfl

/-- So are the two programs' tables. -/
theorem defs_eq : Cert.MlaAttn.defs (F := Bits) = Cert.MlaAttnIdeal.defs (F := Bits) := congrArg (Pipeline.defs Cert.MlaAttnIdeal.pcfgs) bodies_eq

/-- The attention kernel runs from any memory, and leaves its arguments as they were: the run of the same program over any floats. -/
theorem frame_kernel : quiescent_MlaAttn (hMlaAttn := Cert.MlaAttn.Gen.facts) := by
  intro m ρ _
  rw [defs_eq]
  exact Cert.MlaAttnIdeal.Gen.frame (F := Bits) m ρ

/-- Its idealization does. -/
theorem frame_ideal : quiescent_MlaAttnIdeal (hMlaAttnIdeal := Cert.MlaAttnIdeal.Gen.facts) :=
  fun m ρ _ => Cert.MlaAttnIdeal.Gen.frame (F := Ideal) m ρ

/-- The reference does. -/
theorem frame_ref : quiescent_MlaAttnRefIdeal (hMlaAttnRefIdeal := Cert.MlaAttnRefIdeal.Gen.facts) :=
  fun m ρ _ => (θ_run _ _ _).mono (fun r h => ⟨fun c => (h c).2, Idealize.ShloMosaic.sem_eq_zero_of_no_sems (by decide) r.2⟩) (Cert.MlaAttnRefIdeal.Value.run (F := Ideal) m ρ)

/-- The chosen rows are the first 512. -/
theorem chosen (x0 : FVec Ideal Cert.MlaAttnIdeal.S8x4096x4096 .bf16) (x1 x3 : FVec Ideal Cert.MlaAttnIdeal.S8x4096x2048 .bf16) (x2 : FVec Ideal Cert.MlaAttnIdeal.S8x4096x128 .bf16)
    (b : Fin 8) (r : Fin 4096) (n : Fin 2048) (h : @Cert.On_first_rows.fn on_facts Ideal _ x0 x1 x2 x3 (ix3 b r n) = 1#1) : r.val < 512 := by
  have e : @Cert.On_first_rows.fn on_facts Ideal _ x0 x1 x2 x3 (ix3 b r n) = IntOp.cmpi .slt (BitVec.ofNat 32 r.val) (BitVec.ofNat 32 512) := rfl
  rw [e, WordCmp.cmpi_slt_ofNat (by have := r.isLt; norm_num; omega) (by norm_num)] at h
  by_contra hn
  simp [hn] at h

/-- The kernel's first 512 rows are the reference's, of finite arguments. -/
theorem rows_eq (m : (ℓ : Loc Cert.MlaAttnIdeal.nD Cert.MlaAttnIdeal.τ Cert.MlaAttnIdeal.sig) → Buf (Elt Ideal) ℓ) (hpre : Pre_MlaAttnIdeal_finite_inputs (hPre_finite_inputs := pre_facts) m) (c : Dev Cert.MlaAttnIdeal.nD)
    (b : Fin 8) (r : Fin 4096) (n : Fin 2048) (hr : r.val < 512) :
    ((Cert.MlaAttnIdeal.Gen.dats m 0 c).arrAt 4 Cert.MlaAttnIdeal.cfg0.N : FVec Ideal Cert.MlaAttnIdeal.S8x4096x2048 .bf16) (ix3 b r n)
      = Cert.MlaAttnRefIdeal.Read.val_main_v33 (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3)) (ix3 b r n) := by
  obtain ⟨p0, p1, p2⟩ := hpre c
  have en : n = ⟨(⟨n.val / 128, by omega⟩ : Fin 16).val * 128 + (⟨n.val % 128, by omega⟩ : Fin 128).val, by show n.val / 128 * 128 + n.val % 128 < 2048; omega⟩ :=
    Fin.ext (by show n.val = n.val / 128 * 128 + n.val % 128; omega)
  rw [en]
  refine (result_at m c b _ r hr _).trans (Eq.symm ((Cert.MlaAttnRefIdeal.Rows.out_at (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3)) b _ r _).trans ?_))
  exact normalised r.val r.isLt _ _ fun k => logit_finite _ _ _ (fun i => finite_of_abs _ (congrFun p0 i)) (fun i => finite_of_abs _ (congrFun p1 i)) (fun i => finite_of_abs _ (congrFun p2 i)) b _ r k

/-- The attention kernel and its reference, from memories that agree on finite arguments, leave the same first 512 rows. -/
theorem value : algebraic_MlaAttnIdeal_MlaAttnRefIdeal_on_first_rows_pre_finite_inputs (hMlaAttnIdeal := Cert.MlaAttnIdeal.Gen.facts) (hMlaAttnRefIdeal := Cert.MlaAttnRefIdeal.Gen.facts)
    (hPre_finite_inputs := pre_facts) (hOn_first_rows := on_facts) := by
  intro m ρ m' ρ' hpre hag
  refine ⟨fun c => Cert.MlaAttnRefIdeal.Read.val_main_v33 (F := Ideal) (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg2)) (m ((c.tc : Thread Cert.MlaAttnIdeal.nD Cert.MlaAttnIdeal.τ).loc Cert.MlaAttnIdeal.main_arg3)),
    (θ_run _ _ _).mono (fun r h c => ⟨fun i hi => ?_, (h c).2⟩) (Cert.MlaAttnIdeal.Value.run_blocks (F := Ideal) m ρ),
    (θ_run _ _ _).mono (fun r h c => ⟨fun i _ => congrFun ((h c).1.trans ((Cert.MlaAttnRefIdeal.Read.val_main_v33_eq (F := Ideal) m' c).trans ?_)) i, (h c).2⟩) (Cert.MlaAttnRefIdeal.Value.run (F := Ideal) m' ρ')⟩
  · have ei : i = ix3 (i 0) (i 1) (i 2) := by funext a; fin_cases a <;> rfl
    rw [ei] at hi ⊢
    exact (congrFun (h c).1 _).trans (rows_eq m hpre c (i 0) (i 1) (i 2) (chosen (m ((c.tc : Thread Cert.MlaAttnIdeal.nD Cert.MlaAttnIdeal.τ).loc Cert.MlaAttnIdeal.main_arg0)) (m ((c.tc : Thread Cert.MlaAttnIdeal.nD Cert.MlaAttnIdeal.τ).loc Cert.MlaAttnIdeal.main_arg1)) (m ((c.tc : Thread Cert.MlaAttnIdeal.nD Cert.MlaAttnIdeal.τ).loc Cert.MlaAttnIdeal.main_arg3)) (m ((c.tc : Thread Cert.MlaAttnIdeal.nD Cert.MlaAttnIdeal.τ).loc Cert.MlaAttnIdeal.main_arg2)) _ _ _ hi))
  · obtain ⟨a0, a1, a2, a3⟩ := hag c
    change Cert.MlaAttnRefIdeal.Read.val_main_v33 (F := Ideal) (m' ((c.tc : Thread Cert.MlaAttnRefIdeal.nD Cert.MlaAttnRefIdeal.τ).loc Cert.MlaAttnRefIdeal.main_arg0)) (m' ((c.tc : Thread Cert.MlaAttnRefIdeal.nD Cert.MlaAttnRefIdeal.τ).loc Cert.MlaAttnRefIdeal.main_arg1)) (m' ((c.tc : Thread Cert.MlaAttnRefIdeal.nD Cert.MlaAttnRefIdeal.τ).loc Cert.MlaAttnRefIdeal.main_arg2)) (m' ((c.tc : Thread Cert.MlaAttnRefIdeal.nD Cert.MlaAttnRefIdeal.τ).loc Cert.MlaAttnRefIdeal.main_arg3)) = _
    rw [a0, a1, a2, a3]

end Cert.MlaProof

end
-- ==== Proof.Hand.KvRows.lean ====
/- The key/value call's arithmetic on one token's row, over the extended reals: the root-mean-square norm and the
   rotation of a pair of columns. -/
module

public import proofs.«01_k».proof.Proof.Hand.Rows

@[expose] public section

noncomputable section

namespace Cert.Rows

open Idealize.ShloMosaic

/-- The root-mean-square norm of a row of 256 numbers with gain `g`. -/
def rmsAt (z g : Fin 256 → EReal) (j : Fin 256) : EReal :=
  z j * Ideal.rsqrt (Ideal.div (∑ k, z k * z k) (Ideal.ofBits FTy.f32 0x43800000#32) + Ideal.ofBits FTy.f32 0x358637BD#32) * g j

/-- A row's latent, normed, times the matrix of one of the two halves of the up-projection. -/
def upAt {N : ℕ} (x : Fin 1024 → EReal) (wd : Fin 1024 → Fin 256 → EReal) (g : Fin 256 → EReal) (w : Fin 256 → Fin N → EReal) (j : Fin N) : EReal :=
  mulAt (rmsAt (mulAt x wd) g) w j

end Cert.Rows

end
-- ==== Proof.Hand.KvKer.lean ====
/- What the key/value call leaves in its four results, row by row. -/
module

public import proofs.«01_k».proof.Proof.Hand.KvRows
public import proofs.«01_k».proof.Proof.Gen.KvFfnIdeal.Value
public import Idealize.ShloMosaic.Lib.Pipeline.ValueKit
public import Idealize.ShloMosaic.Lib.VecWindow

@[expose] public section

set_option maxRecDepth 16384

noncomputable section

namespace Cert.KvFfnIdeal.Rows

open Idealize.ShloMosaic Idealize.ShloMosaic.TcCoe Idealize.SL.Sem
open Idealize.ShloMosaic.Pipeline (Dat)
open Cert.KvFfnIdeal Cert.KvFfnIdeal.Gen Cert.Rows

variable (m : (ℓ : Loc nD τ sig) → Buf (Elt Ideal) ℓ)

/-- A row of the block of activations. -/
abbrev X (c : Dev nD) (t : Fin cfg0.N) (r : Fin 512) (k : Fin 1024) : EReal := (show FVec Ideal S512x1024 .f32 from iblk m c 0 t) (ix2 r k)

/-- The down-projection's weights. -/
abbrev WD (c : Dev nD) (t : Fin cfg0.N) (k : Fin 1024) (n : Fin 384) : EReal := (show FVec Ideal S1024x384 .bf16 from iblk m c 1 t) (ix2 k n)

/-- The latent norm's gain. -/
abbrev KG (c : Dev nD) (t : Fin cfg0.N) (n : Fin 256) : EReal := (show FVec Ideal S1x256 .f32 from iblk m c 2 t) (ix2 0 n)

/-- The gated activation of a block of rows. -/
def ACT (x0 : FVec Ideal S512x1024 .f32) (x1 : FVec Ideal S1024x5632 .bf16) : FVec Ideal S512x2816 .bf16 :=
  fun i => actAt (fun k => x0 (ix2 (i 0) k)) (fun k n => x1 (ix2 k n)) (i 1)

/-- One block of the keys: each row's latent through the up-projection. -/
theorem kn_at (c : Dev nD) (t : Fin cfg0.N) (y : S512x2048.Idx) :
    (outsAt0 m c t).1 y = upAt (X m c t (y 0)) (fun k n => WD m c t k ⟨n.val, by omega⟩) (KG m c t)
      (fun k n => (show FVec Ideal S256x2048 .bf16 from iblk m c 3 t) (ix2 k n)) (y 1) := by
  unfold outsAt0
  frame_out
  idx_vars y
  pointwise [k0_pay4, k0_pay3, k0_pay2]
  rfl

/-- One block of the values. -/
theorem v_at (c : Dev nD) (t : Fin cfg0.N) (y : S512x2048.Idx) :
    (outsAt0 m c t).2.1 y = upAt (X m c t (y 0)) (fun k n => WD m c t k ⟨n.val, by omega⟩) (KG m c t)
      (fun k n => (show FVec Ideal S256x2048 .bf16 from iblk m c 4 t) (ix2 k n)) (y 1) := by
  unfold outsAt0
  frame_out
  idx_vars y
  pointwise [k0_pay5, k0_pay3, k0_pay2]
  rfl

/-- One block of the rotary keys: a column times its cosine, and the column half a lane width off times its sine. -/
theorem kr_at (c : Dev nD) (t : Fin cfg0.N) (y : S512x128.Idx) :
    (outsAt0 m c t).2.2.1 y = mulAt (X m c t (y 0)) (WD m c t) ⟨256 + (y 1).val, by have := (y 1).isLt; change (y 1).val < 128 at this; omega⟩
          * (show FVec Ideal S512x128 .f32 from iblk m c 5 t) (ix2 (y 0) (y 1))
        + mulAt (X m c t (y 0)) (WD m c t) ⟨256 + ((y 1).val + 128 - 64) % 128, by omega⟩
          * (show FVec Ideal S512x128 .f32 from iblk m c 6 t) (ix2 (y 0) (y 1)) := by
  unfold outsAt0
  frame_out
  idx_vars y
  pointwise [k0_pay8, k0_pay7, k0_pay6, k0_pay2]
  rfl

set_option maxHeartbeats 2000000 in
/-- One block of the stream: each row through the feed-forward step. -/
theorem out_at (c : Dev nD) (t : Fin cfg0.N) (y : S512x1024.Idx) :
    (outsAt0 m c t).2.2.2 y = ffnRow (X m c t (y 0))
      (fun k n => (show FVec Ideal S1024x5632 .bf16 from iblk m c 7 t) (ix2 k n)) (fun n j => (show FVec Ideal S2816x1024 .bf16 from iblk m c 8 t) (ix2 n j))
      (fun j => (show FVec Ideal S1x1024 .f32 from iblk m c 9 t) (ix2 0 j)) (fun j => (show FVec Ideal S1x1024 .f32 from iblk m c 10 t) (ix2 0 j)) (y 1) := by
  unfold outsAt0
  frame_out
  refine Eq.trans (congrArg (fun A => k0_pay1 (F := Ideal) (k0_pay27 (iblk m c 9 t)) (k0_pay28 (iblk m c 10 t)) (k0_pay29 (k0_pay9 (iblk m c 0 t)) A (iblk m c 8 t))
    (k0_pay30 (k0_pay9 (iblk m c 0 t)) A (iblk m c 8 t)) y) (?_ : _ = ACT (iblk m c 0 t) (iblk m c 7 t))) ?_
  · rw [Cert.Rows.readCov_full _ _ (funext fun a => by fin_cases a <;> rfl)]
    funext i
    idx_vars i
    canon_tiles x h
    all_goals (change i0.val = _ at h0; change i1.val = _ at h1; pointwise [k0_pay26, k0_pay25, k0_pay24, k0_pay23, k0_pay22, k0_pay21, k0_pay20, k0_pay19, k0_pay18, k0_pay17, k0_pay16, k0_pay15, k0_pay14, k0_pay13, k0_pay12, k0_pay11,
      k0_pay10, k0_pay9, ACT, actAt, mulAt])
    all_goals blk_point []
  · idx_vars y
    pointwise [k0_pay1, k0_pay27, k0_pay28, k0_pay29, k0_pay30, k0_pay9, ACT]
    rfl

end Cert.KvFfnIdeal.Rows

end
-- ==== Proof.Hand.KvRef.lean ====
/- What the reference of the key/value call computes, row by row. -/
module

public import proofs.«01_k».proof.Proof.Hand.KvRows
public import proofs.«01_k».proof.Proof.Gen.KvFfnRefIdeal.Read

@[expose] public section

set_option maxRecDepth 16384

noncomputable section

namespace Cert.KvFfnRefIdeal.Rows

open Idealize.ShloMosaic Idealize.ShloMosaic.TcCoe Idealize.SL.Sem
open Cert.KvFfnRefIdeal Cert.KvFfnRefIdeal.Gen Cert.KvFfnRefIdeal.Read Cert.Rows

variable (x0 : FVec Ideal S8x4096x1024 .f32) (x1 : FVec Ideal S1024x320 .f32) (x2 : FVec Ideal S256 .f32) (x3 : FVec Ideal S256x16x256 .f32)
  (x4 : FVec Ideal S2x1024x5632 .f32) (x5 : FVec Ideal S2x2816x1024 .f32) (x6 x7 : FVec Ideal S2x4x1024 .f32)

/-- A row of the flattened stream. -/
abbrev row (r : Fin 32768) (k : Fin 1024) : EReal := x0 (ix3 ⟨r.val / 4096, by omega⟩ ⟨r.val % 4096, by omega⟩ k)

/-- The down-projection, at a token and column. -/
theorem down_at (b : Fin 8) (s : Fin 4096) (n : Fin 320) :
    val_main_v0 (F := Ideal) x0 x1 (ix3 b s n) = mulAt (fun k => x0 (ix3 b s k)) (fun k n => x1 (ix2 k n)) n := by
  pointwise [val_main_v0]
  rfl

/-- The normed latent. -/
theorem latent_at (b : Fin 8) (s : Fin 4096) (n : Fin 256) :
    val_main_v14 (F := Ideal) x0 x1 x2 (ix3 b s n) = rmsAt (mulAt (fun k => x0 (ix3 b s k)) (fun k n => x1 (ix2 k ⟨n.val, by omega⟩))) (fun n => x2 (ix1 n)) n := by
  pointwise [val_main_v14, val_main_v13, val_main_v12, val_main_v11, val_main_v10, val_main_v9, val_main_v8, val_main_v7, val_main_cst_1, val_main_v6,
    val_main_v5, val_main_cst_0, val_main_v4, val_main_v3, val_main_cst, val_main_v2, val_main_v1, down_at x0 x1]
  rfl

/-- The keys, at a row of the flattened stream and a head's column. -/
theorem kn_at (r : Fin 32768) (j : Fin 2048) :
    val_main_v94 (F := Ideal) x0 x1 x2 x3 (ix2 r j) = upAt (row x0 r) (fun k n => x1 (ix2 k ⟨n.val, by omega⟩)) (fun n => x2 (ix1 n))
      (fun k (n : Fin 2048) => x3 (ix3 k ⟨n.val / 128, by omega⟩ ⟨n.val % 128, by omega⟩)) j := by
  pointwise [val_main_v94, val_main_v93, val_main_v48, val_main_v47, latent_at x0 x1 x2]
  rfl

/-- The values, at a row of the flattened stream and a head's column. -/
theorem v_at (r : Fin 32768) (j : Fin 2048) :
    val_main_v96 (F := Ideal) x0 x1 x2 x3 (ix2 r j) = upAt (row x0 r) (fun k n => x1 (ix2 k ⟨n.val, by omega⟩)) (fun n => x2 (ix1 n))
      (fun k (n : Fin 2048) => x3 (ix3 k ⟨n.val / 128, by omega⟩ ⟨128 + n.val % 128, by omega⟩)) j := by
  pointwise [val_main_v96, val_main_v95, val_main_v49, val_main_v47, latent_at x0 x1 x2]
  rfl

/-- The gated activation. -/
theorem act_at (b : Fin 8) (s : Fin 4096) (n : Fin 2816) :
    val_main_v58 (F := Ideal) x0 x4 (ix3 b s n) = actAt (fun k => x0 (ix3 b s k)) (fun k n => x4 (ix3 1 k n)) n := by
  pointwise [val_main_v58, val_main_v57, val_main_call0_v5, val_main_call0_v4, val_main_call0_cst_0, val_main_call0_v3, val_main_call0_v2,
    val_main_call0_cst, val_main_call0_v1, val_main_call0_v0, val_main_v56, val_main_v55, val_main_v54, val_main_v51, val_main_v50]
  rfl

/-- The residual stream before its norm. -/
theorem res_at (b : Fin 8) (s : Fin 4096) (j : Fin 1024) :
    val_main_v68 (F := Ideal) x0 x4 x5 (ix3 b s j) = resAt (fun k => x0 (ix3 b s k))
      (ffnAt (fun k => x0 (ix3 b s k)) (fun k n => x4 (ix3 1 k n)) (fun n j => x5 (ix3 1 n j))) j := by
  pointwise [val_main_v68, val_main_v67, val_main_v66, val_main_cst_5, val_main_v61, val_main_v60, val_main_cst_4, val_main_v59, val_main_v53, val_main_v52, act_at x0 x4]
  rfl

/-- The stream after the feed-forward step, at a row of the flattened stream. -/
theorem out_at (r : Fin 32768) (j : Fin 1024) :
    val_main_v99 (F := Ideal) x0 x4 x5 x6 x7 (ix2 r j) = ffnRow (row x0 r)
      (fun k n => x4 (ix3 1 k n)) (fun n j => x5 (ix3 1 n j)) (fun j => x6 (ix3 1 0 j)) (fun j => x7 (ix3 1 0 j)) j := by
  pointwise [val_main_v99, val_main_v90, val_main_v89, val_main_v88, val_main_v87, val_main_v86, val_main_v85, val_main_v84, val_main_v83,
    val_main_v82, val_main_v81, val_main_v80, val_main_cst_10, val_main_v79, val_main_v78, val_main_cst_9, val_main_v77, val_main_v76, val_main_cst_8,
    val_main_v75, val_main_v74, val_main_v73, val_main_v72, val_main_v71, val_main_cst_7, val_main_v70, val_main_v69, val_main_cst_6,
    val_main_v62, val_main_v63, val_main_v64, val_main_v65, res_at x0 x4 x5]
  rfl

/-- The token's angle in a pair of rotary columns. -/
abbrev ANG (s : Fin 4096) (n : Fin 32) : EReal := val_main_v27 (F := Ideal) (ix2 s n)

/-- The rotary keys' first half. -/
theorem kr_lo (r : Fin 32768) (j : Fin 32) :
    val_main_v98 (F := Ideal) x0 x1 (ix2 r ⟨j.val, by omega⟩) =
      mulAt (row x0 r) (fun k n => x1 (ix2 k n)) ⟨256 + j.val, by omega⟩ * Ideal.cos (ANG ⟨r.val % 4096, by omega⟩ j)
        - mulAt (row x0 r) (fun k n => x1 (ix2 k n)) ⟨256 + (32 + j.val), by omega⟩ * Ideal.sin (ANG ⟨r.val % 4096, by omega⟩ j) := by
  pointwise [val_main_v98, val_main_v97, val_main_v92, val_main_v46]
  rw [dif_pos (by omega)]
  pointwise [val_main_v38, val_main_v37, val_main_v36, val_main_v35, val_main_v34, val_main_v33, val_main_v32,
    val_main_v31, val_main_v30, val_main_v29, val_main_v28, val_main_v15, down_at x0 x1]

/-- Their second half. -/
theorem kr_hi (r : Fin 32768) (j : Fin 32) :
    val_main_v98 (F := Ideal) x0 x1 (ix2 r ⟨32 + j.val, by omega⟩) =
      mulAt (row x0 r) (fun k n => x1 (ix2 k n)) ⟨256 + (32 + j.val), by omega⟩ * Ideal.cos (ANG ⟨r.val % 4096, by omega⟩ j)
        + mulAt (row x0 r) (fun k n => x1 (ix2 k n)) ⟨256 + j.val, by omega⟩ * Ideal.sin (ANG ⟨r.val % 4096, by omega⟩ j) := by
  pointwise [val_main_v98, val_main_v97, val_main_v92, val_main_v46]
  rw [dif_pos (by omega)]
  pointwise [val_main_v45, val_main_v44, val_main_v43, val_main_v42, val_main_v41, val_main_v40, val_main_v39,
    val_main_v31, val_main_v30, val_main_v29, val_main_v28, val_main_v15, down_at x0 x1]

/-- The columns after them are zero. -/
theorem kr_zero (r : Fin 32768) (j : Fin 64) : val_main_v98 (F := Ideal) x0 x1 (ix2 r ⟨64 + j.val, by omega⟩) = 0 := by
  pointwise [val_main_v98, val_main_v97, val_main_v92]
  pointwise [val_main_v91, val_main_cst_11]

end Cert.KvFfnRefIdeal.Rows

end
-- ==== Proof.Hand.KvArgs.lean ====
/- The key/value call's blocks, as its arguments give them. -/
module

public import proofs.«01_k».proof.Proof.Hand.KvKer
public import proofs.«01_k».proof.Proof.Hand.KvRef
public import Idealize.ShloMosaic.Lib.Claim

@[expose] public section

set_option maxRecDepth 16384

noncomputable section

namespace Cert.KvFfnIdeal.Rows

open Idealize.ShloMosaic Idealize.ShloMosaic.TcCoe Idealize.SL.Sem
open Idealize.ShloMosaic.Pipeline (Dat)
open Cert.KvFfnIdeal Cert.KvFfnIdeal.Gen Cert.Rows
open Cert.KvFfnRefIdeal.Read Cert.KvFfnRefIdeal.Rows

variable (m : (ℓ : Loc nD τ sig) → Buf (Elt Ideal) ℓ)

/-- The stream. -/
abbrev A0 (c : Dev nD) : FVec Ideal S8x4096x1024 .f32 := m ((c : Thread nD τ).loc main_arg0)

/-- The down-projection's weight. -/
abbrev A1 (c : Dev nD) : FVec Ideal S1024x320 .f32 := m ((c : Thread nD τ).loc main_arg1)

/-- The latent norm's gain. -/
abbrev A2 (c : Dev nD) : FVec Ideal S256 .f32 := m ((c : Thread nD τ).loc main_arg2)

/-- The up-projection's weight. -/
abbrev A3 (c : Dev nD) : FVec Ideal S256x16x256 .f32 := m ((c : Thread nD τ).loc main_arg3)

/-- The feed-forward step's first weight. -/
abbrev A4 (c : Dev nD) : FVec Ideal S2x1024x5632 .f32 := m ((c : Thread nD τ).loc main_arg4)

/-- Its second weight. -/
abbrev A5 (c : Dev nD) : FVec Ideal S2x2816x1024 .f32 := m ((c : Thread nD τ).loc main_arg5)

/-- The norm's scale. -/
abbrev A6 (c : Dev nD) : FVec Ideal S2x4x1024 .f32 := m ((c : Thread nD τ).loc main_arg6)

/-- The norm's shift. -/
abbrev A7 (c : Dev nD) : FVec Ideal S2x4x1024 .f32 := m ((c : Thread nD τ).loc main_arg7)

/-- The windows' block indices at each point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 8, 0] ∧ win0_6.index t = ![t.val % 8, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0] :=
  (by decide +kernel : ∀ t : Fin grid0.N, _)

/-- A row of the activations' block is a row of the argument. -/
theorem arg0_at (c : Dev nD) (t : Fin cfg0.N) (r : Fin 512) (k : Fin 1024) (h : t.val * 512 + r.val < 32768) :
    X m c t r k = row (A0 m c) ⟨t.val * 512 + r.val, h⟩ k := by
  unfold X
  blk_simp [iblk]
  entry_read
  pointwise []
  blk_point [idx t]

/-- The gain's block is the argument. -/
theorem arg2_at (c : Dev nD) (t : Fin cfg0.N) (n : Fin 256) : KG m c t n = A2 m c (ix1 n) := by
  unfold KG
  blk_simp [iblk]
  entry_read
  pointwise []
  blk_point [idx t]

/-- The keys' half of the up-projection, a head after another. -/
theorem wk_at (c : Dev nD) (t : Fin cfg0.N) (k : Fin 256) (n : Fin 2048) :
    (show FVec Ideal S256x2048 .bf16 from iblk m c 3 t) (ix2 k n) = A3 m c (ix3 k ⟨n.val / 128, by omega⟩ ⟨n.val % 128, by omega⟩) := by
  blk_simp [iblk]
  entry_read
  pointwise []
  blk_point [idx t]

/-- The values' half. -/
theorem wv_at (c : Dev nD) (t : Fin cfg0.N) (k : Fin 256) (n : Fin 2048) :
    (show FVec Ideal S256x2048 .bf16 from iblk m c 4 t) (ix2 k n) = A3 m c (ix3 k ⟨n.val / 128, by omega⟩ ⟨128 + n.val % 128, by omega⟩) := by
  blk_simp [iblk]
  entry_read
  pointwise []
  blk_point [idx t]

/-- The first feed-forward weight's block. -/
theorem arg4_at (c : Dev nD) (t : Fin cfg0.N) (r : Fin 1024) (k : Fin 5632) :
    (show FVec Ideal S1024x5632 .bf16 from iblk m c 7 t) (ix2 r k) = A4 m c (ix3 1 r k) := by
  blk_simp [iblk]
  entry_read
  pointwise []
  blk_point [idx t]

/-- The second's. -/
theorem arg5_at (c : Dev nD) (t : Fin cfg0.N) (r : Fin 2816) (k : Fin 1024) :
    (show FVec Ideal S2816x1024 .bf16 from iblk m c 8 t) (ix2 r k) = A5 m c (ix3 1 r k) := by
  blk_simp [iblk]
  entry_read
  pointwise []
  blk_point [idx t]

/-- The scale's. -/
theorem arg6_at (c : Dev nD) (t : Fin cfg0.N) (k : Fin 1024) :
    (show FVec Ideal S1x1024 .f32 from iblk m c 9 t) (ix2 0 k) = A6 m c (ix3 1 0 k) := by
  blk_simp [iblk]
  entry_read
  pointwise []
  blk_point [idx t]

/-- The shift's. -/
theorem arg7_at (c : Dev nD) (t : Fin cfg0.N) (k : Fin 1024) :
    (show FVec Ideal S1x1024 .f32 from iblk m c 10 t) (ix2 0 k) = A7 m c (ix3 1 0 k) := by
  blk_simp [iblk]
  entry_read
  pointwise []
  blk_point [idx t]

end Cert.KvFfnIdeal.Rows

end
-- ==== Proof.Hand.KvTabs.lean ====
/- The key/value call's weight and rotary tables, as the call takes them. -/
module

public import proofs.«01_k».proof.Proof.Hand.KvArgs

@[expose] public section

set_option maxRecDepth 16384

noncomputable section

namespace Cert.KvFfnIdeal.Rows

open Idealize.ShloMosaic Idealize.ShloMosaic.TcCoe Idealize.SL.Sem
open Idealize.ShloMosaic.Pipeline (Dat)
open Cert.KvFfnIdeal Cert.KvFfnIdeal.Gen Cert.Rows
open Cert.KvFfnRefIdeal.Read Cert.KvFfnRefIdeal.Rows

variable (m : (ℓ : Loc nD τ sig) → Buf (Elt Ideal) ℓ)

/-- The down-projection's weight as the call takes it: its latent columns, its rotary columns, and these with their halves
    swapped and the second negated. -/
def wdOf (a : FVec Ideal S1024x320 .f32) : FVec Ideal S1024x384 .bf16 :=
  truncf .bf16 (concatenate S1024x384 1 [⟨S1024x256, extractStridedSlice S1024x256 ![0, 0] a slices_S1024x320_S1024x256_0_0⟩,
    ⟨S1024x64, extractStridedSlice S1024x64 ![0, 256] a slices_S1024x320_S1024x64_0_256⟩,
    ⟨S1024x64, concatenate S1024x64 1 [⟨S1024x32, Host.negf (extractStridedSlice S1024x32 ![0, 32] (extractStridedSlice S1024x64 ![0, 256] a slices_S1024x320_S1024x64_0_256) slices_S1024x64_S1024x32_0_32)⟩,
      ⟨S1024x32, extractStridedSlice S1024x32 ![0, 0] (extractStridedSlice S1024x64 ![0, 256] a slices_S1024x320_S1024x64_0_256) slices_S1024x64_S1024x32_0_0⟩]
      concatenates_S1024x32_S1024x32_S1024x64_d1⟩] concatenates_S1024x256_S1024x64_S1024x64_S1024x384_d1) bitsLt_bf16_f32

/-- A table of 32 columns, twice, and zeros to the lane width. -/
def tabOf (a : FVec Ideal S4096x32 .f32) : FVec Ideal S4096x128 .f32 :=
  concatenate S4096x128 1 [⟨S4096x32, a⟩, ⟨S4096x32, a⟩, ⟨S4096x64, broadcastInDim S4096x64 ![] bcast_S_S4096x64 (constant (F := Ideal) S_ .f32 0x00000000#32)⟩]
    concatenates_S4096x32_S4096x32_S4096x64_S4096x128_d1

/-- The region finds the weight so. -/
theorem wd_buf (c : Dev nD) : V m c main_v27 = wdOf (A1 m c) := rfl

/-- The cosines' table. -/
theorem cos_buf (c : Dev nD) : V m c main_v15 = tabOf (val_main_v28 (F := Ideal)) := rfl

/-- The sines' table. -/
theorem sin_buf (c : Dev nD) : V m c main_v18 = tabOf (val_main_v29 (F := Ideal)) := rfl

/-- The weight's latent columns. -/
theorem wdOf_lat (a : FVec Ideal S1024x320 .f32) (k : Fin 1024) (n : Fin 256) : wdOf a (ix2 k ⟨n.val, by omega⟩) = a (ix2 k ⟨n.val, by omega⟩) := by
  pointwise [wdOf]

/-- Its rotary columns. -/
theorem wdOf_rope (a : FVec Ideal S1024x320 .f32) (k : Fin 1024) (n : Fin 64) : wdOf a (ix2 k ⟨256 + n.val, by omega⟩) = a (ix2 k ⟨256 + n.val, by omega⟩) := by
  pointwise [wdOf]

/-- The second half of the rotary columns, negated. -/
theorem wdOf_neg (a : FVec Ideal S1024x320 .f32) (k : Fin 1024) (n : Fin 32) : wdOf a (ix2 k ⟨320 + n.val, by omega⟩) = -a (ix2 k ⟨256 + (32 + n.val), by omega⟩) := by
  pointwise [wdOf]
  rw [dif_neg (by omega), dif_neg (by omega), dif_pos (by omega)]
  exact congrArg (fun z => -a (ix2 k z)) (Fin.ext (by show 256 + (32 + (320 + n.val - 256 - 64)) = 256 + (32 + n.val); omega))

/-- The first half. -/
theorem wdOf_pos (a : FVec Ideal S1024x320 .f32) (k : Fin 1024) (n : Fin 32) : wdOf a (ix2 k ⟨352 + n.val, by omega⟩) = a (ix2 k ⟨256 + n.val, by omega⟩) := by
  pointwise [wdOf]
  rw [dif_neg (by omega), dif_neg (by omega), dif_neg (by omega)]
  exact congrArg (fun z => a (ix2 k z)) (Fin.ext (by show 256 + (352 + n.val - 256 - 64 - 32) = 256 + n.val; omega))

/-- The table's first columns. -/
theorem tabOf_lo (a : FVec Ideal S4096x32 .f32) (s : Fin 4096) (n : Fin 32) : tabOf a (ix2 s ⟨n.val, by omega⟩) = a (ix2 s n) := by
  pointwise [tabOf]

/-- Its second. -/
theorem tabOf_hi (a : FVec Ideal S4096x32 .f32) (s : Fin 4096) (n : Fin 32) : tabOf a (ix2 s ⟨32 + n.val, by omega⟩) = a (ix2 s n) := by
  pointwise [tabOf]

/-- The columns after them. -/
theorem tabOf_zero (a : FVec Ideal S4096x32 .f32) (s : Fin 4096) (n : Fin 64) : tabOf a (ix2 s ⟨64 + n.val, by omega⟩) = 0 := by
  pointwise [tabOf]
  rw [dif_neg (by omega), dif_neg (by omega)]

/-- The call's block of the weight is all of it. -/
theorem WD_eq (c : Dev nD) (t : Fin cfg0.N) (k : Fin 1024) (n : Fin 384) : WD m c t k n = wdOf (A1 m c) (ix2 k n) := by
  unfold WD
  rw [← wd_buf m c]
  blk_simp [iblk]
  blk_point [idx t]

/-- A row of the cosines' block. -/
theorem cos_eq (c : Dev nD) (t : Fin cfg0.N) (r : Fin 512) (n : Fin 128) (h : t.val * 512 + r.val < 32768) :
    (show FVec Ideal S512x128 .f32 from iblk m c 5 t) (ix2 r n) = tabOf (val_main_v28 (F := Ideal)) (ix2 ⟨(t.val * 512 + r.val) % 4096, by omega⟩ n) := by
  rw [← cos_buf m c]
  blk_simp [iblk]
  blk_point [idx t]

/-- A row of the sines' block. -/
theorem sin_eq (c : Dev nD) (t : Fin cfg0.N) (r : Fin 512) (n : Fin 128) (h : t.val * 512 + r.val < 32768) :
    (show FVec Ideal S512x128 .f32 from iblk m c 6 t) (ix2 r n) = tabOf (val_main_v29 (F := Ideal)) (ix2 ⟨(t.val * 512 + r.val) % 4096, by omega⟩ n) := by
  rw [← sin_buf m c]
  blk_simp [iblk]
  blk_point [idx t]

end Cert.KvFfnIdeal.Rows

end
-- ==== Proof.Hand.KvRot.lean ====
/- The key/value call's rotary keys are the reference's, of a finite stream and weight. -/
module

public import proofs.«01_k».proof.Proof.Hand.KvTabs
public import proofs.«01_k».proof.Proof.Hand.MlaFin

@[expose] public section

set_option maxRecDepth 16384

noncomputable section

namespace Cert.KvFfnIdeal.Rows

open Idealize.ShloMosaic Idealize.ShloMosaic.TcCoe Idealize.SL.Sem
open Cert.KvFfnIdeal Cert.KvFfnIdeal.Gen Cert.Rows
open Cert.KvFfnRefIdeal.Read Cert.KvFfnRefIdeal.Rows

variable (m : (ℓ : Loc nD τ sig) → Buf (Elt Ideal) ℓ)

/-- A row through a negated finite column is the row through the column, negated. -/
theorem sum_neg {n : ℕ} (x w : Fin n → EReal) (hx : ∀ k, MlaAttnIdeal.Tile.Finite (x k)) (hw : ∀ k, MlaAttnIdeal.Tile.Finite (w k)) : ∑ k, x k * -w k = -∑ k, x k * w k := by
  choose a ha using hx
  choose b hb using hw
  simp only [ha, hb, ← EReal.coe_neg, ← EReal.coe_mul, MlaAttnIdeal.Tile.coe_sum, mul_neg, Finset.sum_neg_distrib]

/-- The stream's rows through the weight as the call takes it, in a rotary column. -/
theorem mul_rope (x : Fin 1024 → EReal) (a : FVec Ideal S1024x320 .f32) (n : Fin 64) :
    mulAt x (fun k (n : Fin 384) => wdOf a (ix2 k n)) ⟨256 + n.val, by omega⟩ = mulAt x (fun k n => a (ix2 k n)) ⟨256 + n.val, by omega⟩ :=
  Finset.sum_congr rfl fun k _ => congrArg (x k * ·) (wdOf_rope a k n)

/-- In a column of the negated half. -/
theorem mul_neg_half (x : Fin 1024 → EReal) (a : FVec Ideal S1024x320 .f32) (hx : ∀ k, MlaAttnIdeal.Tile.Finite (x k)) (ha : ∀ i, MlaAttnIdeal.Tile.Finite (a i)) (n : Fin 32) :
    mulAt x (fun k (n : Fin 384) => wdOf a (ix2 k n)) ⟨320 + n.val, by omega⟩ = -mulAt x (fun k n => a (ix2 k n)) ⟨256 + (32 + n.val), by omega⟩ :=
  (Finset.sum_congr rfl fun k _ => congrArg (x k * ·) (wdOf_neg a k n)).trans (sum_neg x (fun k => a (ix2 k ⟨256 + (32 + n.val), by omega⟩)) hx fun k => ha _)

/-- In a column of the other half. -/
theorem mul_pos_half (x : Fin 1024 → EReal) (a : FVec Ideal S1024x320 .f32) (n : Fin 32) :
    mulAt x (fun k (n : Fin 384) => wdOf a (ix2 k n)) ⟨352 + n.val, by omega⟩ = mulAt x (fun k n => a (ix2 k n)) ⟨256 + n.val, by omega⟩ :=
  Finset.sum_congr rfl fun k _ => congrArg (x k * ·) (wdOf_pos a k n)

/-- The kernel's rotation of a row: a column times its cosine, and the column half a lane width off times its sine. -/
abbrev rotAt (x : Fin 1024 → EReal) (a : FVec Ideal S1024x320 .f32) (s : Fin 4096) (j : Fin 128) : EReal :=
  mulAt x (fun k (n : Fin 384) => wdOf a (ix2 k n)) ⟨256 + j.val, by omega⟩ * tabOf (val_main_v28 (F := Ideal)) (ix2 s j)
    + mulAt x (fun k (n : Fin 384) => wdOf a (ix2 k n)) ⟨256 + (j.val + 128 - 64) % 128, by omega⟩ * tabOf (val_main_v29 (F := Ideal)) (ix2 s j)

/-- The cosines' table, of the angle. -/
theorem cos_at (s : Fin 4096) (n : Fin 32) : val_main_v28 (F := Ideal) (ix2 s n) = Ideal.cos (ANG s n) := by
  pointwise [val_main_v28]

/-- The sines' table. -/
theorem sin_at (s : Fin 4096) (n : Fin 32) : val_main_v29 (F := Ideal) (ix2 s n) = Ideal.sin (ANG s n) := by
  pointwise [val_main_v29]

variable (x0 : FVec Ideal S8x4096x1024 .f32) (a : FVec Ideal S1024x320 .f32) (r : Fin 32768)

/-- In the first half of the rotary columns the rotation is the reference's. -/
theorem rot_lo (h0 : ∀ i, MlaAttnIdeal.Tile.Finite (x0 i)) (ha : ∀ i, MlaAttnIdeal.Tile.Finite (a i)) (n : Fin 32) :
    rotAt (row x0 r) a ⟨r.val % 4096, by omega⟩ ⟨n.val, by omega⟩ = val_main_v98 (F := Ideal) x0 a (ix2 r ⟨n.val, by omega⟩) := by
  have e : (⟨256 + (n.val + 128 - 64) % 128, by omega⟩ : Fin 384) = ⟨320 + n.val, by omega⟩ := Fin.ext (by show 256 + (n.val + 128 - 64) % 128 = 320 + n.val; omega)
  unfold rotAt
  rw [kr_lo x0 a r n, tabOf_lo, tabOf_lo, cos_at, sin_at, e, mul_neg_half _ a (fun k => h0 _) ha n, EReal.neg_mul, ← sub_eq_add_neg]
  exact congrArg (· * _ - _) (mul_rope _ a ⟨n.val, by omega⟩)

/-- And in the second half. -/
theorem rot_hi (n : Fin 32) :
    rotAt (row x0 r) a ⟨r.val % 4096, by omega⟩ ⟨32 + n.val, by omega⟩ = val_main_v98 (F := Ideal) x0 a (ix2 r ⟨32 + n.val, by omega⟩) := by
  have e : (⟨256 + (32 + n.val + 128 - 64) % 128, by omega⟩ : Fin 384) = ⟨352 + n.val, by omega⟩ := Fin.ext (by show 256 + (32 + n.val + 128 - 64) % 128 = 352 + n.val; omega)
  unfold rotAt
  rw [kr_hi x0 a r n, tabOf_hi, tabOf_hi, cos_at, sin_at, e, mul_pos_half _ a n]
  exact congrArg (· * _ + _) (mul_rope _ a ⟨32 + n.val, by omega⟩)

/-- After them both are zero. -/
theorem rot_zero (n : Fin 64) :
    rotAt (row x0 r) a ⟨r.val % 4096, by omega⟩ ⟨64 + n.val, by omega⟩ = val_main_v98 (F := Ideal) x0 a (ix2 r ⟨64 + n.val, by omega⟩) := by
  unfold rotAt
  rw [kr_zero x0 a r n, tabOf_zero, tabOf_zero, mul_zero, mul_zero, add_zero]

/-- The rotation is the reference's. -/
theorem rot_eq (h0 : ∀ i, MlaAttnIdeal.Tile.Finite (x0 i)) (ha : ∀ i, MlaAttnIdeal.Tile.Finite (a i)) (j : Fin 128) :
    rotAt (row x0 r) a ⟨r.val % 4096, by omega⟩ j = val_main_v98 (F := Ideal) x0 a (ix2 r j) := by
  rcases lt_or_ge j.val 32 with h | h
  · exact rot_lo x0 a r h0 ha ⟨j.val, h⟩
  · rcases lt_or_ge j.val 64 with h' | h'
    · have e : j = ⟨32 + (⟨j.val - 32, by omega⟩ : Fin 32).val, by show 32 + (j.val - 32) < 128; omega⟩ := Fin.ext (by show j.val = 32 + (j.val - 32); omega)
      rw [e]
      exact rot_hi x0 a r ⟨j.val - 32, by omega⟩
    · have e : j = ⟨64 + (⟨j.val - 64, by omega⟩ : Fin 64).val, by show 64 + (j.val - 64) < 128; omega⟩ := Fin.ext (by show j.val = 64 + (j.val - 64); omega)
      rw [e]
      exact rot_zero x0 a r ⟨j.val - 64, by omega⟩

end Cert.KvFfnIdeal.Rows

end
-- ==== Proof.Hand.KvValue.lean ====
/- The key/value call's four results are the reference's, of a finite stream and weight. -/
module

public import proofs.«01_k».proof.Proof.Hand.KvRot

@[expose] public section

set_option maxRecDepth 16384

noncomputable section

namespace Cert.KvFfnIdeal.Rows

open Idealize.ShloMosaic Idealize.ShloMosaic.TcCoe Idealize.SL.Sem
open Idealize.ShloMosaic.Pipeline (Dat)
open Cert.KvFfnIdeal Cert.KvFfnIdeal.Gen Cert.Rows
open Cert.KvFfnRefIdeal.Read Cert.KvFfnRefIdeal.Rows

variable (m : (ℓ : Loc nD τ sig) → Buf (Elt Ideal) ℓ)

/-- A block's row lies among the stream's. -/
theorem row_lt {N : ℕ} (t : Fin cfg0.N) (y : (⟨2, ![512, N]⟩ : Shape).Idx) : t.val * 512 + (y 0).val < 32768 := by
  have ht : t.val < 64 := t.isLt
  have := (y 0).isLt
  change (y 0).val < 512 at this
  omega

/-- The keys, over the call's arguments, are the reference's. -/
theorem final11 (c : Dev nD) :
    (dats m 0 c).arrAt 11 cfg0.N = val_main_v94 (F := Ideal) (A0 m c) (A1 m c) (A2 m c) (A3 m c) := by
  refine (dats m 0 c).arrAt_eq_of_covers 11 _ (by decide +kernel) fun t _ y => ?_
  blk_simp
  rw [after0_11]
  have hr := row_lt t y
  refine (kn_at m c t y).trans ?_
  have e : (((cfg0.win 11).blk t).view.emb y : S32768x2048.Idx) = ix2 ⟨t.val * 512 + (y 0).val, hr⟩ (y 1) := by
    blk_ext [idx t]
  refine Eq.trans ?_ (congrArg (val_main_v94 (F := Ideal) (A0 m c) (A1 m c) (A2 m c) (A3 m c)) e.symm)
  refine Eq.trans ?_ (Cert.KvFfnRefIdeal.Rows.kn_at _ _ _ _ _ _).symm
  congr 1
  · funext k; exact arg0_at m c t (y 0) k hr
  · funext k n; exact (WD_eq m c t k _).trans (wdOf_lat _ k n)
  · funext n; exact arg2_at m c t n
  · funext k n; exact wk_at m c t k n

/-- So are the values. -/
theorem final12 (c : Dev nD) :
    (dats m 0 c).arrAt 12 cfg0.N = val_main_v96 (F := Ideal) (A0 m c) (A1 m c) (A2 m c) (A3 m c) := by
  refine (dats m 0 c).arrAt_eq_of_covers 12 _ (by decide +kernel) fun t _ y => ?_
  blk_simp
  rw [after0_12]
  have hr := row_lt t y
  refine (v_at m c t y).trans ?_
  have e : (((cfg0.win 12).blk t).view.emb y : S32768x2048.Idx) = ix2 ⟨t.val * 512 + (y 0).val, hr⟩ (y 1) := by
    blk_ext [idx t]
  refine Eq.trans ?_ (congrArg (val_main_v96 (F := Ideal) (A0 m c) (A1 m c) (A2 m c) (A3 m c)) e.symm)
  refine Eq.trans ?_ (Cert.KvFfnRefIdeal.Rows.v_at _ _ _ _ _ _).symm
  congr 1
  · funext k; exact arg0_at m c t (y 0) k hr
  · funext k n; exact (WD_eq m c t k _).trans (wdOf_lat _ k n)
  · funext n; exact arg2_at m c t n
  · funext k n; exact wv_at m c t k n

/-- So are the rotary keys, where the stream and the weight are finite. -/
theorem final13 (c : Dev nD) (h0 : ∀ i, MlaAttnIdeal.Tile.Finite (A0 m c i)) (h1 : ∀ i, MlaAttnIdeal.Tile.Finite (A1 m c i)) :
    (dats m 0 c).arrAt 13 cfg0.N = val_main_v98 (F := Ideal) (A0 m c) (A1 m c) := by
  refine (dats m 0 c).arrAt_eq_of_covers 13 _ (by decide +kernel) fun t _ y => ?_
  blk_simp
  rw [after0_13]
  have hr := row_lt t y
  refine (kr_at m c t y).trans ?_
  have e : (((cfg0.win 13).blk t).view.emb y : S32768x128.Idx) = ix2 ⟨t.val * 512 + (y 0).val, hr⟩ (y 1) := by
    blk_ext [idx t]
  refine Eq.trans ?_ (congrArg (val_main_v98 (F := Ideal) (A0 m c) (A1 m c)) e.symm)
  refine Eq.trans ?_ (rot_eq (A0 m c) (A1 m c) ⟨t.val * 512 + (y 0).val, hr⟩ h0 h1 (y 1))
  rw [cos_eq m c t (y 0) (y 1) hr, sin_eq m c t (y 0) (y 1) hr, show X m c t (y 0) = row (A0 m c) ⟨t.val * 512 + (y 0).val, hr⟩ from funext fun k => arg0_at m c t (y 0) k hr,
    show WD m c t = fun k n => wdOf (A1 m c) (ix2 k n) from funext fun k => funext fun n => WD_eq m c t k n]

/-- So is the stream after the feed-forward step. -/
theorem final14 (c : Dev nD) :
    (dats m 0 c).arrAt 14 cfg0.N = val_main_v99 (F := Ideal) (A0 m c) (A4 m c) (A5 m c) (A6 m c) (A7 m c) := by
  refine (dats m 0 c).arrAt_eq_of_covers 14 _ (by decide +kernel) fun t _ y => ?_
  blk_simp
  rw [after0_14]
  have hr := row_lt t y
  refine (out_at m c t y).trans ?_
  have e : (((cfg0.win 14).blk t).view.emb y : S32768x1024.Idx) = ix2 ⟨t.val * 512 + (y 0).val, hr⟩ (y 1) := by
    blk_ext [idx t]
  refine Eq.trans ?_ (congrArg (val_main_v99 (F := Ideal) (A0 m c) (A4 m c) (A5 m c) (A6 m c) (A7 m c)) e.symm)
  refine Eq.trans ?_ (Cert.KvFfnRefIdeal.Rows.out_at _ _ _ _ _ _ _).symm
  congr 1
  · funext k; exact arg0_at m c t (y 0) k hr
  · funext k n; exact arg4_at m c t k n
  · funext k n; exact arg5_at m c t k n
  · funext k; exact arg6_at m c t k
  · funext k; exact arg7_at m c t k

end Cert.KvFfnIdeal.Rows

end
-- ==== Proof.Hand.KvProof.lean ====
/- The key/value call's claims: its reference's frame, and its four results. -/
module

public import proofs.«01_k».proof.Defs
public import proofs.«01_k».proof.Proof.Gen.KvFfn
public import proofs.«01_k».proof.Proof.Gen.KvFfnRefIdeal.Run
public import proofs.«01_k».proof.Proof.Hand.KvValue

@[expose] public section

set_option maxRecDepth 16384

noncomputable section

namespace Cert.KvProof

open Idealize.ShloMosaic Idealize.ShloMosaic.TcCoe Idealize.SL.Sem

/-- The side conditions of the condition on the stream and the weight. -/
theorem pre_facts : Cert.Pre_finite_stream.Facts where
  bcast_S_S8x4096x1024 := by decide
  bcast_S_S1024x320 := by decide

/-- The reference runs from any memory, and leaves its arguments as they were. -/
theorem frame_ref : quiescent_KvFfnRefIdeal (hKvFfnRefIdeal := Cert.KvFfnRefIdeal.Gen.facts) :=
  fun m ρ _ => (θ_run _ _ _).mono (fun r h => ⟨fun c => (h c).2.2.2.2, Idealize.ShloMosaic.sem_eq_zero_of_no_sems (by decide) r.2⟩) (Cert.KvFfnRefIdeal.Value.run (F := Ideal) m ρ)

/-- The program and its reference, from memories that agree on arguments whose stream and weight are finite, leave the same results. -/
theorem value : algebraic_KvFfnIdeal_KvFfnRefIdeal_pre_finite_stream (hKvFfnIdeal := Cert.KvFfnIdeal.Gen.facts) (hKvFfnRefIdeal := Cert.KvFfnRefIdeal.Gen.facts)
    (hPre_finite_stream := pre_facts) := by
  intro m ρ m' ρ' hpre hag
  refine ⟨fun c => Cert.KvFfnRefIdeal.Read.val_main_v94 (F := Ideal) (Cert.KvFfnIdeal.Rows.A0 m c) (Cert.KvFfnIdeal.Rows.A1 m c) (Cert.KvFfnIdeal.Rows.A2 m c) (Cert.KvFfnIdeal.Rows.A3 m c),
    fun c => Cert.KvFfnRefIdeal.Read.val_main_v96 (F := Ideal) (Cert.KvFfnIdeal.Rows.A0 m c) (Cert.KvFfnIdeal.Rows.A1 m c) (Cert.KvFfnIdeal.Rows.A2 m c) (Cert.KvFfnIdeal.Rows.A3 m c),
    fun c => Cert.KvFfnRefIdeal.Read.val_main_v98 (F := Ideal) (Cert.KvFfnIdeal.Rows.A0 m c) (Cert.KvFfnIdeal.Rows.A1 m c),
    fun c => Cert.KvFfnRefIdeal.Read.val_main_v99 (F := Ideal) (Cert.KvFfnIdeal.Rows.A0 m c) (Cert.KvFfnIdeal.Rows.A4 m c) (Cert.KvFfnIdeal.Rows.A5 m c) (Cert.KvFfnIdeal.Rows.A6 m c) (Cert.KvFfnIdeal.Rows.A7 m c),
    (θ_run _ _ _).mono (fun _ h c => ?_) (Cert.KvFfnIdeal.Value.run_blocks (F := Ideal) m ρ),
    (θ_run _ _ _).mono (fun _ h c => ?_) (Cert.KvFfnRefIdeal.Value.run (F := Ideal) m' ρ')⟩
  · obtain ⟨r0, r1, r2, r3, k⟩ := h c
    obtain ⟨p0, p1⟩ := hpre c
    exact ⟨r0.trans (Cert.KvFfnIdeal.Rows.final11 m c), r1.trans (Cert.KvFfnIdeal.Rows.final12 m c), r2.trans (Cert.KvFfnIdeal.Rows.final13 m c (fun i => MlaAttnIdeal.Tile.finite_of_abs _ (congrFun p0 i)) (fun i => MlaAttnIdeal.Tile.finite_of_abs _ (congrFun p1 i))), r3.trans (Cert.KvFfnIdeal.Rows.final14 m c), k⟩
  · obtain ⟨r0, r1, r2, r3, k⟩ := h c
    obtain ⟨a0, a1, a2, a3, a4, a5, a6, a7⟩ := hag c
    exact ⟨(r0.trans (Cert.KvFfnRefIdeal.Read.val_main_v94_eq _ _ _ _)).trans (congr (congr (congr (congrArg (Cert.KvFfnRefIdeal.Read.val_main_v94 (F := Ideal)) a0) a1) a2) a3),
      (r1.trans (Cert.KvFfnRefIdeal.Read.val_main_v96_eq _ _ _ _)).trans (congr (congr (congr (congrArg (Cert.KvFfnRefIdeal.Read.val_main_v96 (F := Ideal)) a0) a1) a2) a3),
      (r2.trans (Cert.KvFfnRefIdeal.Read.val_main_v98_eq (F := Ideal) m' c)).trans (congr (congrArg (Cert.KvFfnRefIdeal.Read.val_main_v98 (F := Ideal)) a0) a1),
      (r3.trans (Cert.KvFfnRefIdeal.Read.val_main_v99_eq (F := Ideal) m' c)).trans (congr (congr (congr (congr (congrArg (Cert.KvFfnRefIdeal.Read.val_main_v99 (F := Ideal)) a0) a4) a5) a6) a7), k⟩

end Cert.KvProof

end
-- ==== Proof.Hand.FpKer.lean ====
/- What the attention's projection call leaves in its four results, row by row. -/
module

public import proofs.«01_k».proof.Proof.Hand.Rows
public import proofs.«01_k».proof.Proof.Gen.FoxProjIdeal.Value
public import Idealize.ShloMosaic.Lib.Pipeline.ValueKit
public import Idealize.ShloMosaic.Lib.VecWindow

@[expose] public section

set_option maxRecDepth 16384

noncomputable section

namespace Cert.FoxProjIdeal.Rows

open Idealize.ShloMosaic Idealize.ShloMosaic.TcCoe Idealize.SL.Sem
open Cert.FoxProjIdeal Cert.FoxProjIdeal.Gen Cert.Rows

variable (x0 : FVec Ideal S1x512x1024 .f32) (x1 x2 x3 : FVec Ideal S1024x1024 .bf16) (x4 : FVec Ideal S16x1024 .bf16)

/-- A block of the queries: each row's product, scaled. -/
theorem q_at (r : Fin 512) (j : Fin 1024) :
    out0_5 (F := Ideal) x0 x1 x2 x3 x4 (ix3 0 r j) = mulAt (fun k => x0 (ix3 0 r k)) (fun k n => x1 (ix2 k n)) j * Ideal.ofBits FTy.f32 0x3E38AA3B#32 := by
  unfold out0_5
  canon_tiles x h
  all_goals (change r.val = _ at h1; change j.val = _ at h2; pointwise [k0_pay9, k0_pay8, k0_pay3, k0_pay2, mulAt])
  all_goals blk_point []

/-- A block of the keys. -/
theorem k_at (r : Fin 512) (j : Fin 1024) :
    out0_6 (F := Ideal) x0 x1 x2 x3 x4 (ix3 0 r j) = mulAt (fun k => x0 (ix3 0 r k)) (fun k n => x2 (ix2 k n)) j := by
  unfold out0_6
  canon_tiles x h
  all_goals (change r.val = _ at h1; change j.val = _ at h2; pointwise [k0_pay10, k0_pay8, k0_pay4, k0_pay2, mulAt])
  all_goals blk_point []

/-- A block of the values. -/
theorem v_at (r : Fin 512) (j : Fin 1024) :
    out0_7 (F := Ideal) x0 x1 x2 x3 x4 (ix3 0 r j) = mulAt (fun k => x0 (ix3 0 r k)) (fun k n => x3 (ix2 k n)) j := by
  unfold out0_7
  canon_tiles x h
  all_goals (change r.val = _ at h1; change j.val = _ at h2; pointwise [k0_pay11, k0_pay8, k0_pay5, k0_pay2, mulAt])
  all_goals blk_point []

/-- A block of the gates' logits, a row per head. -/
theorem ft_at (g : Fin 16) (r : Fin 512) :
    out0_8 (F := Ideal) x0 x1 x2 x3 x4 (ix3 0 g r) = mulAt (fun k => x0 (ix3 0 r k)) (fun k n => x4 (ix2 n k)) g := by
  unfold out0_8
  canon_tiles x h
  all_goals (change g.val = _ at h1; change r.val = _ at h2; pointwise [k0_pay1, k0_pay8, k0_pay7, k0_pay6, k0_pay2, mulAt])
  all_goals refine Finset.sum_congr rfl fun k _ => (mul_comm _ _).trans ?_
  all_goals blk_point []

end Cert.FoxProjIdeal.Rows

end
-- ==== Proof.Hand.FpRef.lean ====
/- What the reference of the attention's projection call computes, row by row. -/
module

public import proofs.«01_k».proof.Proof.Hand.Rows
public import proofs.«01_k».proof.Proof.Gen.FoxProjRefIdeal.Read

@[expose] public section

set_option maxRecDepth 16384

noncomputable section

namespace Cert.FoxProjRefIdeal.Rows

open Idealize.ShloMosaic Idealize.ShloMosaic.TcCoe Idealize.SL.Sem
open Cert.FoxProjRefIdeal Cert.FoxProjRefIdeal.Gen Cert.FoxProjRefIdeal.Read Cert.Rows

variable (x0 : FVec Ideal S8x4096x1024 .f32) (x1 : FVec Ideal S1x1024x3088 .f32)

/-- A token's row through the columns of the weight that start at `o`. -/
abbrev part {N : ℕ} (o : ℕ) (ho : o + N ≤ 3088) (b : Fin 8) (s : Fin 4096) (j : Fin N) : EReal :=
  mulAt (fun k => x0 (ix3 b s k)) (fun k (n : Fin N) => x1 (ix3 0 k ⟨o + n.val, by omega⟩)) j

/-- The queries. -/
theorem q_at (b : Fin 8) (s : Fin 4096) (j : Fin 1024) :
    val_main_v8 (F := Ideal) x0 x1 (ix3 b s j) = part x0 x1 0 (by norm_num) b s j * Ideal.ofBits FTy.f32 0x3E38AA3B#32 := by
  pointwise [val_main_v8, val_main_v7, val_main_v6, val_main_cst, val_main_v2, val_main_v1, val_main_v0, part, mulAt]

/-- The keys. -/
theorem k_at (b : Fin 8) (s : Fin 4096) (j : Fin 1024) :
    val_main_v9 (F := Ideal) x0 x1 (ix3 b s j) = part x0 x1 1024 (by norm_num) b s j := by
  pointwise [val_main_v9, val_main_v3, val_main_v1, val_main_v0, part, mulAt]

/-- The values. -/
theorem v_at (b : Fin 8) (s : Fin 4096) (j : Fin 1024) :
    val_main_v10 (F := Ideal) x0 x1 (ix3 b s j) = part x0 x1 2048 (by norm_num) b s j := by
  pointwise [val_main_v10, val_main_v4, val_main_v1, val_main_v0, part, mulAt]

/-- The gates' logits, a row per head. -/
theorem ft_at (b : Fin 8) (g : Fin 16) (s : Fin 4096) :
    val_main_v11 (F := Ideal) x0 x1 (ix3 b g s) = part x0 x1 3072 (by norm_num) b s g := by
  pointwise [val_main_v11, val_main_v5, val_main_v1, val_main_v0, part, mulAt]

end Cert.FoxProjRefIdeal.Rows

end
-- ==== Proof.Hand.FpValue.lean ====
/- The projection call's four results are the reference's. -/
module

public import proofs.«01_k».proof.Defs
public import proofs.«01_k».proof.Proof.Gen.FoxProj
public import proofs.«01_k».proof.Proof.Gen.FoxProjRefIdeal.Run
public import proofs.«01_k».proof.Proof.Hand.FpKer
public import proofs.«01_k».proof.Proof.Hand.FpRef
public import Idealize.ShloMosaic.Lib.Claim

@[expose] public section

set_option maxRecDepth 16384

noncomputable section

namespace Cert.FoxProjIdeal.Rows

open Idealize.ShloMosaic Idealize.ShloMosaic.TcCoe Idealize.SL.Sem
open Idealize.ShloMosaic.Pipeline (Dat)
open Cert.FoxProjIdeal Cert.FoxProjIdeal.Gen Cert.Rows
open Cert.FoxProjRefIdeal.Read
open Cert.FoxProjRefIdeal.Rows (part)

variable (m : (ℓ : Loc nD τ sig) → Buf (Elt Ideal) ℓ)

/-- The stream. -/
abbrev A0 (c : Dev nD) : FVec Ideal S8x4096x1024 .f32 := m ((c : Thread nD τ).loc main_arg0)

/-- The joined weight. -/
abbrev A1 (c : Dev nD) : FVec Ideal S1x1024x3088 .f32 := m ((c : Thread nD τ).loc main_arg1)

/-- The windows' block indices at each point. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![t.val / 8, t.val % 8, 0]
    ∧ win0_6.index t = ![t.val / 8, t.val % 8, 0] ∧ win0_7.index t = ![t.val / 8, t.val % 8, 0] ∧ win0_8.index t = ![t.val / 8, 0, t.val % 8] :=
  (by decide +kernel : ∀ t : Fin grid0.N, _)

/-- The point's batch entry. -/
abbrev bAt (t : Fin cfg0.N) : Fin 8 := ⟨t.val / 8, by have : t.val < 64 := t.isLt; omega⟩

/-- The token of a block's row. -/
abbrev sAt (t : Fin cfg0.N) (r : Fin 512) : Fin 4096 := ⟨t.val % 8 * 512 + r.val, by omega⟩

/-- A row of the stream's block is a token's. -/
theorem arg0_at (c : Dev nD) (t : Fin cfg0.N) (r : Fin 512) (k : Fin 1024) :
    (show FVec Ideal S1x512x1024 .f32 from iblk m c 0 t) (ix3 0 r k) = A0 m c (ix3 (bAt t) (sAt t r) k) := by
  blk_simp [iblk]
  entry_read
  pointwise []
  blk_point [idx t]

/-- The queries' weight is the joined weight's columns from 0. -/
theorem w1_at (c : Dev nD) (t : Fin cfg0.N) (k n : Fin 1024) :
    (show FVec Ideal S1024x1024 .bf16 from iblk m c 1 t) (ix2 k n) = A1 m c (ix3 0 k ⟨0 + n.val, by omega⟩) := by
  blk_simp [iblk]
  entry_read
  pointwise []
  blk_point [idx t]

/-- The keys' weight is the joined weight's columns from 1024. -/
theorem w2_at (c : Dev nD) (t : Fin cfg0.N) (k n : Fin 1024) :
    (show FVec Ideal S1024x1024 .bf16 from iblk m c 2 t) (ix2 k n) = A1 m c (ix3 0 k ⟨1024 + n.val, by omega⟩) := by
  blk_simp [iblk]
  entry_read
  pointwise []
  blk_point [idx t]

/-- The values' weight is the joined weight's columns from 2048. -/
theorem w3_at (c : Dev nD) (t : Fin cfg0.N) (k n : Fin 1024) :
    (show FVec Ideal S1024x1024 .bf16 from iblk m c 3 t) (ix2 k n) = A1 m c (ix3 0 k ⟨2048 + n.val, by omega⟩) := by
  blk_simp [iblk]
  entry_read
  pointwise []
  blk_point [idx t]

/-- The gates' weight is its last columns, a row each. -/
theorem w4_at (c : Dev nD) (t : Fin cfg0.N) (k : Fin 1024) (n : Fin 16) :
    (show FVec Ideal S16x1024 .bf16 from iblk m c 4 t) (ix2 n k) = A1 m c (ix3 0 k ⟨3072 + n.val, by omega⟩) := by
  blk_simp [iblk]
  entry_read
  pointwise []
  blk_point [idx t]

/-- A block's row through a weight's block is the token's through the joined weight's columns. -/
theorem mul_part {N : ℕ} (o : ℕ) (ho : o + N ≤ 3088) (c : Dev nD) (t : Fin cfg0.N) (r : Fin 512) (w : Fin 1024 → Fin N → EReal)
    (hw : ∀ k n, w k n = A1 m c (ix3 0 k ⟨o + n.val, by omega⟩)) (j : Fin N) :
    mulAt (fun k => (show FVec Ideal S1x512x1024 .f32 from iblk m c 0 t) (ix3 0 r k)) w j = part (A0 m c) (A1 m c) o ho (bAt t) (sAt t r) j :=
  Finset.sum_congr rfl fun k _ => congr (congrArg (fun a b : EReal => a * b) (arg0_at m c t r k)) (hw k j)

/-- The queries, over the call's arguments, are the reference's. -/
theorem final5 (c : Dev nD) : (dats m 0 c).arrAt 5 cfg0.N = val_main_v8 (F := Ideal) (A0 m c) (A1 m c) := by
  refine (dats m 0 c).arrAt_eq_of_covers 5 _ (by decide +kernel) fun t _ y => ?_
  blk_simp
  rw [after0_5]
  obtain ⟨r, j, rfl⟩ : ∃ (r : Fin 512) (j : Fin 1024), y = (ix3 (0 : Fin 1) r j : S1x512x1024.Idx) := ⟨y 1, y 2, by funext a; fin_cases a <;> first | rfl | exact Subsingleton.elim (α := Fin 1) _ _⟩
  have e : (((cfg0.win 5).blk t).view.emb (ix3 (0 : Fin 1) r j : S1x512x1024.Idx) : S8x4096x1024.Idx) = ix3 (bAt t) (sAt t r) j := by
    blk_ext [idx t]
  refine Eq.trans ?_ (congrArg (val_main_v8 (F := Ideal) (A0 m c) (A1 m c)) e.symm)
  refine (q_at _ _ _ _ _ r j).trans (Eq.trans ?_ (Cert.FoxProjRefIdeal.Rows.q_at _ _ (bAt t) (sAt t r) j).symm)
  exact congrArg (· * Ideal.ofBits FTy.f32 0x3E38AA3B#32) (mul_part m 0 (by norm_num) c t r _ (w1_at m c t) j)

/-- The keys, over the call's arguments, are the reference's. -/
theorem final6 (c : Dev nD) : (dats m 0 c).arrAt 6 cfg0.N = val_main_v9 (F := Ideal) (A0 m c) (A1 m c) := by
  refine (dats m 0 c).arrAt_eq_of_covers 6 _ (by decide +kernel) fun t _ y => ?_
  blk_simp
  rw [after0_6]
  obtain ⟨r, j, rfl⟩ : ∃ (r : Fin 512) (j : Fin 1024), y = (ix3 (0 : Fin 1) r j : S1x512x1024.Idx) := ⟨y 1, y 2, by funext a; fin_cases a <;> first | rfl | exact Subsingleton.elim (α := Fin 1) _ _⟩
  have e : (((cfg0.win 6).blk t).view.emb (ix3 (0 : Fin 1) r j : S1x512x1024.Idx) : S8x4096x1024.Idx) = ix3 (bAt t) (sAt t r) j := by
    blk_ext [idx t]
  refine Eq.trans ?_ (congrArg (val_main_v9 (F := Ideal) (A0 m c) (A1 m c)) e.symm)
  refine (k_at _ _ _ _ _ r j).trans (Eq.trans ?_ (Cert.FoxProjRefIdeal.Rows.k_at _ _ (bAt t) (sAt t r) j).symm)
  exact mul_part m 1024 (by norm_num) c t r _ (w2_at m c t) j

/-- The values, over the call's arguments, are the reference's. -/
theorem final7 (c : Dev nD) : (dats m 0 c).arrAt 7 cfg0.N = val_main_v10 (F := Ideal) (A0 m c) (A1 m c) := by
  refine (dats m 0 c).arrAt_eq_of_covers 7 _ (by decide +kernel) fun t _ y => ?_
  blk_simp
  rw [after0_7]
  obtain ⟨r, j, rfl⟩ : ∃ (r : Fin 512) (j : Fin 1024), y = (ix3 (0 : Fin 1) r j : S1x512x1024.Idx) := ⟨y 1, y 2, by funext a; fin_cases a <;> first | rfl | exact Subsingleton.elim (α := Fin 1) _ _⟩
  have e : (((cfg0.win 7).blk t).view.emb (ix3 (0 : Fin 1) r j : S1x512x1024.Idx) : S8x4096x1024.Idx) = ix3 (bAt t) (sAt t r) j := by
    blk_ext [idx t]
  refine Eq.trans ?_ (congrArg (val_main_v10 (F := Ideal) (A0 m c) (A1 m c)) e.symm)
  refine (v_at _ _ _ _ _ r j).trans (Eq.trans ?_ (Cert.FoxProjRefIdeal.Rows.v_at _ _ (bAt t) (sAt t r) j).symm)
  exact mul_part m 2048 (by norm_num) c t r _ (w3_at m c t) j

/-- The gates' logits, a row per head, are the reference's. -/
theorem final8 (c : Dev nD) : (dats m 0 c).arrAt 8 cfg0.N = val_main_v11 (F := Ideal) (A0 m c) (A1 m c) := by
  refine (dats m 0 c).arrAt_eq_of_covers 8 _ (by decide +kernel) fun t _ y => ?_
  blk_simp
  rw [after0_8]
  obtain ⟨g, r, rfl⟩ : ∃ (g : Fin 16) (r : Fin 512), y = (ix3 (0 : Fin 1) g r : S1x16x512.Idx) := ⟨y 1, y 2, by funext a; fin_cases a <;> first | rfl | exact Subsingleton.elim (α := Fin 1) _ _⟩
  have e : (((cfg0.win 8).blk t).view.emb (ix3 (0 : Fin 1) g r : S1x16x512.Idx) : S8x16x4096.Idx) = ix3 (bAt t) g (sAt t r) := by
    blk_ext [idx t]
  refine Eq.trans ?_ (congrArg (val_main_v11 (F := Ideal) (A0 m c) (A1 m c)) e.symm)
  refine (ft_at _ _ _ _ _ g r).trans (Eq.trans ?_ (Cert.FoxProjRefIdeal.Rows.ft_at _ _ (bAt t) g (sAt t r)).symm)
  exact mul_part m 3072 (by norm_num) c t r _ (w4_at m c t) g

end Cert.FoxProjIdeal.Rows

namespace Cert.FpProof

open Idealize.ShloMosaic Idealize.ShloMosaic.TcCoe Idealize.SL.Sem

/-- The reference runs from any memory, and leaves its arguments as they were. -/
theorem frame_ref : quiescent_FoxProjRefIdeal (hFoxProjRefIdeal := Cert.FoxProjRefIdeal.Gen.facts) :=
  fun m ρ _ => (θ_run _ _ _).mono (fun r h => ⟨fun c => (h c).2.2.2.2, Idealize.ShloMosaic.sem_eq_zero_of_no_sems (by decide) r.2⟩) (Cert.FoxProjRefIdeal.Value.run (F := Ideal) m ρ)

/-- The program and its reference, from memories that agree on the arguments, leave the same results. -/
theorem value : algebraic_FoxProjIdeal_FoxProjRefIdeal (hFoxProjIdeal := Cert.FoxProjIdeal.Gen.facts) (hFoxProjRefIdeal := Cert.FoxProjRefIdeal.Gen.facts) := by
  intro m ρ m' ρ' _ hag
  refine ⟨fun c => Cert.FoxProjRefIdeal.Read.val_main_v8 (F := Ideal) (Cert.FoxProjIdeal.Rows.A0 m c) (Cert.FoxProjIdeal.Rows.A1 m c),
    fun c => Cert.FoxProjRefIdeal.Read.val_main_v9 (F := Ideal) (Cert.FoxProjIdeal.Rows.A0 m c) (Cert.FoxProjIdeal.Rows.A1 m c),
    fun c => Cert.FoxProjRefIdeal.Read.val_main_v10 (F := Ideal) (Cert.FoxProjIdeal.Rows.A0 m c) (Cert.FoxProjIdeal.Rows.A1 m c),
    fun c => Cert.FoxProjRefIdeal.Read.val_main_v11 (F := Ideal) (Cert.FoxProjIdeal.Rows.A0 m c) (Cert.FoxProjIdeal.Rows.A1 m c),
    (θ_run _ _ _).mono (fun _ h c => ?_) (Cert.FoxProjIdeal.Value.run_blocks (F := Ideal) m ρ),
    (θ_run _ _ _).mono (fun _ h c => ?_) (Cert.FoxProjRefIdeal.Value.run (F := Ideal) m' ρ')⟩
  · obtain ⟨r0, r1, r2, r3, k⟩ := h c
    exact ⟨r0.trans (Cert.FoxProjIdeal.Rows.final5 m c), r1.trans (Cert.FoxProjIdeal.Rows.final6 m c), r2.trans (Cert.FoxProjIdeal.Rows.final7 m c), r3.trans (Cert.FoxProjIdeal.Rows.final8 m c), k⟩
  · obtain ⟨r0, r1, r2, r3, k⟩ := h c
    obtain ⟨a0, a1⟩ := hag c
    exact ⟨(r0.trans (Cert.FoxProjRefIdeal.Read.val_main_v8_eq _ _)).trans (congr (congrArg (Cert.FoxProjRefIdeal.Read.val_main_v8 (F := Ideal)) a0) a1),
      (r1.trans (Cert.FoxProjRefIdeal.Read.val_main_v9_eq _ _)).trans (congr (congrArg (Cert.FoxProjRefIdeal.Read.val_main_v9 (F := Ideal)) a0) a1),
      (r2.trans (Cert.FoxProjRefIdeal.Read.val_main_v10_eq _ _)).trans (congr (congrArg (Cert.FoxProjRefIdeal.Read.val_main_v10 (F := Ideal)) a0) a1),
      (r3.trans (Cert.FoxProjRefIdeal.Read.val_main_v11_eq _ _)).trans (congr (congrArg (Cert.FoxProjRefIdeal.Read.val_main_v11 (F := Ideal)) a0) a1), k⟩

end Cert.FpProof

end
-- ==== Proof.Hand.MqRows.lean ====
/- The query call's arithmetic on one token's row, over the extended reals. -/
module

public import proofs.«01_k».proof.Proof.Hand.Rows

@[expose] public section

noncomputable section

namespace Cert.Rows

open Idealize.ShloMosaic

/-- The root-mean-square norm of a row of 384 numbers with gain `g`. -/
def rmsqAt (z g : Fin 384 → EReal) (j : Fin 384) : EReal :=
  z j * Ideal.rsqrt (Ideal.div (∑ k, z k * z k) (Ideal.ofBits FTy.f32 0x43C00000#32) + Ideal.ofBits FTy.f32 0x358637BD#32) * g j

/-- A row's latent, normed, times a matrix. -/
def latAt {N : ℕ} (x : Fin 1024 → EReal) (wd : Fin 1024 → Fin 384 → EReal) (g : Fin 384 → EReal) (w : Fin 384 → Fin N → EReal) (j : Fin N) : EReal :=
  mulAt (rmsqAt (mulAt x wd) g) w j

/-- The queries' scale, in base-two units. -/
abbrev qs : EReal := Ideal.ofBits FTy.f32 0x3DD53B95#32

end Cert.Rows

end
-- ==== Proof.Hand.MqKer.lean ====
/- What the query call leaves in a block of its result, row by row. -/
module

public import proofs.«01_k».proof.Proof.Hand.MqRows
public import proofs.«01_k».proof.Proof.Gen.MlaQIdeal.Value
public import Idealize.ShloMosaic.Lib.Pipeline.ValueKit
public import Idealize.ShloMosaic.Lib.VecWindow

@[expose] public section

set_option maxRecDepth 16384

noncomputable section

namespace Cert.MlaQIdeal.Rows

open Idealize.ShloMosaic Idealize.ShloMosaic.TcCoe Idealize.SL.Sem
open Cert.MlaQIdeal Cert.MlaQIdeal.Gen Cert.Rows

/-- The normed latent of half a block. -/
theorem latent_at (v0 : FVec Ideal S256x1024 .f32) (v3 : FVec Ideal S1024x384 .bf16) (v6 : FVec Ideal S1x384 .f32) (r : Fin 256) (n : Fin 384) :
    k0_pay2 (F := Ideal) v0 v3 v6 (ix2 r n) = rmsqAt (mulAt (fun k => v0 (ix2 r k)) (fun k n => v3 (ix2 k n))) (fun n => v6 (ix2 0 n)) n := by
  pointwise [k0_pay2]
  rfl

/-- The normed latent of the other half. -/
theorem latent_at' (v0 : FVec Ideal S256x1024 .f32) (v3 : FVec Ideal S1024x384 .bf16) (v6 : FVec Ideal S1x384 .f32) (r : Fin 256) (n : Fin 384) :
    k0_pay44 (F := Ideal) v0 v3 v6 (ix2 r n) = rmsqAt (mulAt (fun k => v0 (ix2 r k)) (fun k n => v3 (ix2 k n))) (fun n => v6 (ix2 0 n)) n := by
  pointwise [k0_pay44]
  rfl

variable (x0 : FVec Ideal S512x1024 .f32) (x1 : FVec Ideal S1024x384 .bf16) (x2 : FVec Ideal S1x384 .f32) (x3 x4 : FVec Ideal S384x2048 .bf16) (x5 x6 : FVec Ideal S512x128 .f32)

/-- A block's product with one of the two weights. -/
def prodAt (w : FVec Ideal S384x2048 .bf16) (r : Fin 512) (n : Fin 2048) : EReal :=
  latAt (fun k => x0 (ix2 r k)) (fun k n => x1 (ix2 k n)) (fun n => x2 (ix2 0 n)) (fun k n => w (ix2 k n)) n

/-- The first half's columns without position. -/
theorem pay86_at (r : Fin 256) (n : Fin 2048) : k0_pay86 (F := Ideal) x0 x1 x2 x3 x4 x5 x6 (ix2 r n) = prodAt x0 x1 x2 x3 ⟨r.val, by omega⟩ n := by
  pointwise [k0_pay86, k0_pay3, latent_at]
  blk_point []

/-- The first half's rotary columns. -/
theorem pay87_at (r : Fin 256) (n : Fin 2048) : k0_pay87 (F := Ideal) x0 x1 x2 x3 x4 x5 x6 (ix2 r n) = prodAt x0 x1 x2 x4 ⟨r.val, by omega⟩ n := by
  pointwise [k0_pay87, k0_pay4, latent_at]
  blk_point []

/-- The first half's cosines. -/
theorem pay88_at (r : Fin 256) (n : Fin 128) : k0_pay88 (F := Ideal) x0 x1 x2 x3 x4 x5 x6 (ix2 r n) = x5 (ix2 ⟨r.val, by omega⟩ n) := by
  pointwise [k0_pay88, k0_pay5]

/-- The first half's sines. -/
theorem pay89_at (r : Fin 256) (n : Fin 128) : k0_pay89 (F := Ideal) x0 x1 x2 x3 x4 x5 x6 (ix2 r n) = x6 (ix2 ⟨r.val, by omega⟩ n) := by
  pointwise [k0_pay89, k0_pay6]

/-- The second half's columns without position. -/
theorem pay90_at (r : Fin 256) (n : Fin 2048) : k0_pay90 (F := Ideal) x0 x1 x2 x3 x4 x5 x6 (ix2 r n) = prodAt x0 x1 x2 x3 ⟨256 + r.val, by omega⟩ n := by
  pointwise [k0_pay90, k0_pay45, latent_at']
  blk_point []

/-- The second half's rotary columns. -/
theorem pay91_at (r : Fin 256) (n : Fin 2048) : k0_pay91 (F := Ideal) x0 x1 x2 x3 x4 x5 x6 (ix2 r n) = prodAt x0 x1 x2 x4 ⟨256 + r.val, by omega⟩ n := by
  pointwise [k0_pay91, k0_pay46, latent_at']
  blk_point []

/-- The second half's cosines. -/
theorem pay92_at (r : Fin 256) (n : Fin 128) : k0_pay92 (F := Ideal) x0 x1 x2 x3 x4 x5 x6 (ix2 r n) = x5 (ix2 ⟨256 + r.val, by omega⟩ n) := by
  pointwise [k0_pay92, k0_pay47]

/-- The second half's sines. -/
theorem pay93_at (r : Fin 256) (n : Fin 128) : k0_pay93 (F := Ideal) x0 x1 x2 x3 x4 x5 x6 (ix2 r n) = x6 (ix2 ⟨256 + r.val, by omega⟩ n) := by
  pointwise [k0_pay93, k0_pay48]

/-- The first half's product as its first store reads it. -/
theorem pay3_at (r : Fin 256) (n : Fin 2048) :
    k0_pay3 (F := Ideal) (View.ld x0 r0_0) (View.ld x1 r0_1) (View.ld x2 r0_2) (View.ld x3 r0_3) (ix2 r n) = prodAt x0 x1 x2 x3 ⟨r.val, by omega⟩ n := by
  pointwise [k0_pay3, latent_at]
  rfl

/-- The second half's product as its first store reads it. -/
theorem pay45_at (r : Fin 256) (n : Fin 2048) :
    k0_pay45 (F := Ideal) (View.ld x0 r0_37) (View.ld x1 r0_1) (View.ld x2 r0_2) (View.ld x3 r0_3) (ix2 r n) = prodAt x0 x1 x2 x3 ⟨256 + r.val, by omega⟩ n := by
  pointwise [k0_pay45, latent_at']
  rfl

/-- Equal rows and columns have equal scaled products. -/
theorem nope_congr (r r' : Fin 512) (n n' : Fin 2048) (hr : r.val = r'.val) (hn : n.val = n'.val) :
    prodAt x0 x1 x2 x3 r n * qs = prodAt x0 x1 x2 x3 r' n' * qs := by
  rw [Fin.ext hr, Fin.ext hn]

/-- Equal rows and columns have equal scaled rotations. -/
theorem rope_congr (r r' : Fin 512) (n n' l l' : Fin 2048) (j j' : Fin 128) (hr : r.val = r'.val) (hn : n.val = n'.val) (hl : l.val = l'.val) (hj : j.val = j'.val) :
    (prodAt x0 x1 x2 x4 r n * x5 (ix2 r j) + prodAt x0 x1 x2 x4 r l * x6 (ix2 r j)) * qs
      = (prodAt x0 x1 x2 x4 r' n' * x5 (ix2 r' j') + prodAt x0 x1 x2 x4 r' l' * x6 (ix2 r' j')) * qs := by
  rw [Fin.ext hr, Fin.ext hn, Fin.ext hl, Fin.ext hj]

set_option maxHeartbeats 8000000 in
/-- A block of the result: in a head's 256 columns the product with the first weight, then the rotation of the product with the second. -/
theorem out_at (r : Fin 512) (c : Fin 4096) :
    out0_7 (F := Ideal) x0 x1 x2 x3 x4 x5 x6 (ix2 r c)
      = if c.val % 256 < 128 then prodAt x0 x1 x2 x3 r ⟨c.val / 256 * 128 + c.val % 128, by omega⟩ * qs
        else (prodAt x0 x1 x2 x4 r ⟨c.val / 256 * 128 + c.val % 128, by omega⟩ * x5 (ix2 r ⟨c.val % 128, by omega⟩)
          + prodAt x0 x1 x2 x4 r ⟨c.val / 256 * 128 + (c.val % 128 + 128 - 64) % 128, by omega⟩ * x6 (ix2 r ⟨c.val % 128, by omega⟩)) * qs := by
  unfold out0_7
  canon_tiles i h
  all_goals idx_vars i
  all_goals change r.val = _ at h0; change c.val = _ at h1
  all_goals first | rw [if_pos (by omega)] | rw [if_neg (by omega)]
  all_goals pointwise [pay3_at x0 x1 x2 x3, pay45_at x0 x1 x2 x3, pay86_at x0 x1 x2 x3 x4 x5 x6, pay87_at x0 x1 x2 x3 x4 x5 x6, pay88_at x0 x1 x2 x3 x4 x5 x6, pay89_at x0 x1 x2 x3 x4 x5 x6, pay90_at x0 x1 x2 x3 x4 x5 x6, pay91_at x0 x1 x2 x3 x4 x5 x6, pay92_at x0 x1 x2 x3 x4 x5 x6, pay93_at x0 x1 x2 x3 x4 x5 x6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay1]
  all_goals first
    | exact nope_congr _ _ _ _ _ _ _ _ (by (try dsimp only); omega) (by (try dsimp only); omega)
    | exact rope_congr _ _ _ _ _ _ _ _ _ _ _ _ _ _ (by (try dsimp only); omega) (by (try dsimp only); omega) (by (try dsimp only); omega) (by (try dsimp only); omega)

end Cert.MlaQIdeal.Rows

end
-- ==== Proof.Hand.MqRef.lean ====
/- What the reference of the query call computes, row by row. -/
module

public import proofs.«01_k».proof.Proof.Hand.MqRows
public import proofs.«01_k».proof.Proof.Gen.MlaQRefIdeal.Read

@[expose] public section

set_option maxRecDepth 16384

noncomputable section

namespace Cert.MlaQRefIdeal.Rows

open Idealize.ShloMosaic Idealize.ShloMosaic.TcCoe Idealize.SL.Sem
open Cert.MlaQRefIdeal Cert.MlaQRefIdeal.Gen Cert.MlaQRefIdeal.Read Cert.Rows

variable (x0 : FVec Ideal S8x4096x1024 .f32) (x1 : FVec Ideal S1x1024x384 .f32) (x2 : FVec Ideal S1x384 .f32) (x3 : FVec Ideal S1x384x16x192 .f32)

/-- A row of the flattened stream. -/
abbrev row (r : Fin 32768) (k : Fin 1024) : EReal := x0 (ix3 ⟨r.val / 4096, by omega⟩ ⟨r.val % 4096, by omega⟩ k)

/-- The normed latent. -/
theorem latent_at (b : Fin 8) (s : Fin 4096) (n : Fin 384) :
    val_main_v15 (F := Ideal) x0 x1 x2 (ix3 b s n) = rmsqAt (mulAt (fun k => x0 (ix3 b s k)) (fun k n => x1 (ix3 0 k n))) (fun n => x2 (ix2 0 n)) n := by
  pointwise [val_main_v15, val_main_v14, val_main_v13, val_main_v12, val_main_v11, val_main_v10, val_main_v9, val_main_v8, val_main_v7, val_main_cst_1, val_main_v6,
    val_main_v5, val_main_cst_0, val_main_cst, val_main_v4, val_main_v3, val_main_v2, val_main_v1, val_main_v0]
  rfl

/-- A head's queries of a token before the rotation. -/
abbrev headAt (r : Fin 32768) (h : Fin 16) (n : Fin 192) : EReal :=
  latAt (row x0 r) (fun k n => x1 (ix3 0 k n)) (fun n => x2 (ix2 0 n)) (fun k (n : Fin 192) => x3 (ix4 0 k h n)) n

/-- The product of the latent and a head's weight. -/
theorem prod_at (b : Fin 8) (s : Fin 4096) (h : Fin 16) (n : Fin 192) :
    val_main_v17 (F := Ideal) x0 x1 x2 x3 (ix4 b s h n) = latAt (fun k => x0 (ix3 b s k)) (fun k n => x1 (ix3 0 k n)) (fun n => x2 (ix2 0 n)) (fun k (n : Fin 192) => x3 (ix4 0 k h n)) n := by
  pointwise [val_main_v17, val_main_v16, latent_at x0 x1 x2]
  rfl

/-- The token's angle in a pair of rotary columns. -/
abbrev ANG (s : Fin 4096) (n : Fin 32) : EReal := val_main_v29 (F := Ideal) (ix2 s n)

/-- The scaled queries without position. -/
theorem q_nope (r : Fin 32768) (h : Fin 16) (j : Fin 128) :
    val_main_v58 (F := Ideal) x0 x1 x2 x3 (ix2 r ⟨h.val * 256 + j.val, by omega⟩) = headAt x0 x1 x2 x3 r h ⟨j.val, by omega⟩ * qs := by
  pointwise [val_main_v58, val_main_v57, val_main_v56, val_main_v55, val_main_cst_5, val_main_v54, val_main_v52, prod_at x0 x1 x2 x3]
  rw [dif_pos (by omega)]
  have hc : (h.val * 256 + j.val) % 256 = j.val := by omega
  simp only [hc]

/-- The first half of the rotated queries. -/
theorem q_lo (r : Fin 32768) (h : Fin 16) (n : Fin 32) :
    val_main_v58 (F := Ideal) x0 x1 x2 x3 (ix2 r ⟨h.val * 256 + (128 + n.val), by omega⟩)
      = (headAt x0 x1 x2 x3 r h ⟨128 + n.val, by omega⟩ * Ideal.cos (ANG ⟨r.val % 4096, by omega⟩ n)
        - headAt x0 x1 x2 x3 r h ⟨128 + (32 + n.val), by omega⟩ * Ideal.sin (ANG ⟨r.val % 4096, by omega⟩ n)) * qs := by
  pointwise [val_main_v58, val_main_v57, val_main_v56, val_main_v55, val_main_cst_5, val_main_v54]
  rw [dif_neg (by omega), dif_pos (by omega)]
  pointwise [val_main_v51]
  rw [dif_pos (by omega)]
  pointwise [val_main_v43, val_main_v42, val_main_v41, val_main_v40, val_main_v39, val_main_v38, val_main_v37, val_main_v36, val_main_v35, val_main_v34, val_main_v33, val_main_v32, val_main_v31, val_main_v30, prod_at x0 x1 x2 x3]
  have hc : (h.val * 256 + (128 + n.val)) % 256 - 128 = n.val := by omega
  simp only [hc]

/-- The second half of the rotated queries. -/
theorem q_hi (r : Fin 32768) (h : Fin 16) (n : Fin 32) :
    val_main_v58 (F := Ideal) x0 x1 x2 x3 (ix2 r ⟨h.val * 256 + (128 + (32 + n.val)), by omega⟩)
      = (headAt x0 x1 x2 x3 r h ⟨128 + (32 + n.val), by omega⟩ * Ideal.cos (ANG ⟨r.val % 4096, by omega⟩ n)
        + headAt x0 x1 x2 x3 r h ⟨128 + n.val, by omega⟩ * Ideal.sin (ANG ⟨r.val % 4096, by omega⟩ n)) * qs := by
  pointwise [val_main_v58, val_main_v57, val_main_v56, val_main_v55, val_main_cst_5, val_main_v54]
  rw [dif_neg (by omega), dif_pos (by omega)]
  pointwise [val_main_v51]
  rw [dif_neg (by omega)]
  pointwise [val_main_v50, val_main_v49, val_main_v48, val_main_v47, val_main_v46, val_main_v45, val_main_v44, val_main_v36, val_main_v35, val_main_v34, val_main_v33, val_main_v32, val_main_v31, val_main_v30, prod_at x0 x1 x2 x3]
  have hc : (h.val * 256 + (128 + (32 + n.val))) % 256 - 128 - 32 = n.val := by omega
  simp only [hc]

/-- The columns that fill a head's queries up to 256. -/
theorem q_zero (r : Fin 32768) (h : Fin 16) (n : Fin 64) : val_main_v58 (F := Ideal) x0 x1 x2 x3 (ix2 r ⟨h.val * 256 + (128 + (64 + n.val)), by omega⟩) = 0 := by
  pointwise [val_main_v58, val_main_v57, val_main_v56, val_main_v55, val_main_cst_5, val_main_v54]
  rw [dif_neg (by omega), dif_neg (by omega)]
  pointwise [val_main_v53, val_main_cst_4]
  simp [Ideal.ofBits, Ideal.ieee]

end Cert.MlaQRefIdeal.Rows

end
-- ==== Proof.Hand.MqTabs.lean ====
/- The query call's blocks, as its arguments give them. -/
module

public import proofs.«01_k».proof.Proof.Hand.MqKer
public import proofs.«01_k».proof.Proof.Hand.MqRef
public import Idealize.ShloMosaic.Lib.Claim

@[expose] public section

set_option maxRecDepth 16384

noncomputable section

namespace Cert.MlaQIdeal.Rows

open Idealize.ShloMosaic Idealize.ShloMosaic.TcCoe Idealize.SL.Sem
open Idealize.ShloMosaic.Pipeline (Dat)
open Cert.MlaQIdeal Cert.MlaQIdeal.Gen Cert.Rows
open Cert.MlaQRefIdeal.Read
open Cert.MlaQRefIdeal.Rows (row ANG)

variable (m : (ℓ : Loc nD τ sig) → Buf (Elt Ideal) ℓ)

/-- The stream. -/
abbrev A0 (c : Dev nD) : FVec Ideal S8x4096x1024 .f32 := m ((c : Thread nD τ).loc main_arg0)

/-- The down-projection's weight. -/
abbrev A1 (c : Dev nD) : FVec Ideal S1x1024x384 .f32 := m ((c : Thread nD τ).loc main_arg1)

/-- The latent norm's gain. -/
abbrev A2 (c : Dev nD) : FVec Ideal S1x384 .f32 := m ((c : Thread nD τ).loc main_arg2)

/-- The up-projection's weight. -/
abbrev A3 (c : Dev nD) : FVec Ideal S1x384x16x192 .f32 := m ((c : Thread nD τ).loc main_arg3)

/-- The windows' block indices at each point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 8, 0] ∧ win0_6.index t = ![t.val % 8, 0]
    ∧ win0_7.index t = ![t.val, 0] :=
  (by decide +kernel : ∀ t : Fin grid0.N, _)

/-- A head's columns without position, of all heads. -/
def wnOf (a : FVec Ideal S1x384x16x192 .f32) : FVec Ideal S384x2048 .bf16 :=
  truncf .bf16 (shapeCast S384x2048 (extractStridedSlice S384x16x128 ![0, 0, 0] (shapeCast S384x16x192 a shapeCasts_S1x384x16x192_S384x16x192)
    slices_S384x16x192_S384x16x128_0_0_0) shapeCasts_S384x16x128_S384x2048) bitsLt_bf16_f32

/-- The rotary columns of the weight. -/
def ropeOf (a : FVec Ideal S1x384x16x192 .f32) : FVec Ideal S384x16x64 .f32 :=
  extractStridedSlice S384x16x64 ![0, 0, 128] (shapeCast S384x16x192 a shapeCasts_S1x384x16x192_S384x16x192) slices_S384x16x192_S384x16x64_0_0_128

/-- A head's rotary columns and these with their halves swapped and the second negated, of all heads. -/
def wrOf (a : FVec Ideal S1x384x16x192 .f32) : FVec Ideal S384x2048 .bf16 :=
  truncf .bf16 (shapeCast S384x2048 (concatenate S384x16x128 2 [⟨S384x16x64, ropeOf a⟩,
    ⟨S384x16x64, concatenate S384x16x64 2 [⟨S384x16x32, Host.negf (extractStridedSlice S384x16x32 ![0, 0, 32] (ropeOf a) slices_S384x16x64_S384x16x32_0_0_32)⟩,
      ⟨S384x16x32, extractStridedSlice S384x16x32 ![0, 0, 0] (ropeOf a) slices_S384x16x64_S384x16x32_0_0_0⟩]
      concatenates_S384x16x32_S384x16x32_S384x16x64_d2⟩] concatenates_S384x16x64_S384x16x64_S384x16x128_d2)
    shapeCasts_S384x16x128_S384x2048) bitsLt_bf16_f32

/-- A table of 32 columns, twice, and zeros to the lane width. -/
def tabOf (a : FVec Ideal S4096x32 .f32) : FVec Ideal S4096x128 .f32 :=
  concatenate S4096x128 1 [⟨S4096x32, a⟩, ⟨S4096x32, a⟩, ⟨S4096x64, broadcastInDim S4096x64 ![] bcast_S_S4096x64 (constant (F := Ideal) S_ .f32 0x00000000#32)⟩]
    concatenates_S4096x32_S4096x32_S4096x64_S4096x128_d1

/-- The region finds the first weight so. -/
theorem wn_buf (c : Dev nD) : V m c main_v22 = wnOf (A3 m c) := rfl

/-- The second. -/
theorem wr_buf (c : Dev nD) : V m c main_v30 = wrOf (A3 m c) := rfl

/-- The cosines' table. -/
theorem cos_buf (c : Dev nD) : V m c main_v15 = tabOf (val_main_v30 (F := Ideal)) := rfl

/-- The sines' table. -/
theorem sin_buf (c : Dev nD) : V m c main_v18 = tabOf (val_main_v31 (F := Ideal)) := rfl

/-- A column without position. -/
theorem wnOf_at (a : FVec Ideal S1x384x16x192 .f32) (k : Fin 384) (h : Fin 16) (n : Fin 128) :
    wnOf a (ix2 k ⟨h.val * 128 + n.val, by omega⟩) = a (ix4 0 k h ⟨n.val, by omega⟩) := by
  pointwise [wnOf]

/-- A rotary column. -/
theorem wrOf_rope (a : FVec Ideal S1x384x16x192 .f32) (k : Fin 384) (h : Fin 16) (n : Fin 64) :
    wrOf a (ix2 k ⟨h.val * 128 + n.val, by omega⟩) = a (ix4 0 k h ⟨128 + n.val, by omega⟩) := by
  pointwise [wrOf, ropeOf]
  have hc : (h.val * 128 + n.val) % 128 = n.val := by omega
  rw [dif_pos (by omega)]
  simp only [hc]

/-- The second half of the rotary columns, negated. -/
theorem wrOf_neg (a : FVec Ideal S1x384x16x192 .f32) (k : Fin 384) (h : Fin 16) (n : Fin 32) :
    wrOf a (ix2 k ⟨h.val * 128 + (64 + n.val), by omega⟩) = -a (ix4 0 k h ⟨128 + (32 + n.val), by omega⟩) := by
  pointwise [wrOf, ropeOf]
  have hc : (h.val * 128 + (64 + n.val)) % 128 - 64 = n.val := by omega
  rw [dif_neg (by omega), dif_pos (by omega)]
  simp only [hc]

/-- The first half. -/
theorem wrOf_pos (a : FVec Ideal S1x384x16x192 .f32) (k : Fin 384) (h : Fin 16) (n : Fin 32) :
    wrOf a (ix2 k ⟨h.val * 128 + (96 + n.val), by omega⟩) = a (ix4 0 k h ⟨128 + n.val, by omega⟩) := by
  pointwise [wrOf, ropeOf]
  have hc : (h.val * 128 + (96 + n.val)) % 128 - 64 - 32 = n.val := by omega
  rw [dif_neg (by omega), dif_neg (by omega)]
  simp only [hc]

/-- The table's first columns. -/
theorem tabOf_lo (a : FVec Ideal S4096x32 .f32) (s : Fin 4096) (n : Fin 32) : tabOf a (ix2 s ⟨n.val, by omega⟩) = a (ix2 s n) := by
  pointwise [tabOf]

/-- Its second. -/
theorem tabOf_hi (a : FVec Ideal S4096x32 .f32) (s : Fin 4096) (n : Fin 32) : tabOf a (ix2 s ⟨32 + n.val, by omega⟩) = a (ix2 s n) := by
  pointwise [tabOf]

/-- The columns after them. -/
theorem tabOf_zero (a : FVec Ideal S4096x32 .f32) (s : Fin 4096) (n : Fin 64) : tabOf a (ix2 s ⟨64 + n.val, by omega⟩) = 0 := by
  pointwise [tabOf]
  rw [dif_neg (by omega), dif_neg (by omega)]

/-- A row of the stream's block is a row of the argument. -/
theorem arg0_at (c : Dev nD) (t : Fin cfg0.N) (r : Fin 512) (k : Fin 1024) (h : t.val * 512 + r.val < 32768) :
    (show FVec Ideal S512x1024 .f32 from iblk m c 0 t) (ix2 r k) = row (A0 m c) ⟨t.val * 512 + r.val, h⟩ k := by
  blk_simp [iblk]
  entry_read
  pointwise []
  blk_point [idx t]

/-- The down-projection's block is the argument. -/
theorem arg1_at (c : Dev nD) (t : Fin cfg0.N) (k : Fin 1024) (n : Fin 384) :
    (show FVec Ideal S1024x384 .bf16 from iblk m c 1 t) (ix2 k n) = A1 m c (ix3 0 k n) := by
  blk_simp [iblk]
  entry_read
  pointwise []
  blk_point [idx t]

/-- The gain's block is the argument. -/
theorem arg2_at (c : Dev nD) (t : Fin cfg0.N) (n : Fin 384) :
    (show FVec Ideal S1x384 .f32 from iblk m c 2 t) (ix2 0 n) = A2 m c (ix2 0 n) := by
  blk_simp [iblk]
  entry_read
  pointwise []
  blk_point [idx t]

/-- The first weight's block is all of it. -/
theorem wn_eq (c : Dev nD) (t : Fin cfg0.N) (k : Fin 384) (n : Fin 2048) :
    (show FVec Ideal S384x2048 .bf16 from iblk m c 3 t) (ix2 k n) = wnOf (A3 m c) (ix2 k n) := by
  rw [← wn_buf m c]
  blk_simp [iblk]
  blk_point [idx t]

/-- And the second's. -/
theorem wr_eq (c : Dev nD) (t : Fin cfg0.N) (k : Fin 384) (n : Fin 2048) :
    (show FVec Ideal S384x2048 .bf16 from iblk m c 4 t) (ix2 k n) = wrOf (A3 m c) (ix2 k n) := by
  rw [← wr_buf m c]
  blk_simp [iblk]
  blk_point [idx t]

/-- A row of the cosines' block. -/
theorem cos_eq (c : Dev nD) (t : Fin cfg0.N) (r : Fin 512) (n : Fin 128) (h : t.val * 512 + r.val < 32768) :
    (show FVec Ideal S512x128 .f32 from iblk m c 5 t) (ix2 r n) = tabOf (val_main_v30 (F := Ideal)) (ix2 ⟨(t.val * 512 + r.val) % 4096, by omega⟩ n) := by
  rw [← cos_buf m c]
  blk_simp [iblk]
  blk_point [idx t]

/-- A row of the sines' block. -/
theorem sin_eq (c : Dev nD) (t : Fin cfg0.N) (r : Fin 512) (n : Fin 128) (h : t.val * 512 + r.val < 32768) :
    (show FVec Ideal S512x128 .f32 from iblk m c 6 t) (ix2 r n) = tabOf (val_main_v31 (F := Ideal)) (ix2 ⟨(t.val * 512 + r.val) % 4096, by omega⟩ n) := by
  rw [← sin_buf m c]
  blk_simp [iblk]
  blk_point [idx t]

end Cert.MlaQIdeal.Rows

end
-- ==== Proof.Hand.MqFin.lean ====
/- The query call's normed latent, of a finite gain, is finite. -/
module

public import proofs.«01_k».proof.Proof.Hand.MqRows
public import proofs.«01_k».proof.Proof.Hand.MlaFin

@[expose] public section

set_option maxRecDepth 16384

noncomputable section

namespace Cert.Rows

open Idealize.ShloMosaic
open Cert.MlaAttnIdeal.Tile (coe_sum)

/-- The row's length, as its word reads. -/
theorem width_real : Ideal.ofBits FTy.f32 0x43C00000#32 = ((384 : ℝ) : EReal) := by
  simp [Ideal.ofBits, Ideal.ieee]
  rw [← EReal.coe_mul]
  norm_num

/-- What the norm adds under the root is a positive real. -/
theorem eps_real : ∃ e : ℝ, Ideal.ofBits FTy.f32 0x358637BD#32 = (e : EReal) ∧ 0 < e := by
  refine ⟨8796093 * 2 ^ (-43 : ℤ), ?_, by positivity⟩
  simp [Ideal.ofBits, Ideal.ieee]

/-- A positive real's reciprocal root is a real. -/
theorem rsqrt_pos (r : ℝ) (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg (not_lt.mpr h.le), if_neg h.ne']

/-- A finite row has a finite norm, of a finite gain. -/
theorem rmsq_finite_row (z g : Fin 384 → EReal) (hz : ∀ k, MlaAttnIdeal.Tile.Finite (z k)) (hg : ∀ k, MlaAttnIdeal.Tile.Finite (g k)) (j : Fin 384) :
    MlaAttnIdeal.Tile.Finite (rmsqAt z g j) := by
  choose a ha using hz
  obtain ⟨e, he, hpos⟩ := eps_real
  have hs : ∑ k, z k * z k = ((∑ k, a k * a k : ℝ) : EReal) :=
    (Finset.sum_congr rfl fun k _ => by rw [ha k, ← EReal.coe_mul]).trans (coe_sum _ fun k => a k * a k)
  have hn : 0 ≤ ∑ k, a k * a k := Finset.sum_nonneg fun k _ => mul_self_nonneg (a k)
  have hd : Ideal.div (∑ k, z k * z k) (Ideal.ofBits FTy.f32 0x43C00000#32) + Ideal.ofBits FTy.f32 0x358637BD#32 = (((∑ k, a k * a k) * (384 : ℝ)⁻¹ + e : ℝ) : EReal) := by
    rw [hs, width_real, he]
    unfold Ideal.div
    rw [if_neg (fun h => (by norm_num : (384 : ℝ) ≠ 0) (EReal.coe_eq_zero.mp h)), ← EReal.coe_inv, ← EReal.coe_mul, ← EReal.coe_add]
  have hr : 0 < (∑ k, a k * a k) * (384 : ℝ)⁻¹ + e := by positivity
  refine MlaAttnIdeal.Tile.Finite.mul (MlaAttnIdeal.Tile.Finite.mul ⟨a j, ha j⟩ ?_) (hg j)
  rw [hd]
  exact ⟨_, rsqrt_pos _ hr⟩

/-- A square is not negative. -/
theorem sq_nonneg' (x : EReal) : 0 ≤ x * x := by
  rcases le_total 0 x with h | h
  · exact mul_nonneg h h
  · rw [← neg_mul_neg]
    have h' : 0 ≤ -x := EReal.neg_nonneg.mpr h
    exact mul_nonneg h' h'

/-- A row with an infinite number has an infinite sum of squares. -/
theorem sum_sq_top (z : Fin 384 → EReal) (k : Fin 384) (hk : z k * z k = ⊤) : ∑ k, z k * z k = ⊤ := by
  rw [← Finset.add_sum_erase _ _ (Finset.mem_univ k), hk]
  exact EReal.top_add_of_ne_bot (ne_bot_of_le_ne_bot (by simp) (Finset.sum_nonneg fun j _ => sq_nonneg' (z j)))

/-- Such a row's norm is zero. -/
theorem rmsq_top (z g : Fin 384 → EReal) (k : Fin 384) (hk : z k * z k = ⊤) (j : Fin 384) : rmsqAt z g j = 0 := by
  obtain ⟨e, he, -⟩ := eps_real
  have hd : Ideal.div (∑ k, z k * z k) (Ideal.ofBits FTy.f32 0x43C00000#32) + Ideal.ofBits FTy.f32 0x358637BD#32 = ⊤ := by
    rw [sum_sq_top z k hk, width_real, he]
    unfold Ideal.div
    rw [if_neg (fun h => (by norm_num : (384 : ℝ) ≠ 0) (EReal.coe_eq_zero.mp h)), ← EReal.coe_inv, EReal.top_mul_coe_of_pos (by norm_num), EReal.top_add_coe]
  unfold rmsqAt
  rw [hd, show Ideal.rsqrt ⊤ = 0 from rfl, mul_zero, zero_mul]

/-- Any row has a finite norm, of a finite gain. -/
theorem rmsq_finite (z g : Fin 384 → EReal) (hg : ∀ k, MlaAttnIdeal.Tile.Finite (g k)) (j : Fin 384) : MlaAttnIdeal.Tile.Finite (rmsqAt z g j) := by
  by_cases hz : ∀ k, MlaAttnIdeal.Tile.Finite (z k)
  · exact rmsq_finite_row z g hz hg j
  · obtain ⟨k, hk⟩ := not_forall.mp hz
    refine ⟨0, rmsq_top z g k ?_ j⟩
    generalize z k = x at hk
    induction x using EReal.rec with
    | bot => exact EReal.bot_mul_bot
    | coe r => exact absurd ⟨r, rfl⟩ hk
    | top => exact EReal.top_mul_top

end Cert.Rows

end
-- ==== Proof.Hand.MqRot.lean ====
/- The query call's rotation is the reference's, of a finite latent and weight. -/
module

public import proofs.«01_k».proof.Proof.Hand.MqTabs
public import proofs.«01_k».proof.Proof.Hand.MqFin

@[expose] public section

set_option maxRecDepth 16384

noncomputable section

namespace Cert.MlaQIdeal.Rows

open Idealize.ShloMosaic Idealize.ShloMosaic.TcCoe Idealize.SL.Sem
open Cert.MlaQIdeal Cert.MlaQIdeal.Gen Cert.Rows
open Cert.MlaQRefIdeal.Read
open Cert.MlaQRefIdeal.Rows (row ANG)

/-- A finite row through a negated finite column is the row through the column, negated. -/
theorem sum_neg {n : ℕ} (x w : Fin n → EReal) (hx : ∀ k, MlaAttnIdeal.Tile.Finite (x k)) (hw : ∀ k, MlaAttnIdeal.Tile.Finite (w k)) : ∑ k, x k * -w k = -∑ k, x k * w k := by
  choose a ha using hx
  choose b hb using hw
  simp only [ha, hb, ← EReal.coe_neg, ← EReal.coe_mul, MlaAttnIdeal.Tile.coe_sum, mul_neg, Finset.sum_neg_distrib]

variable (l : Fin 384 → EReal) (a : FVec Ideal S1x384x16x192 .f32) (h : Fin 16)

/-- A head's column of the up-projection, of a latent. -/
abbrev upAt (n : Fin 192) : EReal := mulAt l (fun k (n : Fin 192) => a (ix4 0 k h n)) n

/-- The rotary weight's column, of a latent. -/
abbrev ropeAt (n : Fin 2048) : EReal := mulAt l (fun k (n : Fin 2048) => wrOf a (ix2 k n)) n

/-- A column without position. -/
theorem mul_nope (n : Fin 128) : mulAt l (fun k (n : Fin 2048) => wnOf a (ix2 k n)) ⟨h.val * 128 + n.val, by omega⟩ = upAt l a h ⟨n.val, by omega⟩ :=
  Finset.sum_congr rfl fun k _ => congrArg (l k * ·) (wnOf_at a k h n)

/-- A rotary column. -/
theorem mul_rope (n : Fin 64) : ropeAt l a ⟨h.val * 128 + n.val, by omega⟩ = upAt l a h ⟨128 + n.val, by omega⟩ :=
  Finset.sum_congr rfl fun k _ => congrArg (l k * ·) (wrOf_rope a k h n)

/-- A column of the negated half. -/
theorem mul_neg_half (hl : ∀ k, MlaAttnIdeal.Tile.Finite (l k)) (ha : ∀ i, MlaAttnIdeal.Tile.Finite (a i)) (n : Fin 32) :
    ropeAt l a ⟨h.val * 128 + (64 + n.val), by omega⟩ = -upAt l a h ⟨128 + (32 + n.val), by omega⟩ :=
  (Finset.sum_congr rfl fun k _ => congrArg (l k * ·) (wrOf_neg a k h n)).trans (sum_neg l (fun k => a (ix4 0 k h ⟨128 + (32 + n.val), by omega⟩)) hl fun k => ha _)

/-- A column of the other half. -/
theorem mul_pos_half (n : Fin 32) : ropeAt l a ⟨h.val * 128 + (96 + n.val), by omega⟩ = upAt l a h ⟨128 + n.val, by omega⟩ :=
  Finset.sum_congr rfl fun k _ => congrArg (l k * ·) (wrOf_pos a k h n)

/-- The cosines' table, of the angle. -/
theorem cos_at (s : Fin 4096) (n : Fin 32) : val_main_v30 (F := Ideal) (ix2 s n) = Ideal.cos (ANG s n) := by
  pointwise [val_main_v30]

/-- The sines' table. -/
theorem sin_at (s : Fin 4096) (n : Fin 32) : val_main_v31 (F := Ideal) (ix2 s n) = Ideal.sin (ANG s n) := by
  pointwise [val_main_v31]

/-- The kernel's rotation of a latent: a column times its cosine, and the column half a lane width off times its sine. -/
abbrev rotAt (s : Fin 4096) (j : Fin 128) : EReal :=
  (ropeAt l a ⟨h.val * 128 + j.val, by omega⟩ * tabOf (val_main_v30 (F := Ideal)) (ix2 s j)
    + ropeAt l a ⟨h.val * 128 + (j.val + 128 - 64) % 128, by omega⟩ * tabOf (val_main_v31 (F := Ideal)) (ix2 s j)) * qs

/-- The rotation's first half. -/
theorem rot_lo (hl : ∀ k, MlaAttnIdeal.Tile.Finite (l k)) (ha : ∀ i, MlaAttnIdeal.Tile.Finite (a i)) (s : Fin 4096) (n : Fin 32) :
    rotAt l a h s ⟨n.val, by omega⟩ = (upAt l a h ⟨128 + n.val, by omega⟩ * Ideal.cos (ANG s n) - upAt l a h ⟨128 + (32 + n.val), by omega⟩ * Ideal.sin (ANG s n)) * qs := by
  have e : (⟨h.val * 128 + (n.val + 128 - 64) % 128, by omega⟩ : Fin 2048) = ⟨h.val * 128 + (64 + n.val), by omega⟩ :=
    Fin.ext (by show h.val * 128 + (n.val + 128 - 64) % 128 = h.val * 128 + (64 + n.val); omega)
  unfold rotAt
  rw [tabOf_lo, tabOf_lo, cos_at, sin_at, e, mul_neg_half l a h hl ha n, EReal.neg_mul, ← sub_eq_add_neg]
  exact congrArg (fun z : EReal => (z * _ - _) * _) (mul_rope l a h ⟨n.val, by omega⟩)

/-- Its second half. -/
theorem rot_hi (s : Fin 4096) (n : Fin 32) :
    rotAt l a h s ⟨32 + n.val, by omega⟩ = (upAt l a h ⟨128 + (32 + n.val), by omega⟩ * Ideal.cos (ANG s n) + upAt l a h ⟨128 + n.val, by omega⟩ * Ideal.sin (ANG s n)) * qs := by
  have e : (⟨h.val * 128 + (32 + n.val + 128 - 64) % 128, by omega⟩ : Fin 2048) = ⟨h.val * 128 + (96 + n.val), by omega⟩ :=
    Fin.ext (by show h.val * 128 + (32 + n.val + 128 - 64) % 128 = h.val * 128 + (96 + n.val); omega)
  unfold rotAt
  rw [tabOf_hi, tabOf_hi, cos_at, sin_at, e, mul_pos_half l a h n]
  exact congrArg (fun z : EReal => (z * _ + _) * _) (mul_rope l a h ⟨32 + n.val, by omega⟩)

/-- The columns after them. -/
theorem rot_zero (s : Fin 4096) (n : Fin 64) : rotAt l a h s ⟨64 + n.val, by omega⟩ = 0 := by
  unfold rotAt
  rw [tabOf_zero, tabOf_zero, mul_zero, mul_zero, add_zero, zero_mul]

end Cert.MlaQIdeal.Rows

end
-- ==== Proof.Hand.MqValue.lean ====
/- The query call's claims: its reference's frame, and its result. -/
module

public import proofs.«01_k».proof.Defs
public import proofs.«01_k».proof.Proof.Gen.MlaQ
public import proofs.«01_k».proof.Proof.Gen.MlaQRefIdeal.Run
public import proofs.«01_k».proof.Proof.Hand.MqRot

@[expose] public section

set_option maxRecDepth 16384

noncomputable section

namespace Cert.MlaQIdeal.Rows

open Idealize.ShloMosaic Idealize.ShloMosaic.TcCoe Idealize.SL.Sem
open Idealize.ShloMosaic.Pipeline (Dat)
open Cert.MlaQIdeal Cert.MlaQIdeal.Gen Cert.Rows
open Cert.MlaQRefIdeal.Read
open Cert.MlaQRefIdeal.Rows (row ANG)

section block

variable (x0 : FVec Ideal S512x1024 .f32) (x1 : FVec Ideal S1024x384 .bf16) (x2 : FVec Ideal S1x384 .f32) (x3 x4 : FVec Ideal S384x2048 .bf16) (x5 x6 : FVec Ideal S512x128 .f32)

/-- A head's columns without position, in a block of the result. -/
theorem out_nope (r : Fin 512) (h : Fin 16) (n : Fin 128) :
    out0_7 (F := Ideal) x0 x1 x2 x3 x4 x5 x6 (ix2 r ⟨h.val * 256 + n.val, by omega⟩) = prodAt x0 x1 x2 x3 r ⟨h.val * 128 + n.val, by omega⟩ * qs := by
  refine (out_at x0 x1 x2 x3 x4 x5 x6 r _).trans ((if_pos ?_).trans (nope_congr _ _ _ _ _ _ _ _ rfl ?_))
  · show (h.val * 256 + n.val) % 256 < 128
    omega
  · show (h.val * 256 + n.val) / 256 * 128 + (h.val * 256 + n.val) % 128 = h.val * 128 + n.val
    omega

/-- Its rotary columns. -/
theorem out_rope (r : Fin 512) (h : Fin 16) (n : Fin 128) :
    out0_7 (F := Ideal) x0 x1 x2 x3 x4 x5 x6 (ix2 r ⟨h.val * 256 + (128 + n.val), by omega⟩)
      = (prodAt x0 x1 x2 x4 r ⟨h.val * 128 + n.val, by omega⟩ * x5 (ix2 r n)
        + prodAt x0 x1 x2 x4 r ⟨h.val * 128 + (n.val + 128 - 64) % 128, by omega⟩ * x6 (ix2 r n)) * qs := by
  refine (out_at x0 x1 x2 x3 x4 x5 x6 r _).trans ((if_neg ?_).trans (rope_congr _ _ _ _ _ _ _ _ _ _ _ _ _ _ rfl ?_ ?_ ?_))
  · show ¬(h.val * 256 + (128 + n.val)) % 256 < 128
    omega
  · show (h.val * 256 + (128 + n.val)) / 256 * 128 + (h.val * 256 + (128 + n.val)) % 128 = h.val * 128 + n.val
    omega
  · show (h.val * 256 + (128 + n.val)) / 256 * 128 + ((h.val * 256 + (128 + n.val)) % 128 + 128 - 64) % 128 = h.val * 128 + (n.val + 128 - 64) % 128
    omega
  · show (h.val * 256 + (128 + n.val)) % 128 = n.val
    omega

end block

variable (m : (ℓ : Loc nD τ sig) → Buf (Elt Ideal) ℓ)

/-- A token's normed latent. -/
abbrev lat (c : Dev nD) (r : Fin 32768) : Fin 384 → EReal :=
  rmsqAt (mulAt (row (A0 m c) r) (fun k n => A1 m c (ix3 0 k n))) (fun n => A2 m c (ix2 0 n))

/-- Of a finite gain it is finite. -/
theorem lat_finite (c : Dev nD) (r : Fin 32768) (h2 : ∀ i, MlaAttnIdeal.Tile.Finite (A2 m c i)) (k : Fin 384) : MlaAttnIdeal.Tile.Finite (lat m c r k) :=
  rmsq_finite _ _ (fun _ => h2 _) k

/-- A block's product with a weight is the token's latent's. -/
theorem prod_eq (c : Dev nD) (t : Fin cfg0.N) (r : Fin 512) (h : t.val * 512 + r.val < 32768) (w : FVec Ideal S384x2048 .bf16) (u : Fin 384 → Fin 2048 → EReal)
    (hw : ∀ k n, w (ix2 k n) = u k n) (n : Fin 2048) :
    prodAt (iblk m c 0 t) (iblk m c 1 t) (iblk m c 2 t) w r n = mulAt (lat m c ⟨t.val * 512 + r.val, h⟩) u n :=
  congrFun (congr (congr (congr (congrArg (latAt (N := 2048)) (funext fun k => arg0_at m c t r k h)) (funext fun k => funext fun n => arg1_at m c t k n))
    (funext fun n => arg2_at m c t n)) (funext fun k => funext fun n => hw k n)) n

variable (c : Dev nD) (t : Fin cfg0.N) (r : Fin 512) (h : Fin 16)

/-- A block's columns without position are the reference's. -/
theorem blk_nope (n : Fin 128) (hr : t.val * 512 + r.val < 32768) :
    out0_7 (F := Ideal) (iblk m c 0 t) (iblk m c 1 t) (iblk m c 2 t) (iblk m c 3 t) (iblk m c 4 t) (iblk m c 5 t) (iblk m c 6 t) (ix2 r ⟨h.val * 256 + n.val, by omega⟩)
      = val_main_v58 (F := Ideal) (A0 m c) (A1 m c) (A2 m c) (A3 m c) (ix2 ⟨t.val * 512 + r.val, hr⟩ ⟨h.val * 256 + n.val, by omega⟩) :=
  (out_nope _ _ _ _ _ _ _ r h n).trans ((congrArg (· * qs) ((prod_eq m c t r hr _ _ (wn_eq m c t) _).trans (mul_nope _ _ h n))).trans
    (Cert.MlaQRefIdeal.Rows.q_nope _ _ _ _ ⟨t.val * 512 + r.val, hr⟩ h n).symm)

/-- A block's rotary columns are the latent's rotation. -/
theorem blk_rope (n : Fin 128) (hr : t.val * 512 + r.val < 32768) :
    out0_7 (F := Ideal) (iblk m c 0 t) (iblk m c 1 t) (iblk m c 2 t) (iblk m c 3 t) (iblk m c 4 t) (iblk m c 5 t) (iblk m c 6 t) (ix2 r ⟨h.val * 256 + (128 + n.val), by omega⟩)
      = rotAt (lat m c ⟨t.val * 512 + r.val, hr⟩) (A3 m c) h ⟨(t.val * 512 + r.val) % 4096, by omega⟩ n :=
  (out_rope _ _ _ _ _ _ _ r h n).trans (congrArg (· * qs) (congr (congrArg (fun a b : EReal => a + b)
    (congr (congrArg (fun a b : EReal => a * b) (prod_eq m c t r hr _ _ (wr_eq m c t) _)) (cos_eq m c t r n hr)))
    (congr (congrArg (fun a b : EReal => a * b) (prod_eq m c t r hr _ _ (wr_eq m c t) _)) (sin_eq m c t r n hr))))

/-- A block is the reference's rows, of a finite gain and weight. -/
theorem blk_eq (h2 : ∀ i, MlaAttnIdeal.Tile.Finite (A2 m c i))
    (h3 : ∀ i, MlaAttnIdeal.Tile.Finite (A3 m c i)) (j : Fin 4096) (hr : t.val * 512 + r.val < 32768) :
    out0_7 (F := Ideal) (iblk m c 0 t) (iblk m c 1 t) (iblk m c 2 t) (iblk m c 3 t) (iblk m c 4 t) (iblk m c 5 t) (iblk m c 6 t) (ix2 r j)
      = val_main_v58 (F := Ideal) (A0 m c) (A1 m c) (A2 m c) (A3 m c) (ix2 ⟨t.val * 512 + r.val, hr⟩ j) := by
  have hl := lat_finite m c ⟨t.val * 512 + r.val, hr⟩ h2
  obtain ⟨h, i, rfl⟩ : ∃ (h : Fin 16) (i : Fin 256), j = ⟨h.val * 256 + i.val, by omega⟩ :=
    ⟨⟨j.val / 256, by omega⟩, ⟨j.val % 256, by omega⟩, Fin.ext (by show j.val = j.val / 256 * 256 + j.val % 256; omega)⟩
  rcases lt_or_ge i.val 128 with hi | hi
  · exact blk_nope m c t r h ⟨i.val, hi⟩ hr
  · obtain ⟨i, rfl⟩ : ∃ n : Fin 128, i = ⟨128 + n.val, Nat.add_lt_add_left n.isLt 128⟩ := ⟨⟨i.val - 128, by omega⟩, Fin.ext (by show i.val = 128 + (i.val - 128); omega)⟩
    refine (blk_rope m c t r h i hr).trans ?_
    rcases lt_or_ge i.val 32 with hj | hj
    · exact (rot_lo _ _ h hl h3 _ ⟨i.val, hj⟩).trans (Cert.MlaQRefIdeal.Rows.q_lo _ _ _ _ ⟨t.val * 512 + r.val, hr⟩ h ⟨i.val, hj⟩).symm
    · rcases lt_or_ge i.val 64 with hk | hk
      · obtain ⟨n, rfl⟩ : ∃ n : Fin 32, i = ⟨32 + n.val, lt_of_lt_of_le (Nat.add_lt_add_left n.isLt 32) (by decide)⟩ := ⟨⟨i.val - 32, by omega⟩, Fin.ext (by show i.val = 32 + (i.val - 32); omega)⟩
        exact (rot_hi _ _ h _ n).trans (Cert.MlaQRefIdeal.Rows.q_hi _ _ _ _ ⟨t.val * 512 + r.val, hr⟩ h n).symm
      · obtain ⟨n, rfl⟩ : ∃ n : Fin 64, i = ⟨64 + n.val, Nat.add_lt_add_left n.isLt 64⟩ := ⟨⟨i.val - 64, by omega⟩, Fin.ext (by show i.val = 64 + (i.val - 64); omega)⟩
        exact (rot_zero _ _ h _ n).trans (Cert.MlaQRefIdeal.Rows.q_zero _ _ _ _ ⟨t.val * 512 + r.val, hr⟩ h n).symm

/-- The result, over the call's arguments, is the reference's, where gain and up-projection are finite. -/
theorem final (h2 : ∀ i, MlaAttnIdeal.Tile.Finite (A2 m c i))
    (h3 : ∀ i, MlaAttnIdeal.Tile.Finite (A3 m c i)) :
    (dats m 0 c).arrAt 7 cfg0.N = val_main_v58 (F := Ideal) (A0 m c) (A1 m c) (A2 m c) (A3 m c) := by
  refine (dats m 0 c).arrAt_eq_of_covers 7 _ (by decide +kernel) fun t _ y => ?_
  blk_simp
  rw [after0_7]
  obtain ⟨r, j, rfl⟩ : ∃ (r : Fin 512) (j : Fin 4096), y = (ix2 r j : S512x4096.Idx) := ⟨y 0, y 1, by funext a; fin_cases a <;> rfl⟩
  have hr : t.val * 512 + r.val < 32768 := by have : t.val < 64 := t.isLt; omega
  have e : (((cfg0.win 7).blk t).view.emb (ix2 r j : S512x4096.Idx) : S32768x4096.Idx) = ix2 ⟨t.val * 512 + r.val, hr⟩ j := by
    blk_ext [idx t]
  exact (blk_eq m c t r h2 h3 j hr).trans (congrArg (val_main_v58 (F := Ideal) (A0 m c) (A1 m c) (A2 m c) (A3 m c)) e.symm)

end Cert.MlaQIdeal.Rows

namespace Cert.MqProof

open Idealize.ShloMosaic Idealize.ShloMosaic.TcCoe Idealize.SL.Sem
open Cert.MlaQIdeal.Rows

/-- The side conditions of the condition on the arguments. -/
theorem pre_facts : Cert.Pre_finite_queries.Facts where
  bcast_S_S1x384 := by decide
  bcast_S_S1x384x16x192 := by decide

/-- The reference runs from any memory, and leaves its arguments as they were. -/
theorem frame_ref : quiescent_MlaQRefIdeal (hMlaQRefIdeal := Cert.MlaQRefIdeal.Gen.facts) :=
  fun m ρ _ => (θ_run _ _ _).mono (fun r h => ⟨fun c => (h c).2, Idealize.ShloMosaic.sem_eq_zero_of_no_sems (by decide) r.2⟩) (Cert.MlaQRefIdeal.Value.run (F := Ideal) m ρ)

/-- The program and its reference, from memories that agree on arguments whose gain and up-projection are finite, leave the same result. -/
theorem value : algebraic_MlaQIdeal_MlaQRefIdeal_pre_finite_queries (hMlaQIdeal := Cert.MlaQIdeal.Gen.facts) (hMlaQRefIdeal := Cert.MlaQRefIdeal.Gen.facts)
    (hPre_finite_queries := pre_facts) := by
  intro m ρ m' ρ' hpre hag
  refine ⟨fun c => Cert.MlaQRefIdeal.Read.val_main_v58 (F := Ideal) (A0 m c) (A1 m c) (A2 m c) (A3 m c),
    (θ_run _ _ _).mono (fun _ h c => ?_) (Cert.MlaQIdeal.Value.run_blocks (F := Ideal) m ρ),
    (θ_run _ _ _).mono (fun _ h c => ?_) (Cert.MlaQRefIdeal.Value.run (F := Ideal) m' ρ')⟩
  · obtain ⟨r0, k⟩ := h c
    obtain ⟨p0, p1⟩ := hpre c
    exact ⟨r0.trans (final m c (fun i => MlaAttnIdeal.Tile.finite_of_abs _ (congrFun p0 i)) (fun i => MlaAttnIdeal.Tile.finite_of_abs _ (congrFun p1 i))), k⟩
  · obtain ⟨r0, k⟩ := h c
    obtain ⟨a0, a1, a2, a3⟩ := hag c
    exact ⟨(r0.trans (Cert.MlaQRefIdeal.Read.val_main_v58_eq (F := Ideal) m' c)).trans (congr (congr (congr (congrArg (Cert.MlaQRefIdeal.Read.val_main_v58 (F := Ideal)) a0) a1) a2) a3), k⟩

end Cert.MqProof

end
-- ==== Proof.lean ====
module

public import proofs.«01_k».proof.Defs
public import proofs.«01_k».proof.Proof.Gen.MlaAttn
public import proofs.«01_k».proof.Proof.Gen.MlaAttnIdeal
public import proofs.«01_k».proof.Proof.Gen.MlaAttnRefIdeal
public import proofs.«01_k».proof.Proof.Gen.MlaAttnRefIdeal.Run
public import proofs.«01_k».proof.Proof.Gen.MlaAttnRefIdeal.Read
public import proofs.«01_k».proof.Proof.Gen.PostMix1
public import proofs.«01_k».proof.Proof.Gen.PostMix1.Skeleton
public import proofs.«01_k».proof.Proof.Gen.PostMix1.Launch
public import proofs.«01_k».proof.Proof.Gen.PostMix1.Points
public import proofs.«01_k».proof.Proof.Gen.PostMix1.Frame
public import proofs.«01_k».proof.Proof.Gen.PostMix1Ideal
public import proofs.«01_k».proof.Proof.Gen.PostMix1Ideal.Skeleton
public import proofs.«01_k».proof.Proof.Gen.PostMix1Ideal.Launch
public import proofs.«01_k».proof.Proof.Gen.PostMix1Ideal.Points
public import proofs.«01_k».proof.Proof.Gen.PostMix1Ideal.Frame
public import proofs.«01_k».proof.Proof.Gen.PostMix1RefIdeal
public import proofs.«01_k».proof.Proof.Gen.PostMix0
public import proofs.«01_k».proof.Proof.Gen.PostMix0.Skeleton
public import proofs.«01_k».proof.Proof.Gen.PostMix0.Launch
public import proofs.«01_k».proof.Proof.Gen.PostMix0.Points
public import proofs.«01_k».proof.Proof.Gen.PostMix0.Frame
public import proofs.«01_k».proof.Proof.Gen.PostMix0Ideal
public import proofs.«01_k».proof.Proof.Gen.PostMix0Ideal.Skeleton
public import proofs.«01_k».proof.Proof.Gen.PostMix0Ideal.Launch
public import proofs.«01_k».proof.Proof.Gen.PostMix0Ideal.Points
public import proofs.«01_k».proof.Proof.Gen.PostMix0Ideal.Frame
public import proofs.«01_k».proof.Proof.Gen.PostMix0RefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.PostMix1Ideal.Value
public import proofs.«01_k».proof.Proof.Gen.PostMix1RefIdeal.Run
public import proofs.«01_k».proof.Proof.Gen.PostMix1RefIdeal.Read
public import proofs.«01_k».proof.Proof.Gen.PostMix0Ideal.Value
public import proofs.«01_k».proof.Proof.Gen.PostMix0RefIdeal.Run
public import proofs.«01_k».proof.Proof.Gen.PostMix0RefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.KvFfn
public import proofs.«01_k».proof.Proof.Gen.KvFfn.Skeleton
public import proofs.«01_k».proof.Proof.Gen.KvFfn.Launch
public import proofs.«01_k».proof.Proof.Gen.KvFfn.Points
public import proofs.«01_k».proof.Proof.Gen.KvFfn.Frame
public import proofs.«01_k».proof.Proof.Gen.KvFfnIdeal
public import proofs.«01_k».proof.Proof.Gen.KvFfnIdeal.Skeleton
public import proofs.«01_k».proof.Proof.Gen.KvFfnIdeal.Launch
public import proofs.«01_k».proof.Proof.Gen.KvFfnIdeal.Points
public import proofs.«01_k».proof.Proof.Gen.KvFfnIdeal.Frame
public import proofs.«01_k».proof.Proof.Gen.KvFfnIdeal.Value
public import proofs.«01_k».proof.Proof.Gen.KvFfnRefIdeal
public import proofs.«01_k».proof.Proof.Gen.KvFfnRefIdeal.Run
public import proofs.«01_k».proof.Proof.Gen.KvFfnRefIdeal.Read
public import proofs.«01_k».proof.Proof.Gen.MlaQ
public import proofs.«01_k».proof.Proof.Gen.MlaQ.Skeleton
public import proofs.«01_k».proof.Proof.Gen.MlaQ.Launch
public import proofs.«01_k».proof.Proof.Gen.MlaQ.Points
public import proofs.«01_k».proof.Proof.Gen.MlaQ.Frame
public import proofs.«01_k».proof.Proof.Gen.MlaQIdeal
public import proofs.«01_k».proof.Proof.Gen.MlaQIdeal.Skeleton
public import proofs.«01_k».proof.Proof.Gen.MlaQIdeal.Launch
public import proofs.«01_k».proof.Proof.Gen.MlaQIdeal.Points
public import proofs.«01_k».proof.Proof.Gen.MlaQIdeal.Frame
public import proofs.«01_k».proof.Proof.Gen.MlaQIdeal.Value
public import proofs.«01_k».proof.Proof.Gen.MlaQRefIdeal
public import proofs.«01_k».proof.Proof.Gen.MlaQRefIdeal.Run
public import proofs.«01_k».proof.Proof.Gen.MlaQRefIdeal.Read
public import proofs.«01_k».proof.Proof.Gen.FoxProj
public import proofs.«01_k».proof.Proof.Gen.FoxProj.Skeleton
public import proofs.«01_k».proof.Proof.Gen.FoxProj.Launch
public import proofs.«01_k».proof.Proof.Gen.FoxProj.Points
public import proofs.«01_k».proof.Proof.Gen.FoxProj.Frame
public import proofs.«01_k».proof.Proof.Gen.FoxProjIdeal
public import proofs.«01_k».proof.Proof.Gen.FoxProjIdeal.Skeleton
public import proofs.«01_k».proof.Proof.Gen.FoxProjIdeal.Launch
public import proofs.«01_k».proof.Proof.Gen.FoxProjIdeal.Points
public import proofs.«01_k».proof.Proof.Gen.FoxProjIdeal.Frame
public import proofs.«01_k».proof.Proof.Gen.FoxProjIdeal.Value
public import proofs.«01_k».proof.Proof.Gen.FoxProjRefIdeal
public import proofs.«01_k».proof.Proof.Gen.FoxProjRefIdeal.Run
public import proofs.«01_k».proof.Proof.Gen.FoxProjRefIdeal.Read
public import proofs.«01_k».proof.Proof.Hand.PostMix1Value
public import proofs.«01_k».proof.Proof.Hand.PostMix0Value
public import proofs.«01_k».proof.Proof.Hand.FfnValue
public import proofs.«01_k».proof.Proof.Hand.MlaValue
public import proofs.«01_k».proof.Proof.Hand.KvProof
public import proofs.«01_k».proof.Proof.Hand.FpValue
public import proofs.«01_k».proof.Proof.Hand.MqValue
public import Idealize.ShloMosaic.Adequacy
public import Idealize.ShloMosaic.Init

@[expose] public section

noncomputable section

namespace Cert.Proof

open Idealize.ShloMosaic Idealize.SL.Sem

/-- The PostMix1 reference runs from any memory, and leaves its arguments as they were. -/
theorem frame_PostMix1Ref : quiescent_PostMix1RefIdeal (hPostMix1RefIdeal := Cert.PostMix1RefIdeal.Gen.facts) :=
  fun m ρ _ => (θ_run _ _ _).mono (fun r h => ⟨fun c => (h c).2, Idealize.ShloMosaic.sem_eq_zero_of_no_sems (by decide) r.2⟩) (Cert.PostMix1RefIdeal.Value.run (F := Ideal) m ρ)

/-- The PostMix1 program and its reference, from memories that agree on the arguments, leave the same result. -/
theorem value_PostMix1 : algebraic_PostMix1Ideal_PostMix1RefIdeal (hPostMix1Ideal := Cert.PostMix1Ideal.Gen.facts) (hPostMix1RefIdeal := Cert.PostMix1RefIdeal.Gen.facts) := by
  intro m ρ m' ρ' _ hag
  refine ⟨fun c => Cert.PostMix1RefIdeal.Read.val_main_v122 (F := Ideal) (m ((c.tc : Thread Cert.PostMix1Ideal.nD Cert.PostMix1Ideal.τ).loc Cert.PostMix1Ideal.main_arg0)) (m ((c.tc : Thread Cert.PostMix1Ideal.nD Cert.PostMix1Ideal.τ).loc Cert.PostMix1Ideal.main_arg1)) (m ((c.tc : Thread Cert.PostMix1Ideal.nD Cert.PostMix1Ideal.τ).loc Cert.PostMix1Ideal.main_arg2)) (m ((c.tc : Thread Cert.PostMix1Ideal.nD Cert.PostMix1Ideal.τ).loc Cert.PostMix1Ideal.main_arg3)) (m ((c.tc : Thread Cert.PostMix1Ideal.nD Cert.PostMix1Ideal.τ).loc Cert.PostMix1Ideal.main_arg4)) (m ((c.tc : Thread Cert.PostMix1Ideal.nD Cert.PostMix1Ideal.τ).loc Cert.PostMix1Ideal.main_arg5)) (m ((c.tc : Thread Cert.PostMix1Ideal.nD Cert.PostMix1Ideal.τ).loc Cert.PostMix1Ideal.main_arg6)) (m ((c.tc : Thread Cert.PostMix1Ideal.nD Cert.PostMix1Ideal.τ).loc Cert.PostMix1Ideal.main_arg7)) (m ((c.tc : Thread Cert.PostMix1Ideal.nD Cert.PostMix1Ideal.τ).loc Cert.PostMix1Ideal.main_arg8)) (m ((c.tc : Thread Cert.PostMix1Ideal.nD Cert.PostMix1Ideal.τ).loc Cert.PostMix1Ideal.main_arg9)) (m ((c.tc : Thread Cert.PostMix1Ideal.nD Cert.PostMix1Ideal.τ).loc Cert.PostMix1Ideal.main_arg10)),
    (θ_run _ _ _).mono (fun _ h c => ⟨(h c).1.trans (Cert.PostMix1Ideal.Rows.final m c), (h c).2⟩) (Cert.PostMix1Ideal.Value.run_blocks (F := Ideal) m ρ),
    (θ_run _ _ _).mono (fun _ h c => ⟨(h c).1.trans ((Cert.PostMix1RefIdeal.Read.val_main_v122_eq (F := Ideal) (StableHlo.launchContents m' c)).trans ?_), (h c).2⟩) (Cert.PostMix1RefIdeal.Value.run (F := Ideal) m' ρ')⟩
  obtain ⟨a0, a1, a2, a3, a4, a5, a6, a7, a8, a9, a10⟩ := hag c
  change Cert.PostMix1RefIdeal.Read.val_main_v122 (F := Ideal) (m' ((c.tc : Thread Cert.PostMix1RefIdeal.nD Cert.PostMix1RefIdeal.τ).loc Cert.PostMix1RefIdeal.main_arg0)) (m' ((c.tc : Thread Cert.PostMix1RefIdeal.nD Cert.PostMix1RefIdeal.τ).loc Cert.PostMix1RefIdeal.main_arg1)) (m' ((c.tc : Thread Cert.PostMix1RefIdeal.nD Cert.PostMix1RefIdeal.τ).loc Cert.PostMix1RefIdeal.main_arg2)) (m' ((c.tc : Thread Cert.PostMix1RefIdeal.nD Cert.PostMix1RefIdeal.τ).loc Cert.PostMix1RefIdeal.main_arg3)) (m' ((c.tc : Thread Cert.PostMix1RefIdeal.nD Cert.PostMix1RefIdeal.τ).loc Cert.PostMix1RefIdeal.main_arg4)) (m' ((c.tc : Thread Cert.PostMix1RefIdeal.nD Cert.PostMix1RefIdeal.τ).loc Cert.PostMix1RefIdeal.main_arg5)) (m' ((c.tc : Thread Cert.PostMix1RefIdeal.nD Cert.PostMix1RefIdeal.τ).loc Cert.PostMix1RefIdeal.main_arg6)) (m' ((c.tc : Thread Cert.PostMix1RefIdeal.nD Cert.PostMix1RefIdeal.τ).loc Cert.PostMix1RefIdeal.main_arg7)) (m' ((c.tc : Thread Cert.PostMix1RefIdeal.nD Cert.PostMix1RefIdeal.τ).loc Cert.PostMix1RefIdeal.main_arg8)) (m' ((c.tc : Thread Cert.PostMix1RefIdeal.nD Cert.PostMix1RefIdeal.τ).loc Cert.PostMix1RefIdeal.main_arg9)) (m' ((c.tc : Thread Cert.PostMix1RefIdeal.nD Cert.PostMix1RefIdeal.τ).loc Cert.PostMix1RefIdeal.main_arg10)) = _
  rw [a0, a1, a2, a3, a4, a5, a6, a7, a8, a9, a10]

/-- The PostMix0 reference runs from any memory, and leaves its arguments as they were. -/
theorem frame_PostMix0Ref : quiescent_PostMix0RefIdeal (hPostMix0RefIdeal := Cert.PostMix0RefIdeal.Gen.facts) :=
  fun m ρ _ => (θ_run _ _ _).mono (fun r h => ⟨fun c => (h c).2, Idealize.ShloMosaic.sem_eq_zero_of_no_sems (by decide) r.2⟩) (Cert.PostMix0RefIdeal.Value.run (F := Ideal) m ρ)

/-- The PostMix0 program and its reference, from memories that agree on the arguments, leave the same result. -/
theorem value_PostMix0 : algebraic_PostMix0Ideal_PostMix0RefIdeal (hPostMix0Ideal := Cert.PostMix0Ideal.Gen.facts) (hPostMix0RefIdeal := Cert.PostMix0RefIdeal.Gen.facts) := by
  intro m ρ m' ρ' _ hag
  refine ⟨fun c => Cert.PostMix0RefIdeal.Read.val_main_v122 (F := Ideal) (m ((c.tc : Thread Cert.PostMix0Ideal.nD Cert.PostMix0Ideal.τ).loc Cert.PostMix0Ideal.main_arg0)) (m ((c.tc : Thread Cert.PostMix0Ideal.nD Cert.PostMix0Ideal.τ).loc Cert.PostMix0Ideal.main_arg1)) (m ((c.tc : Thread Cert.PostMix0Ideal.nD Cert.PostMix0Ideal.τ).loc Cert.PostMix0Ideal.main_arg2)) (m ((c.tc : Thread Cert.PostMix0Ideal.nD Cert.PostMix0Ideal.τ).loc Cert.PostMix0Ideal.main_arg3)) (m ((c.tc : Thread Cert.PostMix0Ideal.nD Cert.PostMix0Ideal.τ).loc Cert.PostMix0Ideal.main_arg4)) (m ((c.tc : Thread Cert.PostMix0Ideal.nD Cert.PostMix0Ideal.τ).loc Cert.PostMix0Ideal.main_arg5)) (m ((c.tc : Thread Cert.PostMix0Ideal.nD Cert.PostMix0Ideal.τ).loc Cert.PostMix0Ideal.main_arg6)) (m ((c.tc : Thread Cert.PostMix0Ideal.nD Cert.PostMix0Ideal.τ).loc Cert.PostMix0Ideal.main_arg7)) (m ((c.tc : Thread Cert.PostMix0Ideal.nD Cert.PostMix0Ideal.τ).loc Cert.PostMix0Ideal.main_arg8)) (m ((c.tc : Thread Cert.PostMix0Ideal.nD Cert.PostMix0Ideal.τ).loc Cert.PostMix0Ideal.main_arg9)) (m ((c.tc : Thread Cert.PostMix0Ideal.nD Cert.PostMix0Ideal.τ).loc Cert.PostMix0Ideal.main_arg10)),
    (θ_run _ _ _).mono (fun _ h c => ⟨(h c).1.trans (Cert.PostMix0Ideal.Rows.final m c), (h c).2⟩) (Cert.PostMix0Ideal.Value.run_blocks (F := Ideal) m ρ),
    (θ_run _ _ _).mono (fun _ h c => ⟨(h c).1.trans ((Cert.PostMix0RefIdeal.Read.val_main_v122_eq (F := Ideal) (StableHlo.launchContents m' c)).trans ?_), (h c).2⟩) (Cert.PostMix0RefIdeal.Value.run (F := Ideal) m' ρ')⟩
  obtain ⟨a0, a1, a2, a3, a4, a5, a6, a7, a8, a9, a10⟩ := hag c
  change Cert.PostMix0RefIdeal.Read.val_main_v122 (F := Ideal) (m' ((c.tc : Thread Cert.PostMix0RefIdeal.nD Cert.PostMix0RefIdeal.τ).loc Cert.PostMix0RefIdeal.main_arg0)) (m' ((c.tc : Thread Cert.PostMix0RefIdeal.nD Cert.PostMix0RefIdeal.τ).loc Cert.PostMix0RefIdeal.main_arg1)) (m' ((c.tc : Thread Cert.PostMix0RefIdeal.nD Cert.PostMix0RefIdeal.τ).loc Cert.PostMix0RefIdeal.main_arg2)) (m' ((c.tc : Thread Cert.PostMix0RefIdeal.nD Cert.PostMix0RefIdeal.τ).loc Cert.PostMix0RefIdeal.main_arg3)) (m' ((c.tc : Thread Cert.PostMix0RefIdeal.nD Cert.PostMix0RefIdeal.τ).loc Cert.PostMix0RefIdeal.main_arg4)) (m' ((c.tc : Thread Cert.PostMix0RefIdeal.nD Cert.PostMix0RefIdeal.τ).loc Cert.PostMix0RefIdeal.main_arg5)) (m' ((c.tc : Thread Cert.PostMix0RefIdeal.nD Cert.PostMix0RefIdeal.τ).loc Cert.PostMix0RefIdeal.main_arg6)) (m' ((c.tc : Thread Cert.PostMix0RefIdeal.nD Cert.PostMix0RefIdeal.τ).loc Cert.PostMix0RefIdeal.main_arg7)) (m' ((c.tc : Thread Cert.PostMix0RefIdeal.nD Cert.PostMix0RefIdeal.τ).loc Cert.PostMix0RefIdeal.main_arg8)) (m' ((c.tc : Thread Cert.PostMix0RefIdeal.nD Cert.PostMix0RefIdeal.τ).loc Cert.PostMix0RefIdeal.main_arg9)) (m' ((c.tc : Thread Cert.PostMix0RefIdeal.nD Cert.PostMix0RefIdeal.τ).loc Cert.PostMix0RefIdeal.main_arg10)) = _
  rw [a0, a1, a2, a3, a4, a5, a6, a7, a8, a9, a10]

/-- The Ffn reference runs from any memory, and leaves its arguments as they were. -/
theorem frame_FfnRef : quiescent_FfnRefIdeal (hFfnRefIdeal := Cert.FfnRefIdeal.Gen.facts) :=
  fun m ρ _ => (θ_run _ _ _).mono (fun r h => ⟨fun c => (h c).2, Idealize.ShloMosaic.sem_eq_zero_of_no_sems (by decide) r.2⟩) (Cert.FfnRefIdeal.Value.run (F := Ideal) m ρ)

/-- The Ffn program and its reference, from memories that agree on the arguments, leave the same result. -/
theorem value_Ffn : algebraic_FfnIdeal_FfnRefIdeal (hFfnIdeal := Cert.FfnIdeal.Gen.facts) (hFfnRefIdeal := Cert.FfnRefIdeal.Gen.facts) := by
  intro m ρ m' ρ' _ hag
  refine ⟨fun c => Cert.FfnRefIdeal.Read.val_main_v41 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)),
    (θ_run _ _ _).mono (fun _ h c => ⟨(h c).1.trans (Cert.FfnIdeal.Rows.final m c), (h c).2⟩) (Cert.FfnIdeal.Value.run_blocks (F := Ideal) m ρ),
    (θ_run _ _ _).mono (fun _ h c => ⟨(h c).1.trans ((Cert.FfnRefIdeal.Read.val_main_v41_eq (F := Ideal) m' c).trans ?_), (h c).2⟩) (Cert.FfnRefIdeal.Value.run (F := Ideal) m' ρ')⟩
  obtain ⟨a0, a1, a2, a3, a4⟩ := hag c
  change Cert.FfnRefIdeal.Read.val_main_v41 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) = _
  rw [a0, a1, a2, a3, a4]

/-- Every claim of the certificate. -/
theorem claim : Cert.Claim := ⟨Cert.PostMix1.Gen.facts, Cert.PostMix1Ideal.Gen.facts, Cert.PostMix1RefIdeal.Gen.facts, Cert.PostMix0.Gen.facts, Cert.PostMix0Ideal.Gen.facts, Cert.PostMix0RefIdeal.Gen.facts, Cert.Ffn.Gen.facts, Cert.FfnIdeal.Gen.facts, Cert.FfnRefIdeal.Gen.facts, Cert.MlaAttn.Gen.facts, Cert.MlaAttnIdeal.Gen.facts, Cert.MlaAttnRefIdeal.Gen.facts, Cert.KvFfn.Gen.facts, Cert.KvFfnIdeal.Gen.facts, Cert.KvFfnRefIdeal.Gen.facts, Cert.FoxProj.Gen.facts, Cert.FoxProjIdeal.Gen.facts, Cert.FoxProjRefIdeal.Gen.facts,
  Cert.MlaQ.Gen.facts, Cert.MlaQIdeal.Gen.facts, Cert.MlaQRefIdeal.Gen.facts,
  Cert.MlaProof.pre_facts, Cert.KvProof.pre_facts, Cert.MqProof.pre_facts, Cert.MlaProof.on_facts,
  fun m ρ _ => Cert.PostMix1.Gen.frame m ρ, fun m ρ _ => Cert.PostMix1Ideal.Gen.frame m ρ, frame_PostMix1Ref,
  fun m ρ _ => Cert.PostMix0.Gen.frame m ρ, fun m ρ _ => Cert.PostMix0Ideal.Gen.frame m ρ, frame_PostMix0Ref,
  fun m ρ _ => Cert.Ffn.Gen.frame m ρ, fun m ρ _ => Cert.FfnIdeal.Gen.frame m ρ, frame_FfnRef,
  Cert.MlaProof.frame_kernel, Cert.MlaProof.frame_ideal, fun m ρ _ => Cert.MlaProof.frame_ideal m ρ trivial, Cert.MlaProof.frame_ref, fun m ρ _ => Cert.MlaProof.frame_ref m ρ trivial,
  fun m ρ _ => Cert.KvFfn.Gen.frame m ρ, fun m ρ _ => Cert.KvFfnIdeal.Gen.frame m ρ, fun m ρ _ => Cert.KvFfnIdeal.Gen.frame m ρ, Cert.KvProof.frame_ref, fun m ρ _ => Cert.KvProof.frame_ref m ρ trivial,
  fun m ρ _ => Cert.FoxProj.Gen.frame m ρ, fun m ρ _ => Cert.FoxProjIdeal.Gen.frame m ρ, Cert.FpProof.frame_ref,
  fun m ρ _ => Cert.MlaQ.Gen.frame m ρ, fun m ρ _ => Cert.MlaQIdeal.Gen.frame m ρ, fun m ρ _ => Cert.MlaQIdeal.Gen.frame m ρ, Cert.MqProof.frame_ref, fun m ρ _ => Cert.MqProof.frame_ref m ρ trivial,
  trivial, value_PostMix1, trivial, value_PostMix0, trivial, value_Ffn, trivial, Cert.MlaProof.value, trivial, Cert.KvProof.value, trivial, Cert.FpProof.value, trivial, Cert.MqProof.value⟩

end Cert.Proof

end
